-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHRefIdeal (m : (ℓ : Loc Cert.DHRefIdeal.nD Cert.DHRefIdeal.τ Cert.DHRefIdeal.sig) → Buf (Elt Ideal) ℓ) : Prop :=
  True

def Pre_DMix (m : (ℓ : Loc Cert.DMix.nD Cert.DMix.τ Cert.DMix.sig) → Buf (Elt Bits) ℓ) : Prop :=
  True

def Pre_DMixIdeal (m : (ℓ : Loc Cert.DMixIdeal.nD Cert.DMixIdeal.τ Cert.DMixIdeal.sig) → Buf (Elt Ideal) ℓ) : Prop :=
  True

def Pre_DMixRefIdeal (m : (ℓ : Loc Cert.DMixRefIdeal.nD Cert.DMixRefIdeal.τ Cert.DMixRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradRefIdeal (m : (ℓ : Loc Cert.NormGradRefIdeal.nD Cert.NormGradRefIdeal.τ Cert.NormGradRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamRest (m : (ℓ : Loc Cert.AdamRest.nD Cert.AdamRest.τ Cert.AdamRest.sig) → Buf (Elt Bits) ℓ) : Prop :=
  True

def Pre_AdamRestIdeal (m : (ℓ : Loc Cert.AdamRestIdeal.nD Cert.AdamRestIdeal.τ Cert.AdamRestIdeal.sig) → Buf (Elt Ideal) ℓ) : Prop :=
  True

def Pre_AdamRestRefIdeal (m : (ℓ : Loc Cert.AdamRestRefIdeal.nD Cert.AdamRestRefIdeal.τ Cert.AdamRestRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ r.2.sem = fun _ => 0)

def quiescent_DHRefIdeal [hDHRefIdeal : Cert.DHRefIdeal.Facts] : Prop :=
  ∀ (m : (ℓ : Loc Cert.DHRefIdeal.nD Cert.DHRefIdeal.τ Cert.DHRefIdeal.sig) → Buf (Elt Ideal) ℓ) (g : Dev Cert.DHRefIdeal.nD → PrngReg), Pre_DHRefIdeal m →
    θ_run (Cert.DHRefIdeal.defs (F := Ideal)) (onTc (τ := Cert.DHRefIdeal.τ) (Cert.DHRefIdeal.main (F := Ideal))) ⟨m, fun _ => 0, g⟩ (fun r => (∀ c : Dev Cert.DHRefIdeal.nD,
      r.2.mem ((c.tc : Thread Cert.DHRefIdeal.nD Cert.DHRefIdeal.τ).loc Cert.DHRefIdeal.main_arg0) = m ((c.tc : Thread Cert.DHRefIdeal.nD Cert.DHRefIdeal.τ).loc Cert.DHRefIdeal.main_arg0)
      ∧ r.2.mem ((c.tc : Thread Cert.DHRefIdeal.nD Cert.DHRefIdeal.τ).loc Cert.DHRefIdeal.main_arg1) = m ((c.tc : Thread Cert.DHRefIdeal.nD Cert.DHRefIdeal.τ).loc Cert.DHRefIdeal.main_arg1))
      ∧ r.2.sem = fun _ => 0)

def quiescent_DMix [hDMix : Cert.DMix.Facts] : Prop :=
  ∀ (m : (ℓ : Loc Cert.DMix.nD Cert.DMix.τ Cert.DMix.sig) → Buf (Elt Bits) ℓ) (g : Dev Cert.DMix.nD → PrngReg), Pre_DMix m →
    θ_run (Cert.DMix.defs (F := Bits)) (onTc (τ := Cert.DMix.τ) (Cert.DMix.main (F := Bits))) ⟨m, fun _ => 0, g⟩ (fun r => (∀ c : Dev Cert.DMix.nD,
      r.2.mem ((c.tc : Thread Cert.DMix.nD Cert.DMix.τ).loc Cert.DMix.main_arg0) = m ((c.tc : Thread Cert.DMix.nD Cert.DMix.τ).loc Cert.DMix.main_arg0)
      ∧ r.2.mem ((c.tc : Thread Cert.DMix.nD Cert.DMix.τ).loc Cert.DMix.main_arg1) = m ((c.tc : Thread Cert.DMix.nD Cert.DMix.τ).loc Cert.DMix.main_arg1))
      ∧ r.2.sem = fun _ => 0)

def quiescent_DMixIdeal [hDMixIdeal : Cert.DMixIdeal.Facts] : Prop :=
  ∀ (m : (ℓ : Loc Cert.DMixIdeal.nD Cert.DMixIdeal.τ Cert.DMixIdeal.sig) → Buf (Elt Ideal) ℓ) (g : Dev Cert.DMixIdeal.nD → PrngReg), Pre_DMixIdeal m →
    θ_run (Cert.DMixIdeal.defs (F := Ideal)) (onTc (τ := Cert.DMixIdeal.τ) (Cert.DMixIdeal.main (F := Ideal))) ⟨m, fun _ => 0, g⟩ (fun r => (∀ c : Dev Cert.DMixIdeal.nD,
      r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
      ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1))
      ∧ r.2.sem = fun _ => 0)

def quiescent_DMixRefIdeal [hDMixRefIdeal : Cert.DMixRefIdeal.Facts] : Prop :=
  ∀ (m : (ℓ : Loc Cert.DMixRefIdeal.nD Cert.DMixRefIdeal.τ Cert.DMixRefIdeal.sig) → Buf (Elt Ideal) ℓ) (g : Dev Cert.DMixRefIdeal.nD → PrngReg), Pre_DMixRefIdeal m →
    θ_run (Cert.DMixRefIdeal.defs (F := Ideal)) (onTc (τ := Cert.DMixRefIdeal.τ) (Cert.DMixRefIdeal.main (F := Ideal))) ⟨m, fun _ => 0, g⟩ (fun r => (∀ c : Dev Cert.DMixRefIdeal.nD,
      r.2.mem ((c.tc : Thread Cert.DMixRefIdeal.nD Cert.DMixRefIdeal.τ).loc Cert.DMixRefIdeal.main_arg0) = m ((c.tc : Thread Cert.DMixRefIdeal.nD Cert.DMixRefIdeal.τ).loc Cert.DMixRefIdeal.main_arg0)
      ∧ r.2.mem ((c.tc : Thread Cert.DMixRefIdeal.nD Cert.DMixRefIdeal.τ).loc Cert.DMixRefIdeal.main_arg1) = m ((c.tc : Thread Cert.DMixRefIdeal.nD Cert.DMixRefIdeal.τ).loc Cert.DMixRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamRest [hAdamRest : Cert.AdamRest.Facts] : Prop :=
  ∀ (m : (ℓ : Loc Cert.AdamRest.nD Cert.AdamRest.τ Cert.AdamRest.sig) → Buf (Elt Bits) ℓ) (g : Dev Cert.AdamRest.nD → PrngReg), Pre_AdamRest m →
    θ_run (Cert.AdamRest.defs (F := Bits)) (onTc (τ := Cert.AdamRest.τ) (Cert.AdamRest.main (F := Bits))) ⟨m, fun _ => 0, g⟩ (fun r => (∀ c : Dev Cert.AdamRest.nD,
      r.2.mem ((c.tc : Thread Cert.AdamRest.nD Cert.AdamRest.τ).loc Cert.AdamRest.main_arg0) = m ((c.tc : Thread Cert.AdamRest.nD Cert.AdamRest.τ).loc Cert.AdamRest.main_arg0)
      ∧ r.2.mem ((c.tc : Thread Cert.AdamRest.nD Cert.AdamRest.τ).loc Cert.AdamRest.main_arg1) = m ((c.tc : Thread Cert.AdamRest.nD Cert.AdamRest.τ).loc Cert.AdamRest.main_arg1)
      ∧ r.2.mem ((c.tc : Thread Cert.AdamRest.nD Cert.AdamRest.τ).loc Cert.AdamRest.main_arg2) = m ((c.tc : Thread Cert.AdamRest.nD Cert.AdamRest.τ).loc Cert.AdamRest.main_arg2)
      ∧ r.2.mem ((c.tc : Thread Cert.AdamRest.nD Cert.AdamRest.τ).loc Cert.AdamRest.main_arg3) = m ((c.tc : Thread Cert.AdamRest.nD Cert.AdamRest.τ).loc Cert.AdamRest.main_arg3))
      ∧ r.2.sem = fun _ => 0)

def quiescent_AdamRestIdeal [hAdamRestIdeal : Cert.AdamRestIdeal.Facts] : Prop :=
  ∀ (m : (ℓ : Loc Cert.AdamRestIdeal.nD Cert.AdamRestIdeal.τ Cert.AdamRestIdeal.sig) → Buf (Elt Ideal) ℓ) (g : Dev Cert.AdamRestIdeal.nD → PrngReg), Pre_AdamRestIdeal m →
    θ_run (Cert.AdamRestIdeal.defs (F := Ideal)) (onTc (τ := Cert.AdamRestIdeal.τ) (Cert.AdamRestIdeal.main (F := Ideal))) ⟨m, fun _ => 0, g⟩ (fun r => (∀ c : Dev Cert.AdamRestIdeal.nD,
      r.2.mem ((c.tc : Thread Cert.AdamRestIdeal.nD Cert.AdamRestIdeal.τ).loc Cert.AdamRestIdeal.main_arg0) = m ((c.tc : Thread Cert.AdamRestIdeal.nD Cert.AdamRestIdeal.τ).loc Cert.AdamRestIdeal.main_arg0)
      ∧ r.2.mem ((c.tc : Thread Cert.AdamRestIdeal.nD Cert.AdamRestIdeal.τ).loc Cert.AdamRestIdeal.main_arg1) = m ((c.tc : Thread Cert.AdamRestIdeal.nD Cert.AdamRestIdeal.τ).loc Cert.AdamRestIdeal.main_arg1)
      ∧ r.2.mem ((c.tc : Thread Cert.AdamRestIdeal.nD Cert.AdamRestIdeal.τ).loc Cert.AdamRestIdeal.main_arg2) = m ((c.tc : Thread Cert.AdamRestIdeal.nD Cert.AdamRestIdeal.τ).loc Cert.AdamRestIdeal.main_arg2)
      ∧ r.2.mem ((c.tc : Thread Cert.AdamRestIdeal.nD Cert.AdamRestIdeal.τ).loc Cert.AdamRestIdeal.main_arg3) = m ((c.tc : Thread Cert.AdamRestIdeal.nD Cert.AdamRestIdeal.τ).loc Cert.AdamRestIdeal.main_arg3))
      ∧ r.2.sem = fun _ => 0)

def quiescent_AdamRestRefIdeal [hAdamRestRefIdeal : Cert.AdamRestRefIdeal.Facts] : Prop :=
  ∀ (m : (ℓ : Loc Cert.AdamRestRefIdeal.nD Cert.AdamRestRefIdeal.τ Cert.AdamRestRefIdeal.sig) → Buf (Elt Ideal) ℓ) (g : Dev Cert.AdamRestRefIdeal.nD → PrngReg), Pre_AdamRestRefIdeal m →
    θ_run (Cert.AdamRestRefIdeal.defs (F := Ideal)) (onTc (τ := Cert.AdamRestRefIdeal.τ) (Cert.AdamRestRefIdeal.main (F := Ideal))) ⟨m, fun _ => 0, g⟩ (fun r => (∀ c : Dev Cert.AdamRestRefIdeal.nD,
      r.2.mem ((c.tc : Thread Cert.AdamRestRefIdeal.nD Cert.AdamRestRefIdeal.τ).loc Cert.AdamRestRefIdeal.main_arg0) = m ((c.tc : Thread Cert.AdamRestRefIdeal.nD Cert.AdamRestRefIdeal.τ).loc Cert.AdamRestRefIdeal.main_arg0)
      ∧ r.2.mem ((c.tc : Thread Cert.AdamRestRefIdeal.nD Cert.AdamRestRefIdeal.τ).loc Cert.AdamRestRefIdeal.main_arg1) = m ((c.tc : Thread Cert.AdamRestRefIdeal.nD Cert.AdamRestRefIdeal.τ).loc Cert.AdamRestRefIdeal.main_arg1)
      ∧ r.2.mem ((c.tc : Thread Cert.AdamRestRefIdeal.nD Cert.AdamRestRefIdeal.τ).loc Cert.AdamRestRefIdeal.main_arg2) = m ((c.tc : Thread Cert.AdamRestRefIdeal.nD Cert.AdamRestRefIdeal.τ).loc Cert.AdamRestRefIdeal.main_arg2)
      ∧ r.2.mem ((c.tc : Thread Cert.AdamRestRefIdeal.nD Cert.AdamRestRefIdeal.τ).loc Cert.AdamRestRefIdeal.main_arg3) = m ((c.tc : Thread Cert.AdamRestRefIdeal.nD Cert.AdamRestRefIdeal.τ).loc Cert.AdamRestRefIdeal.main_arg3))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v6) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v5) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DH_DHIdeal : Prop :=
  True

def algebraic_DHIdeal_DHRefIdeal [hDHIdeal : Cert.DHIdeal.Facts] [hDHRefIdeal : Cert.DHRefIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHRefIdeal.nD Cert.DHRefIdeal.τ Cert.DHRefIdeal.sig) → Buf (Elt Ideal) ℓ) (g' : Dev Cert.DHRefIdeal.nD → PrngReg), Pre_DHIdeal m →
    (∀ c : Dev Cert.DHIdeal.nD,
      m' ((c.tc : Thread Cert.DHRefIdeal.nD Cert.DHRefIdeal.τ).loc Cert.DHRefIdeal.main_arg0) = m ((c.tc : Thread Cert.DHIdeal.nD Cert.DHIdeal.τ).loc Cert.DHIdeal.main_arg0)
      ∧ m' ((c.tc : Thread Cert.DHRefIdeal.nD Cert.DHRefIdeal.τ).loc Cert.DHRefIdeal.main_arg1) = m ((c.tc : Thread Cert.DHIdeal.nD Cert.DHIdeal.τ).loc Cert.DHIdeal.main_arg1)) →
    ∃ (v0 : (c : Dev Cert.DHIdeal.nD) → Buf (Elt Ideal) ((c.tc : Thread Cert.DHIdeal.nD Cert.DHIdeal.τ).loc Cert.DHIdeal.main_v0)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v0) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ θ_run (Cert.DHRefIdeal.defs (F := Ideal)) (onTc (τ := Cert.DHRefIdeal.τ) (Cert.DHRefIdeal.main (F := Ideal))) ⟨m', fun _ => 0, g'⟩ (fun r => ∀ c : Dev Cert.DHRefIdeal.nD,
          r.2.mem ((c.tc : Thread Cert.DHRefIdeal.nD Cert.DHRefIdeal.τ).loc Cert.DHRefIdeal.main_v4) = v0 c
          ∧ r.2.mem ((c.tc : Thread Cert.DHRefIdeal.nD Cert.DHRefIdeal.τ).loc Cert.DHRefIdeal.main_arg0) = m' ((c.tc : Thread Cert.DHRefIdeal.nD Cert.DHRefIdeal.τ).loc Cert.DHRefIdeal.main_arg0)
          ∧ r.2.mem ((c.tc : Thread Cert.DHRefIdeal.nD Cert.DHRefIdeal.τ).loc Cert.DHRefIdeal.main_arg1) = m' ((c.tc : Thread Cert.DHRefIdeal.nD Cert.DHRefIdeal.τ).loc Cert.DHRefIdeal.main_arg1))

def preserves_DMix_DMixIdeal : Prop :=
  True

def algebraic_DMixIdeal_DMixRefIdeal [hDMixIdeal : Cert.DMixIdeal.Facts] [hDMixRefIdeal : Cert.DMixRefIdeal.Facts] : Prop :=
  ∀ (m : (ℓ : Loc Cert.DMixIdeal.nD Cert.DMixIdeal.τ Cert.DMixIdeal.sig) → Buf (Elt Ideal) ℓ) (g : Dev Cert.DMixIdeal.nD → PrngReg)
    (m' : (ℓ : Loc Cert.DMixRefIdeal.nD Cert.DMixRefIdeal.τ Cert.DMixRefIdeal.sig) → Buf (Elt Ideal) ℓ) (g' : Dev Cert.DMixRefIdeal.nD → PrngReg), Pre_DMixIdeal m →
    (∀ c : Dev Cert.DMixIdeal.nD,
      m' ((c.tc : Thread Cert.DMixRefIdeal.nD Cert.DMixRefIdeal.τ).loc Cert.DMixRefIdeal.main_arg0) = m ((c.tc : Thread Cert.DMixIdeal.nD Cert.DMixIdeal.τ).loc Cert.DMixIdeal.main_arg0)
      ∧ m' ((c.tc : Thread Cert.DMixRefIdeal.nD Cert.DMixRefIdeal.τ).loc Cert.DMixRefIdeal.main_arg1) = m ((c.tc : Thread Cert.DMixIdeal.nD Cert.DMixIdeal.τ).loc Cert.DMixIdeal.main_arg1)) →
    ∃ (v0 : (c : Dev Cert.DMixIdeal.nD) → Buf (Elt Ideal) ((c.tc : Thread Cert.DMixIdeal.nD Cert.DMixIdeal.τ).loc Cert.DMixIdeal.main_v0)),
      θ_run (Cert.DMixIdeal.defs (F := Ideal)) (onTc (τ := Cert.DMixIdeal.τ) (Cert.DMixIdeal.main (F := Ideal))) ⟨m, fun _ => 0, g⟩ (fun r => ∀ c : Dev Cert.DMixIdeal.nD,
          r.2.mem ((c.tc : Thread Cert.DMixIdeal.nD Cert.DMixIdeal.τ).loc Cert.DMixIdeal.main_v0) = v0 c
          ∧ r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
          ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1))
      ∧ θ_run (Cert.DMixRefIdeal.defs (F := Ideal)) (onTc (τ := Cert.DMixRefIdeal.τ) (Cert.DMixRefIdeal.main (F := Ideal))) ⟨m', fun _ => 0, g'⟩ (fun r => ∀ c : Dev Cert.DMixRefIdeal.nD,
          r.2.mem ((c.tc : Thread Cert.DMixRefIdeal.nD Cert.DMixRefIdeal.τ).loc Cert.DMixRefIdeal.main_v4) = v0 c
          ∧ r.2.mem ((c.tc : Thread Cert.DMixRefIdeal.nD Cert.DMixRefIdeal.τ).loc Cert.DMixRefIdeal.main_arg0) = m' ((c.tc : Thread Cert.DMixRefIdeal.nD Cert.DMixRefIdeal.τ).loc Cert.DMixRefIdeal.main_arg0)
          ∧ r.2.mem ((c.tc : Thread Cert.DMixRefIdeal.nD Cert.DMixRefIdeal.τ).loc Cert.DMixRefIdeal.main_arg1) = m' ((c.tc : Thread Cert.DMixRefIdeal.nD Cert.DMixRefIdeal.τ).loc Cert.DMixRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)) →
    ∃ (v0 : (c : Dev Cert.ConvInIdeal.nD) → Buf (Elt Ideal) ((c.tc : Thread Cert.ConvInIdeal.nD Cert.ConvInIdeal.τ).loc Cert.ConvInIdeal.main_v0)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v0) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v52) = v0 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1))

def preserves_NormGrad_NormGradIdeal : Prop :=
  True

def algebraic_NormGradIdeal_NormGradRefIdeal [hNormGradIdeal : Cert.NormGradIdeal.Facts] [hNormGradRefIdeal : Cert.NormGradRefIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)) →
    ∃ (v0 : (c : Dev Cert.NormGradIdeal.nD) → Buf (Elt Ideal) ((c.tc : Thread Cert.NormGradIdeal.nD Cert.NormGradIdeal.τ).loc Cert.NormGradIdeal.main_v0_0)) (v1 : (c : Dev Cert.NormGradIdeal.nD) → Buf (Elt Ideal) ((c.tc : Thread Cert.NormGradIdeal.nD Cert.NormGradIdeal.τ).loc Cert.NormGradIdeal.main_v0_1)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v0_0) = v0 c
          ∧ r.2.mem ((c.tc : Thread Cert.NormGradIdeal.nD Cert.NormGradIdeal.τ).loc Cert.NormGradIdeal.main_v0_1) = v1 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v34) = v0 c
          ∧ r.2.mem ((c.tc : Thread Cert.NormGradRefIdeal.nD Cert.NormGradRefIdeal.τ).loc Cert.NormGradRefIdeal.main_v35) = v1 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v31) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v21) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v0) = v0 c
          ∧ r.2.mem ((c.tc : Thread Cert.AdamConvRefIdeal.nD Cert.AdamConvRefIdeal.τ).loc Cert.AdamConvRefIdeal.main_v24) = v1 c
          ∧ r.2.mem ((c.tc : Thread Cert.AdamConvRefIdeal.nD Cert.AdamConvRefIdeal.τ).loc Cert.AdamConvRefIdeal.main_v5) = v2 c
          ∧ r.2.mem ((c.tc : Thread Cert.AdamConvRefIdeal.nD Cert.AdamConvRefIdeal.τ).loc Cert.AdamConvRefIdeal.main_v11) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamRest_AdamRestIdeal : Prop :=
  True

def algebraic_AdamRestIdeal_AdamRestRefIdeal [hAdamRestIdeal : Cert.AdamRestIdeal.Facts] [hAdamRestRefIdeal : Cert.AdamRestRefIdeal.Facts] : Prop :=
  ∀ (m : (ℓ : Loc Cert.AdamRestIdeal.nD Cert.AdamRestIdeal.τ Cert.AdamRestIdeal.sig) → Buf (Elt Ideal) ℓ) (g : Dev Cert.AdamRestIdeal.nD → PrngReg)
    (m' : (ℓ : Loc Cert.AdamRestRefIdeal.nD Cert.AdamRestRefIdeal.τ Cert.AdamRestRefIdeal.sig) → Buf (Elt Ideal) ℓ) (g' : Dev Cert.AdamRestRefIdeal.nD → PrngReg), Pre_AdamRestIdeal m →
    (∀ c : Dev Cert.AdamRestIdeal.nD,
      m' ((c.tc : Thread Cert.AdamRestRefIdeal.nD Cert.AdamRestRefIdeal.τ).loc Cert.AdamRestRefIdeal.main_arg0) = m ((c.tc : Thread Cert.AdamRestIdeal.nD Cert.AdamRestIdeal.τ).loc Cert.AdamRestIdeal.main_arg0)
      ∧ m' ((c.tc : Thread Cert.AdamRestRefIdeal.nD Cert.AdamRestRefIdeal.τ).loc Cert.AdamRestRefIdeal.main_arg1) = m ((c.tc : Thread Cert.AdamRestIdeal.nD Cert.AdamRestIdeal.τ).loc Cert.AdamRestIdeal.main_arg1)
      ∧ m' ((c.tc : Thread Cert.AdamRestRefIdeal.nD Cert.AdamRestRefIdeal.τ).loc Cert.AdamRestRefIdeal.main_arg2) = m ((c.tc : Thread Cert.AdamRestIdeal.nD Cert.AdamRestIdeal.τ).loc Cert.AdamRestIdeal.main_arg2)
      ∧ m' ((c.tc : Thread Cert.AdamRestRefIdeal.nD Cert.AdamRestRefIdeal.τ).loc Cert.AdamRestRefIdeal.main_arg3) = m ((c.tc : Thread Cert.AdamRestIdeal.nD Cert.AdamRestIdeal.τ).loc Cert.AdamRestIdeal.main_arg3)) →
    ∃ (v0 : (c : Dev Cert.AdamRestIdeal.nD) → Buf (Elt Ideal) ((c.tc : Thread Cert.AdamRestIdeal.nD Cert.AdamRestIdeal.τ).loc Cert.AdamRestIdeal.main_v0_0)) (v1 : (c : Dev Cert.AdamRestIdeal.nD) → Buf (Elt Ideal) ((c.tc : Thread Cert.AdamRestIdeal.nD Cert.AdamRestIdeal.τ).loc Cert.AdamRestIdeal.main_v0_1)) (v2 : (c : Dev Cert.AdamRestIdeal.nD) → Buf (Elt Ideal) ((c.tc : Thread Cert.AdamRestIdeal.nD Cert.AdamRestIdeal.τ).loc Cert.AdamRestIdeal.main_v0_2)) (v3 : (c : Dev Cert.AdamRestIdeal.nD) → Buf (Elt Ideal) ((c.tc : Thread Cert.AdamRestIdeal.nD Cert.AdamRestIdeal.τ).loc Cert.AdamRestIdeal.main_v0_3)),
      θ_run (Cert.AdamRestIdeal.defs (F := Ideal)) (onTc (τ := Cert.AdamRestIdeal.τ) (Cert.AdamRestIdeal.main (F := Ideal))) ⟨m, fun _ => 0, g⟩ (fun r => ∀ c : Dev Cert.AdamRestIdeal.nD,
          r.2.mem ((c.tc : Thread Cert.AdamRestIdeal.nD Cert.AdamRestIdeal.τ).loc Cert.AdamRestIdeal.main_v0_0) = v0 c
          ∧ r.2.mem ((c.tc : Thread Cert.AdamRestIdeal.nD Cert.AdamRestIdeal.τ).loc Cert.AdamRestIdeal.main_v0_1) = v1 c
          ∧ r.2.mem ((c.tc : Thread Cert.AdamRestIdeal.nD Cert.AdamRestIdeal.τ).loc Cert.AdamRestIdeal.main_v0_2) = v2 c
          ∧ r.2.mem ((c.tc : Thread Cert.AdamRestIdeal.nD Cert.AdamRestIdeal.τ).loc Cert.AdamRestIdeal.main_v0_3) = v3 c
          ∧ r.2.mem ((c.tc : Thread Cert.AdamRestIdeal.nD Cert.AdamRestIdeal.τ).loc Cert.AdamRestIdeal.main_arg0) = m ((c.tc : Thread Cert.AdamRestIdeal.nD Cert.AdamRestIdeal.τ).loc Cert.AdamRestIdeal.main_arg0)
          ∧ r.2.mem ((c.tc : Thread Cert.AdamRestIdeal.nD Cert.AdamRestIdeal.τ).loc Cert.AdamRestIdeal.main_arg1) = m ((c.tc : Thread Cert.AdamRestIdeal.nD Cert.AdamRestIdeal.τ).loc Cert.AdamRestIdeal.main_arg1)
          ∧ r.2.mem ((c.tc : Thread Cert.AdamRestIdeal.nD Cert.AdamRestIdeal.τ).loc Cert.AdamRestIdeal.main_arg2) = m ((c.tc : Thread Cert.AdamRestIdeal.nD Cert.AdamRestIdeal.τ).loc Cert.AdamRestIdeal.main_arg2)
          ∧ r.2.mem ((c.tc : Thread Cert.AdamRestIdeal.nD Cert.AdamRestIdeal.τ).loc Cert.AdamRestIdeal.main_arg3) = m ((c.tc : Thread Cert.AdamRestIdeal.nD Cert.AdamRestIdeal.τ).loc Cert.AdamRestIdeal.main_arg3))
      ∧ θ_run (Cert.AdamRestRefIdeal.defs (F := Ideal)) (onTc (τ := Cert.AdamRestRefIdeal.τ) (Cert.AdamRestRefIdeal.main (F := Ideal))) ⟨m', fun _ => 0, g'⟩ (fun r => ∀ c : Dev Cert.AdamRestRefIdeal.nD,
          r.2.mem ((c.tc : Thread Cert.AdamRestRefIdeal.nD Cert.AdamRestRefIdeal.τ).loc Cert.AdamRestRefIdeal.main_v0) = v0 c
          ∧ r.2.mem ((c.tc : Thread Cert.AdamRestRefIdeal.nD Cert.AdamRestRefIdeal.τ).loc Cert.AdamRestRefIdeal.main_v24) = v1 c
          ∧ r.2.mem ((c.tc : Thread Cert.AdamRestRefIdeal.nD Cert.AdamRestRefIdeal.τ).loc Cert.AdamRestRefIdeal.main_v5) = v2 c
          ∧ r.2.mem ((c.tc : Thread Cert.AdamRestRefIdeal.nD Cert.AdamRestRefIdeal.τ).loc Cert.AdamRestRefIdeal.main_v11) = v3 c
          ∧ r.2.mem ((c.tc : Thread Cert.AdamRestRefIdeal.nD Cert.AdamRestRefIdeal.τ).loc Cert.AdamRestRefIdeal.main_arg0) = m' ((c.tc : Thread Cert.AdamRestRefIdeal.nD Cert.AdamRestRefIdeal.τ).loc Cert.AdamRestRefIdeal.main_arg0)
          ∧ r.2.mem ((c.tc : Thread Cert.AdamRestRefIdeal.nD Cert.AdamRestRefIdeal.τ).loc Cert.AdamRestRefIdeal.main_arg1) = m' ((c.tc : Thread Cert.AdamRestRefIdeal.nD Cert.AdamRestRefIdeal.τ).loc Cert.AdamRestRefIdeal.main_arg1)
          ∧ r.2.mem ((c.tc : Thread Cert.AdamRestRefIdeal.nD Cert.AdamRestRefIdeal.τ).loc Cert.AdamRestRefIdeal.main_arg2) = m' ((c.tc : Thread Cert.AdamRestRefIdeal.nD Cert.AdamRestRefIdeal.τ).loc Cert.AdamRestRefIdeal.main_arg2)
          ∧ r.2.mem ((c.tc : Thread Cert.AdamRestRefIdeal.nD Cert.AdamRestRefIdeal.τ).loc Cert.AdamRestRefIdeal.main_arg3) = m' ((c.tc : Thread Cert.AdamRestRefIdeal.nD Cert.AdamRestRefIdeal.τ).loc Cert.AdamRestRefIdeal.main_arg3))

def Claim : Prop :=
  ∃ (hKernel : Cert.Kernel.Facts) (hKernelIdeal : Cert.KernelIdeal.Facts) (hReferenceIdeal : Cert.ReferenceIdeal.Facts) (hDwIn : Cert.DwIn.Facts) (hDwInIdeal : Cert.DwInIdeal.Facts) (hDwInRefIdeal : Cert.DwInRefIdeal.Facts) (hDwOut : Cert.DwOut.Facts) (hDwOutIdeal : Cert.DwOutIdeal.Facts) (hDwOutRefIdeal : Cert.DwOutRefIdeal.Facts) (hDH : Cert.DH.Facts) (hDHIdeal : Cert.DHIdeal.Facts) (hDHRefIdeal : Cert.DHRefIdeal.Facts) (hDMix : Cert.DMix.Facts) (hDMixIdeal : Cert.DMixIdeal.Facts) (hDMixRefIdeal : Cert.DMixRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hConvIn : Cert.ConvIn.Facts) (hConvInIdeal : Cert.ConvInIdeal.Facts) (hConvInRefIdeal : Cert.ConvInRefIdeal.Facts) (hNormGrad : Cert.NormGrad.Facts) (hNormGradIdeal : Cert.NormGradIdeal.Facts) (hNormGradRefIdeal : Cert.NormGradRefIdeal.Facts) (hNorm : Cert.Norm.Facts) (hNormIdeal : Cert.NormIdeal.Facts) (hNormRefIdeal : Cert.NormRefIdeal.Facts) (hConv : Cert.Conv.Facts) (hConvIdeal : Cert.ConvIdeal.Facts) (hConvRefIdeal : Cert.ConvRefIdeal.Facts) (hGate : Cert.Gate.Facts) (hGateIdeal : Cert.GateIdeal.Facts) (hGateRefIdeal : Cert.GateRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamConv : Cert.AdamConv.Facts) (hAdamConvIdeal : Cert.AdamConvIdeal.Facts) (hAdamConvRefIdeal : Cert.AdamConvRefIdeal.Facts) (hAdamRest : Cert.AdamRest.Facts) (hAdamRestIdeal : Cert.AdamRestIdeal.Facts) (hAdamRestRefIdeal : Cert.AdamRestRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwIn (hDwIn := hDwIn)
    ∧ quiescent_DwInIdeal (hDwInIdeal := hDwInIdeal)
    ∧ quiescent_DwInRefIdeal (hDwInRefIdeal := hDwInRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DH (hDH := hDH)
    ∧ quiescent_DHIdeal (hDHIdeal := hDHIdeal)
    ∧ quiescent_DHRefIdeal (hDHRefIdeal := hDHRefIdeal)
    ∧ quiescent_DMix (hDMix := hDMix)
    ∧ quiescent_DMixIdeal (hDMixIdeal := hDMixIdeal)
    ∧ quiescent_DMixRefIdeal (hDMixRefIdeal := hDMixRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_NormGrad (hNormGrad := hNormGrad)
    ∧ quiescent_NormGradIdeal (hNormGradIdeal := hNormGradIdeal)
    ∧ quiescent_NormGradRefIdeal (hNormGradRefIdeal := hNormGradRefIdeal)
    ∧ quiescent_Norm (hNorm := hNorm)
    ∧ quiescent_NormIdeal (hNormIdeal := hNormIdeal)
    ∧ quiescent_NormRefIdeal (hNormRefIdeal := hNormRefIdeal)
    ∧ quiescent_Conv (hConv := hConv)
    ∧ quiescent_ConvIdeal (hConvIdeal := hConvIdeal)
    ∧ quiescent_ConvRefIdeal (hConvRefIdeal := hConvRefIdeal)
    ∧ quiescent_Gate (hGate := hGate)
    ∧ quiescent_GateIdeal (hGateIdeal := hGateIdeal)
    ∧ quiescent_GateRefIdeal (hGateRefIdeal := hGateRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamRest (hAdamRest := hAdamRest)
    ∧ quiescent_AdamRestIdeal (hAdamRestIdeal := hAdamRestIdeal)
    ∧ quiescent_AdamRestRefIdeal (hAdamRestRefIdeal := hAdamRestRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwIn_DwInIdeal
    ∧ algebraic_DwInIdeal_DwInRefIdeal (hDwInIdeal := hDwInIdeal) (hDwInRefIdeal := hDwInRefIdeal)
    ∧ preserves_DwOut_DwOutIdeal
    ∧ algebraic_DwOutIdeal_DwOutRefIdeal (hDwOutIdeal := hDwOutIdeal) (hDwOutRefIdeal := hDwOutRefIdeal)
    ∧ preserves_DH_DHIdeal
    ∧ algebraic_DHIdeal_DHRefIdeal (hDHIdeal := hDHIdeal) (hDHRefIdeal := hDHRefIdeal)
    ∧ preserves_DMix_DMixIdeal
    ∧ algebraic_DMixIdeal_DMixRefIdeal (hDMixIdeal := hDMixIdeal) (hDMixRefIdeal := hDMixRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_ConvIn_ConvInIdeal
    ∧ algebraic_ConvInIdeal_ConvInRefIdeal (hConvInIdeal := hConvInIdeal) (hConvInRefIdeal := hConvInRefIdeal)
    ∧ preserves_NormGrad_NormGradIdeal
    ∧ algebraic_NormGradIdeal_NormGradRefIdeal (hNormGradIdeal := hNormGradIdeal) (hNormGradRefIdeal := hNormGradRefIdeal)
    ∧ preserves_Norm_NormIdeal
    ∧ algebraic_NormIdeal_NormRefIdeal (hNormIdeal := hNormIdeal) (hNormRefIdeal := hNormRefIdeal)
    ∧ preserves_Conv_ConvIdeal
    ∧ algebraic_ConvIdeal_ConvRefIdeal (hConvIdeal := hConvIdeal) (hConvRefIdeal := hConvRefIdeal)
    ∧ preserves_Gate_GateIdeal
    ∧ algebraic_GateIdeal_GateRefIdeal (hGateIdeal := hGateIdeal) (hGateRefIdeal := hGateRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamRest_AdamRestIdeal
    ∧ algebraic_AdamRestIdeal_AdamRestRefIdeal (hAdamRestIdeal := hAdamRestIdeal) (hAdamRestRefIdeal := hAdamRestRefIdeal)
-- ==== Pre_finite.lean ====
abbrev S8192x13440 : Shape := ⟨2, ![8192, 13440]⟩
abbrev S8192x4096 : Shape := ⟨2, ![8192, 4096]⟩
abbrev S8192x6144 : Shape := ⟨2, ![8192, 6144]⟩
abbrev S_ : Shape := ⟨0, ![]⟩
abbrev S8192x2048 : Shape := ⟨2, ![8192, 2048]⟩

class Facts : Prop where
  slices_S8192x13440_S8192x6144_0_5120 : S8192x13440.Slices ![0, 5120] S8192x6144
  bcast_S_S8192x6144 : S_.BroadcastsInDim S8192x6144 (![] : Fin 0 → Fin S8192x6144.rank)
  reducesTo_S8192x6144_S_d0_1 : S8192x6144.ReducesTo [0, 1] S_
  h_S_ : 0 < S_.numel
  slices_S8192x4096_S8192x2048_0_2048 : S8192x4096.Slices ![0, 2048] S8192x2048
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8192x13440 .f32) (main_arg1 : FVec F S8192x4096 .bf16) : IVec S_ 1 :=
  let main_v0 : FVec F S8192x6144 .f32 := (extractStridedSlice S8192x6144 ![0, 5120] · slices_S8192x13440_S8192x6144_0_5120) main_arg0
  let main_v1 : FVec F S8192x6144 .f32 := Host.absf main_v0
  let main_cst : FVec F S_ .f32 := constant S_ .f32 0x7F800000#32
  let main_v2 : FVec F S8192x6144 .f32 := broadcastInDim S8192x6144 ![] bcast_S_S8192x6144 main_cst
  let main_v3 : IVec S8192x6144 1 := cmpf .olt main_v1 main_v2
  let main_c : IVec S_ 1 := constantI S_ 1 1#1
  let main_v4 : IVec S_ 1 := (fun x v => Host.reduce IntOp.andi x v reducesTo_S8192x6144_S_d0_1 h_S_) main_v3 main_c
  let main_v5 : FVec F S8192x2048 .bf16 := (extractStridedSlice S8192x2048 ![0, 2048] · slices_S8192x4096_S8192x2048_0_2048) main_arg1
  let main_v6 : FVec F S8192x2048 .f32 := (extf .f32 · bitsLt_bf16_f32) main_v5
  let main_v7 : FVec F S8192x2048 .f32 := Host.absf main_v6
  let main_cst_0 : FVec F S_ .f32 := constant S_ .f32 0x7F800000#32
  let main_v8 : FVec F S8192x2048 .f32 := broadcastInDim S8192x2048 ![] bcast_S_S8192x2048 main_cst_0
  let main_v9 : IVec S8192x2048 1 := cmpf .olt main_v7 main_v8
  let main_c_1 : IVec S_ 1 := constantI S_ 1 1#1
  let main_v10 : IVec S_ 1 := (fun x v => Host.reduce IntOp.andi x v reducesTo_S8192x2048_S_d0_1 h_S_) main_v9 main_c_1
  let main_v11 : IVec S_ 1 := andi main_v4 main_v10
  main_v11
-- ==== Kernel.lean ====
abbrev S8192x13440 : Shape := ⟨2, ![8192, 13440]⟩
abbrev S8192x4096 : Shape := ⟨2, ![8192, 4096]⟩
abbrev S8192x2048 : Shape := ⟨2, ![8192, 2048]⟩
abbrev S8192x16x128 : Shape := ⟨3, ![8192, 16, 128]⟩
abbrev S16x8192x128 : Shape := ⟨3, ![16, 8192, 128]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S16x8192 : Shape := ⟨2, ![16, 8192]⟩
abbrev S16x8192x1 : Shape := ⟨3, ![16, 8192, 1]⟩
abbrev S32 : Shape := ⟨1, ![32]⟩
abbrev S16x32 : Shape := ⟨2, ![16, 32]⟩
abbrev S256x128 : Shape := ⟨2, ![256, 128]⟩
abbrev S8192x128 : Shape := ⟨2, ![8192, 128]⟩
abbrev S1x256x128 : Shape := ⟨3, ![1, 256, 128]⟩
abbrev S256x1 : Shape := ⟨2, ![256, 1]⟩
abbrev S256x256 : Shape := ⟨2, ![256, 256]⟩
abbrev S1x1 : Shape := ⟨2, ![1, 1]⟩

abbrev nBuf : Space → Nat
  | .hbm => 43
  | .vmem => 23
  | .smem => 1
  | _ => 0

abbrev bufTy : (tb : Table) → Fin (tcTables nBuf tb) → BufTy
  | .hbm, ⟨0, _⟩ => ⟨S8192x13440, .f32⟩
  | .hbm, ⟨1, _⟩ => ⟨S8192x4096, .bf16⟩
  | .hbm, ⟨2, _⟩ => ⟨S8192x2048, .f32⟩
  | .hbm, ⟨3, _⟩ => ⟨S8192x2048, .f32⟩
  | .hbm, ⟨4, _⟩ => ⟨S8192x16x128, .f32⟩
  | .hbm, ⟨5, _⟩ => ⟨S16x8192x128, .f32⟩
  | .hbm, ⟨6, _⟩ => ⟨S8192x16x128, .f32⟩
  | .hbm, ⟨7, _⟩ => ⟨S16x8192x128, .f32⟩
  | .hbm, ⟨8, _⟩ => ⟨S16x8192x8192, .f32⟩
  | .hbm, ⟨9, _⟩ => ⟨S_, .f32⟩
  | .hbm, ⟨10, _⟩ => ⟨S_, .f32⟩
  | .hbm, ⟨11, _⟩ => ⟨S16x8192x8192, .f32⟩
  | .hbm, ⟨12, _⟩ => ⟨S16x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S16x8192x8192, .f32⟩
  | .hbm, ⟨21, _⟩ => ⟨S16x8192x8192, .f32⟩
  | .hbm, ⟨22, _⟩ => ⟨S16x8192x8192, .f32⟩
  | .hbm, ⟨23, _⟩ => ⟨S16x8192x8192, .f32⟩
  | .hbm, ⟨24, _⟩ => ⟨S16x8192x8192, .f32⟩
  | .hbm, ⟨25, _⟩ => ⟨S16x8192x8192, .f32⟩
  | .hbm, ⟨26, _⟩ => ⟨S16x8192x8192, .f32⟩
  | .hbm, ⟨27, _⟩ => ⟨S1x8192x8192, .i1⟩
  | .hbm, ⟨28, _⟩ => ⟨S16x8192x8192, .i1⟩
  | .hbm, ⟨29, _⟩ => ⟨S_, .f32⟩
  | .hbm, ⟨30, _⟩ => ⟨S16x8192x8192, .f32⟩
  | .hbm, ⟨31, _⟩ => ⟨S16x8192x8192, .f32⟩
  | .hbm, ⟨32, _⟩ => ⟨S_, .f32⟩
  | .hbm, ⟨33, _⟩ => ⟨S16x8192, .f32⟩
  | .hbm, ⟨34, _⟩ => ⟨S16x8192x1, .f32⟩
  | .hbm, ⟨35, _⟩ => ⟨S16x8192x128, .f32⟩
  | .hbm, ⟨36, _⟩ => ⟨S32, .i32⟩
  | .hbm, ⟨37, _⟩ => ⟨S_, .i32⟩
  | .hbm, ⟨38, _⟩ => ⟨S32, .i32⟩
  | .hbm, ⟨39, _⟩ => ⟨S32, .i32⟩
  | .hbm, ⟨40, _⟩ => ⟨S8192x2048, .bf16⟩
  | .hbm, ⟨41, _⟩ => ⟨S8192x2048, .bf16⟩
  | .hbm, ⟨42, _⟩ => ⟨S8192x2048, .bf16⟩
  | .local _ .vmem, ⟨0, _⟩ => ⟨S256x128, .f32⟩
  | .local _ .vmem, ⟨1, _⟩ => ⟨S256x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S256x128, .bf16⟩
  | .local _ .vmem, ⟨7, _⟩ => ⟨S256x128, .bf16⟩
  | .local _ .vmem, ⟨8, _⟩ => ⟨S1x256x128, .f32⟩
  | .local _ .vmem, ⟨9, _⟩ => ⟨S1x256x128, .f32⟩
  | .local _ .vmem, ⟨10, _⟩ => ⟨S256x128, .bf16⟩
  | .local _ .vmem, ⟨11, _⟩ => ⟨S256x128, .bf16⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .bf16⟩
  | .local _ .vmem, ⟨16, _⟩ => ⟨S8192x128, .bf16⟩
  | .local _ .vmem, ⟨17, _⟩ => ⟨S8192x128, .bf16⟩
  | .local _ .vmem, ⟨18, _⟩ => ⟨S256x128, .f32⟩
  | .local _ .vmem, ⟨19, _⟩ => ⟨S256x1, .f32⟩
  | .local _ .vmem, ⟨20, _⟩ => ⟨S256x1, .f32⟩
  | .local _ .vmem, ⟨21, _⟩ => ⟨S8192x128, .f32⟩
  | .local _ .vmem, ⟨22, _⟩ => ⟨S8192x128, .f32⟩
  | .local _ .smem, ⟨0, _⟩ => ⟨S16x32, .i32⟩
  | _, _ => ⟨S8192x13440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_v26 : Ref sig .tc := ⟨.hbm, 31, rfl⟩
abbrev main_cst_2 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c : Ref sig .tc := ⟨.hbm, 37, rfl⟩
abbrev main_v31 : Ref sig .tc := ⟨.hbm, 38, rfl⟩
abbrev main_v32 : Ref sig .tc := ⟨.hbm, 39, rfl⟩
abbrev main_v34_0 : Ref sig .tc := ⟨.hbm, 40, rfl⟩
abbrev main_v34_1 : Ref sig .tc := ⟨.hbm, 41, rfl⟩
abbrev main_v34_2 : Ref sig .tc := ⟨.hbm, 42, rfl⟩
abbrev main_v33 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 32], ![false, false]⟩

abbrev pre0 : Pipeline.Prefetch sig := ⟨1, ![main_v33.idx], fun | 0 => main_v33.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v28 : Index := Scalar.indexCast arg0
  let arg1 : BitVec 32 := BitVec.ofNat 32 (i 1).val
  let v29 : Index := Scalar.indexCast arg1
  ![v28.toNat, v29.toNat]
@[reducible] def k0_t1_loop (i : grid0.Coords) (v30 : BitVec 32) : Scf.Loop 32 :=
  let arg1 : BitVec 32 := BitVec.ofNat 32 (i 1).val
  let v31 : BitVec 32 := Scalar.subi arg1 v30
  let c1_i32 : BitVec 32 := 1#32
  let v32 : BitVec 32 := Scalar.addi v31 c1_i32
  let c1_i32_15 : BitVec 32 := 1#32
  let v33 : BitVec 32 := Scalar.subi arg1 c1_i32_15
  let v34 : BitVec 32 := Scalar.subi v33 v32
  let c1_i32_17 : BitVec 32 := 1#32
  let v36 : BitVec 32 := Scalar.divsi v34 c1_i32_17
  let v37 : BitVec 32 := Scalar.muli v36 c1_i32_17
  let v38 : BitVec 32 := Scalar.addi v32 v37
  let c1_i32_18 : BitVec 32 := 1#32
  ⟨v32, v38, c1_i32_18⟩

def k0_mult1 (i : grid0.Coords) (v30 : BitVec 32) (k0_t1 : Fin (k0_t1_loop i v30).trips) : BitVec 32 :=
  let arg1 : BitVec 32 := BitVec.ofNat 32 (i 1).val
  let v31 : BitVec 32 := Scalar.subi arg1 v30
  let c1_i32 : BitVec 32 := 1#32
  let v32 : BitVec 32 := Scalar.addi v31 c1_i32
  let c1_i32_18 : BitVec 32 := 1#32
  let arg18 : BitVec 32 := Scf.iv v32 c1_i32_18 k0_t1
  let c256_i32 : BitVec 32 := 256#32
  let v50 : BitVec 32 := Scalar.muli arg18 c256_i32
  v50
def k0_off2 (i : grid0.Coords) (v30 : BitVec 32) (k0_t1 : Fin (k0_t1_loop i v30).trips) : Fin 2 → Nat :=
  let arg1 : BitVec 32 := BitVec.ofNat 32 (i 1).val
  let v31 : BitVec 32 := Scalar.subi arg1 v30
  let c1_i32 : BitVec 32 := 1#32
  let v32 : BitVec 32 := Scalar.addi v31 c1_i32
  let c1_i32_18 : BitVec 32 := 1#32
  let arg18 : BitVec 32 := Scf.iv v32 c1_i32_18 k0_t1
  let c256_i32 : BitVec 32 := 256#32
  let v50 : BitVec 32 := Scalar.muli arg18 c256_i32
  let v51 : BitVec 32 := v50
  let v52 : Index := Scalar.indexCast v51
  let c0_29 : Index := 0#32
  ![v52.toNat, 0]
@[reducible] def k0_t2_loop (i : grid0.Coords) (v30 : BitVec 32) : Scf.Loop 32 :=
  let arg1 : BitVec 32 := BitVec.ofNat 32 (i 1).val
  let v31 : BitVec 32 := Scalar.subi arg1 v30
  let c1_i32 : BitVec 32 := 1#32
  let v32 : BitVec 32 := Scalar.addi v31 c1_i32
  let c1_i32_15 : BitVec 32 := 1#32
  let v33 : BitVec 32 := Scalar.subi arg1 c1_i32_15
  let v34 : BitVec 32 := Scalar.subi v33 v32
  let c1_i32_17 : BitVec 32 := 1#32
  let v36 : BitVec 32 := Scalar.divsi v34 c1_i32_17
  let v37 : BitVec 32 := Scalar.muli v36 c1_i32_17
  let v38 : BitVec 32 := Scalar.addi v32 v37
  let v35 : BitVec 32 := Scalar.addi v32 v34
  let c1_i32_19 : BitVec 32 := 1#32
  ⟨v38, v35, c1_i32_19⟩
def k0_mult2 (i : grid0.Coords) (v30 : BitVec 32) (k0_t2 : Fin (k0_t2_loop i v30).trips) : BitVec 32 :=
  let arg1 : BitVec 32 := BitVec.ofNat 32 (i 1).val
  let v31 : BitVec 32 := Scalar.subi arg1 v30
  let c1_i32 : BitVec 32 := 1#32
  let v32 : BitVec 32 := Scalar.addi v31 c1_i32
  let c1_i32_15 : BitVec 32 := 1#32
  let v33 : BitVec 32 := Scalar.subi arg1 c1_i32_15
  let v34 : BitVec 32 := Scalar.subi v33 v32
  let c1_i32_17 : BitVec 32 := 1#32
  let v36 : BitVec 32 := Scalar.divsi v34 c1_i32_17
  let v37 : BitVec 32 := Scalar.muli v36 c1_i32_17
  let v38 : BitVec 32 := Scalar.addi v32 v37
  let c1_i32_19 : BitVec 32 := 1#32
  let arg18 : BitVec 32 := Scf.iv v38 c1_i32_19 k0_t2
  let c256_i32 : BitVec 32 := 256#32
  let v50 : BitVec 32 := Scalar.muli arg18 c256_i32
  v50
def k0_off3 (i : grid0.Coords) (v30 : BitVec 32) (k0_t2 : Fin (k0_t2_loop i v30).trips) : Fin 2 → Nat :=
  let arg1 : BitVec 32 := BitVec.ofNat 32 (i 1).val
  let v31 : BitVec 32 := Scalar.subi arg1 v30
  let c1_i32 : BitVec 32 := 1#32
  let v32 : BitVec 32 := Scalar.addi v31 c1_i32
  let c1_i32_15 : BitVec 32 := 1#32
  let v33 : BitVec 32 := Scalar.subi arg1 c1_i32_15
  let v34 : BitVec 32 := Scalar.subi v33 v32
  let c1_i32_17 : BitVec 32 := 1#32
  let v36 : BitVec 32 := Scalar.divsi v34 c1_i32_17
  let v37 : BitVec 32 := Scalar.muli v36 c1_i32_17
  let v38 : BitVec 32 := Scalar.addi v32 v37
  let c1_i32_19 : BitVec 32 := 1#32
  let arg18 : BitVec 32 := Scf.iv v38 c1_i32_19 k0_t2
  let c256_i32 : BitVec 32 := 256#32
  let v50 : BitVec 32 := Scalar.muli arg18 c256_i32
  let v51 : BitVec 32 := v50
  let v52 : Index := Scalar.indexCast v51
  let c0_29 : Index := 0#32
  ![v52.toNat, 0]

def k0_chk1 (i : grid0.Coords) (v30 : BitVec 32) : Prop :=
  ((k0_t1_loop i v30).OK) ∧
  (∀ k0_t1 : Fin (k0_t1_loop i v30).trips, 256 ∣ (k0_mult1 i v30 k0_t1).toNat) ∧
  (∀ k0_t1 : Fin (k0_t1_loop i v30).trips, ∀ a, (k0_off2 i v30 k0_t1) a + S256x128.size a ≤ S8192x128.size a) ∧
  ((k0_t2_loop i v30).OK) ∧
  (∀ k0_t2 : Fin (k0_t2_loop i v30).trips, 256 ∣ (k0_mult2 i v30 k0_t2).toNat) ∧
  (∀ k0_t2 : Fin (k0_t2_loop i v30).trips, ∀ a, (k0_off3 i v30 k0_t2) a + S256x128.size a ≤ S8192x128.size a)
theorem k0_t1_ok : ∀ (i : grid0.Coords) (v30 : BitVec 32) (k0_hw1 : k0_chk1 i v30), (k0_t1_loop i v30).OK := fun i v30 k0_hw1 => k0_hw1.1
theorem k0_mult1_dvd : ∀ (i : grid0.Coords) (v30 : BitVec 32) (k0_hw1 : k0_chk1 i v30) (k0_t1 : Fin (k0_t1_loop i v30).trips), 256 ∣ (k0_mult1 i v30 k0_t1).toNat := fun i v30 k0_hw1 k0_t1 => k0_hw1.2.1 k0_t1
theorem k0_off2_inb : ∀ (i : grid0.Coords) (v30 : BitVec 32) (k0_hw1 : k0_chk1 i v30) (k0_t1 : Fin (k0_t1_loop i v30).trips), ∀ a, (k0_off2 i v30 k0_t1) a + S256x128.size a ≤ S8192x128.size a := fun i v30 k0_hw1 k0_t1 => k0_hw1.2.2.1 k0_t1
theorem k0_t2_ok : ∀ (i : grid0.Coords) (v30 : BitVec 32) (k0_hw1 : k0_chk1 i v30), (k0_t2_loop i v30).OK := fun i v30 k0_hw1 => k0_hw1.2.2.2.1
theorem k0_mult2_dvd : ∀ (i : grid0.Coords) (v30 : BitVec 32) (k0_hw1 : k0_chk1 i v30) (k0_t2 : Fin (k0_t2_loop i v30).trips), 256 ∣ (k0_mult2 i v30 k0_t2).toNat := fun i v30 k0_hw1 k0_t2 => k0_hw1.2.2.2.2.1 k0_t2
theorem k0_off3_inb : ∀ (i : grid0.Coords) (v30 : BitVec 32) (k0_hw1 : k0_chk1 i v30) (k0_t2 : Fin (k0_t2_loop i v30).trips), ∀ a, (k0_off3 i v30 k0_t2) a + S256x128.size a ≤ S8192x128.size a := fun i v30 k0_hw1 k0_t2 => k0_hw1.2.2.2.2.2 k0_t2

def k0_cond2 (i : grid0.Coords) : BitVec 1 :=
  let arg1 : BitVec 32 := BitVec.ofNat 32 (i 1).val
  let c0_i32_20 : BitVec 32 := 0#32
  let v39 : BitVec 1 := Scalar.cmpi .eq arg1 c0_i32_20
  let v40 : BitVec 32 := Scalar.extui v39
  let c0_i32_21 : BitVec 32 := 0#32
  let v41 : BitVec 1 := Scalar.cmpi .ne v40 c0_i32_21
  v41

def k0_mult3 (i : grid0.Coords) : BitVec 32 :=
  let arg1 : BitVec 32 := BitVec.ofNat 32 (i 1).val
  let c256_i32 : BitVec 32 := 256#32
  let v50 : BitVec 32 := Scalar.muli arg1 c256_i32
  v50
def k0_off4 (i : grid0.Coords) : Fin 2 → Nat :=
  let arg1 : BitVec 32 := BitVec.ofNat 32 (i 1).val
  let c256_i32 : BitVec 32 := 256#32
  let v50 : BitVec 32 := Scalar.muli arg1 c256_i32
  let v51 : BitVec 32 := v50
  let v52 : Index := Scalar.indexCast v51
  let c0_29 : Index := 0#32
  ![v52.toNat, 0]
def k0_cond3 (i : grid0.Coords) : BitVec 1 :=
  let arg1 : BitVec 32 := BitVec.ofNat 32 (i 1).val
  let c0_i32_22 : BitVec 32 := 0#32
  let v42 : BitVec 1 := Scalar.cmpi .sgt arg1 c0_i32_22
  let v43 : BitVec 32 := Scalar.extui v42
  let c0_i32_23 : BitVec 32 := 0#32
  let v44 : BitVec 1 := Scalar.cmpi .ne v43 c0_i32_23
  v44

def k0_mult4 (i : grid0.Coords) : BitVec 32 :=
  let arg1 : BitVec 32 := BitVec.ofNat 32 (i 1).val
  let c1_i32_25 : BitVec 32 := 1#32
  let v48 : BitVec 32 := Scalar.subi arg1 c1_i32_25
  let c256_i32 : BitVec 32 := 256#32
  let v51 : BitVec 32 := Scalar.muli v48 c256_i32
  v51
def k0_mult5 (i : grid0.Coords) : BitVec 32 :=
  let arg1 : BitVec 32 := BitVec.ofNat 32 (i 1).val
  let c256_i32_30 : BitVec 32 := 256#32
  let v53 : BitVec 32 := Scalar.muli arg1 c256_i32_30
  v53
def k0_off5 (i : grid0.Coords) : Fin 2 → Nat :=
  let arg1 : BitVec 32 := BitVec.ofNat 32 (i 1).val
  let c1_i32_25 : BitVec 32 := 1#32
  let v48 : BitVec 32 := Scalar.subi arg1 c1_i32_25
  let c256_i32 : BitVec 32 := 256#32
  let v51 : BitVec 32 := Scalar.muli v48 c256_i32
  let v52 : BitVec 32 := v51
  let v55 : Index := Scalar.indexCast v52
  let c0_31 : Index := 0#32
  ![v55.toNat, 0]
def k0_off6 (i : grid0.Coords) : Fin 2 → Nat :=
  let arg1 : BitVec 32 := BitVec.ofNat 32 (i 1).val
  let c256_i32_30 : BitVec 32 := 256#32
  let v53 : BitVec 32 := Scalar.muli arg1 c256_i32_30
  let v54 : BitVec 32 := v53
  let v60 : Index := Scalar.indexCast v54
  let c0_34 : Index := 0#32
  ![v60.toNat, 0]
def k0_cond4 (i : grid0.Coords) : BitVec 1 :=
  let arg1 : BitVec 32 := BitVec.ofNat 32 (i 1).val
  let c31_i32 : BitVec 32 := 31#32
  let v45 : BitVec 1 := Scalar.cmpi .eq arg1 c31_i32
  let v46 : BitVec 32 := Scalar.extui v45
  let c0_i32_24 : BitVec 32 := 0#32
  let v47 : BitVec 1 := Scalar.cmpi .ne v46 c0_i32_24
  v47

def cc0_transform_0 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c72_i32 : BitVec 32 := 72#32
  let v0 : BitVec 32 := Scalar.addi c72_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S8192x13440 : Shape := ⟨2, ![8192, 13440]⟩
abbrev S8192x4096 : Shape := ⟨2, ![8192, 4096]⟩
abbrev S8192x2048 : Shape := ⟨2, ![8192, 2048]⟩
abbrev S8192x16x128 : Shape := ⟨3, ![8192, 16, 128]⟩
abbrev S16x8192x128 : Shape := ⟨3, ![16, 8192, 128]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x128x8192 : Shape := ⟨3, ![16, 128, 8192]⟩

abbrev nBuf : Space → Nat
  | .hbm => 182
  | .vmem => 0
  | .smem => 0
  | _ => 0

abbrev hbmTy0_0 (i : Nat) : BufTy := match i % 128 with
  | 0 => ⟨S8192x13440, .f32⟩
  | 1 => ⟨S8192x4096, .bf16⟩
  | 2 => ⟨S8192x2048, .f32⟩
  | 3 => ⟨S8192x2048, .f32⟩
  | 4 => ⟨S8192x2048, .f32⟩
  | 5 => ⟨S8192x2048, .bf16⟩
  | 6 => ⟨S8192x2048, .f32⟩
  | 7 => ⟨S8192x16x128, .f32⟩
  | 8 => ⟨S16x8192x128, .f32⟩
  | 9 => ⟨S8192x16x128, .f32⟩
  | 10 => ⟨S16x8192x128, .f32⟩
  | 11 => ⟨S16x8192x8192, .f32⟩
  | 12 => ⟨S_, .f32⟩
  | 13 => ⟨S_, .f32⟩
  | 14 => ⟨S16x8192x8192, .f32⟩
  | 15 => ⟨S16x8192x8192, .f32⟩
  | 16 => ⟨S8192, .i32⟩
  | 17 => ⟨S1x8192, .i32⟩
  | 18 => ⟨S8192x1, .i32⟩
  | 19 => ⟨S8192x8192, .i32⟩
  | 20 => ⟨S8192x8192, .i32⟩
  | 21 => ⟨S8192x8192, .i1⟩
  | 22 => ⟨S16x8192x8192, .f32⟩
  | 23 => ⟨S16x8192x8192, .f32⟩
  | 24 => ⟨S_, .f32⟩
  | 25 => ⟨S16x8192x8192, .f32⟩
  | 26 => ⟨S16x8192x8192, .f32⟩
  | 27 => ⟨S16x8192x8192, .f32⟩
  | 28 => ⟨S16x8192x8192, .f32⟩
  | 29 => ⟨S16x8192x8192, .i1⟩
  | 30 => ⟨S16x8192x8192, .f32⟩
  | 31 => ⟨S16x8192x8192, .f32⟩
  | 32 => ⟨S16x8192x8192, .f32⟩
  | 33 => ⟨S16x8192x8192, .f32⟩
  | 34 => ⟨S16x8192x8192, .f32⟩
  | 35 => ⟨S16x8192x8192, .f32⟩
  | 36 => ⟨S16x8192x8192, .f32⟩
  | 37 => ⟨S16x8192x8192, .f32⟩
  | 38 => ⟨S_, .f32⟩
  | 39 => ⟨S16x8192x8192, .f32⟩
  | 40 => ⟨S16x8192x8192, .i1⟩
  | 41 => ⟨S_, .f32⟩
  | 42 => ⟨S16x8192x8192, .f32⟩
  | 43 => ⟨S16x8192x8192, .f32⟩
  | 44 => ⟨S_, .f32⟩
  | 45 => ⟨S16x8192x8192, .f32⟩
  | 46 => ⟨S16x8192x8192, .i1⟩
  | 47 => ⟨S_, .f32⟩
  | 48 => ⟨S16x8192x8192, .f32⟩
  | 49 => ⟨S16x8192x8192, .f32⟩
  | 50 => ⟨S16x8192x8192, .f32⟩
  | 51 => ⟨S16x8192x8192, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S16x8192x8192, .f32⟩
  | 60 => ⟨S16x8192x8192, .i1⟩
  | 61 => ⟨S_, .f32⟩
  | 62 => ⟨S16x8192x8192, .f32⟩
  | 63 => ⟨S16x8192x8192, .f32⟩
  | 64 => ⟨S16x8192x8192, .f32⟩
  | 65 => ⟨S16x8192x8192, .f32⟩
  | 66 => ⟨S16x8192x8192, .f32⟩
  | 67 => ⟨S_, .f32⟩
  | 68 => ⟨S16x8192x8192, .f32⟩
  | 69 => ⟨S16x8192x8192, .f32⟩
  | 70 => ⟨S16x8192x8192, .f32⟩
  | 71 => ⟨S_, .f32⟩
  | 72 => ⟨S_, .f32⟩
  | 73 => ⟨S16x8192x8192, .i1⟩
  | 74 => ⟨S16x8192x8192, .f32⟩
  | 75 => ⟨S16x8192x8192, .f32⟩
  | 76 => ⟨S_, .f32⟩
  | 77 => ⟨S16x8192x8192, .f32⟩
  | 78 => ⟨S_, .f32⟩
  | 79 => ⟨S_, .f32⟩
  | 80 => ⟨S16x8192x8192, .f32⟩
  | 81 => ⟨S16x8192x8192, .f32⟩
  | 82 => ⟨S16x8192x8192, .f32⟩
  | 83 => ⟨S_, .f32⟩
  | 84 => ⟨S16x8192x8192, .f32⟩
  | 85 => ⟨S16x8192x8192, .f32⟩
  | 86 => ⟨S16x8192x8192, .f32⟩
  | 87 => ⟨S16x8192x8192, .f32⟩
  | 88 => ⟨S16x8192x8192, .i1⟩
  | 89 => ⟨S16x8192x8192, .f32⟩
  | 90 => ⟨S16x8192x8192, .f32⟩
  | 91 => ⟨S16x8192x8192, .f32⟩
  | 92 => ⟨S16x8192x8192, .f32⟩
  | 93 => ⟨S16x8192x8192, .f32⟩
  | 94 => ⟨S16x8192x8192, .f32⟩
  | 95 => ⟨S16x8192x8192, .f32⟩
  | 96 => ⟨S16x8192x8192, .f32⟩
  | 97 => ⟨S_, .f32⟩
  | 98 => ⟨S16x8192x8192, .f32⟩
  | 99 => ⟨S16x8192x8192, .i1⟩
  | 100 => ⟨S_, .f32⟩
  | 101 => ⟨S16x8192x8192, .f32⟩
  | 102 => ⟨S16x8192x8192, .f32⟩
  | 103 => ⟨S_, .f32⟩
  | 104 => ⟨S16x8192x8192, .f32⟩
  | 105 => ⟨S16x8192x8192, .i1⟩
  | 106 => ⟨S_, .f32⟩
  | 107 => ⟨S16x8192x8192, .f32⟩
  | 108 => ⟨S16x8192x8192, .f32⟩
  | 109 => ⟨S16x8192x8192, .f32⟩
  | 110 => ⟨S16x8192x8192, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S16x8192x8192, .f32⟩
  | 119 => ⟨S16x8192x8192, .i1⟩
  | 120 => ⟨S_, .f32⟩
  | 121 => ⟨S16x8192x8192, .f32⟩
  | 122 => ⟨S16x8192x8192, .f32⟩
  | 123 => ⟨S16x8192x8192, .f32⟩
  | 124 => ⟨S16x8192x8192, .f32⟩
  | 125 => ⟨S16x8192x8192, .f32⟩
  | 126 => ⟨S_, .f32⟩
  | 127 => ⟨S16x8192x8192, .f32⟩
  | _ => ⟨S8192x13440, .f32⟩

abbrev hbmTy0_1 (i : Nat) : BufTy := match i % 128 with
  | 0 => ⟨S16x8192x8192, .f32⟩
  | 1 => ⟨S16x8192x8192, .f32⟩
  | 2 => ⟨S16x8192x8192, .f32⟩
  | 3 => ⟨S16x8192x8192, .f32⟩
  | 4 => ⟨S_, .f32⟩
  | 5 => ⟨S_, .f32⟩
  | 6 => ⟨S16x8192x8192, .i1⟩
  | 7 => ⟨S16x8192x8192, .f32⟩
  | 8 => ⟨S16x8192x8192, .f32⟩
  | 9 => ⟨S_, .f32⟩
  | 10 => ⟨S16x8192x8192, .f32⟩
  | 11 => ⟨S8192x16x128, .f32⟩
  | 12 => ⟨S16x8192x128, .f32⟩
  | 13 => ⟨S16x8192x128, .f32⟩
  | 14 => ⟨S8192x16x128, .f32⟩
  | 15 => ⟨S8192x2048, .f32⟩
  | 16 => ⟨S8192x16x128, .f32⟩
  | 17 => ⟨S16x8192x128, .f32⟩
  | 18 => ⟨S16x128x8192, .f32⟩
  | 19 => ⟨S16x8192x128, .f32⟩
  | 20 => ⟨S16x8192x8192, .f32⟩
  | 21 => ⟨S8192x16x128, .f32⟩
  | 22 => ⟨S8192x2048, .f32⟩
  | 23 => ⟨S_, .f32⟩
  | 24 => ⟨S16x8192x8192, .f32⟩
  | 25 => ⟨S16x8192x8192, .f32⟩
  | 26 => ⟨S16x8192x8192, .f32⟩
  | 27 => ⟨S16x8192x8192, .f32⟩
  | 28 => ⟨S16x8192x8192, .f32⟩
  | 29 => ⟨S16x8192x8192, .f32⟩
  | 30 => ⟨S16x8192x8192, .f32⟩
  | 31 => ⟨S_, .f32⟩
  | 32 => ⟨S_, .f32⟩
  | 33 => ⟨S16x8192x8192, .f32⟩
  | 34 => ⟨S16x8192x8192, .f32⟩
  | 35 => ⟨S_, .f32⟩
  | 36 => ⟨S16x8192x8192, .f32⟩
  | 37 => ⟨S16x8192x8192, .f32⟩
  | 38 => ⟨S16x8192x8192, .f32⟩
  | 39 => ⟨S16x8192x8192, .f32⟩
  | 40 => ⟨S16x8192x8192, .f32⟩
  | 41 => ⟨S16x8192x8192, .f32⟩
  | 42 => ⟨S16x8192x8192, .f32⟩
  | 43 => ⟨S16x8192x8192, .f32⟩
  | 44 => ⟨S16x8192x8192, .f32⟩
  | 45 => ⟨S16x8192x128, .f32⟩
  | 46 => ⟨S16x8192x128, .f32⟩
  | 47 => ⟨S8192x16x128, .f32⟩
  | 48 => ⟨S8192x2048, .f32⟩
  | 49 => ⟨S8192x16x128, .f32⟩
  | 50 => ⟨S8192x2048, .f32⟩
  | 51 => ⟨S8192x2048, .bf16⟩
  | 52 => ⟨S8192x2048, .bf16⟩
  | 53 => ⟨S8192x2048, .bf16⟩
  | _ => ⟨S8192x13440, .f32⟩

abbrev hbmTy (i : Nat) : BufTy := match i / 128 with
  | 0 => hbmTy0_0 i
  | 1 => hbmTy0_1 i
  | _ => ⟨S8192x13440, .f32⟩

abbrev bufTy : (tb : Table) → Fin (tcTables nBuf tb) → BufTy
  | .hbm, ⟨i, _⟩ => hbmTy i
  | _, _ => ⟨S8192x13440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v24_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v24_2 : Ref sig .tc := ⟨.hbm, 128, rfl⟩
abbrev main_v24_0 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_call5_cst : Ref sig .tc := ⟨.hbm, 151, rfl⟩
abbrev main_call5_v0 : Ref sig .tc := ⟨.hbm, 152, rfl⟩
abbrev main_v40 : Ref sig .tc := ⟨.hbm, 153, rfl⟩
abbrev main_v41 : Ref sig .tc := ⟨.hbm, 154, rfl⟩
abbrev main_call6_v0 : Ref sig .tc := ⟨.hbm, 155, rfl⟩
abbrev main_call6_v1 : Ref sig .tc := ⟨.hbm, 156, rfl⟩
abbrev main_v42 : Ref sig .tc := ⟨.hbm, 157, rfl⟩
abbrev main_v43 : Ref sig .tc := ⟨.hbm, 158, rfl⟩
abbrev main_call7_cst : Ref sig .tc := ⟨.hbm, 159, rfl⟩
abbrev main_call7_v0 : Ref sig .tc := ⟨.hbm, 160, rfl⟩
abbrev main_v44 : Ref sig .tc := ⟨.hbm, 161, rfl⟩
abbrev main_v45 : Ref sig .tc := ⟨.hbm, 162, rfl⟩
abbrev main_call8_cst : Ref sig .tc := ⟨.hbm, 163, rfl⟩
abbrev main_call8_v0 : Ref sig .tc := ⟨.hbm, 164, rfl⟩
abbrev main_v46 : Ref sig .tc := ⟨.hbm, 165, rfl⟩
abbrev main_call9_v0 : Ref sig .tc := ⟨.hbm, 166, rfl⟩
abbrev main_call9_v1 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_v50 : Ref sig .tc := ⟨.hbm, 171, rfl⟩
abbrev main_v51 : Ref sig .tc := ⟨.hbm, 172, rfl⟩
abbrev main_v52 : Ref sig .tc := ⟨.hbm, 173, rfl⟩
abbrev main_v53 : Ref sig .tc := ⟨.hbm, 174, rfl⟩
abbrev main_v54 : Ref sig .tc := ⟨.hbm, 175, rfl⟩
abbrev main_v55 : Ref sig .tc := ⟨.hbm, 176, rfl⟩
abbrev main_v56 : Ref sig .tc := ⟨.hbm, 177, rfl⟩
abbrev main_v57 : Ref sig .tc := ⟨.hbm, 178, rfl⟩
abbrev main_v58 : Ref sig .tc := ⟨.hbm, 179, rfl⟩
abbrev main_v59 : Ref sig .tc := ⟨.hbm, 180, rfl⟩
abbrev main_v60 : Ref sig .tc := ⟨.hbm, 181, rfl⟩

abbrev nD : Nat := 1
abbrev τ : Topo := Topo.v7x

variable {F : FTy → Type} [FloatOps F]
-- ==== DwIn.lean ====
abbrev S8192x2048 : Shape := ⟨2, ![8192, 2048]⟩
abbrev S8192x13440 : Shape := ⟨2, ![8192, 13440]⟩
abbrev S2048x13440 : Shape := ⟨2, ![2048, 13440]⟩
abbrev S2048x2048 : Shape := ⟨2, ![2048, 2048]⟩
abbrev S2048x896 : Shape := ⟨2, ![2048, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x13440, .bf16⟩
  | .hbm, ⟨2, _⟩ => ⟨S2048x13440, .bf16⟩
  | .local _ .vmem, ⟨0, _⟩ => ⟨S2048x2048, .bf16⟩
  | .local _ .vmem, ⟨1, _⟩ => ⟨S2048x2048, .bf16⟩
  | .local _ .vmem, ⟨2, _⟩ => ⟨S2048x896, .bf16⟩
  | .local _ .vmem, ⟨3, _⟩ => ⟨S2048x896, .bf16⟩
  | .local _ .vmem, ⟨4, _⟩ => ⟨S2048x896, .bf16⟩
  | .local _ .vmem, ⟨5, _⟩ => ⟨S2048x896, .bf16⟩
  | .local _ .vmem, ⟨6, _⟩ => ⟨S2048x896, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 15, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S8192x2048 : Shape := ⟨2, ![8192, 2048]⟩
abbrev S8192x13440 : Shape := ⟨2, ![8192, 13440]⟩
abbrev S_ : Shape := ⟨0, ![]⟩
abbrev S2048x13440 : Shape := ⟨2, ![2048, 13440]⟩
abbrev S13440x2048 : Shape := ⟨2, ![13440, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x13440, .bf16⟩
  | .hbm, ⟨2, _⟩ => ⟨S_, .f32⟩
  | .hbm, ⟨3, _⟩ => ⟨S2048x13440, .f32⟩
  | .hbm, ⟨4, _⟩ => ⟨S8192x2048, .f32⟩
  | .hbm, ⟨5, _⟩ => ⟨S8192x13440, .f32⟩
  | .hbm, ⟨6, _⟩ => ⟨S8192x13440, .f32⟩
  | .hbm, ⟨7, _⟩ => ⟨S13440x2048, .f32⟩
  | .hbm, ⟨8, _⟩ => ⟨S2048x13440, .f32⟩
  | .hbm, ⟨9, _⟩ => ⟨S2048x13440, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwOut.lean ====
abbrev S8192x4096 : Shape := ⟨2, ![8192, 4096]⟩
abbrev S8192x2048 : Shape := ⟨2, ![8192, 2048]⟩
abbrev S4096x2048 : Shape := ⟨2, ![4096, 2048]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .f32⟩
  | .hbm, ⟨2, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .f32⟩
  | .local _ .vmem, ⟨3, _⟩ => ⟨S512x2048, .f32⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S8192x4096 : Shape := ⟨2, ![8192, 4096]⟩
abbrev S8192x2048 : Shape := ⟨2, ![8192, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .f32⟩
  | .hbm, ⟨2, _⟩ => ⟨S_, .f32⟩
  | .hbm, ⟨3, _⟩ => ⟨S4096x2048, .f32⟩
  | .hbm, ⟨4, _⟩ => ⟨S8192x4096, .f32⟩
  | .hbm, ⟨5, _⟩ => ⟨S8192x2048, .f32⟩
  | .hbm, ⟨6, _⟩ => ⟨S2048x4096, .f32⟩
  | .hbm, ⟨7, _⟩ => ⟨S4096x2048, .f32⟩
  | .hbm, ⟨8, _⟩ => ⟨S4096x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DH.lean ====
abbrev S8192x13440 : Shape := ⟨2, ![8192, 13440]⟩
abbrev S2048x13440 : Shape := ⟨2, ![2048, 13440]⟩
abbrev S8192x2048 : Shape := ⟨2, ![8192, 2048]⟩
abbrev S512x1920 : Shape := ⟨2, ![512, 1920]⟩
abbrev S2048x1920 : Shape := ⟨2, ![2048, 1920]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x13440, .bf16⟩
  | .hbm, ⟨1, _⟩ => ⟨S2048x13440, .bf16⟩
  | .hbm, ⟨2, _⟩ => ⟨S8192x2048, .f32⟩
  | .local _ .vmem, ⟨0, _⟩ => ⟨S512x1920, .bf16⟩
  | .local _ .vmem, ⟨1, _⟩ => ⟨S512x1920, .bf16⟩
  | .local _ .vmem, ⟨2, _⟩ => ⟨S2048x1920, .bf16⟩
  | .local _ .vmem, ⟨3, _⟩ => ⟨S2048x1920, .bf16⟩
  | .local _ .vmem, ⟨4, _⟩ => ⟨S512x2048, .f32⟩
  | .local _ .vmem, ⟨5, _⟩ => ⟨S512x2048, .f32⟩
  | _, _ => ⟨S8192x13440, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 7], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHRefIdeal.lean ====
abbrev S8192x13440 : Shape := ⟨2, ![8192, 13440]⟩
abbrev S2048x13440 : Shape := ⟨2, ![2048, 13440]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x13440, .bf16⟩
  | .hbm, ⟨1, _⟩ => ⟨S2048x13440, .bf16⟩
  | .hbm, ⟨2, _⟩ => ⟨S_, .f32⟩
  | .hbm, ⟨3, _⟩ => ⟨S8192x2048, .f32⟩
  | .hbm, ⟨4, _⟩ => ⟨S2048x13440, .f32⟩
  | .hbm, ⟨5, _⟩ => ⟨S8192x13440, .f32⟩
  | .hbm, ⟨6, _⟩ => ⟨S8192x13440, .f32⟩
  | .hbm, ⟨7, _⟩ => ⟨S8192x2048, .f32⟩
  | _, _ => ⟨S8192x13440, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DMix.lean ====
abbrev S8192x2048 : Shape := ⟨2, ![8192, 2048]⟩
abbrev S4096x2048 : Shape := ⟨2, ![4096, 2048]⟩
abbrev S8192x4096 : Shape := ⟨2, ![8192, 4096]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4096x2048, .bf16⟩
  | .hbm, ⟨2, _⟩ => ⟨S8192x4096, .bf16⟩
  | .local _ .vmem, ⟨0, _⟩ => ⟨S512x2048, .f32⟩
  | .local _ .vmem, ⟨1, _⟩ => ⟨S512x2048, .f32⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMixRefIdeal.lean ====
abbrev S8192x2048 : Shape := ⟨2, ![8192, 2048]⟩
abbrev S4096x2048 : Shape := ⟨2, ![4096, 2048]⟩
abbrev S_ : Shape := ⟨0, ![]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096x2048, .bf16⟩
  | .hbm, ⟨2, _⟩ => ⟨S_, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x4096, .f32⟩
  | .hbm, ⟨7, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InProj.lean ====
abbrev S8192x2048 : Shape := ⟨2, ![8192, 2048]⟩
abbrev S2048x13440 : Shape := ⟨2, ![2048, 13440]⟩
abbrev S8192x13440 : Shape := ⟨2, ![8192, 13440]⟩
abbrev S512x2048 : Shape := ⟨2, ![512, 2048]⟩
abbrev S2048x1920 : Shape := ⟨2, ![2048, 1920]⟩
abbrev S512x1920 : Shape := ⟨2, ![512, 1920]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x13440, .bf16⟩
  | .hbm, ⟨2, _⟩ => ⟨S8192x13440, .f32⟩
  | .local _ .vmem, ⟨0, _⟩ => ⟨S512x2048, .bf16⟩
  | .local _ .vmem, ⟨1, _⟩ => ⟨S512x2048, .bf16⟩
  | .local _ .vmem, ⟨2, _⟩ => ⟨S2048x1920, .bf16⟩
  | .local _ .vmem, ⟨3, _⟩ => ⟨S2048x1920, .bf16⟩
  | .local _ .vmem, ⟨4, _⟩ => ⟨S512x1920, .f32⟩
  | .local _ .vmem, ⟨5, _⟩ => ⟨S512x1920, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S8192x2048 : Shape := ⟨2, ![8192, 2048]⟩
abbrev S2048x13440 : Shape := ⟨2, ![2048, 13440]⟩
abbrev S8192x13440 : Shape := ⟨2, ![8192, 13440]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x13440, .bf16⟩
  | .hbm, ⟨2, _⟩ => ⟨S8192x2048, .f32⟩
  | .hbm, ⟨3, _⟩ => ⟨S2048x13440, .f32⟩
  | .hbm, ⟨4, _⟩ => ⟨S8192x13440, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProj.lean ====
abbrev S8192x4096 : Shape := ⟨2, ![8192, 4096]⟩
abbrev S4096x2048 : Shape := ⟨2, ![4096, 2048]⟩
abbrev S8192x2048 : Shape := ⟨2, ![8192, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x2048, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ConvIn.lean ====
abbrev S8192x3072 : Shape := ⟨2, ![8192, 3072]⟩
abbrev S4x3072 : Shape := ⟨2, ![4, 3072]⟩
abbrev S1024x512 : Shape := ⟨2, ![1024, 512]⟩
abbrev S8x512 : Shape := ⟨2, ![8, 512]⟩
abbrev S4x512 : Shape := ⟨2, ![4, 512]⟩
abbrev S1x512 : Shape := ⟨2, ![1, 512]⟩
abbrev S1016x512 : Shape := ⟨2, ![1016, 512]⟩

abbrev nBuf : Space → Nat
  | .hbm => 3
  | .vmem => 8
  | .smem => 0
  | _ => 0

abbrev bufTy : (tb : Table) → Fin (tcTables nBuf tb) → BufTy
  | .hbm, ⟨0, _⟩ => ⟨S8192x3072, .f32⟩
  | .hbm, ⟨1, _⟩ => ⟨S4x3072, .f32⟩
  | .hbm, ⟨2, _⟩ => ⟨S8192x3072, .bf16⟩
  | .local _ .vmem, ⟨0, _⟩ => ⟨S1024x512, .f32⟩
  | .local _ .vmem, ⟨1, _⟩ => ⟨S1024x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S1024x512, .bf16⟩
  | .local _ .vmem, ⟨7, _⟩ => ⟨S1024x512, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvInRefIdeal.lean ====
abbrev S8192x3072 : Shape := ⟨2, ![8192, 3072]⟩
abbrev S4x3072 : Shape := ⟨2, ![4, 3072]⟩
abbrev S_ : Shape := ⟨0, ![]⟩
abbrev S3x3072 : Shape := ⟨2, ![3, 3072]⟩
abbrev S8195x3072 : Shape := ⟨2, ![8195, 3072]⟩
abbrev S1x3072 : Shape := ⟨2, ![1, 3072]⟩
abbrev S3072 : Shape := ⟨1, ![3072]⟩

abbrev nBuf : Space → Nat
  | .hbm => 63
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S4x3072, .f32⟩
  | .hbm, ⟨2, _⟩ => ⟨S_, .f32⟩
  | .hbm, ⟨3, _⟩ => ⟨S8192x3072, .f32⟩
  | .hbm, ⟨4, _⟩ => ⟨S_, .f32⟩
  | .hbm, ⟨5, _⟩ => ⟨S3x3072, .f32⟩
  | .hbm, ⟨6, _⟩ => ⟨S8195x3072, .f32⟩
  | .hbm, ⟨7, _⟩ => ⟨S_, .f32⟩
  | .hbm, ⟨8, _⟩ => ⟨S3x3072, .f32⟩
  | .hbm, ⟨9, _⟩ => ⟨S1x3072, .f32⟩
  | .hbm, ⟨10, _⟩ => ⟨S3072, .f32⟩
  | .hbm, ⟨11, _⟩ => ⟨S8192x3072, .f32⟩
  | .hbm, ⟨12, _⟩ => ⟨S1x3072, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S1x3072, .f32⟩
  | .hbm, ⟨19, _⟩ => ⟨S3072, .f32⟩
  | .hbm, ⟨20, _⟩ => ⟨S8192x3072, .f32⟩
  | .hbm, ⟨21, _⟩ => ⟨S1x3072, .f32⟩
  | .hbm, ⟨22, _⟩ => ⟨S8192x3072, .f32⟩
  | .hbm, ⟨23, _⟩ => ⟨S8192x3072, .f32⟩
  | .hbm, ⟨24, _⟩ => ⟨S8192x3072, .f32⟩
  | .hbm, ⟨25, _⟩ => ⟨S1x3072, .f32⟩
  | .hbm, ⟨26, _⟩ => ⟨S3072, .f32⟩
  | .hbm, ⟨27, _⟩ => ⟨S8192x3072, .f32⟩
  | .hbm, ⟨28, _⟩ => ⟨S1x3072, .f32⟩
  | .hbm, ⟨29, _⟩ => ⟨S8192x3072, .f32⟩
  | .hbm, ⟨30, _⟩ => ⟨S8192x3072, .f32⟩
  | .hbm, ⟨31, _⟩ => ⟨S8192x3072, .f32⟩
  | .hbm, ⟨32, _⟩ => ⟨S1x3072, .f32⟩
  | .hbm, ⟨33, _⟩ => ⟨S3072, .f32⟩
  | .hbm, ⟨34, _⟩ => ⟨S8192x3072, .f32⟩
  | .hbm, ⟨35, _⟩ => ⟨S1x3072, .f32⟩
  | .hbm, ⟨36, _⟩ => ⟨S8192x3072, .f32⟩
  | .hbm, ⟨37, _⟩ => ⟨S8192x3072, .f32⟩
  | .hbm, ⟨38, _⟩ => ⟨S8192x3072, .f32⟩
  | .hbm, ⟨39, _⟩ => ⟨S8192x3072, .f32⟩
  | .hbm, ⟨40, _⟩ => ⟨S8192x3072, .f32⟩
  | .hbm, ⟨41, _⟩ => ⟨S8192x3072, .f32⟩
  | .hbm, ⟨42, _⟩ => ⟨S8192x3072, .f32⟩
  | .hbm, ⟨43, _⟩ => ⟨S_, .f32⟩
  | .hbm, ⟨44, _⟩ => ⟨S8195x3072, .f32⟩
  | .hbm, ⟨45, _⟩ => ⟨S8192x3072, .f32⟩
  | .hbm, ⟨46, _⟩ => ⟨S8192x3072, .f32⟩
  | .hbm, ⟨47, _⟩ => ⟨S_, .f32⟩
  | .hbm, ⟨48, _⟩ => ⟨S8195x3072, .f32⟩
  | .hbm, ⟨49, _⟩ => ⟨S8195x3072, .f32⟩
  | .hbm, ⟨50, _⟩ => ⟨S8192x3072, .f32⟩
  | .hbm, ⟨51, _⟩ => ⟨S8192x3072, .f32⟩
  | .hbm, ⟨52, _⟩ => ⟨S_, .f32⟩
  | .hbm, ⟨53, _⟩ => ⟨S8195x3072, .f32⟩
  | .hbm, ⟨54, _⟩ => ⟨S8195x3072, .f32⟩
  | .hbm, ⟨55, _⟩ => ⟨S8192x3072, .f32⟩
  | .hbm, ⟨56, _⟩ => ⟨S8192x3072, .f32⟩
  | .hbm, ⟨57, _⟩ => ⟨S_, .f32⟩
  | .hbm, ⟨58, _⟩ => ⟨S8195x3072, .f32⟩
  | .hbm, ⟨59, _⟩ => ⟨S8195x3072, .f32⟩
  | .hbm, ⟨60, _⟩ => ⟨S3x3072, .f32⟩
  | .hbm, ⟨61, _⟩ => ⟨S8192x3072, .f32⟩
  | .hbm, ⟨62, _⟩ => ⟨S8192x3072, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_3 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_4 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_5 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_6 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩

abbrev nD : Nat := 1
abbrev τ : Topo := Topo.v7x

variable {F : FTy → Type} [FloatOps F]
-- ==== NormGrad.lean ====
abbrev S8192x2048 : Shape := ⟨2, ![8192, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormGradRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S8x2048 : Shape := ⟨2, ![8, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .i32⟩
  | .hbm, ⟨48, _⟩ => ⟨S_, .f32⟩
  | .hbm, ⟨49, _⟩ => ⟨S8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_call0_v0 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Norm.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Conv.lean ====
abbrev S8192x13312 : Shape := ⟨2, ![8192, 13312]⟩
abbrev S4x3072 : Shape := ⟨2, ![4, 3072]⟩
abbrev S1x3072 : Shape := ⟨2, ![1, 3072]⟩
abbrev S8192x3072 : Shape := ⟨2, ![8192, 3072]⟩
abbrev S1024x512 : Shape := ⟨2, ![1024, 512]⟩
abbrev S8x512 : Shape := ⟨2, ![8, 512]⟩
abbrev S4x512 : Shape := ⟨2, ![4, 512]⟩
abbrev S1x512 : Shape := ⟨2, ![1, 512]⟩
abbrev S1016x512 : Shape := ⟨2, ![1016, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x13312, .f32⟩
  | .hbm, ⟨1, _⟩ => ⟨S4x3072, .f32⟩
  | .hbm, ⟨2, _⟩ => ⟨S1x3072, .f32⟩
  | .hbm, ⟨3, _⟩ => ⟨S8192x3072, .f32⟩
  | .local _ .vmem, ⟨0, _⟩ => ⟨S1024x512, .f32⟩
  | .local _ .vmem, ⟨1, _⟩ => ⟨S1024x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S8192x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvRefIdeal.lean ====
abbrev S8192x13312 : Shape := ⟨2, ![8192, 13312]⟩
abbrev S4x3072 : Shape := ⟨2, ![4, 3072]⟩
abbrev S1x3072 : Shape := ⟨2, ![1, 3072]⟩
abbrev S8192x3072 : Shape := ⟨2, ![8192, 3072]⟩
abbrev S_ : Shape := ⟨0, ![]⟩
abbrev S8195x3072 : Shape := ⟨2, ![8195, 3072]⟩
abbrev S3072 : Shape := ⟨1, ![3072]⟩

abbrev nBuf : Space → Nat
  | .hbm => 45
  | .vmem => 0
  | .smem => 0
  | _ => 0

abbrev bufTy : (tb : Table) → Fin (tcTables nBuf tb) → BufTy
  | .hbm, ⟨0, _⟩ => ⟨S8192x13312, .f32⟩
  | .hbm, ⟨1, _⟩ => ⟨S4x3072, .f32⟩
  | .hbm, ⟨2, _⟩ => ⟨S1x3072, .f32⟩
  | .hbm, ⟨3, _⟩ => ⟨S8192x3072, .f32⟩
  | .hbm, ⟨4, _⟩ => ⟨S_, .i32⟩
  | .hbm, ⟨5, _⟩ => ⟨S_, .f32⟩
  | .hbm, ⟨6, _⟩ => ⟨S8195x3072, .f32⟩
  | .hbm, ⟨7, _⟩ => ⟨S1x3072, .f32⟩
  | .hbm, ⟨8, _⟩ => ⟨S3072, .f32⟩
  | .hbm, ⟨9, _⟩ => ⟨S8192x3072, .f32⟩
  | .hbm, ⟨10, _⟩ => ⟨S1x3072, .f32⟩
  | .hbm, ⟨11, _⟩ => ⟨S8192x3072, .f32⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S1x3072, .f32⟩
  | .hbm, ⟨16, _⟩ => ⟨S3072, .f32⟩
  | .hbm, ⟨17, _⟩ => ⟨S8192x3072, .f32⟩
  | .hbm, ⟨18, _⟩ => ⟨S1x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S1x3072, .f32⟩
  | .hbm, ⟨23, _⟩ => ⟨S3072, .f32⟩
  | .hbm, ⟨24, _⟩ => ⟨S8192x3072, .f32⟩
  | .hbm, ⟨25, _⟩ => ⟨S1x3072, .f32⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S1x3072, .f32⟩
  | .hbm, ⟨30, _⟩ => ⟨S3072, .f32⟩
  | .hbm, ⟨31, _⟩ => ⟨S8192x3072, .f32⟩
  | .hbm, ⟨32, _⟩ => ⟨S1x3072, .f32⟩
  | .hbm, ⟨33, _⟩ => ⟨S8192x3072, .f32⟩
  | .hbm, ⟨34, _⟩ => ⟨S8192x3072, .f32⟩
  | .hbm, ⟨35, _⟩ => ⟨S8192x3072, .f32⟩
  | .hbm, ⟨36, _⟩ => ⟨S8192x3072, .f32⟩
  | .hbm, ⟨37, _⟩ => ⟨S8192x3072, .f32⟩
  | .hbm, ⟨38, _⟩ => ⟨S_, .f32⟩
  | .hbm, ⟨39, _⟩ => ⟨S8192x3072, .f32⟩
  | .hbm, ⟨40, _⟩ => ⟨S8192x3072, .f32⟩
  | .hbm, ⟨41, _⟩ => ⟨S_, .f32⟩
  | .hbm, ⟨42, _⟩ => ⟨S8192x3072, .f32⟩
  | .hbm, ⟨43, _⟩ => ⟨S8192x3072, .f32⟩
  | .hbm, ⟨44, _⟩ => ⟨S8192x3072, .f32⟩
  | _, _ => ⟨S8192x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Gate.lean ====
abbrev S8192x2048 : Shape := ⟨2, ![8192, 2048]⟩
abbrev S8192x13312 : Shape := ⟨2, ![8192, 13312]⟩
abbrev S1x2048 : Shape := ⟨2, ![1, 2048]⟩
abbrev S8192x4096 : Shape := ⟨2, ![8192, 4096]⟩
abbrev S1024x512 : Shape := ⟨2, ![1024, 512]⟩
abbrev S1x512 : Shape := ⟨2, ![1, 512]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x13312, .f32⟩
  | .hbm, ⟨3, _⟩ => ⟨S1x2048, .f32⟩
  | .hbm, ⟨4, _⟩ => ⟨S8192x4096, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c4_i32 : BitVec 32 := 4#32
  let v9 : BitVec 1 := Scalar.cmpi .slt arg1 c4_i32
  let v10 : BitVec 32 := Scalar.extui v9
  let c0_i32 : BitVec 32 := 0#32
  let v11 : BitVec 1 := Scalar.cmpi .ne v10 c0_i32
  v11

def k0_cond2 (i : grid0.Coords) : BitVec 1 :=
  let arg1 : BitVec 32 := BitVec.ofNat 32 (i 1).val
  let c4_i32_3 : BitVec 32 := 4#32
  let v12 : BitVec 1 := Scalar.cmpi .sge arg1 c4_i32_3
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c22_i32 : BitVec 32 := 22#32
  let v1 : BitVec 32 := Scalar.addi c22_i32 arg1
  let c4_i32_0 : BitVec 32 := 4#32
  let v2 : BitVec 32 := Scalar.subi v1 c4_i32_0
  let v3 : BitVec 32 := Scalar.select v0 arg1 v2
  let c0_i32 : BitVec 32 := 0#32
  ![arg0.toNat, v3.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateRefIdeal.lean ====
abbrev S8192x2048 : Shape := ⟨2, ![8192, 2048]⟩
abbrev S8192x13312 : Shape := ⟨2, ![8192, 13312]⟩
abbrev S1x2048 : Shape := ⟨2, ![1, 2048]⟩
abbrev S_ : Shape := ⟨0, ![]⟩
abbrev S8192x4x512 : Shape := ⟨3, ![8192, 4, 512]⟩
abbrev S8192x4 : Shape := ⟨2, ![8192, 4]⟩
abbrev S8192x4x1 : Shape := ⟨3, ![8192, 4, 1]⟩
abbrev S8192x4096 : Shape := ⟨2, ![8192, 4096]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x13312, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x4x512, .f32⟩
  | .hbm, ⟨17, _⟩ => ⟨S8192x4x512, .f32⟩
  | .hbm, ⟨18, _⟩ => ⟨S_, .f32⟩
  | .hbm, ⟨19, _⟩ => ⟨S8192x4, .f32⟩
  | .hbm, ⟨20, _⟩ => ⟨S8192x4x1, .f32⟩
  | .hbm, ⟨21, _⟩ => ⟨S_, .f32⟩
  | .hbm, ⟨22, _⟩ => ⟨S8192x4x1, .f32⟩
  | .hbm, ⟨23, _⟩ => ⟨S8192x4x1, .f32⟩
  | .hbm, ⟨24, _⟩ => ⟨S_, .f32⟩
  | .hbm, ⟨25, _⟩ => ⟨S8192x4x1, .f32⟩
  | .hbm, ⟨26, _⟩ => ⟨S8192x4x1, .f32⟩
  | .hbm, ⟨27, _⟩ => ⟨S8192x4x1, .f32⟩
  | .hbm, ⟨28, _⟩ => ⟨S8192x4x512, .f32⟩
  | .hbm, ⟨29, _⟩ => ⟨S8192x4x512, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x4096, .f32⟩
  | .hbm, ⟨44, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩

abbrev nD : Nat := 1
abbrev τ : Topo := Topo.v7x

variable {F : FTy → Type} [FloatOps F]
-- ==== AdamIn.lean ====
abbrev S4x8192x1668 : Shape := ⟨3, ![4, 8192, 1668]⟩
abbrev S8192x1668 : Shape := ⟨2, ![8192, 1668]⟩
abbrev S4x128x1668 : Shape := ⟨3, ![4, 128, 1668]⟩
abbrev S128x1668 : Shape := ⟨2, ![128, 1668]⟩
abbrev S1x128x1668 : Shape := ⟨3, ![1, 128, 1668]⟩

abbrev nBuf : Space → Nat
  | .hbm => 8
  | .vmem => 16
  | .smem => 0
  | _ => 0

abbrev bufTy : (tb : Table) → Fin (tcTables nBuf tb) → BufTy
  | .hbm, ⟨0, _⟩ => ⟨S4x8192x1668, .bf16⟩
  | .hbm, ⟨1, _⟩ => ⟨S8192x1668, .f32⟩
  | .hbm, ⟨2, _⟩ => ⟨S8192x1668, .f32⟩
  | .hbm, ⟨3, _⟩ => ⟨S8192x1668, .f32⟩
  | .hbm, ⟨4, _⟩ => ⟨S8192x1668, .f32⟩
  | .hbm, ⟨5, _⟩ => ⟨S8192x1668, .f32⟩
  | .hbm, ⟨6, _⟩ => ⟨S8192x1668, .f32⟩
  | .hbm, ⟨7, _⟩ => ⟨S8192x1668, .f32⟩
  | .local _ .vmem, ⟨0, _⟩ => ⟨S4x128x1668, .bf16⟩
  | .local _ .vmem, ⟨1, _⟩ => ⟨S4x128x1668, .bf16⟩
  | .local _ .vmem, ⟨2, _⟩ => ⟨S128x1668, .f32⟩
  | .local _ .vmem, ⟨3, _⟩ => ⟨S128x1668, .f32⟩
  | .local _ .vmem, ⟨4, _⟩ => ⟨S128x1668, .f32⟩
  | .local _ .vmem, ⟨5, _⟩ => ⟨S128x1668, .f32⟩
  | .local _ .vmem, ⟨6, _⟩ => ⟨S128x1668, .f32⟩
  | .local _ .vmem, ⟨7, _⟩ => ⟨S128x1668, .f32⟩
  | .local _ .vmem, ⟨8, _⟩ => ⟨S128x1668, .f32⟩
  | .local _ .vmem, ⟨9, _⟩ => ⟨S128x1668, .f32⟩
  | .local _ .vmem, ⟨10, _⟩ => ⟨S128x1668, .f32⟩
  | .local _ .vmem, ⟨11, _⟩ => ⟨S128x1668, .f32⟩
  | .local _ .vmem, ⟨12, _⟩ => ⟨S128x1668, .f32⟩
  | .local _ .vmem, ⟨13, _⟩ => ⟨S128x1668, .f32⟩
  | .local _ .vmem, ⟨14, _⟩ => ⟨S128x1668, .f32⟩
  | .local _ .vmem, ⟨15, _⟩ => ⟨S128x1668, .f32⟩
  | _, _ => ⟨S4x8192x1668, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1668 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1668 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1668 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1668 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1668 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1668 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1668 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1668 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S4x8192x1668 : Shape := ⟨3, ![4, 8192, 1668]⟩
abbrev S8192x1668 : Shape := ⟨2, ![8192, 1668]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x1668, .bf16⟩
  | .hbm, ⟨1, _⟩ => ⟨S8192x1668, .f32⟩
  | .hbm, ⟨2, _⟩ => ⟨S8192x1668, .f32⟩
  | .hbm, ⟨3, _⟩ => ⟨S8192x1668, .f32⟩
  | .hbm, ⟨4, _⟩ => ⟨S4x8192x1668, .f32⟩
  | .hbm, ⟨5, _⟩ => ⟨S_, .f32⟩
  | .hbm, ⟨6, _⟩ => ⟨S8192x1668, .f32⟩
  | .hbm, ⟨7, _⟩ => ⟨S_, .f32⟩
  | .hbm, ⟨8, _⟩ => ⟨S8192x1668, .f32⟩
  | .hbm, ⟨9, _⟩ => ⟨S8192x1668, .f32⟩
  | .hbm, ⟨10, _⟩ => ⟨S_, .f32⟩
  | .hbm, ⟨11, _⟩ => ⟨S8192x1668, .f32⟩
  | .hbm, ⟨12, _⟩ => ⟨S8192x1668, .f32⟩
  | .hbm, ⟨13, _⟩ => ⟨S8192x1668, .f32⟩
  | .hbm, ⟨14, _⟩ => ⟨S_, .f32⟩
  | .hbm, ⟨15, _⟩ => ⟨S8192x1668, .f32⟩
  | .hbm, ⟨16, _⟩ => ⟨S8192x1668, .f32⟩
  | .hbm, ⟨17, _⟩ => ⟨S8192x1668, .f32⟩
  | .hbm, ⟨18, _⟩ => ⟨S_, .f32⟩
  | .hbm, ⟨19, _⟩ => ⟨S8192x1668, .f32⟩
  | .hbm, ⟨20, _⟩ => ⟨S8192x1668, .f32⟩
  | .hbm, ⟨21, _⟩ => ⟨S8192x1668, .f32⟩
  | .hbm, ⟨22, _⟩ => ⟨S_, .f32⟩
  | .hbm, ⟨23, _⟩ => ⟨S8192x1668, .f32⟩
  | .hbm, ⟨24, _⟩ => ⟨S8192x1668, .f32⟩
  | .hbm, ⟨25, _⟩ => ⟨S_, .f32⟩
  | .hbm, ⟨26, _⟩ => ⟨S8192x1668, .f32⟩
  | .hbm, ⟨27, _⟩ => ⟨S8192x1668, .f32⟩
  | .hbm, ⟨28, _⟩ => ⟨S8192x1668, .f32⟩
  | .hbm, ⟨29, _⟩ => ⟨S_, .f32⟩
  | .hbm, ⟨30, _⟩ => ⟨S8192x1668, .f32⟩
  | .hbm, ⟨31, _⟩ => ⟨S8192x1668, .f32⟩
  | .hbm, ⟨32, _⟩ => ⟨S8192x1668, .f32⟩
  | .hbm, ⟨33, _⟩ => ⟨S_, .f32⟩
  | .hbm, ⟨34, _⟩ => ⟨S8192x1668, .f32⟩
  | .hbm, ⟨35, _⟩ => ⟨S8192x1668, .f32⟩
  | .hbm, ⟨36, _⟩ => ⟨S8192x1668, .f32⟩
  | .hbm, ⟨37, _⟩ => ⟨S_, .f32⟩
  | .hbm, ⟨38, _⟩ => ⟨S8192x1668, .f32⟩
  | .hbm, ⟨39, _⟩ => ⟨S8192x1668, .f32⟩
  | _, _ => ⟨S4x8192x1668, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S4x2048x2048 : Shape := ⟨3, ![4, 2048, 2048]⟩
abbrev S2048x2048 : Shape := ⟨2, ![2048, 2048]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x2048, .bf16⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S4x2048x2048 : Shape := ⟨3, ![4, 2048, 2048]⟩
abbrev S2048x2048 : Shape := ⟨2, ![2048, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S4x2048x2048, .f32⟩
  | .hbm, ⟨5, _⟩ => ⟨S_, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048x2048, .f32⟩
  | .hbm, ⟨39, _⟩ => ⟨S2048x2048, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamConv.lean ====
abbrev S8x16x384 : Shape := ⟨3, ![8, 16, 384]⟩
abbrev S16x384 : Shape := ⟨2, ![16, 384]⟩
abbrev S1x16x384 : Shape := ⟨3, ![1, 16, 384]⟩

abbrev nBuf : Space → Nat
  | .hbm => 8
  | .vmem => 8
  | .smem => 0
  | _ => 0

abbrev bufTy : (tb : Table) → Fin (tcTables nBuf tb) → BufTy
  | .hbm, ⟨0, _⟩ => ⟨S8x16x384, .f32⟩
  | .hbm, ⟨1, _⟩ => ⟨S16x384, .f32⟩
  | .hbm, ⟨2, _⟩ => ⟨S16x384, .f32⟩
  | .hbm, ⟨3, _⟩ => ⟨S16x384, .f32⟩
  | .hbm, ⟨4, _⟩ => ⟨S16x384, .f32⟩
  | .hbm, ⟨5, _⟩ => ⟨S16x384, .f32⟩
  | .hbm, ⟨6, _⟩ => ⟨S16x384, .f32⟩
  | .hbm, ⟨7, _⟩ => ⟨S16x384, .f32⟩
  | .local _ .vmem, ⟨0, _⟩ => ⟨S8x16x384, .f32⟩
  | .local _ .vmem, ⟨1, _⟩ => ⟨S16x384, .f32⟩
  | .local _ .vmem, ⟨2, _⟩ => ⟨S16x384, .f32⟩
  | .local _ .vmem, ⟨3, _⟩ => ⟨S16x384, .f32⟩
  | .local _ .vmem, ⟨4, _⟩ => ⟨S16x384, .f32⟩
  | .local _ .vmem, ⟨5, _⟩ => ⟨S16x384, .f32⟩
  | .local _ .vmem, ⟨6, _⟩ => ⟨S16x384, .f32⟩
  | .local _ .vmem, ⟨7, _⟩ => ⟨S16x384, .f32⟩
  | _, _ => ⟨S8x16x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvRefIdeal.lean ====
abbrev S8x16x384 : Shape := ⟨3, ![8, 16, 384]⟩
abbrev S16x384 : Shape := ⟨2, ![16, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x384, .f32⟩
  | .hbm, ⟨1, _⟩ => ⟨S16x384, .f32⟩
  | .hbm, ⟨2, _⟩ => ⟨S16x384, .f32⟩
  | .hbm, ⟨3, _⟩ => ⟨S16x384, .f32⟩
  | .hbm, ⟨4, _⟩ => ⟨S_, .f32⟩
  | .hbm, ⟨5, _⟩ => ⟨S16x384, .f32⟩
  | .hbm, ⟨6, _⟩ => ⟨S_, .f32⟩
  | .hbm, ⟨7, _⟩ => ⟨S16x384, .f32⟩
  | .hbm, ⟨8, _⟩ => ⟨S16x384, .f32⟩
  | .hbm, ⟨9, _⟩ => ⟨S_, .f32⟩
  | .hbm, ⟨10, _⟩ => ⟨S16x384, .f32⟩
  | .hbm, ⟨11, _⟩ => ⟨S16x384, .f32⟩
  | .hbm, ⟨12, _⟩ => ⟨S16x384, .f32⟩
  | .hbm, ⟨13, _⟩ => ⟨S_, .f32⟩
  | .hbm, ⟨14, _⟩ => ⟨S16x384, .f32⟩
  | .hbm, ⟨15, _⟩ => ⟨S16x384, .f32⟩
  | .hbm, ⟨16, _⟩ => ⟨S16x384, .f32⟩
  | .hbm, ⟨17, _⟩ => ⟨S_, .f32⟩
  | .hbm, ⟨18, _⟩ => ⟨S16x384, .f32⟩
  | .hbm, ⟨19, _⟩ => ⟨S16x384, .f32⟩
  | .hbm, ⟨20, _⟩ => ⟨S16x384, .f32⟩
  | .hbm, ⟨21, _⟩ => ⟨S_, .f32⟩
  | .hbm, ⟨22, _⟩ => ⟨S16x384, .f32⟩
  | .hbm, ⟨23, _⟩ => ⟨S16x384, .f32⟩
  | .hbm, ⟨24, _⟩ => ⟨S_, .f32⟩
  | .hbm, ⟨25, _⟩ => ⟨S16x384, .f32⟩
  | .hbm, ⟨26, _⟩ => ⟨S16x384, .f32⟩
  | .hbm, ⟨27, _⟩ => ⟨S16x384, .f32⟩
  | .hbm, ⟨28, _⟩ => ⟨S_, .f32⟩
  | .hbm, ⟨29, _⟩ => ⟨S16x384, .f32⟩
  | .hbm, ⟨30, _⟩ => ⟨S16x384, .f32⟩
  | .hbm, ⟨31, _⟩ => ⟨S16x384, .f32⟩
  | .hbm, ⟨32, _⟩ => ⟨S_, .f32⟩
  | .hbm, ⟨33, _⟩ => ⟨S16x384, .f32⟩
  | .hbm, ⟨34, _⟩ => ⟨S16x384, .f32⟩
  | .hbm, ⟨35, _⟩ => ⟨S16x384, .f32⟩
  | .hbm, ⟨36, _⟩ => ⟨S_, .f32⟩
  | .hbm, ⟨37, _⟩ => ⟨S16x384, .f32⟩
  | .hbm, ⟨38, _⟩ => ⟨S16x384, .f32⟩
  | _, _ => ⟨S8x16x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamRest.lean ====
abbrev S8x248x128 : Shape := ⟨3, ![8, 248, 128]⟩
abbrev S248x128 : Shape := ⟨2, ![248, 128]⟩
abbrev S1x248x128 : Shape := ⟨3, ![1, 248, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x248x128, .f32⟩
  | .hbm, ⟨1, _⟩ => ⟨S248x128, .f32⟩
  | .hbm, ⟨2, _⟩ => ⟨S248x128, .f32⟩
  | .hbm, ⟨3, _⟩ => ⟨S248x128, .f32⟩
  | .hbm, ⟨4, _⟩ => ⟨S248x128, .f32⟩
  | .hbm, ⟨5, _⟩ => ⟨S248x128, .f32⟩
  | .hbm, ⟨6, _⟩ => ⟨S248x128, .f32⟩
  | .hbm, ⟨7, _⟩ => ⟨S248x128, .f32⟩
  | .local _ .vmem, ⟨0, _⟩ => ⟨S8x248x128, .f32⟩
  | .local _ .vmem, ⟨1, _⟩ => ⟨S248x128, .f32⟩
  | .local _ .vmem, ⟨2, _⟩ => ⟨S248x128, .f32⟩
  | .local _ .vmem, ⟨3, _⟩ => ⟨S248x128, .f32⟩
  | .local _ .vmem, ⟨4, _⟩ => ⟨S248x128, .f32⟩
  | .local _ .vmem, ⟨5, _⟩ => ⟨S248x128, .f32⟩
  | .local _ .vmem, ⟨6, _⟩ => ⟨S248x128, .f32⟩
  | .local _ .vmem, ⟨7, _⟩ => ⟨S248x128, .f32⟩
  | _, _ => ⟨S8x248x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x248x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S248x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S248x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S248x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S248x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S248x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S248x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S248x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRestRefIdeal.lean ====
abbrev S8x248x128 : Shape := ⟨3, ![8, 248, 128]⟩
abbrev S248x128 : Shape := ⟨2, ![248, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x248x128, .f32⟩
  | .hbm, ⟨1, _⟩ => ⟨S248x128, .f32⟩
  | .hbm, ⟨2, _⟩ => ⟨S248x128, .f32⟩
  | .hbm, ⟨3, _⟩ => ⟨S248x128, .f32⟩
  | .hbm, ⟨4, _⟩ => ⟨S_, .f32⟩
  | .hbm, ⟨5, _⟩ => ⟨S248x128, .f32⟩
  | .hbm, ⟨6, _⟩ => ⟨S_, .f32⟩
  | .hbm, ⟨7, _⟩ => ⟨S248x128, .f32⟩
  | .hbm, ⟨8, _⟩ => ⟨S248x128, .f32⟩
  | .hbm, ⟨9, _⟩ => ⟨S_, .f32⟩
  | .hbm, ⟨10, _⟩ => ⟨S248x128, .f32⟩
  | .hbm, ⟨11, _⟩ => ⟨S248x128, .f32⟩
  | .hbm, ⟨12, _⟩ => ⟨S248x128, .f32⟩
  | .hbm, ⟨13, _⟩ => ⟨S_, .f32⟩
  | .hbm, ⟨14, _⟩ => ⟨S248x128, .f32⟩
  | .hbm, ⟨15, _⟩ => ⟨S248x128, .f32⟩
  | .hbm, ⟨16, _⟩ => ⟨S248x128, .f32⟩
  | .hbm, ⟨17, _⟩ => ⟨S_, .f32⟩
  | .hbm, ⟨18, _⟩ => ⟨S248x128, .f32⟩
  | .hbm, ⟨19, _⟩ => ⟨S248x128, .f32⟩
  | .hbm, ⟨20, _⟩ => ⟨S248x128, .f32⟩
  | .hbm, ⟨21, _⟩ => ⟨S_, .f32⟩
  | .hbm, ⟨22, _⟩ => ⟨S248x128, .f32⟩
  | .hbm, ⟨23, _⟩ => ⟨S248x128, .f32⟩
  | .hbm, ⟨24, _⟩ => ⟨S_, .f32⟩
  | .hbm, ⟨25, _⟩ => ⟨S248x128, .f32⟩
  | .hbm, ⟨26, _⟩ => ⟨S248x128, .f32⟩
  | .hbm, ⟨27, _⟩ => ⟨S248x128, .f32⟩
  | .hbm, ⟨28, _⟩ => ⟨S_, .f32⟩
  | .hbm, ⟨29, _⟩ => ⟨S248x128, .f32⟩
  | .hbm, ⟨30, _⟩ => ⟨S248x128, .f32⟩
  | .hbm, ⟨31, _⟩ => ⟨S248x128, .f32⟩
  | .hbm, ⟨32, _⟩ => ⟨S_, .f32⟩
  | .hbm, ⟨33, _⟩ => ⟨S248x128, .f32⟩
  | .hbm, ⟨34, _⟩ => ⟨S248x128, .f32⟩
  | .hbm, ⟨35, _⟩ => ⟨S248x128, .f32⟩
  | .hbm, ⟨36, _⟩ => ⟨S_, .f32⟩
  | .hbm, ⟨37, _⟩ => ⟨S248x128, .f32⟩
  | .hbm, ⟨38, _⟩ => ⟨S248x128, .f32⟩
  | _, _ => ⟨S8x248x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Model.lean ====
/- The values that one grid point of the kernel computes, as plain functions of what its buffers hold: the block of
   queries and of output gradients, the keys and values of one head, and the sums carried from point to point. -/
module

public import proofs.«01_k».proof.Proof.Gen.KernelIdeal.Skeleton
public import Idealize.ShloMosaic.Lib.VecWindow

@[expose] public section

noncomputable section

namespace AttnBwd

open Cert.KernelIdeal Cert.KernelIdeal.Gen
open Idealize.ShloMosaic

variable {F : FTy → Type} [FloatOps F] [Named F]

/-- The offsets of the `j`-th block of 256 rows. -/
def bOff (j : ℕ) : Fin 2 → ℕ := ![256 * (j % 32), 0]

theorem bOff_inb (j : ℕ) : ∀ a, bOff j a + S256x128.size a ≤ S8192x128.size a := by
  intro a
  have h : j % 32 < 32 := Nat.mod_lt _ (by decide)
  fin_cases a
  · show 256 * (j % 32) + 256 ≤ 8192
    omega
  · show 0 + 128 ≤ 128
    omega

/-- The `j`-th block of 256 rows. -/
def blk {e : EltTy} (X : Vec F S8192x128 e) (j : ℕ) : Vec F S256x128 e :=
  VecWindow.window X (bOff j) S256x128.size (bOff_inb j)

/-- The rows with the `j`-th block of 256 replaced. -/
def setBlk {e : EltTy} (X : Vec F S8192x128 e) (j : ℕ) (w : Vec F S256x128 e) : Vec F S8192x128 e :=
  VecWindow.put X (bOff j) S256x128.size w

/-- What a grid point reads: the queries, the output gradients, the row totals, and the head's keys and values. -/
structure Env (F : FTy → Type) where
  q : Vec F S256x128 .bf16
  g : Vec F S256x128 .bf16
  tot : Vec F S256x1 .f32
  k : Vec F S8192x128 .bf16
  v : Vec F S8192x128 .bf16

/-- What a grid point accumulates: the gradient of its queries, the two running row sums, and the gradients of the
    head's keys and values. -/
structure Acc (F : FTy → Type) where
  dq : Vec F S256x128 .f32
  p : Vec F S256x1 .f32
  e : Vec F S256x1 .f32
  dk : Vec F S8192x128 .f32
  dv : Vec F S8192x128 .f32

/-- The values that a grid point reads, off its windows and the copies of the keys and values. -/
def env (x3 : Vec F S256x128 .f32) (x6 : Vec F S256x128 .bf16) (x7 : Vec F S1x256x128 .f32)
    (kb vb : Vec F S8192x128 .bf16) : Env F :=
  ⟨k0_pay69 x3, x6, k0_pay70 x7, kb, vb⟩

/-- The sums before the first block, the gradients of keys and values as the point before left them. -/
def start (dk dv : Vec F S8192x128 .f32) : Acc F := ⟨k0_pay73, k0_pay74, k0_pay75, dk, dv⟩

/-- One block of keys that lies wholly before the block of queries. -/
def far (E : Env F) (j : ℕ) (s : Acc F) : Acc F where
  dq := k0_pay6 (k0_pay29 E.q E.g E.tot k0_pay72 s.p s.e (blk E.k j) (blk E.v j)) k0_pay30 (blk E.k j) s.dq
  p := k0_pay4 (k0_pay26 E.q k0_pay72 s.p (blk E.k j))
  e := k0_pay5 s.e (k0_pay28 E.q E.g E.tot k0_pay72 s.p (blk E.k j) (blk E.v j))
  dk := setBlk s.dk j (k0_pay2 E.q (k0_pay29 E.q E.g E.tot k0_pay72 s.p s.e (blk E.k j) (blk E.v j)) k0_pay30 (blk s.dk j))
  dv := setBlk s.dv j (k0_pay3 E.g (k0_pay25 E.q E.tot k0_pay72 s.p (blk E.k j)) (blk s.dv j))

/-- The first `n` blocks of keys. -/
def fars (E : Env F) : ℕ → Acc F → Acc F
  | 0, s => s
  | n + 1, s => far E n (fars E n s)

/-- What a grid point leaves: its block of the queries' gradient and the two gradients it goes on summing. -/
structure Out (F : FTy → Type) where
  dq : Vec F S256x128 .bf16
  dk : Vec F S8192x128 .f32
  dv : Vec F S8192x128 .f32

/-- The first block of queries: only the block on the diagonal. -/
def first (E : Env F) (s : Acc F) : Out F where
  dq := k0_pay16 k0_pay71 (k0_pay44 E.q E.g E.tot k0_pay71 k0_pay72 s.p (blk E.k 0) (blk E.v 0))
    (k0_pay45 E.q E.g E.tot k0_pay71 k0_pay72 s.p s.e (blk E.k 0) (blk E.v 0)) (blk E.k 0) s.dq
  dk := setBlk s.dk 0 (k0_pay14 E.q k0_pay71 (k0_pay44 E.q E.g E.tot k0_pay71 k0_pay72 s.p (blk E.k 0) (blk E.v 0))
    (k0_pay45 E.q E.g E.tot k0_pay71 k0_pay72 s.p s.e (blk E.k 0) (blk E.v 0)) (blk s.dk 0))
  dv := setBlk s.dv 0 (k0_pay15 E.g (k0_pay43 E.q E.tot k0_pay71 k0_pay72 s.p (blk E.k 0)) (blk s.dv 0))

/-- The factor of the scores' gradient at the block before the diagonal. -/
def near0 (E : Env F) (j : ℕ) (s : Acc F) : FVec F S256x256 .bf16 :=
  k0_pay56 E.g E.tot k0_pay72 s.p s.e (k0_pay46 E.q (blk E.k j)) (k0_pay48 E.q (blk E.k j)) (k0_pay50 E.q (blk E.k j)) (blk E.v j)

/-- The factor of the scores' gradient at the block on the diagonal. -/
def near1 (E : Env F) (j : ℕ) (s : Acc F) : FVec F S256x256 .f32 :=
  k0_pay57 E.g E.tot k0_pay71 k0_pay72 s.p s.e (k0_pay46 E.q (blk E.k j)) (k0_pay47 E.q (blk E.k (j + 1)))
    (k0_pay49 E.q k0_pay71 (blk E.k (j + 1))) (k0_pay50 E.q (blk E.k j)) (blk E.v j) (blk E.v (j + 1))

/-- The weights at the block before the diagonal. -/
def wt0 (E : Env F) (j : ℕ) (s : Acc F) : FVec F S256x256 .f32 :=
  k0_pay52 E.tot k0_pay72 s.p (k0_pay46 E.q (blk E.k j)) (k0_pay50 E.q (blk E.k j))

/-- The weights at the block on the diagonal. -/
def wt1 (E : Env F) (j : ℕ) (s : Acc F) : FVec F S256x256 .f32 :=
  k0_pay53 E.tot k0_pay71 k0_pay72 s.p (k0_pay47 E.q (blk E.k (j + 1))) (k0_pay49 E.q k0_pay71 (blk E.k (j + 1)))
    (k0_pay50 E.q (blk E.k j))

/-- A later block of queries: the block before the diagonal, `j`, and the block on it, `j + 1`, together. -/
def later (E : Env F) (j : ℕ) (s : Acc F) : Out F where
  dq := k0_pay18 (k0_pay59 (near0 E j s) (blk E.k j)) (k0_pay60 k0_pay71 (near1 E j s) (blk E.k (j + 1))) s.dq
  dk := setBlk (setBlk s.dk j (k0_pay62 E.q (near0 E j s) (blk s.dk j))) (j + 1)
    (k0_pay64 E.q k0_pay71 (near1 E j s)
      (blk (setBlk s.dk j (k0_pay62 E.q (near0 E j s) (blk s.dk j))) (j + 1)))
  dv := setBlk (setBlk s.dv j (k0_pay63 E.g (wt0 E j s) (blk s.dv j))) (j + 1)
    (k0_pay17 (k0_pay61 E.g (wt1 E j s))
      (blk (setBlk s.dv j (k0_pay63 E.g (wt0 E j s) (blk s.dv j))) (j + 1)))

/-- What the point at query block `b` leaves, of what it reads and of the two gradients as it finds them. -/
def point (E : Env F) (b : ℕ) (dk dv : Vec F S8192x128 .f32) : Out F :=
  match b with
  | 0 => first E (start dk dv)
  | j + 1 => later E j (fars E j (start dk dv))

end AttnBwd

end
-- ==== Proof.Later.lean ====
/- What a later point leaves of the two gradients it sums: its two blocks, replaced independently. -/
module

public import proofs.«01_k».proof.Proof.Model

@[expose] public section

noncomputable section

namespace AttnBwd

open Cert.KernelIdeal Cert.KernelIdeal.Gen
open Idealize.ShloMosaic

variable {F : FTy → Type} [FloatOps F] [Named F]

/-- Replacing one block leaves another as it is. -/
theorem blk_setBlk_ne {e : EltTy} (X : Vec F S8192x128 e) (j l : ℕ) (w : Vec F S256x128 e) (h : j % 32 ≠ l % 32) :
    blk (setBlk X j w) l = blk X l :=
  VecWindow.window_put_of_disjoint X (bOff j) S256x128.size (bOff l) S256x128.size (bOff_inb l) w 0 (by
    show 256 * (l % 32) + 256 ≤ 256 * (j % 32) ∨ 256 * (j % 32) + 256 ≤ 256 * (l % 32)
    omega)

/-- A later block of queries, the keys' gradient: the two blocks are replaced independently. -/
theorem later_dk (E : Env F) (j : ℕ) (hj : j + 1 < 32) (s : Acc F) : (later E j s).dk =
    setBlk (setBlk s.dk j (k0_pay62 E.q (near0 E j s) (blk s.dk j))) (j + 1)
      (k0_pay64 E.q k0_pay71 (near1 E j s) (blk s.dk (j + 1))) := by
  have h := blk_setBlk_ne s.dk j (j + 1) (k0_pay62 E.q (near0 E j s) (blk s.dk j)) (by omega)
  unfold later; dsimp only; rw [h]

/-- and the values' gradient. -/
theorem later_dv (E : Env F) (j : ℕ) (hj : j + 1 < 32) (s : Acc F) : (later E j s).dv =
    setBlk (setBlk s.dv j (k0_pay63 E.g (wt0 E j s) (blk s.dv j))) (j + 1)
      (k0_pay17 (k0_pay61 E.g (wt1 E j s)) (blk s.dv (j + 1))) := by
  have h := blk_setBlk_ne s.dv j (j + 1) (k0_pay63 E.g (wt0 E j s) (blk s.dv j)) (by omega)
  unfold later; dsimp only; rw [h]

end AttnBwd

end
-- ==== Proof.LoopVal.lean ====
/- What the counted loop over the far blocks of keys leaves in the buffers that it sums into. -/
module

public import proofs.«01_k».proof.Proof.Model
public import proofs.«01_k».proof.Proof.Gen.KernelIdeal.Loops
public import Idealize.ShloMosaic.Lib.Tactic
public import Idealize.ShloMosaic.Lib.WordCmp
public import Idealize.ShloMosaic.Lib.LoopRemainder
public import Idealize.ShloMosaic.Lib.Tactic.Stretches

@[expose] public section

noncomputable section

namespace AttnBwd

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-- A load of a whole column of 256 numbers. -/
theorem readAt_col (v : View sig .tc .vmem S256x1 .f32) (f : v.ty.Contents (Elt F))
    (inb : ∀ a, (![0, 0] : Fin 2 → ℕ) a + (![256, 1] : Fin 2 → ℕ) a ≤ S256x1.size a) :
    v.readAt (Elt F) (Rect.unit (s := S256x1) ![0, 0] ![256, 1] inb).toLoadRect f = v.read (Elt F) f := View.readAt_full v f inb

/-- A load of a whole buffer of 256 rows. -/
theorem readAt_sq {e : EltTy} (v : View sig .tc .vmem S256x128 e) (f : v.ty.Contents (Elt F))
    (inb : ∀ a, (![0, 0] : Fin 2 → ℕ) a + (![256, 128] : Fin 2 → ℕ) a ≤ S256x128.size a) :
    v.readAt (Elt F) (Rect.unit (s := S256x128) ![0, 0] ![256, 128] inb).toLoadRect f = v.read (Elt F) f := View.readAt_full v f inb

/-- A load of a whole buffer of 8192 rows. -/
theorem readAt_all {e : EltTy} (v : View sig .tc .vmem S8192x128 e) (f : v.ty.Contents (Elt F))
    (inb : ∀ a, (![0, 0] : Fin 2 → ℕ) a + (![8192, 128] : Fin 2 → ℕ) a ≤ S8192x128.size a) :
    v.readAt (Elt F) (Rect.unit (s := S8192x128) ![0, 0] ![8192, 128] inb).toLoadRect f = v.read (Elt F) f := View.readAt_full v f inb

/-- A load of the row totals' window. -/
theorem readAt_tot (v : View sig .tc .vmem S1x256x128 .f32) (f : v.ty.Contents (Elt F))
    (inb : ∀ a, (![0, 0, 0] : Fin 3 → ℕ) a + (![1, 256, 128] : Fin 3 → ℕ) a ≤ S1x256x128.size a) :
    v.readAt (Elt F) (Rect.unit (s := S1x256x128) ![0, 0, 0] ![1, 256, 128] inb).toLoadRect f = v.read (Elt F) f := View.readAt_full v f inb

/-- A load of one block of 256 rows. -/
theorem readAt_blk {e : EltTy} (v : View sig .tc .vmem S8192x128 e) (f : v.ty.Contents (Elt F)) {off : Fin 2 → ℕ}
    (inb : ∀ a, off a + (![256, 128] : Fin 2 → ℕ) a ≤ S8192x128.size a) (j : ℕ) (h : off = bOff j) :
    v.readAt (Elt F) (Rect.unit (s := S8192x128) off ![256, 128] inb).toLoadRect f = blk (v.read (Elt F) f) j :=
  View.readAt_unit v f inb h (bOff_inb j)

/-- A store of one block of 256 rows. -/
theorem read_writes_blk {e : EltTy} (v : View sig .tc .vmem S8192x128 e) (f : v.ty.Contents (Elt F)) {off : Fin 2 → ℕ}
    (inb : ∀ a, off a + (![256, 128] : Fin 2 → ℕ) a ≤ S8192x128.size a) (w : Vec F S256x128 e) (L : List (View.Piece (Elt F) S8192x128 e)) (j : ℕ) (h : off = bOff j) :
    v.read (Elt F) (v.writes (Elt F) f (⟨Rect.unit (s := S8192x128) off ![256, 128] inb, w⟩ :: L)) = setBlk (v.read (Elt F) (v.writes (Elt F) f L)) j w :=
  View.read_writes_cons_put v f inb w L h

/-- A single store of one block of 256 rows. -/
theorem read_writes_blk1 {e : EltTy} (v : View sig .tc .vmem S8192x128 e) (f : v.ty.Contents (Elt F)) {off : Fin 2 → ℕ}
    (inb : ∀ a, off a + (![256, 128] : Fin 2 → ℕ) a ≤ S8192x128.size a) (w : Vec F S256x128 e) (j : ℕ) (h : off = bOff j) :
    v.read (Elt F) (v.writes (Elt F) f [⟨Rect.unit (s := S8192x128) off ![256, 128] inb, w⟩]) = setBlk (v.read (Elt F) f) j w :=
  read_writes_blk v f inb w [] j h

/-- A store of a whole buffer. -/
theorem read_writes_whole {sp : Space} {s : Shape} {e : EltTy} (v : View sig .tc sp s e) (f : v.ty.Contents (Elt F)) {off : Fin s.rank → ℕ}
    (inb : ∀ a, off a + s.size a ≤ s.size a) (w : Vec F s e) (L : List (View.Piece (Elt F) s e)) :
    v.read (Elt F) (v.writes (Elt F) f (⟨Rect.unit off s.size inb, w⟩ :: L)) = w :=
  View.read_writes_full v f inb w L

/-- One trip of the loop over the far blocks, read off the buffer that sums the queries' gradient. -/
theorem trip_dq (𝒱 : Variants) (c : Dev nD) (bd : Option 𝒱.V) (i : grid0.Coords) (arg2 : Memref sig .tc .smem S16x32 .i32) (harg2 : arg2.IsWhole) (arg3 : Memref sig .tc .vmem S256x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S256x128 .bf16) (harg6 : arg6.IsWhole) (arg7 : Memref sig .tc .vmem S1x256x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S8192x128 .bf16) (harg12 : arg12.IsWhole) (arg13 : Memref sig .tc .vmem S256x128 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S8192x128 .f32) (harg16 : arg16.IsWhole) (arg17 : Memref sig .tc .vmem S8192x128 .f32) (harg17 : arg17.IsWhole)
    (v4 : FVec F S256x128 .bf16) (v5 : Vec F S256x128 .bf16) (v8 : FVec F S256x1 .f32) (v30 : Elt F .i32) (hw : k0_chk1 i v30) (v32 : BitVec 32)
    (X11 : BufTy.Contents (Elt F) arg11.view.ty) (X12 : BufTy.Contents (Elt F) arg12.view.ty) (k : Fin (k0_t1_loop i v30).trips)
    (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)
    (j : ℕ) (hoff : k0_off2 i v30 k = bOff j) :
    arg13.view.read (Elt F) (arg13.view.writes (Elt F) f13 ((trip_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 k).1 f13 f14 f15 f16 f17))
      = (far ⟨v4, v5, v8, arg11.view.read (Elt F) X11, arg12.view.read (Elt F) X12⟩ j ⟨arg13.view.read (Elt F) f13, arg14.view.read (Elt F) f14, arg15.view.read (Elt F) f15, arg16.view.read (Elt F) f16, arg17.view.read (Elt F) f17⟩).dq := by
  unfold trip_k0_t1
  dsimp only
  sl_open_run
  refine (read_writes_whole _ _ _ _ _).trans ?_
  simp only [readAt_col, readAt_sq, readAt_blk _ _ _ j hoff]
  rfl

/-- One trip of the loop over the far blocks, read off the buffer that sums the running sum of the softplus. -/
theorem trip_p (𝒱 : Variants) (c : Dev nD) (bd : Option 𝒱.V) (i : grid0.Coords) (arg2 : Memref sig .tc .smem S16x32 .i32) (harg2 : arg2.IsWhole) (arg3 : Memref sig .tc .vmem S256x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S256x128 .bf16) (harg6 : arg6.IsWhole) (arg7 : Memref sig .tc .vmem S1x256x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S8192x128 .bf16) (harg12 : arg12.IsWhole) (arg13 : Memref sig .tc .vmem S256x128 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S8192x128 .f32) (harg16 : arg16.IsWhole) (arg17 : Memref sig .tc .vmem S8192x128 .f32) (harg17 : arg17.IsWhole)
    (v4 : FVec F S256x128 .bf16) (v5 : Vec F S256x128 .bf16) (v8 : FVec F S256x1 .f32) (v30 : Elt F .i32) (hw : k0_chk1 i v30) (v32 : BitVec 32)
    (X11 : BufTy.Contents (Elt F) arg11.view.ty) (X12 : BufTy.Contents (Elt F) arg12.view.ty) (k : Fin (k0_t1_loop i v30).trips)
    (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)
    (j : ℕ) (hoff : k0_off2 i v30 k = bOff j) :
    arg14.view.read (Elt F) (arg14.view.writes (Elt F) f14 ((trip_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 k).2.1 f13 f14 f15 f16 f17))
      = (far ⟨v4, v5, v8, arg11.view.read (Elt F) X11, arg12.view.read (Elt F) X12⟩ j ⟨arg13.view.read (Elt F) f13, arg14.view.read (Elt F) f14, arg15.view.read (Elt F) f15, arg16.view.read (Elt F) f16, arg17.view.read (Elt F) f17⟩).p := by
  unfold trip_k0_t1
  dsimp only
  sl_open_run
  refine (read_writes_whole _ _ _ _ _).trans ?_
  simp only [readAt_col, readAt_sq, readAt_blk _ _ _ j hoff]
  rfl

/-- One trip of the loop over the far blocks, read off the buffer that sums the running sum of the weights' gradient. -/
theorem trip_e (𝒱 : Variants) (c : Dev nD) (bd : Option 𝒱.V) (i : grid0.Coords) (arg2 : Memref sig .tc .smem S16x32 .i32) (harg2 : arg2.IsWhole) (arg3 : Memref sig .tc .vmem S256x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S256x128 .bf16) (harg6 : arg6.IsWhole) (arg7 : Memref sig .tc .vmem S1x256x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S8192x128 .bf16) (harg12 : arg12.IsWhole) (arg13 : Memref sig .tc .vmem S256x128 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S8192x128 .f32) (harg16 : arg16.IsWhole) (arg17 : Memref sig .tc .vmem S8192x128 .f32) (harg17 : arg17.IsWhole)
    (v4 : FVec F S256x128 .bf16) (v5 : Vec F S256x128 .bf16) (v8 : FVec F S256x1 .f32) (v30 : Elt F .i32) (hw : k0_chk1 i v30) (v32 : BitVec 32)
    (X11 : BufTy.Contents (Elt F) arg11.view.ty) (X12 : BufTy.Contents (Elt F) arg12.view.ty) (k : Fin (k0_t1_loop i v30).trips)
    (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)
    (j : ℕ) (hoff : k0_off2 i v30 k = bOff j) :
    arg15.view.read (Elt F) (arg15.view.writes (Elt F) f15 ((trip_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 k).2.2.1 f13 f14 f15 f16 f17))
      = (far ⟨v4, v5, v8, arg11.view.read (Elt F) X11, arg12.view.read (Elt F) X12⟩ j ⟨arg13.view.read (Elt F) f13, arg14.view.read (Elt F) f14, arg15.view.read (Elt F) f15, arg16.view.read (Elt F) f16, arg17.view.read (Elt F) f17⟩).e := by
  unfold trip_k0_t1
  dsimp only
  sl_open_run
  refine (read_writes_whole _ _ _ _ _).trans ?_
  simp only [readAt_col, readAt_sq, readAt_blk _ _ _ j hoff]
  rfl

/-- One trip of the loop over the far blocks, read off the buffer that sums the keys' gradient. -/
theorem trip_dk (𝒱 : Variants) (c : Dev nD) (bd : Option 𝒱.V) (i : grid0.Coords) (arg2 : Memref sig .tc .smem S16x32 .i32) (harg2 : arg2.IsWhole) (arg3 : Memref sig .tc .vmem S256x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S256x128 .bf16) (harg6 : arg6.IsWhole) (arg7 : Memref sig .tc .vmem S1x256x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S8192x128 .bf16) (harg12 : arg12.IsWhole) (arg13 : Memref sig .tc .vmem S256x128 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S8192x128 .f32) (harg16 : arg16.IsWhole) (arg17 : Memref sig .tc .vmem S8192x128 .f32) (harg17 : arg17.IsWhole)
    (v4 : FVec F S256x128 .bf16) (v5 : Vec F S256x128 .bf16) (v8 : FVec F S256x1 .f32) (v30 : Elt F .i32) (hw : k0_chk1 i v30) (v32 : BitVec 32)
    (X11 : BufTy.Contents (Elt F) arg11.view.ty) (X12 : BufTy.Contents (Elt F) arg12.view.ty) (k : Fin (k0_t1_loop i v30).trips)
    (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)
    (j : ℕ) (hoff : k0_off2 i v30 k = bOff j) :
    arg16.view.read (Elt F) (arg16.view.writes (Elt F) f16 ((trip_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 k).2.2.2.1 f13 f14 f15 f16 f17))
      = (far ⟨v4, v5, v8, arg11.view.read (Elt F) X11, arg12.view.read (Elt F) X12⟩ j ⟨arg13.view.read (Elt F) f13, arg14.view.read (Elt F) f14, arg15.view.read (Elt F) f15, arg16.view.read (Elt F) f16, arg17.view.read (Elt F) f17⟩).dk := by
  unfold trip_k0_t1
  dsimp only
  sl_open_run
  refine (read_writes_blk1 _ _ _ _ j hoff).trans ?_
  simp only [readAt_col, readAt_sq, readAt_blk _ _ _ j hoff]
  rfl

/-- One trip of the loop over the far blocks, read off the buffer that sums the values' gradient. -/
theorem trip_dv (𝒱 : Variants) (c : Dev nD) (bd : Option 𝒱.V) (i : grid0.Coords) (arg2 : Memref sig .tc .smem S16x32 .i32) (harg2 : arg2.IsWhole) (arg3 : Memref sig .tc .vmem S256x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S256x128 .bf16) (harg6 : arg6.IsWhole) (arg7 : Memref sig .tc .vmem S1x256x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S8192x128 .bf16) (harg12 : arg12.IsWhole) (arg13 : Memref sig .tc .vmem S256x128 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S8192x128 .f32) (harg16 : arg16.IsWhole) (arg17 : Memref sig .tc .vmem S8192x128 .f32) (harg17 : arg17.IsWhole)
    (v4 : FVec F S256x128 .bf16) (v5 : Vec F S256x128 .bf16) (v8 : FVec F S256x1 .f32) (v30 : Elt F .i32) (hw : k0_chk1 i v30) (v32 : BitVec 32)
    (X11 : BufTy.Contents (Elt F) arg11.view.ty) (X12 : BufTy.Contents (Elt F) arg12.view.ty) (k : Fin (k0_t1_loop i v30).trips)
    (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)
    (j : ℕ) (hoff : k0_off2 i v30 k = bOff j) :
    arg17.view.read (Elt F) (arg17.view.writes (Elt F) f17 ((trip_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 k).2.2.2.2.1 f13 f14 f15 f16 f17))
      = (far ⟨v4, v5, v8, arg11.view.read (Elt F) X11, arg12.view.read (Elt F) X12⟩ j ⟨arg13.view.read (Elt F) f13, arg14.view.read (Elt F) f14, arg15.view.read (Elt F) f15, arg16.view.read (Elt F) f16, arg17.view.read (Elt F) f17⟩).dv := by
  unfold trip_k0_t1
  dsimp only
  sl_open_run
  refine (read_writes_blk1 _ _ _ _ j hoff).trans ?_
  simp only [readAt_col, readAt_sq, readAt_blk _ _ _ j hoff]
  rfl

end AttnBwd

end
-- ==== Proof.Words.lean ====
/- The word arithmetic of the kernel at a table that skips no block: at the query block `b` the table's word is `b + 1`,
   so the loop over the far blocks starts at block 0 and makes `b - 1` trips, and its remainder makes none. -/
module

public import proofs.«01_k».proof.Proof.Model
public import Idealize.ShloMosaic.Lib.Tactic
public import Idealize.ShloMosaic.Lib.WordCmp
public import Idealize.ShloMosaic.Lib.LoopRemainder

@[expose] public section

noncomputable section

namespace AttnBwd

open Cert.KernelIdeal Cert.KernelIdeal.Gen
open Idealize.ShloMosaic

/-- The table's word at query block `b`. -/
def word (b : ℕ) : BitVec 32 := BitVec.ofNat 32 (b + 1)

theorem lb_word : ∀ b : Fin 32, Scalar.addi (Scalar.subi (BitVec.ofNat 32 b.val) (word b.val)) 1#32 = 0#32 := by
  decide

theorem ub_word : ∀ b : Fin 32, Scalar.addi 0#32 (Scalar.subi (Scalar.subi (BitVec.ofNat 32 b.val) 1#32) 0#32)
    = Scalar.subi (BitVec.ofNat 32 b.val) 1#32 := by
  decide

theorem trips_word : ∀ b : Fin 32, Scf.trips 0#32 (Scalar.subi (BitVec.ofNat 32 b.val) 1#32) 1#32 = b.val - 1 := by
  decide

theorem ok_word : ∀ b : Fin 32, Scf.OK 0#32 (Scalar.subi (BitVec.ofNat 32 b.val) 1#32) 1#32 := by
  decide

theorem off_word : ∀ k : Fin 32, (Scalar.indexCast (Scalar.muli (Scf.iv 0#32 1#32 k.val) 256#32)).toNat = 256 * k.val := by
  decide

variable (i : grid0.Coords)

theorem i1_lt : (i 1).val < 32 := (i 1).isLt

theorem t1_lb : (k0_t1_loop i (word (i 1).val)).lb = 0#32 := lb_word ⟨_, i1_lt i⟩

theorem t1_ub : (k0_t1_loop i (word (i 1).val)).ub = Scalar.subi (BitVec.ofNat 32 (i 1).val) 1#32 := by
  have h := lb_word ⟨_, i1_lt i⟩
  dsimp only at h
  simp only [k0_t1_loop, h, Scalar.muli_divsi_one]
  exact ub_word ⟨_, i1_lt i⟩

theorem t1_trips : (k0_t1_loop i (word (i 1).val)).trips = (i 1).val - 1 := by
  have h1 := t1_lb i
  have h2 := t1_ub i
  show Scf.trips (k0_t1_loop i (word (i 1).val)).lb (k0_t1_loop i (word (i 1).val)).ub 1#32 = _
  rw [h1, h2]
  exact trips_word ⟨_, i1_lt i⟩

theorem t1_ok : (k0_t1_loop i (word (i 1).val)).OK := by
  show Scf.OK (k0_t1_loop i (word (i 1).val)).lb (k0_t1_loop i (word (i 1).val)).ub 1#32
  rw [t1_lb, t1_ub]
  exact ok_word ⟨_, i1_lt i⟩

theorem t2_trips (w : BitVec 32) : (k0_t2_loop i w).trips = 0 := by
  exact Scf.rem_trips _ _

theorem t2_ok (w : BitVec 32) : (k0_t2_loop i w).OK := Scf.rem_ok _ _

theorem t1_lt (k : Fin (k0_t1_loop i (word (i 1).val)).trips) : k.val < 32 := by
  have h := k.isLt
  have h1 := t1_trips i
  have h2 := i1_lt i
  omega

theorem off2_word (k : Fin (k0_t1_loop i (word (i 1).val)).trips) : k0_off2 i (word (i 1).val) k = bOff k.val := by
  have h := lb_word ⟨_, i1_lt i⟩
  dsimp only at h
  have hk := t1_lt i k
  have ho := off_word ⟨k.val, hk⟩
  dsimp only at ho
  simp only [k0_off2, h, ho, bOff, Nat.mod_eq_of_lt hk]

theorem mult1_word (k : Fin (k0_t1_loop i (word (i 1).val)).trips) : 256 ∣ (k0_mult1 i (word (i 1).val) k).toNat := by
  have h := lb_word ⟨_, i1_lt i⟩
  dsimp only at h
  have hk := t1_lt i k
  have ho := off_word ⟨k.val, hk⟩
  dsimp only at ho
  simp only [k0_mult1, h]
  exact ⟨k.val, ho⟩

/-- The conditions that the kernel assumes of the table's word hold. -/
theorem chk_word : k0_chk1 i (word (i 1).val) :=
  ⟨t1_ok i, mult1_word i, fun k => by rw [off2_word]; exact bOff_inb _, t2_ok i _,
    fun k => absurd (lt_of_lt_of_eq k.isLt (t2_trips i _)) (Nat.not_lt_zero _),
    fun k => absurd (lt_of_lt_of_eq k.isLt (t2_trips i _)) (Nat.not_lt_zero _)⟩

theorem off4_fin : ∀ b : Fin 32, (Scalar.indexCast (Scalar.muli (BitVec.ofNat 32 b.val) 256#32)).toNat = 256 * b.val := by
  decide

theorem off5_fin : ∀ b : Fin 31, (Scalar.indexCast (Scalar.muli (Scalar.subi (BitVec.ofNat 32 (b.val + 1)) 1#32) 256#32)).toNat = 256 * b.val := by
  decide

theorem off4_eq : k0_off4 i = bOff (i 1).val := by
  have h := off4_fin ⟨_, i1_lt i⟩
  dsimp only at h
  simp only [k0_off4, h, bOff, Nat.mod_eq_of_lt (i1_lt i)]

theorem off6_eq : k0_off6 i = bOff (i 1).val := by
  have h := off4_fin ⟨_, i1_lt i⟩
  dsimp only at h
  simp only [k0_off6, h, bOff, Nat.mod_eq_of_lt (i1_lt i)]

theorem off5_eq (j : ℕ) (hj : (i 1).val = j + 1) : k0_off5 i = bOff j := by
  have hl := i1_lt i
  have hj' : j < 31 := by omega
  have h := off5_fin ⟨j, hj'⟩
  dsimp only at h
  simp only [k0_off5, hj, h, bOff, Nat.mod_eq_of_lt (show j < 32 by omega)]

theorem cond2_fin : ∀ b : Fin 32, (Scalar.cmpi .ne (Scalar.extui (Scalar.cmpi .eq (BitVec.ofNat 32 b.val) 0#32)) (0#32 : BitVec 32) = 1#1) ↔ b.val = 0 := by
  decide

theorem cond3_fin : ∀ b : Fin 32, (Scalar.cmpi .ne (Scalar.extui (Scalar.cmpi .sgt (BitVec.ofNat 32 b.val) 0#32)) (0#32 : BitVec 32) = 1#1) ↔ b.val ≠ 0 := by
  decide

theorem cond4_fin : ∀ b : Fin 32, (Scalar.cmpi .ne (Scalar.extui (Scalar.cmpi .eq (BitVec.ofNat 32 b.val) 31#32)) (0#32 : BitVec 32) = 1#1) ↔ b.val = 31 := by
  decide

theorem cond1_iff : ((Scalar.cmpi .ne (Scalar.extui (Scalar.cmpi .eq (BitVec.ofNat 32 (i 1).val) 0#32)) 0#32) = 1#1) ↔ (i 1).val = 0 :=
  cond2_fin ⟨_, i1_lt i⟩

theorem cond2_iff : k0_cond2 i = 1#1 ↔ (i 1).val = 0 := cond2_fin ⟨_, i1_lt i⟩

theorem cond3_iff : k0_cond3 i = 1#1 ↔ (i 1).val ≠ 0 := cond3_fin ⟨_, i1_lt i⟩

theorem cond4_iff : k0_cond4 i = 1#1 ↔ (i 1).val = 31 := cond4_fin ⟨_, i1_lt i⟩

end AttnBwd

end
-- ==== Proof.LoopRun.lean ====
/- What the loop over the far blocks leaves in its buffers, read off the lists of its stores. -/
module

public import proofs.«01_k».proof.Proof.LoopVal
public import proofs.«01_k».proof.Proof.Words

@[expose] public section

noncomputable section

namespace AttnBwd

open Cert.KernelIdeal Cert.KernelIdeal.Gen
open Idealize.ShloMosaic

variable {F : FTy → Type} [FloatOps F] [Named F]

/-- The five sums, read off the buffers after a list of stores into each. -/
def reads (arg13 : Memref sig .tc .vmem S256x128 .f32) (arg14 : Memref sig .tc .vmem S256x1 .f32) (arg15 : Memref sig .tc .vmem S256x1 .f32) (arg16 : Memref sig .tc .vmem S8192x128 .f32) (arg17 : Memref sig .tc .vmem S8192x128 .f32) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty)
    (L : List (View.Piece (Elt F) S256x128 .f32) × List (View.Piece (Elt F) S256x1 .f32) × List (View.Piece (Elt F) S256x1 .f32) × List (View.Piece (Elt F) S8192x128 .f32) × List (View.Piece (Elt F) S8192x128 .f32)) : Acc F :=
  ⟨arg13.view.read (Elt F) (arg13.view.writes (Elt F) G13 L.1), arg14.view.read (Elt F) (arg14.view.writes (Elt F) G14 L.2.1), arg15.view.read (Elt F) (arg15.view.writes (Elt F) G15 L.2.2.1), arg16.view.read (Elt F) (arg16.view.writes (Elt F) G16 L.2.2.2.1), arg17.view.read (Elt F) (arg17.view.writes (Elt F) G17 L.2.2.2.2)⟩

/-- After `n` trips the loop's buffers hold the sums over the first `n` blocks. -/
theorem t1_reads (𝒱 : Variants) (c : Dev nD) (bd : Option 𝒱.V) (i : grid0.Coords) (arg2 : Memref sig .tc .smem S16x32 .i32) (harg2 : arg2.IsWhole) (arg3 : Memref sig .tc .vmem S256x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S256x128 .bf16) (harg6 : arg6.IsWhole) (arg7 : Memref sig .tc .vmem S1x256x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S8192x128 .bf16) (harg12 : arg12.IsWhole) (arg13 : Memref sig .tc .vmem S256x128 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S8192x128 .f32) (harg16 : arg16.IsWhole) (arg17 : Memref sig .tc .vmem S8192x128 .f32) (harg17 : arg17.IsWhole)
    (v4 : FVec F S256x128 .bf16) (v5 : Vec F S256x128 .bf16) (v8 : FVec F S256x1 .f32) (v30 : Elt F .i32) (hw : k0_chk1 i v30) (v32 : BitVec 32)
    (X11 : BufTy.Contents (Elt F) arg11.view.ty) (X12 : BufTy.Contents (Elt F) arg12.view.ty)
    (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty)
    (hoff : ∀ k : Fin (k0_t1_loop i v30).trips, k0_off2 i v30 k = bOff k.val) (n : ℕ) (hn : n ≤ (k0_t1_loop i v30).trips) :
    reads arg13 arg14 arg15 arg16 arg17 G13 G14 G15 G16 G17 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n)
      = fars ⟨v4, v5, v8, arg11.view.read (Elt F) X11, arg12.view.read (Elt F) X12⟩ n ⟨arg13.view.read (Elt F) G13, arg14.view.read (Elt F) G14, arg15.view.read (Elt F) G15, arg16.view.read (Elt F) G16, arg17.view.read (Elt F) G17⟩ := by
  induction n with
  | zero => rfl
  | succ n ih =>
    have ih := ih (Nat.le_of_succ_le hn)
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 ⟨n, hn⟩
    refine (congrArg (reads arg13 arg14 arg15 arg16 arg17 G13 G14 G15 G16 G17) hs).trans ?_
    show _ = far _ n (fars _ n _)
    rw [← ih]
    unfold reads
    simp only [View.writes_append]
    have h13 := trip_dq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 v30 hw v32 X11 X12 ⟨n, hn⟩ (arg13.view.writes (Elt F) G13 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).1) (arg14.view.writes (Elt F) G14 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).2.1) (arg15.view.writes (Elt F) G15 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).2.2.1) (arg16.view.writes (Elt F) G16 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).2.2.2.1) (arg17.view.writes (Elt F) G17 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).2.2.2.2) n (hoff ⟨n, hn⟩)
    have h14 := trip_p 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 v30 hw v32 X11 X12 ⟨n, hn⟩ (arg13.view.writes (Elt F) G13 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).1) (arg14.view.writes (Elt F) G14 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).2.1) (arg15.view.writes (Elt F) G15 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).2.2.1) (arg16.view.writes (Elt F) G16 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).2.2.2.1) (arg17.view.writes (Elt F) G17 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).2.2.2.2) n (hoff ⟨n, hn⟩)
    have h15 := trip_e 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 v30 hw v32 X11 X12 ⟨n, hn⟩ (arg13.view.writes (Elt F) G13 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).1) (arg14.view.writes (Elt F) G14 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).2.1) (arg15.view.writes (Elt F) G15 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).2.2.1) (arg16.view.writes (Elt F) G16 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).2.2.2.1) (arg17.view.writes (Elt F) G17 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).2.2.2.2) n (hoff ⟨n, hn⟩)
    have h16 := trip_dk 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 v30 hw v32 X11 X12 ⟨n, hn⟩ (arg13.view.writes (Elt F) G13 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).1) (arg14.view.writes (Elt F) G14 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).2.1) (arg15.view.writes (Elt F) G15 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).2.2.1) (arg16.view.writes (Elt F) G16 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).2.2.2.1) (arg17.view.writes (Elt F) G17 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).2.2.2.2) n (hoff ⟨n, hn⟩)
    have h17 := trip_dv 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 v30 hw v32 X11 X12 ⟨n, hn⟩ (arg13.view.writes (Elt F) G13 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).1) (arg14.view.writes (Elt F) G14 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).2.1) (arg15.view.writes (Elt F) G15 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).2.2.1) (arg16.view.writes (Elt F) G16 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).2.2.2.1) (arg17.view.writes (Elt F) G17 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 v30 hw v32 X11 X12 G13 G14 G15 G16 G17 n).2.2.2.2) n (hoff ⟨n, hn⟩)
    rw [h13, h14, h15, h16, h17]

/-- The remainder loop makes no trip, so it stores nothing. -/
theorem t2_nil (𝒱 : Variants) (c : Dev nD) (bd : Option 𝒱.V) (i : grid0.Coords) (arg2 : Memref sig .tc .smem S16x32 .i32) (harg2 : arg2.IsWhole) (arg3 : Memref sig .tc .vmem S256x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S256x128 .bf16) (harg6 : arg6.IsWhole) (arg7 : Memref sig .tc .vmem S1x256x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S8192x128 .bf16) (harg12 : arg12.IsWhole) (arg13 : Memref sig .tc .vmem S256x128 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S8192x128 .f32) (harg16 : arg16.IsWhole) (arg17 : Memref sig .tc .vmem S8192x128 .f32) (harg17 : arg17.IsWhole)
    (v4 : FVec F S256x128 .bf16) (v5 : Vec F S256x128 .bf16) (v8 : FVec F S256x1 .f32) (v15 : FVec F S256x256 .bf16) (v30 : Elt F .i32) (hw : k0_chk1 i v30) (v38 : BitVec 32)
    (X11 : BufTy.Contents (Elt F) arg11.view.ty) (X12 : BufTy.Contents (Elt F) arg12.view.ty)
    (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) :
    (pb_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 v15 v30 hw v38 X11 X12 G13 G14 G15 G16 G17 (k0_t2_loop i v30).trips) = ⟨[], [], [], [], []⟩ := by
  rw [t2_trips]; rfl

end AttnBwd

end
-- ==== Proof.Seg.lean ====
/- The two opening stretches of the kernel's body: its loads and the copies it makes, and its loop over the far blocks. -/
module

public import proofs.«01_k».proof.Proof.LoopRun
public import proofs.«01_k».proof.Proof.Gen.KernelIdeal.Launch
public import Idealize.ShloMosaic.Lib.Pipeline.FrameBody
public import Idealize.ShloMosaic.Lib.Tactic.Stretches

@[expose] public section

set_option maxRecDepth 16384

noncomputable section

namespace AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The store of a whole buffer, followed by nothing. -/
theorem read_store {sp : Space} {s : Shape} {e : EltTy} (v : View sig .tc sp s e) (f : v.ty.Contents (Elt F)) {off : Fin s.rank → ℕ}
    (inb : ∀ a, off a + s.size a ≤ s.size a) (w : Vec F s e) :
    v.read (Elt F) (v.writes (Elt F) f [⟨Rect.unit off s.size inb, w⟩]) = w := read_writes_whole v f inb w []

local notation "𝕄" => MT nD τ sig Unit (Elt F) ℕ (UR sig nD τ) ℕ

set_option maxHeartbeats 1000000 in
/-- The opening stretch at the first block of queries: the copies of the keys and values are made, the sums start at 0. -/
theorem open_first (c : Dev nD) (i : grid0.Coords) (arg2 : Memref sig .tc .smem S16x32 .i32) (harg2 : arg2.IsWhole) (arg3 : Memref sig .tc .vmem S256x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S256x128 .bf16) (harg6 : arg6.IsWhole) (arg7 : Memref sig .tc .vmem S1x256x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S8192x128 .bf16) (harg12 : arg12.IsWhole) (arg13 : Memref sig .tc .vmem S256x128 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S8192x128 .f32) (harg16 : arg16.IsWhole) (arg17 : Memref sig .tc .vmem S8192x128 .f32) (harg17 : arg17.IsWhole) (hb : (i 1).val = 0)
    (f2 : BufTy.Contents (Elt F) arg2.view.ty)
    (hword : arg2.view.readAt (Elt F) (Rect.unit (s := S16x32) (k0_off1 i) S1x1.size (k0_off1_inb i)).toLoadRect f2 (Shape.Idx.first (numel1_S1x1.symm ▸ Nat.one_pos)) = word (i 1).val)
    (x3 : Vec F S256x128 .f32) (x4 : Vec F S8192x128 .f32) (x5 : Vec F S8192x128 .f32) (x6 : Vec F S256x128 .bf16) (x7 : Vec F S1x256x128 .f32) (E : Set ℕ) (K : _ → sProp 𝕄) :
    iprop((arg2.view.loc (c : Thread nD τ) ↦[arg2.view.set]{fullShare.right} f2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop((arg2.view.loc (c : Thread nD τ) ↦[arg2.view.set]{fullShare.right} f2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg11 fullShare (k0_pay65 x4) ∗ owns (c : Thread nD τ) arg12 fullShare (k0_pay66 x5) ∗ owns (c : Thread nD τ) arg13 fullShare k0_pay73 ∗ owns (c : Thread nD τ) arg14 fullShare k0_pay74 ∗ owns (c : Thread nD τ) arg15 fullShare k0_pay75 ∗ owns (c : Thread nD τ) arg16 fullShare k0_pay67 ∗ owns (c : Thread nD τ) arg17 fullShare k0_pay68) -∗ K ⟨BitVec.ofNat 32 (i 1).val, k0_pay69 x3, x6, k0_pay70 x7, k0_pay71, k0_pay72, word (i 1).val, chk_word i, Scalar.addi (Scalar.subi (BitVec.ofNat 32 (i 1).val) (word (i 1).val)) 1#32, 1#32⟩))
      ⊢ wp frame (wpE (defs₀ (F := F)) Variants.none c none) E (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hc1 := (cond1_iff i).mpr hb
  have hk := chk_word i
  rw [← hword] at hk
  simp only [k0_part7_eq_skeleton]; unfold k0_part7_skel smemLoad smemLoadElt
  unfold owns
  iintro ⟨H2, ⟨%f3, %e3, H3⟩, ⟨%f4, %e4, H4⟩, ⟨%f5, %e5, H5⟩, ⟨%f6, %e6, H6⟩, ⟨%f7, %e7, H7⟩, ⟨%x11, %f11, %e11, H11⟩, ⟨%x12, %f12, %e12, H12⟩, ⟨%x13, %f13, %e13, H13⟩, ⟨%x14, %f14, %e14, H14⟩, ⟨%x15, %f15, %e15, H15⟩, ⟨%x16, %f16, %e16, H16⟩, ⟨%x17, %f17, %e17, H17⟩, Hk⟩
  obtain rfl := harg3.eq_unread e3; obtain rfl := harg4.eq_unread e4; obtain rfl := harg5.eq_unread e5; obtain rfl := harg6.eq_unread e6; obtain rfl := harg7.eq_unread e7; obtain rfl := harg11.eq_unread e11; obtain rfl := harg12.eq_unread e12; obtain rfl := harg13.eq_unread e13; obtain rfl := harg14.eq_unread e14; obtain rfl := harg15.eq_unread e15; obtain rfl := harg16.eq_unread e16; obtain rfl := harg17.eq_unread e17
  sl_exec (disch := first | sl_exact hc1)
  sl_step
  sl_open_run
  simp only [readAt_sq, readAt_tot, readAt_all, harg3.read_unread, harg6.read_unread, harg7.read_unread]
  generalize arg2.view.readAt (Elt F) (Rect.unit (s := S16x32) (k0_off1 i) S1x1.size (k0_off1_inb i)).toLoadRect f2 (Shape.Idx.first (numel1_S1x1.symm ▸ Nat.one_pos)) = v30 at hword hk
  subst hword
  iapply Hk
  isplitl [H2]
  · iexact H2
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H11]
  · iexists _; isplitr; swap; · iexact H11
    ipureintro
    refine (read_writes_whole _ _ _ _ _).trans ?_
    simp only [readAt_all, harg4.read_unread]
  isplitl [H12]
  · iexists _; isplitr; swap; · iexact H12
    ipureintro
    refine (read_writes_whole _ _ _ _ _).trans ?_
    simp only [readAt_all, harg5.read_unread]
  isplitl [H13]
  · iexists _; isplitr; swap; · iexact H13
    ipureintro
    exact read_writes_whole _ _ _ _ _
  isplitl [H14]
  · iexists _; isplitr; swap; · iexact H14
    ipureintro
    exact read_writes_whole _ _ _ _ _
  isplitl [H15]
  · iexists _; isplitr; swap; · iexact H15
    ipureintro
    exact read_writes_whole _ _ _ _ _
  isplitl [H16]
  · iexists _; isplitr; swap; · iexact H16
    ipureintro
    exact read_writes_whole _ _ _ _ _
  · iexists _; isplitr; swap; · iexact H17
    ipureintro
    exact read_writes_whole _ _ _ _ _

set_option maxHeartbeats 1000000 in
/-- The opening stretch at a later block of queries: the copies stand, the running row sums start at 0. -/
theorem open_later (c : Dev nD) (i : grid0.Coords) (arg2 : Memref sig .tc .smem S16x32 .i32) (harg2 : arg2.IsWhole) (arg3 : Memref sig .tc .vmem S256x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S256x128 .bf16) (harg6 : arg6.IsWhole) (arg7 : Memref sig .tc .vmem S1x256x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S8192x128 .bf16) (harg12 : arg12.IsWhole) (arg13 : Memref sig .tc .vmem S256x128 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S8192x128 .f32) (harg16 : arg16.IsWhole) (arg17 : Memref sig .tc .vmem S8192x128 .f32) (harg17 : arg17.IsWhole) (hb : (i 1).val ≠ 0)
    (f2 : BufTy.Contents (Elt F) arg2.view.ty)
    (hword : arg2.view.readAt (Elt F) (Rect.unit (s := S16x32) (k0_off1 i) S1x1.size (k0_off1_inb i)).toLoadRect f2 (Shape.Idx.first (numel1_S1x1.symm ▸ Nat.one_pos)) = word (i 1).val)
    (x3 : Vec F S256x128 .f32) (x6 : Vec F S256x128 .bf16) (x7 : Vec F S1x256x128 .f32) (E : Set ℕ) (K : _ → sProp 𝕄) :
    iprop((arg2.view.loc (c : Thread nD τ) ↦[arg2.view.set]{fullShare.right} f2) ∗ owns (c : Thread nD τ) arg3 fullShare x3 ∗ owns (c : Thread nD τ) arg6 fullShare x6 ∗ owns (c : Thread nD τ) arg7 fullShare x7 ∗ (∃ d, owns (c : Thread nD τ) arg13 fullShare d) ∗ (∃ d, owns (c : Thread nD τ) arg14 fullShare d) ∗ (∃ d, owns (c : Thread nD τ) arg15 fullShare d)
        ∗ (iprop((arg2.view.loc (c : Thread nD τ) ↦[arg2.view.set]{fullShare.right} f2) ∗ owns (c : Thread nD τ) arg3 fullShare x3 ∗ owns (c : Thread nD τ) arg6 fullShare x6 ∗ owns (c : Thread nD τ) arg7 fullShare x7 ∗ owns (c : Thread nD τ) arg13 fullShare k0_pay73 ∗ owns (c : Thread nD τ) arg14 fullShare k0_pay74 ∗ owns (c : Thread nD τ) arg15 fullShare k0_pay75) -∗ K ⟨BitVec.ofNat 32 (i 1).val, k0_pay69 x3, x6, k0_pay70 x7, k0_pay71, k0_pay72, word (i 1).val, chk_word i, Scalar.addi (Scalar.subi (BitVec.ofNat 32 (i 1).val) (word (i 1).val)) 1#32, 1#32⟩))
      ⊢ wp frame (wpE (defs₀ (F := F)) Variants.none c none) E (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hc1 := mt (cond1_iff i).mp hb
  have hk := chk_word i
  rw [← hword] at hk
  simp only [k0_part7_eq_skeleton]; unfold k0_part7_skel smemLoad smemLoadElt
  unfold owns
  iintro ⟨H2, ⟨%f3, %e3, H3⟩, ⟨%f6, %e6, H6⟩, ⟨%f7, %e7, H7⟩, ⟨%x13, %f13, %e13, H13⟩, ⟨%x14, %f14, %e14, H14⟩, ⟨%x15, %f15, %e15, H15⟩, Hk⟩
  obtain rfl := harg3.eq_unread e3; obtain rfl := harg6.eq_unread e6; obtain rfl := harg7.eq_unread e7; obtain rfl := harg13.eq_unread e13; obtain rfl := harg14.eq_unread e14; obtain rfl := harg15.eq_unread e15
  sl_exec (disch := first | sl_exact hc1)
  sl_step
  sl_open_run
  simp only [readAt_sq, readAt_tot, readAt_all, harg3.read_unread, harg6.read_unread, harg7.read_unread]
  generalize arg2.view.readAt (Elt F) (Rect.unit (s := S16x32) (k0_off1 i) S1x1.size (k0_off1_inb i)).toLoadRect f2 (Shape.Idx.first (numel1_S1x1.symm ▸ Nat.one_pos)) = v30 at hword hk
  subst hword
  iapply Hk
  isplitl [H2]
  · iexact H2
  isplitl [H3]
  · iexists _; isplitr; swap; · iexact H3
    ipureintro
    exact harg3.read_unread _
  isplitl [H6]
  · iexists _; isplitr; swap; · iexact H6
    ipureintro
    exact harg6.read_unread _
  isplitl [H7]
  · iexists _; isplitr; swap; · iexact H7
    ipureintro
    exact harg7.read_unread _
  isplitl [H13]
  · iexists _; isplitr; swap; · iexact H13
    ipureintro
    exact read_writes_whole _ _ _ _ _
  isplitl [H14]
  · iexists _; isplitr; swap; · iexact H14
    ipureintro
    exact read_writes_whole _ _ _ _ _
  · iexists _; isplitr; swap; · iexact H15
    ipureintro
    exact read_writes_whole _ _ _ _ _

set_option maxHeartbeats 1000000 in
/-- The loop over the far blocks. -/
theorem loop_far (c : Dev nD) (i : grid0.Coords) (arg2 : Memref sig .tc .smem S16x32 .i32) (harg2 : arg2.IsWhole) (arg3 : Memref sig .tc .vmem S256x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S256x128 .bf16) (harg6 : arg6.IsWhole) (arg7 : Memref sig .tc .vmem S1x256x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S8192x128 .bf16) (harg12 : arg12.IsWhole) (arg13 : Memref sig .tc .vmem S256x128 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S8192x128 .f32) (harg16 : arg16.IsWhole) (arg17 : Memref sig .tc .vmem S8192x128 .f32) (harg17 : arg17.IsWhole) (v4 : FVec F S256x128 .bf16) (v5 : Vec F S256x128 .bf16) (v8 : FVec F S256x1 .f32) (v32 : BitVec 32)
    (x11 : Vec F S8192x128 .bf16) (x12 : Vec F S8192x128 .bf16) (x13 : Vec F S256x128 .f32) (x14 : Vec F S256x1 .f32) (x15 : Vec F S256x1 .f32) (x16 : Vec F S8192x128 .f32) (x17 : Vec F S8192x128 .f32) (E : Set ℕ) (K : _ → sProp 𝕄) :
    iprop(owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg11 fullShare x11 ∗ owns (c : Thread nD τ) arg12 fullShare x12 ∗ owns (c : Thread nD τ) arg13 fullShare (fars ⟨v4, v5, v8, x11, x12⟩ ((i 1).val - 1) ⟨x13, x14, x15, x16, x17⟩).dq ∗ owns (c : Thread nD τ) arg14 fullShare (fars ⟨v4, v5, v8, x11, x12⟩ ((i 1).val - 1) ⟨x13, x14, x15, x16, x17⟩).p ∗ owns (c : Thread nD τ) arg15 fullShare (fars ⟨v4, v5, v8, x11, x12⟩ ((i 1).val - 1) ⟨x13, x14, x15, x16, x17⟩).e ∗ owns (c : Thread nD τ) arg16 fullShare (fars ⟨v4, v5, v8, x11, x12⟩ ((i 1).val - 1) ⟨x13, x14, x15, x16, x17⟩).dk ∗ owns (c : Thread nD τ) arg17 fullShare (fars ⟨v4, v5, v8, x11, x12⟩ ((i 1).val - 1) ⟨x13, x14, x15, x16, x17⟩).dv) -∗ K ⟨⟩))
      ⊢ wp frame (wpE (defs₀ (F := F)) Variants.none c none) E (Scf.Loop.for (k0_t1_loop i (word (i 1).val)) (k0_t1_ok i (word (i 1).val) (chk_word i)) ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 k0_pay72 (word (i 1).val) (chk_word i) v32)) K := by
  unfold owns
  iintro ⟨⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, Hk⟩
  obtain rfl := harg11.eq_unread e11; obtain rfl := harg12.eq_unread e12; obtain rfl := harg13.eq_unread e13; obtain rfl := harg14.eq_unread e14; obtain rfl := harg15.eq_unread e15; obtain rfl := harg16.eq_unread e16; obtain rfl := harg17.eq_unread e17
  have hr := t1_reads Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 (word (i 1).val) (chk_word i) v32 (harg11.unread x11) (harg12.unread x12) (harg13.unread x13) (harg14.unread x14) (harg15.unread x15) (harg16.unread x16) (harg17.unread x17)
    (off2_word i) (k0_t1_loop i (word (i 1).val)).trips le_rfl
  simp only [harg11.read_unread, harg12.read_unread, harg13.read_unread, harg14.read_unread, harg15.read_unread, harg16.read_unread, harg17.read_unread] at hr
  conv at hr => rhs; rw [t1_trips]
  rw [← hr]
  sl_exec
  iapply Hk
  isplitl [H11]
  · iexists _; isplitr; swap; · iexact H11
    ipureintro
    exact harg11.read_unread _
  isplitl [H12]
  · iexists _; isplitr; swap; · iexact H12
    ipureintro
    exact harg12.read_unread _
  isplitl [H13]
  · iexists _; isplitr; swap; · iexact H13
    ipureintro
    rfl
  isplitl [H14]
  · iexists _; isplitr; swap; · iexact H14
    ipureintro
    rfl
  isplitl [H15]
  · iexists _; isplitr; swap; · iexact H15
    ipureintro
    rfl
  isplitl [H16]
  · iexists _; isplitr; swap; · iexact H16
    ipureintro
    rfl
  · iexists _; isplitr; swap; · iexact H17
    ipureintro
    rfl

/-- The remainder loop does nothing. -/
theorem loop_rest (c : Dev nD) (i : grid0.Coords) (arg2 : Memref sig .tc .smem S16x32 .i32) (harg2 : arg2.IsWhole) (arg3 : Memref sig .tc .vmem S256x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S256x128 .bf16) (harg6 : arg6.IsWhole) (arg7 : Memref sig .tc .vmem S1x256x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S8192x128 .bf16) (harg12 : arg12.IsWhole) (arg13 : Memref sig .tc .vmem S256x128 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S8192x128 .f32) (harg16 : arg16.IsWhole) (arg17 : Memref sig .tc .vmem S8192x128 .f32) (harg17 : arg17.IsWhole) (v4 : FVec F S256x128 .bf16) (v5 : Vec F S256x128 .bf16) (v8 : FVec F S256x1 .f32) (v15 : FVec F S256x256 .bf16) (v38 : BitVec 32) (E : Set ℕ) (K : _ → sProp 𝕄) :
    K ⟨⟩ ⊢ wp frame (wpE (defs₀ (F := F)) Variants.none c none) E (Scf.Loop.for (k0_t2_loop i (word (i 1).val)) (k0_t2_ok i (word (i 1).val) (chk_word i)) ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 v15 (word (i 1).val) (chk_word i) v38)) K := by
  have h := Scf.for_eq_ret _ _ _ (k0_t2_ok i (word (i 1).val) (chk_word i)) PUnit.unit (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v5 v8 v15 (word (i 1).val) (chk_word i) v38) (t2_trips i _)
  refine .trans ?_ (Entails.of_eq (congrArg (fun p => wp frame (wpE (defs₀ (F := F)) Variants.none c none) E p K) h.symm))
  iintro H
  sl_step
  iexact H

end AttnBwd

end
-- ==== Proof.RunA.lean ====
/- The kernel's body at the first block of queries of a head: the run from what the point finds to what it leaves, the values named. -/
module

public import proofs.«01_k».proof.Proof.Seg
public import Idealize.ShloMosaic.Lib.Pipeline.FrameBody
public import Idealize.ShloMosaic.Lib.Tactic.Stretches

@[expose] public section

set_option maxRecDepth 16384

noncomputable section

namespace AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The run of the body at such a point. -/
theorem runA (c : Dev nD) (i : grid0.Coords) (arg2 : Memref sig .tc .smem S16x32 .i32) (harg2 : arg2.IsWhole) (arg3 : Memref sig .tc .vmem S256x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S256x128 .bf16) (harg6 : arg6.IsWhole) (arg7 : Memref sig .tc .vmem S1x256x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S8192x128 .bf16) (harg12 : arg12.IsWhole) (arg13 : Memref sig .tc .vmem S256x128 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S8192x128 .f32) (harg16 : arg16.IsWhole) (arg17 : Memref sig .tc .vmem S8192x128 .f32) (harg17 : arg17.IsWhole) (hb : (i 1).val = 0)
    (f2 : BufTy.Contents (Elt F) arg2.view.ty)
    (hword : arg2.view.readAt (Elt F) (Rect.unit (s := S16x32) (k0_off1 i) S1x1.size (k0_off1_inb i)).toLoadRect f2 (Shape.Idx.first (numel1_S1x1.symm ▸ Nat.one_pos)) = word (i 1).val)
    (x3 : Vec F S256x128 .f32) (x4 : Vec F S8192x128 .f32) (x5 : Vec F S8192x128 .f32) (x6 : Vec F S256x128 .bf16) (x7 : Vec F S1x256x128 .f32) (x9 : Vec F S8192x128 .bf16) (x10 : Vec F S8192x128 .bf16) (E : Set ℕ) (K : _ → sProp 𝕄) :
    iprop((arg2.view.loc (c : Thread nD τ) ↦[arg2.view.set]{fullShare.right} f2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop((arg2.view.loc (c : Thread nD τ) ↦[arg2.view.set]{fullShare.right} f2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (point (env x3 x6 x7 (k0_pay65 x4) (k0_pay66 x5)) 0 k0_pay67 k0_pay68).dq ∗ owns (c : Thread nD τ) arg9 fullShare x9 ∗ owns (c : Thread nD τ) arg10 fullShare x10 ∗ owns (c : Thread nD τ) arg11 fullShare (k0_pay65 x4) ∗ owns (c : Thread nD τ) arg12 fullShare (k0_pay66 x5) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (point (env x3 x6 x7 (k0_pay65 x4) (k0_pay66 x5)) 0 k0_pay67 k0_pay68).dk ∗ owns (c : Thread nD τ) arg17 fullShare (point (env x3 x6 x7 (k0_pay65 x4) (k0_pay66 x5)) 0 k0_pay67 k0_pay68).dv) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hc2 := (cond2_iff i).mpr hb
  have hc3 : ¬ k0_cond3 i = 1#1 := fun h => (cond3_iff i).mp h hb
  have hc4 : ¬ k0_cond4 i = 1#1 := fun h => by have := (cond4_iff i).mp h; omega
  have o4 := off4_eq i
  rw [hb] at o4
  have ht : (i 1).val - 1 = 0 := by omega
  rw [cc0_attn_bwd_eq_skeleton]; unfold cc0_attn_bwd_skel
  iintro ⟨H2, H3, H4, H5, H6, H7, H8, H9, H10, H11, H12, H13, H14, H15, H16, H17, Hk⟩
  rw [wp_bind]
  iapply (open_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hb f2 hword x3 x4 x5 x6 x7 E _)
  isplitl [H2]; · iexact H2
  isplitl [H3]; · iexact H3
  isplitl [H4]; · iexact H4
  isplitl [H5]; · iexact H5
  isplitl [H6]; · iexact H6
  isplitl [H7]; · iexact H7
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H11, H12, H13, H14, H15, H16, H17⟩
  dsimp only
  rw [wp_bind]
  iapply (loop_far c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay69 x3) x6 (k0_pay70 x7) _ (k0_pay65 x4) (k0_pay66 x5) k0_pay73 k0_pay74 k0_pay75 k0_pay67 k0_pay68 E _)
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H11, H12, H13, H14, H15, H16, H17⟩
  rw [wp_bind]
  iapply (loop_rest c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay69 x3) x6 (k0_pay70 x7) k0_pay72 _ E _)
  rw [ht]
  have hE : (⟨k0_pay69 x3, x6, k0_pay70 x7, (k0_pay65 x4), (k0_pay66 x5)⟩ : Env F) = env x3 x6 x7 (k0_pay65 x4) (k0_pay66 x5) := rfl
  have hs : (⟨k0_pay73, k0_pay74, k0_pay75, k0_pay67, k0_pay68⟩ : Acc F) = start k0_pay67 k0_pay68 := rfl
  rw [hE, hs]
  generalize hS : fars (env x3 x6 x7 (k0_pay65 x4) (k0_pay66 x5)) 0 (start k0_pay67 k0_pay68) = S
  simp only [k0_part3_eq_skeleton]; unfold k0_part3_skel
  unfold owns

  icases H3 with ⟨%f3, %e3, H3⟩
  icases H4 with ⟨%f4, %e4, H4⟩
  icases H5 with ⟨%f5, %e5, H5⟩
  icases H6 with ⟨%f6, %e6, H6⟩
  icases H7 with ⟨%f7, %e7, H7⟩
  icases H8 with ⟨%x8, %f8, %e8, H8⟩
  icases H9 with ⟨%f9, %e9, H9⟩
  icases H10 with ⟨%f10, %e10, H10⟩
  icases H11 with ⟨%f11, %e11, H11⟩
  icases H12 with ⟨%f12, %e12, H12⟩
  icases H13 with ⟨%f13, %e13, H13⟩
  icases H14 with ⟨%f14, %e14, H14⟩
  icases H15 with ⟨%f15, %e15, H15⟩
  icases H16 with ⟨%f16, %e16, H16⟩
  icases H17 with ⟨%f17, %e17, H17⟩
  obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg10.eq_unread e10; obtain rfl := harg11.eq_unread e11; obtain rfl := harg12.eq_unread e12; obtain rfl := harg13.eq_unread e13; obtain rfl := harg14.eq_unread e14; obtain rfl := harg15.eq_unread e15; obtain rfl := harg16.eq_unread e16; obtain rfl := harg17.eq_unread e17
  sl_exec (disch := first | sl_exact hc2 | sl_exact hc3 | sl_exact hc4)
  sl_step
  sl_open_run

  iapply Hk
  isplitl [H2]
  · iexact H2
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    refine (read_writes_whole _ _ _ _ _).trans ?_
    simp only [readAt_sq, readAt_col, readAt_all, readAt_blk _ _ _ 0 o4, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
    subst hS
    rfl
  isplitl [H9]
  · iexists _; isplitr; swap; · iexact H9
    ipureintro
    exact harg9.read_unread _
  isplitl [H10]
  · iexists _; isplitr; swap; · iexact H10
    ipureintro
    exact harg10.read_unread _
  isplitl [H11]
  · iexists _; isplitr; swap; · iexact H11
    ipureintro
    exact harg11.read_unread _
  isplitl [H12]
  · iexists _; isplitr; swap; · iexact H12
    ipureintro
    exact harg12.read_unread _
  isplitl [H13]
  · iexists _, _; isplitr; swap; · iexact H13
    ipureintro
    rfl
  isplitl [H14]
  · iexists _, _; isplitr; swap; · iexact H14
    ipureintro
    rfl
  isplitl [H15]
  · iexists _, _; isplitr; swap; · iexact H15
    ipureintro
    rfl
  isplitl [H16]
  · iexists _; isplitr; swap; · iexact H16
    ipureintro
    refine (read_writes_blk1 _ _ _ _ 0 o4).trans ?_
    simp only [readAt_sq, readAt_col, readAt_all, readAt_blk _ _ _ 0 o4, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
    subst hS
    rfl
  · iexists _; isplitr; swap; · iexact H17
    ipureintro
    refine (read_writes_blk1 _ _ _ _ 0 o4).trans ?_
    simp only [readAt_sq, readAt_col, readAt_all, readAt_blk _ _ _ 0 o4, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
    subst hS
    rfl

end AttnBwd

end
-- ==== Proof.RunB.lean ====
/- The kernel's body at a block of queries that is neither the first nor the last: the run from what the point finds to what it leaves, the values named. -/
module

public import proofs.«01_k».proof.Proof.Later
public import proofs.«01_k».proof.Proof.RunA
public import Idealize.ShloMosaic.Lib.Pipeline.FrameBody
public import Idealize.ShloMosaic.Lib.Tactic.Stretches

@[expose] public section

set_option maxRecDepth 16384

noncomputable section

namespace AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The run of the body at such a point. -/
theorem runB (c : Dev nD) (i : grid0.Coords) (arg2 : Memref sig .tc .smem S16x32 .i32) (harg2 : arg2.IsWhole) (arg3 : Memref sig .tc .vmem S256x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S256x128 .bf16) (harg6 : arg6.IsWhole) (arg7 : Memref sig .tc .vmem S1x256x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S8192x128 .bf16) (harg12 : arg12.IsWhole) (arg13 : Memref sig .tc .vmem S256x128 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S8192x128 .f32) (harg16 : arg16.IsWhole) (arg17 : Memref sig .tc .vmem S8192x128 .f32) (harg17 : arg17.IsWhole) (j : ℕ) (hb : (i 1).val = j + 1) (hj : j < 30)
    (f2 : BufTy.Contents (Elt F) arg2.view.ty)
    (hword : arg2.view.readAt (Elt F) (Rect.unit (s := S16x32) (k0_off1 i) S1x1.size (k0_off1_inb i)).toLoadRect f2 (Shape.Idx.first (numel1_S1x1.symm ▸ Nat.one_pos)) = word (i 1).val)
    (x3 : Vec F S256x128 .f32) (x4 : Vec F S8192x128 .f32) (x5 : Vec F S8192x128 .f32) (x6 : Vec F S256x128 .bf16) (x7 : Vec F S1x256x128 .f32) (x9 : Vec F S8192x128 .bf16) (x10 : Vec F S8192x128 .bf16) (x11 : Vec F S8192x128 .bf16) (x12 : Vec F S8192x128 .bf16) (x16 : Vec F S8192x128 .f32) (x17 : Vec F S8192x128 .f32) (E : Set ℕ) (K : _ → sProp 𝕄) :
    iprop((arg2.view.loc (c : Thread nD τ) ↦[arg2.view.set]{fullShare.right} f2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x16 ∗ owns (c : Thread nD τ) arg17 fullShare x17
        ∗ (iprop((arg2.view.loc (c : Thread nD τ) ↦[arg2.view.set]{fullShare.right} f2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (point (env x3 x6 x7 x11 x12) (j + 1) x16 x17).dq ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (point (env x3 x6 x7 x11 x12) (j + 1) x16 x17).dk ∗ owns (c : Thread nD τ) arg17 fullShare (point (env x3 x6 x7 x11 x12) (j + 1) x16 x17).dv) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hc2 : ¬ k0_cond2 i = 1#1 := fun h => by have := (cond2_iff i).mp h; omega
  have hc3 : k0_cond3 i = 1#1 := (cond3_iff i).mpr (by omega)
  have hc4 : ¬ k0_cond4 i = 1#1 := fun h => by have := (cond4_iff i).mp h; omega
  have o5 := off5_eq i j hb
  have o6 := off6_eq i
  have o4 := off4_eq i
  rw [hb] at o6 o4
  have ht : (i 1).val - 1 = j := by omega
  rw [cc0_attn_bwd_eq_skeleton]; unfold cc0_attn_bwd_skel
  iintro ⟨H2, H3, H4, H5, H6, H7, H8, H9, H10, H11, H12, H13, H14, H15, H16, H17, Hk⟩
  rw [wp_bind]
  iapply (open_later c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (by omega) f2 hword x3 x6 x7 E _)
  isplitl [H2]; · iexact H2
  isplitl [H3]; · iexact H3
  isplitl [H6]; · iexact H6
  isplitl [H7]; · iexact H7
  isplitl [H13]; · iexact H13
  isplitl [H14]; · iexact H14
  isplitl [H15]; · iexact H15
  iintro ⟨H2, H3, H6, H7, H13, H14, H15⟩
  dsimp only
  rw [wp_bind]
  iapply (loop_far c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay69 x3) x6 (k0_pay70 x7) _ x11 x12 k0_pay73 k0_pay74 k0_pay75 x16 x17 E _)
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H11, H12, H13, H14, H15, H16, H17⟩
  rw [wp_bind]
  iapply (loop_rest c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay69 x3) x6 (k0_pay70 x7) k0_pay72 _ E _)
  rw [ht]
  have hE : (⟨k0_pay69 x3, x6, k0_pay70 x7, x11, x12⟩ : Env F) = env x3 x6 x7 x11 x12 := rfl
  have hs : (⟨k0_pay73, k0_pay74, k0_pay75, x16, x17⟩ : Acc F) = start x16 x17 := rfl
  rw [hE, hs]
  generalize hS : fars (env x3 x6 x7 x11 x12) j (start x16 x17) = S
  simp only [k0_part4_eq_skeleton, k0_part5_eq_skeleton, k0_part6_eq_skeleton]; unfold k0_part4_skel k0_part5_skel k0_part6_skel
  unfold owns

  icases H3 with ⟨%f3, %e3, H3⟩
  icases H4 with ⟨%f4, %e4, H4⟩
  icases H5 with ⟨%f5, %e5, H5⟩
  icases H6 with ⟨%f6, %e6, H6⟩
  icases H7 with ⟨%f7, %e7, H7⟩
  icases H8 with ⟨%x8, %f8, %e8, H8⟩
  icases H9 with ⟨%f9, %e9, H9⟩
  icases H10 with ⟨%f10, %e10, H10⟩
  icases H11 with ⟨%f11, %e11, H11⟩
  icases H12 with ⟨%f12, %e12, H12⟩
  icases H13 with ⟨%f13, %e13, H13⟩
  icases H14 with ⟨%f14, %e14, H14⟩
  icases H15 with ⟨%f15, %e15, H15⟩
  icases H16 with ⟨%f16, %e16, H16⟩
  icases H17 with ⟨%f17, %e17, H17⟩
  obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg10.eq_unread e10; obtain rfl := harg11.eq_unread e11; obtain rfl := harg12.eq_unread e12; obtain rfl := harg13.eq_unread e13; obtain rfl := harg14.eq_unread e14; obtain rfl := harg15.eq_unread e15; obtain rfl := harg16.eq_unread e16; obtain rfl := harg17.eq_unread e17
  have q5 : k0_off5 i = ![256 * j, 0] := by rw [o5]; simp only [bOff, Nat.mod_eq_of_lt (show j < 32 by omega)]
  have q6 : k0_off6 i = ![256 * (j + 1), 0] := by rw [o6]; simp only [bOff, Nat.mod_eq_of_lt (show j + 1 < 32 by omega)]
  letI : ClosedOff (k0_off5 i) := ⟨![256 * j, 0], q5⟩
  letI : ClosedOff (k0_off6 i) := ⟨![256 * (j + 1), 0], q6⟩
  sl_exec (disch := first | sl_exact hc2 | sl_exact hc3 | sl_exact hc4)
  sl_step
  sl_open_run
  dsimp only

  iapply Hk
  isplitl [H2]
  · iexact H2
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    refine (read_writes_whole _ _ _ _ _).trans ?_
    simp only [readAt_sq, readAt_col, readAt_all, readAt_blk _ _ _ j o5, readAt_blk _ _ _ (j + 1) o6, readAt_blk _ _ _ (j + 1) o4, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, read_writes_blk1 _ _ _ _ j o5]
    subst hS
    rfl
  isplitl [H9]
  · iexists _; isplitr; swap; · iexact H9
    ipureintro
    exact harg9.read_unread _
  isplitl [H10]
  · iexists _; isplitr; swap; · iexact H10
    ipureintro
    exact harg10.read_unread _
  isplitl [H11]
  · iexists _; isplitr; swap; · iexact H11
    ipureintro
    exact harg11.read_unread _
  isplitl [H12]
  · iexists _; isplitr; swap; · iexact H12
    ipureintro
    exact harg12.read_unread _
  isplitl [H13]
  · iexists _, _; isplitr; swap; · iexact H13
    ipureintro
    rfl
  isplitl [H14]
  · iexists _, _; isplitr; swap; · iexact H14
    ipureintro
    rfl
  isplitl [H15]
  · iexists _, _; isplitr; swap; · iexact H15
    ipureintro
    rfl
  isplitl [H16]
  · iexists _; isplitr; swap; · iexact H16
    ipureintro
    refine (read_writes_blk _ _ _ _ _ (j + 1) o6).trans ?_
    simp only [readAt_sq, readAt_col, readAt_all, readAt_blk _ _ _ j o5, readAt_blk _ _ _ (j + 1) o6, readAt_blk _ _ _ (j + 1) o4, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, read_writes_blk1 _ _ _ _ j o5]
    subst hS
    have hj1 : j + 1 < 32 := by omega
    exact Eq.trans rfl (later_dk (F := F) (env x3 x6 x7 x11 x12) j hj1 (fars (env x3 x6 x7 x11 x12) j (start x16 x17))).symm
  · iexists _; isplitr; swap; · iexact H17
    ipureintro
    refine (read_writes_blk _ _ _ _ _ (j + 1) o6).trans ?_
    simp only [readAt_sq, readAt_col, readAt_all, readAt_blk _ _ _ j o5, readAt_blk _ _ _ (j + 1) o6, readAt_blk _ _ _ (j + 1) o4, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, read_writes_blk1 _ _ _ _ j o5]
    subst hS
    have hj1 : j + 1 < 32 := by omega
    exact Eq.trans rfl (later_dv (F := F) (env x3 x6 x7 x11 x12) j hj1 (fars (env x3 x6 x7 x11 x12) j (start x16 x17))).symm

end AttnBwd

end
-- ==== Proof.RunC.lean ====
/- The kernel's body at the last block of queries of a head: the run from what the point finds to what it leaves, the values named. -/
module

public import proofs.«01_k».proof.Proof.RunB
public import Idealize.ShloMosaic.Lib.Pipeline.FrameBody
public import Idealize.ShloMosaic.Lib.Tactic.Stretches

@[expose] public section

set_option maxRecDepth 16384

noncomputable section

namespace AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The run of the body at such a point. -/
theorem runC (c : Dev nD) (i : grid0.Coords) (arg2 : Memref sig .tc .smem S16x32 .i32) (harg2 : arg2.IsWhole) (arg3 : Memref sig .tc .vmem S256x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S256x128 .bf16) (harg6 : arg6.IsWhole) (arg7 : Memref sig .tc .vmem S1x256x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S8192x128 .bf16) (harg12 : arg12.IsWhole) (arg13 : Memref sig .tc .vmem S256x128 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S8192x128 .f32) (harg16 : arg16.IsWhole) (arg17 : Memref sig .tc .vmem S8192x128 .f32) (harg17 : arg17.IsWhole) (j : ℕ) (hb : (i 1).val = j + 1) (hj : j + 1 = 31)
    (f2 : BufTy.Contents (Elt F) arg2.view.ty)
    (hword : arg2.view.readAt (Elt F) (Rect.unit (s := S16x32) (k0_off1 i) S1x1.size (k0_off1_inb i)).toLoadRect f2 (Shape.Idx.first (numel1_S1x1.symm ▸ Nat.one_pos)) = word (i 1).val)
    (x3 : Vec F S256x128 .f32) (x4 : Vec F S8192x128 .f32) (x5 : Vec F S8192x128 .f32) (x6 : Vec F S256x128 .bf16) (x7 : Vec F S1x256x128 .f32) (x11 : Vec F S8192x128 .bf16) (x12 : Vec F S8192x128 .bf16) (x16 : Vec F S8192x128 .f32) (x17 : Vec F S8192x128 .f32) (E : Set ℕ) (K : _ → sProp 𝕄) :
    iprop((arg2.view.loc (c : Thread nD τ) ↦[arg2.view.set]{fullShare.right} f2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x16 ∗ owns (c : Thread nD τ) arg17 fullShare x17
        ∗ (iprop((arg2.view.loc (c : Thread nD τ) ↦[arg2.view.set]{fullShare.right} f2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (point (env x3 x6 x7 x11 x12) (j + 1) x16 x17).dq ∗ owns (c : Thread nD τ) arg9 fullShare (k0_pay19 (point (env x3 x6 x7 x11 x12) (j + 1) x16 x17).dk) ∗ owns (c : Thread nD τ) arg10 fullShare (k0_pay20 (point (env x3 x6 x7 x11 x12) (j + 1) x16 x17).dv) ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (point (env x3 x6 x7 x11 x12) (j + 1) x16 x17).dk ∗ owns (c : Thread nD τ) arg17 fullShare (point (env x3 x6 x7 x11 x12) (j + 1) x16 x17).dv) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hc2 : ¬ k0_cond2 i = 1#1 := fun h => by have := (cond2_iff i).mp h; omega
  have hc3 : k0_cond3 i = 1#1 := (cond3_iff i).mpr (by omega)
  have hc4 : k0_cond4 i = 1#1 := (cond4_iff i).mpr (by omega)
  have o5 := off5_eq i j hb
  have o6 := off6_eq i
  have o4 := off4_eq i
  rw [hb] at o6 o4
  have ht : (i 1).val - 1 = j := by omega
  rw [cc0_attn_bwd_eq_skeleton]; unfold cc0_attn_bwd_skel
  iintro ⟨H2, H3, H4, H5, H6, H7, H8, H9, H10, H11, H12, H13, H14, H15, H16, H17, Hk⟩
  rw [wp_bind]
  iapply (open_later c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (by omega) f2 hword x3 x6 x7 E _)
  isplitl [H2]; · iexact H2
  isplitl [H3]; · iexact H3
  isplitl [H6]; · iexact H6
  isplitl [H7]; · iexact H7
  isplitl [H13]; · iexact H13
  isplitl [H14]; · iexact H14
  isplitl [H15]; · iexact H15
  iintro ⟨H2, H3, H6, H7, H13, H14, H15⟩
  dsimp only
  rw [wp_bind]
  iapply (loop_far c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay69 x3) x6 (k0_pay70 x7) _ x11 x12 k0_pay73 k0_pay74 k0_pay75 x16 x17 E _)
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H11, H12, H13, H14, H15, H16, H17⟩
  rw [wp_bind]
  iapply (loop_rest c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay69 x3) x6 (k0_pay70 x7) k0_pay72 _ E _)
  rw [ht]
  have hE : (⟨k0_pay69 x3, x6, k0_pay70 x7, x11, x12⟩ : Env F) = env x3 x6 x7 x11 x12 := rfl
  have hs : (⟨k0_pay73, k0_pay74, k0_pay75, x16, x17⟩ : Acc F) = start x16 x17 := rfl
  rw [hE, hs]
  generalize hS : fars (env x3 x6 x7 x11 x12) j (start x16 x17) = S
  simp only [k0_part4_eq_skeleton, k0_part5_eq_skeleton, k0_part6_eq_skeleton]; unfold k0_part4_skel k0_part5_skel k0_part6_skel
  unfold owns

  icases H3 with ⟨%f3, %e3, H3⟩
  icases H4 with ⟨%f4, %e4, H4⟩
  icases H5 with ⟨%f5, %e5, H5⟩
  icases H6 with ⟨%f6, %e6, H6⟩
  icases H7 with ⟨%f7, %e7, H7⟩
  icases H8 with ⟨%x8, %f8, %e8, H8⟩
  icases H9 with ⟨%x9, %f9, %e9, H9⟩
  icases H10 with ⟨%x10, %f10, %e10, H10⟩
  icases H11 with ⟨%f11, %e11, H11⟩
  icases H12 with ⟨%f12, %e12, H12⟩
  icases H13 with ⟨%f13, %e13, H13⟩
  icases H14 with ⟨%f14, %e14, H14⟩
  icases H15 with ⟨%f15, %e15, H15⟩
  icases H16 with ⟨%f16, %e16, H16⟩
  icases H17 with ⟨%f17, %e17, H17⟩
  obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg10.eq_unread e10; obtain rfl := harg11.eq_unread e11; obtain rfl := harg12.eq_unread e12; obtain rfl := harg13.eq_unread e13; obtain rfl := harg14.eq_unread e14; obtain rfl := harg15.eq_unread e15; obtain rfl := harg16.eq_unread e16; obtain rfl := harg17.eq_unread e17
  have q5 : k0_off5 i = ![256 * j, 0] := by rw [o5]; simp only [bOff, Nat.mod_eq_of_lt (show j < 32 by omega)]
  have q6 : k0_off6 i = ![256 * (j + 1), 0] := by rw [o6]; simp only [bOff, Nat.mod_eq_of_lt (show j + 1 < 32 by omega)]
  letI : ClosedOff (k0_off5 i) := ⟨![256 * j, 0], q5⟩
  letI : ClosedOff (k0_off6 i) := ⟨![256 * (j + 1), 0], q6⟩
  sl_exec (disch := first | sl_exact hc2 | sl_exact hc3 | sl_exact hc4)
  sl_step
  sl_open_run
  dsimp only

  iapply Hk
  isplitl [H2]
  · iexact H2
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    refine (read_writes_whole _ _ _ _ _).trans ?_
    simp only [readAt_sq, readAt_col, readAt_all, readAt_blk _ _ _ j o5, readAt_blk _ _ _ (j + 1) o6, readAt_blk _ _ _ (j + 1) o4, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, read_writes_blk1 _ _ _ _ j o5]
    subst hS
    rfl
  isplitl [H9]
  · iexists _; isplitr; swap; · iexact H9
    ipureintro
    refine (read_writes_whole _ _ _ _ _).trans ?_
    refine congrArg (k0_pay19 (F := F)) ?_
    rw [readAt_all]
    refine (read_writes_blk _ _ _ _ _ (j + 1) o6).trans ?_
    simp only [readAt_sq, readAt_col, readAt_all, readAt_blk _ _ _ j o5, readAt_blk _ _ _ (j + 1) o6, readAt_blk _ _ _ (j + 1) o4, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, read_writes_blk1 _ _ _ _ j o5]
    subst hS
    have hj1 : j + 1 < 32 := by omega
    exact Eq.trans rfl (later_dk (F := F) (env x3 x6 x7 x11 x12) j hj1 (fars (env x3 x6 x7 x11 x12) j (start x16 x17))).symm
  isplitl [H10]
  · iexists _; isplitr; swap; · iexact H10
    ipureintro
    refine (read_writes_whole _ _ _ _ _).trans ?_
    refine congrArg (k0_pay20 (F := F)) ?_
    rw [readAt_all]
    refine (read_writes_blk _ _ _ _ _ (j + 1) o6).trans ?_
    simp only [readAt_sq, readAt_col, readAt_all, readAt_blk _ _ _ j o5, readAt_blk _ _ _ (j + 1) o6, readAt_blk _ _ _ (j + 1) o4, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, read_writes_blk1 _ _ _ _ j o5]
    subst hS
    have hj1 : j + 1 < 32 := by omega
    exact Eq.trans rfl (later_dv (F := F) (env x3 x6 x7 x11 x12) j hj1 (fars (env x3 x6 x7 x11 x12) j (start x16 x17))).symm
  isplitl [H11]
  · iexists _; isplitr; swap; · iexact H11
    ipureintro
    exact harg11.read_unread _
  isplitl [H12]
  · iexists _; isplitr; swap; · iexact H12
    ipureintro
    exact harg12.read_unread _
  isplitl [H13]
  · iexists _, _; isplitr; swap; · iexact H13
    ipureintro
    rfl
  isplitl [H14]
  · iexists _, _; isplitr; swap; · iexact H14
    ipureintro
    rfl
  isplitl [H15]
  · iexists _, _; isplitr; swap; · iexact H15
    ipureintro
    rfl
  isplitl [H16]
  · iexists _; isplitr; swap; · iexact H16
    ipureintro
    refine (read_writes_blk _ _ _ _ _ (j + 1) o6).trans ?_
    simp only [readAt_sq, readAt_col, readAt_all, readAt_blk _ _ _ j o5, readAt_blk _ _ _ (j + 1) o6, readAt_blk _ _ _ (j + 1) o4, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, read_writes_blk1 _ _ _ _ j o5]
    subst hS
    have hj1 : j + 1 < 32 := by omega
    exact Eq.trans rfl (later_dk (F := F) (env x3 x6 x7 x11 x12) j hj1 (fars (env x3 x6 x7 x11 x12) j (start x16 x17))).symm
  · iexists _; isplitr; swap; · iexact H17
    ipureintro
    refine (read_writes_blk _ _ _ _ _ (j + 1) o6).trans ?_
    simp only [readAt_sq, readAt_col, readAt_all, readAt_blk _ _ _ j o5, readAt_blk _ _ _ (j + 1) o6, readAt_blk _ _ _ (j + 1) o4, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, read_writes_blk1 _ _ _ _ j o5]
    subst hS
    have hj1 : j + 1 < 32 := by omega
    exact Eq.trans rfl (later_dv (F := F) (env x3 x6 x7 x11 x12) j hj1 (fars (env x3 x6 x7 x11 x12) j (start x16 x17))).symm

end AttnBwd

end
-- ==== Proof.Points.lean ====
/- What surrounds the body at a grid point: the buffers as the pipeline finds them after the host operations, the table of
   block counts among them, the windows' blocks and the points at which the gradients of keys and values are written back. -/
module

public import proofs.«01_k».proof.Proof.RunC
public import Idealize.ShloMosaic.Lib.Pipeline.Kit
public import Idealize.ShloMosaic.Lib.Pipeline.Frame
public import Idealize.ShloMosaic.Lib.Claim
public import Idealize.ShloMosaic.Lib.StableHlo.Run

@[expose] public section

set_option maxRecDepth 16384

noncomputable section

namespace AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-! ## The table -/

/-- The table of block counts the host builds: `b + 1` at query block `b` of every head. -/
def counts : main_v33.ty.Contents (Elt F) :=
  broadcastInDim S16x32 ![1] bcast_S32_S16x32_1 (addi (iotaInDim S32 32 0) (broadcastInDim S32 ![] bcast_S_S32 (constantI S_ 32 1#32)))

/-- The prefetched tables' contents, of which the counts are the only one. -/
def tables : pre0.Contents (Elt F) := fun
  | 0 => counts
  | ⟨_ + 1, h⟩ => absurd h (Nat.not_lt.2 (Nat.le_add_left _ _))

/-- They meet the windows' side condition, which reads no table. -/
def adm0 : (pcfg0 (F := F)).Adm := ⟨tables, trivial⟩

abbrev adm : (p : Fin 1) → (pcfgs (F := F) p).Adm := fun _ => adm0

theorem off1_idx : ∀ b : Fin 32, (Scalar.indexCast (BitVec.ofNat 32 b.val)).toNat = b.val := by decide

theorem word_eq : ∀ b : Fin 32, BitVec.ofNat 32 (b.val + 0 * 1) + 1#32 = word b.val := by decide

/-- The word the body reads at a point. -/
theorem counts_word (i : grid0.Coords) :
    (Memref.whole main_v33).view.readAt (Elt F) (Rect.unit (s := S16x32) (k0_off1 i) S1x1.size (k0_off1_inb i)).toLoadRect (counts (F := F))
      (Shape.Idx.first (numel1_S1x1.symm ▸ Nat.one_pos)) = word (i 1).val := by
  have h : (k0_off1 i) 1 = (i 1).val := off1_idx ⟨(i 1).val, i1_lt i⟩
  show BitVec.ofNat 32 ((k0_off1 i) 1 + 0 * 1) + 1#32 = word (i 1).val
  rw [h]
  exact word_eq ⟨(i 1).val, i1_lt i⟩

variable (m : (ℓ : Loc nD τ sig) → Buf (Elt F) ℓ) (ρ : Dev nD → PrngReg)

/-- Core `c`'s buffers when the pipeline starts: after the host operations. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

theorem V_counts (c : Dev nD) : V m c main_v33 = counts := by
  unfold_abbrev_sides
  after_results_simp
  rfl

set_option maxHeartbeats 800000 in
/-- The host program is these operations and then the pipeline. -/
theorem host_run (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ops_fresh main_chain

/-- No host operation writes an argument. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

/-! ## The schedule -/

/-- The pipeline at the table. -/
abbrev cfgA : Pipeline.Cfg sig Λ₀ := cfg0 (F := F) adm0

/-- The query block of a point. -/
theorem coord1 (t : Fin grid0.N) : (grid0.coords t 1).val = t.val % 32 := by
  have h : (grid0.coords t 1).val = t.val / 1 % 32 := Pipeline.Grid.coords_val t 1 (by decide) rfl
  rw [h, Nat.div_one]

/-- The head of a point. -/
theorem coord0 (t : Fin grid0.N) : (grid0.coords t 0).val = t.val / 32 := by
  have h : (grid0.coords t 0).val = t.val / 32 % 16 := Pipeline.Grid.coords_val t 0 (by decide) rfl
  have ht : t.val < 512 := lt_of_lt_of_eq t.isLt N_0
  rw [h, Nat.mod_eq_of_lt (by omega)]

/-- The gradients of keys and values are written back after a head's last block of queries. -/
theorem flush6 : ∀ t : Fin cfgA.N, ((cfgA (F := F)).win 6).flush t = true ↔ t.val % 32 = 31 :=
  (fun t => Pipeline.Window.flush_reads ((win0 (F := F) adm0) 6) rfl 0 (by decide) (by decide : grid0.fixedAfter reads0_6 0 = true) (Pipeline.Window.sep_of_coord cc0_transform_6 0 1 (fun _ => rfl) (by decide)) (P := 32) (m := 31) (by decide) rfl t)
theorem flush7 : ∀ t : Fin cfgA.N, ((cfgA (F := F)).win 7).flush t = true ↔ t.val % 32 = 31 :=
  (fun t => Pipeline.Window.flush_reads ((win0 (F := F) adm0) 7) rfl 0 (by decide) (by decide : grid0.fixedAfter reads0_7 0 = true) (Pipeline.Window.sep_of_coord cc0_transform_7 0 1 (fun _ => rfl) (by decide)) (P := 32) (m := 31) (by decide) rfl t)

/-! ## The windows' blocks -/

/-- Window `w`'s block at point `t`. -/
def iblk (c : Dev nD) (w : Fin 8) (t : Fin grid0.N) : (((cfgA (F := F)).win w).xblock (grid0.coords t)).Idx → Elt F ((cfgA (F := F)).win w).elt :=
  (((cfgA (F := F)).win w).blk t).view.read (Elt F) (V m c (Pipeline.arrRef spec0 w))

/-- The blocks of queries, keys, values, incoming gradient and row totals at a point. -/
abbrev qB (c : Dev nD) (t : Fin grid0.N) : Vec F S256x128 .f32 := iblk m c 0 t
abbrev kB (c : Dev nD) (t : Fin grid0.N) : Vec F S8192x128 .f32 := iblk m c 1 t
abbrev vB (c : Dev nD) (t : Fin grid0.N) : Vec F S8192x128 .f32 := iblk m c 2 t
abbrev gB (c : Dev nD) (t : Fin grid0.N) : Vec F S256x128 .bf16 := iblk m c 3 t
abbrev totB (c : Dev nD) (t : Fin grid0.N) : Vec F S1x256x128 .f32 := iblk m c 4 t

/-- An input window's staging buffer holds its block at every point. -/
theorem before0_of {c : Dev nD} (dat : Dat τ (Elt F) Unit ℕ (UR sig nD τ) ℕ (cfgA (F := F)) c) (hA : dat.A 0 = V m c (Pipeline.arrRef spec0 0))
    (hafter : ∀ t, dat.after 0 t = iblk m c 0 t) (t : Fin grid0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

end AttnBwd

end
-- ==== Proof.Frame.lean ====
/- The run of the whole kernel: what the sums hold after every grid point, the body's obligation from its three runs, the
   pipeline's run with its results named, and the argument arrays unchanged. -/
module

public import proofs.«01_k».proof.Proof.Points

@[expose] public section

set_option maxRecDepth 16384

noncomputable section

namespace AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What a point leaves -/

/-- What a point leaves: the copies of keys and values, the sums of their gradients, and the block's gradient of the queries. -/
structure Left (F : FTy → Type) where
  kb : Vec F S8192x128 .bf16
  vb : Vec F S8192x128 .bf16
  dk : Vec F S8192x128 .f32
  dv : Vec F S8192x128 .f32
  dq : Vec F S256x128 .bf16

/-- What the body leaves at a head's first block of queries. -/
def openAt (c : Dev nD) (t : Fin grid0.N) : Left F :=
  let o := point (env (qB m c t) (gB m c t) (totB m c t) (k0_pay65 (kB m c t)) (k0_pay66 (vB m c t))) 0 k0_pay67 k0_pay68
  ⟨k0_pay65 (kB m c t), k0_pay66 (vB m c t), o.dk, o.dv, o.dq⟩

/-- What it leaves at a later block, from what the block before left. -/
def goOn (c : Dev nD) (t : Fin grid0.N) (s : Left F) : Left F :=
  let o := point (env (qB m c t) (gB m c t) (totB m c t) s.kb s.vb) (t.val % 32) s.dk s.dv
  ⟨s.kb, s.vb, o.dk, o.dv, o.dq⟩

/-- What is left after point `n`. -/
def stateAt (c : Dev nD) : (n : ℕ) → n < grid0.N → Left F
  | 0, hn => openAt m c ⟨0, hn⟩
  | n + 1, hn => if (n + 1) % 32 = 0 then openAt m c ⟨n + 1, hn⟩ else goOn m c ⟨n + 1, hn⟩ (stateAt c n (Nat.lt_of_succ_lt hn))

theorem stateAt_open (c : Dev nD) (n : ℕ) (hn : n < grid0.N) (h : n % 32 = 0) : stateAt m c n hn = openAt m c ⟨n, hn⟩ := by
  cases n with
  | zero => rfl
  | succ n => exact if_pos h

theorem stateAt_next (c : Dev nD) (n : ℕ) (hn : n < grid0.N) (h : ¬ n % 32 = 0) :
    stateAt m c n hn = goOn m c ⟨n, hn⟩ (stateAt m c (n - 1) (Nat.lt_of_le_of_lt (Nat.sub_le _ _) hn)) := by
  cases n with
  | zero => exact absurd rfl h
  | succ n => exact if_neg h

/-! ## The invariant between points -/

theorem prefHeld_one (c : Dev nD) :
    (Pipeline.prefHeld pre0 c (fun _ => fullShare.right) (tables (F := F)) : sProp 𝕄) = ((c : Thread nD τ).loc main_v33 ↦{fullShare.right} (counts (F := F))) := by
  unfold Pipeline.prefHeld
  rw [show (Finset.univ : Finset (Fin 1)) = {0} from rfl, bigSep_singleton]
  rfl

theorem scratch_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- Before point `n`: the table, and the scratch buffers, after the first point those it carries at what the point before left. -/
def PhiS (c : Dev nD) : (n : ℕ) → n ≤ grid0.N → sProp 𝕄
  | 0, _ => iprop(Pipeline.ΦA spec0 c ∗ ((c : Thread nD τ).loc main_v33 ↦{fullShare.right} (counts (F := F))))
  | n + 1, hn => iprop(((owns (c : Thread nD τ) (Memref.whole cc0_scratch0) fullShare (stateAt m c n hn).kb ∗ owns (c : Thread nD τ) (Memref.whole cc0_scratch1) fullShare (stateAt m c n hn).vb ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ owns (c : Thread nD τ) (Memref.whole cc0_scratch5) fullShare (stateAt m c n hn).dk ∗ owns (c : Thread nD τ) (Memref.whole cc0_scratch6) fullShare (stateAt m c n hn).dv) ∗ (∃ r, prngReg c r)) ∗ ((c : Thread nD τ).loc main_v33 ↦{fullShare.right} (counts (F := F))))

theorem PhiS_succ (c : Dev nD) (n : ℕ) (hn : n < grid0.N) :
    PhiS m c (n + 1) hn = iprop(((owns (c : Thread nD τ) (Memref.whole cc0_scratch0) fullShare (stateAt m c n hn).kb ∗ owns (c : Thread nD τ) (Memref.whole cc0_scratch1) fullShare (stateAt m c n hn).vb ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ owns (c : Thread nD τ) (Memref.whole cc0_scratch5) fullShare (stateAt m c n hn).dk ∗ owns (c : Thread nD τ) (Memref.whole cc0_scratch6) fullShare (stateAt m c n hn).dv) ∗ (∃ r, prngReg c r)) ∗ ((c : Thread nD τ).loc main_v33 ↦{fullShare.right} (counts (F := F)))) := rfl

theorem PhiS_pos (c : Dev nD) (n : ℕ) (h : n ≤ grid0.N) (hz : n ≠ 0) :
    PhiS m c n h = iprop(((owns (c : Thread nD τ) (Memref.whole cc0_scratch0) fullShare (stateAt m c (n - 1) (by omega)).kb ∗ owns (c : Thread nD τ) (Memref.whole cc0_scratch1) fullShare (stateAt m c (n - 1) (by omega)).vb ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ owns (c : Thread nD τ) (Memref.whole cc0_scratch5) fullShare (stateAt m c (n - 1) (by omega)).dk ∗ owns (c : Thread nD τ) (Memref.whole cc0_scratch6) fullShare (stateAt m c (n - 1) (by omega)).dv) ∗ (∃ r, prngReg c r)) ∗ ((c : Thread nD τ).loc main_v33 ↦{fullShare.right} (counts (F := F)))) := by
  cases n with
  | zero => exact absurd rfl hz
  | succ n => rfl

/-- Whatever the point, the scratch buffers hold something. -/
theorem PhiS_free (c : Dev nD) (n : ℕ) (h : n ≤ grid0.N) :
    PhiS m c n h ⊢ iprop((((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) ∗ ((c : Thread nD τ).loc main_v33 ↦{fullShare.right} (counts (F := F)))) := by
  cases n with
  | zero =>
    show iprop(Pipeline.ΦA spec0 c ∗ ((c : Thread nD τ).loc main_v33 ↦{fullShare.right} (counts (F := F)))) ⊢ _
    rw [scratch_eq]
  | succ n =>
    rw [PhiS_succ m c n h]
    iintro ⟨⟨⟨H0, H1, H2, H3, H4, H5, H6⟩, Hg⟩, Ht⟩
    isplitl [H0 H1 H2 H3 H4 H5 H6 Hg]
    · isplitl [H0 H1 H2 H3 H4 H5 H6]
      · isplitl [H0]; · iexists _; iexact H0
        isplitl [H1]; · iexists _; iexact H1
        isplitl [H2]; · iexact H2
        isplitl [H3]; · iexact H3
        isplitl [H4]; · iexact H4
        isplitl [H5]; · iexists _; iexact H5
        iexists _; iexact H6
      iexact Hg
    iexact Ht

/-! ## The pipeline's data -/

/-- What the pipeline's run is stated with: every input's buffer keeps its block, the outputs hold what the point leaves. -/
def dats (_ : Fin 1) (c : Dev nD) : Dat τ (Elt F) Unit ℕ (UR sig nD τ) ℕ (cfgA (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stateAt m c t.val t.isLt).dq
    | ⟨6, _⟩ => k0_pay19 (stateAt m c t.val t.isLt).dk
    | ⟨7, _⟩ => k0_pay20 (stateAt m c t.val t.isLt).dv
  Φ t := PhiS m c t.val (Nat.le_of_lt_succ t.isLt)
  q := Pipeline.shareOf spec0
  owed _ := 0

theorem A_eq (c : Dev nD) (w : Fin 8) : (dats m 0 c).A w = V m c (Pipeline.arrRef spec0 w) := by dsimp only [dats]

theorem Phi_castSucc (c : Dev nD) (t : Fin grid0.N) : (dats m 0 c).Φ t.castSucc = PhiS m c t.val (Nat.le_of_lt t.isLt) := by
  dsimp only [dats]; exact Pipeline.Dat.Φ_castSucc (PhiS m c) t

theorem after0 (c : Dev nD) (t : Fin grid0.N) : (dats m 0 c).after 0 t = iblk m c 0 t := by dsimp only [dats] <;> rfl
theorem after1 (c : Dev nD) (t : Fin grid0.N) : (dats m 0 c).after 1 t = iblk m c 1 t := by dsimp only [dats] <;> rfl
theorem after2 (c : Dev nD) (t : Fin grid0.N) : (dats m 0 c).after 2 t = iblk m c 2 t := by dsimp only [dats] <;> rfl
theorem after3 (c : Dev nD) (t : Fin grid0.N) : (dats m 0 c).after 3 t = iblk m c 3 t := by dsimp only [dats] <;> rfl
theorem after4 (c : Dev nD) (t : Fin grid0.N) : (dats m 0 c).after 4 t = iblk m c 4 t := by dsimp only [dats] <;> rfl
theorem after5 (c : Dev nD) (t : Fin grid0.N) : (dats m 0 c).after 5 t = (stateAt m c t.val t.isLt).dq := by dsimp only [dats] <;> rfl
theorem after6 (c : Dev nD) (t : Fin grid0.N) : (dats m 0 c).after 6 t = k0_pay19 (stateAt m c t.val t.isLt).dk := by dsimp only [dats] <;> rfl
theorem after7 (c : Dev nD) (t : Fin grid0.N) : (dats m 0 c).after 7 t = k0_pay20 (stateAt m c t.val t.isLt).dv := by dsimp only [dats] <;> rfl

theorem before0 (c : Dev nD) (t : Fin grid0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin grid0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin grid0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin grid0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin grid0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ## The body at any point -/

/-- The body as the pipeline calls it at a point. -/
abbrev bodyAt (t : Fin grid0.N) : Prog (TpuEff nD τ sig (Elt F) Λ₀ .tc) PUnit :=
  cc0_attn_bwd (grid0.coords t) (Memref.whole main_v33) (Memref.isWhole_whole _) (spec0_0.stage ((cfgA (F := F)).slots t 0)) (hstage0_0 (((cfgA (F := F)).slots t 0).cast nbuf0_0)) (spec0_1.stage ((cfgA (F := F)).slots t 1)) (hstage0_1 (((cfgA (F := F)).slots t 1).cast nbuf0_1)) (spec0_2.stage ((cfgA (F := F)).slots t 2)) (hstage0_2 (((cfgA (F := F)).slots t 2).cast nbuf0_2)) (spec0_3.stage ((cfgA (F := F)).slots t 3)) (hstage0_3 (((cfgA (F := F)).slots t 3).cast nbuf0_3)) (spec0_4.stage ((cfgA (F := F)).slots t 4)) (hstage0_4 (((cfgA (F := F)).slots t 4).cast nbuf0_4)) (spec0_5.stage ((cfgA (F := F)).slots t 5)) (hstage0_5 (((cfgA (F := F)).slots t 5).cast nbuf0_5)) (spec0_6.stage ((cfgA (F := F)).slots t 6)) (hstage0_6 (((cfgA (F := F)).slots t 6).cast nbuf0_6)) (spec0_7.stage ((cfgA (F := F)).slots t 7)) (hstage0_7 (((cfgA (F := F)).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)

/-- What the body is called with, -/
def bodyPre (c : Dev nD) (t : Fin grid0.N) : sProp 𝕄 :=
  iprop((dats m 0 c).Φ t.castSucc ∗ (dats m 0 c).owesAt () t.castSucc
    ∗ (∃ d, owns (c : Thread nD τ) (spec0_0.stage ((cfgA (F := F)).slots t 0)) fullShare ((dats m 0 c).before 0 t d))
    ∗ (∃ d, owns (c : Thread nD τ) (spec0_1.stage ((cfgA (F := F)).slots t 1)) fullShare ((dats m 0 c).before 1 t d))
    ∗ (∃ d, owns (c : Thread nD τ) (spec0_2.stage ((cfgA (F := F)).slots t 2)) fullShare ((dats m 0 c).before 2 t d))
    ∗ (∃ d, owns (c : Thread nD τ) (spec0_3.stage ((cfgA (F := F)).slots t 3)) fullShare ((dats m 0 c).before 3 t d))
    ∗ (∃ d, owns (c : Thread nD τ) (spec0_4.stage ((cfgA (F := F)).slots t 4)) fullShare ((dats m 0 c).before 4 t d))
    ∗ (∃ d, owns (c : Thread nD τ) (spec0_5.stage ((cfgA (F := F)).slots t 5)) fullShare ((dats m 0 c).before 5 t d))
    ∗ (∃ d, owns (c : Thread nD τ) (spec0_6.stage ((cfgA (F := F)).slots t 6)) fullShare ((dats m 0 c).before 6 t d))
    ∗ (∃ d, owns (c : Thread nD τ) (spec0_7.stage ((cfgA (F := F)).slots t 7)) fullShare ((dats m 0 c).before 7 t d)))

/-- and what it returns. -/
def bodyPost (c : Dev nD) (t : Fin grid0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0 (c : Dev nD) (t : Fin grid0.N) : (dats m 0 c).leavesExact 0 t = owns (c : Thread nD τ) (spec0_0.stage ((cfgA (F := F)).slots t 0)) fullShare (iblk m c 0 t) := by
  unfold Dat.leavesExact; rw [show (cfgA (F := F)).idle 0 ((cfgA (F := F)).grid.coords t) = false from rfl, after0] <;> rfl
theorem leaves1 (c : Dev nD) (t : Fin grid0.N) : (dats m 0 c).leavesExact 1 t = owns (c : Thread nD τ) (spec0_1.stage ((cfgA (F := F)).slots t 1)) fullShare (iblk m c 1 t) := by
  unfold Dat.leavesExact; rw [show (cfgA (F := F)).idle 1 ((cfgA (F := F)).grid.coords t) = false from rfl, after1] <;> rfl
theorem leaves2 (c : Dev nD) (t : Fin grid0.N) : (dats m 0 c).leavesExact 2 t = owns (c : Thread nD τ) (spec0_2.stage ((cfgA (F := F)).slots t 2)) fullShare (iblk m c 2 t) := by
  unfold Dat.leavesExact; rw [show (cfgA (F := F)).idle 2 ((cfgA (F := F)).grid.coords t) = false from rfl, after2] <;> rfl
theorem leaves3 (c : Dev nD) (t : Fin grid0.N) : (dats m 0 c).leavesExact 3 t = owns (c : Thread nD τ) (spec0_3.stage ((cfgA (F := F)).slots t 3)) fullShare (iblk m c 3 t) := by
  unfold Dat.leavesExact; rw [show (cfgA (F := F)).idle 3 ((cfgA (F := F)).grid.coords t) = false from rfl, after3] <;> rfl
theorem leaves4 (c : Dev nD) (t : Fin grid0.N) : (dats m 0 c).leavesExact 4 t = owns (c : Thread nD τ) (spec0_4.stage ((cfgA (F := F)).slots t 4)) fullShare (iblk m c 4 t) := by
  unfold Dat.leavesExact; rw [show (cfgA (F := F)).idle 4 ((cfgA (F := F)).grid.coords t) = false from rfl, after4] <;> rfl

/-- The queries' gradient is stored at every point, -/
theorem live5 (t : Fin grid0.N) : (cfgA (F := F)).idle 5 ((cfgA (F := F)).grid.coords t) = false := by
  show (!(k0_cond2 (grid0.coords t) == 1#1) && !(k0_cond3 (grid0.coords t) == 1#1)) = false
  by_cases h : (grid0.coords t 1).val = 0
  · rw [(cond2_iff _).mpr h]; rfl
  · rw [(cond3_iff _).mpr h]; exact Bool.and_false _

theorem leaves5 (c : Dev nD) (t : Fin grid0.N) : (dats m 0 c).leavesExact 5 t = owns (c : Thread nD τ) (spec0_5.stage ((cfgA (F := F)).slots t 5)) fullShare (stateAt m c t.val t.isLt).dq := by
  unfold Dat.leavesExact; rw [live5, after5] <;> rfl

/-- those of keys and values only at a head's last block. -/
theorem idle_last (t : Fin grid0.N) (h : t.val % 32 = 31) : (!(k0_cond4 (grid0.coords t) == 1#1)) = false := by
  rw [(cond4_iff _).mpr ((coord1 t).trans h)]; rfl

theorem idle_else (t : Fin grid0.N) (h : ¬ t.val % 32 = 31) : (!(k0_cond4 (grid0.coords t) == 1#1)) = true := by
  have h' : ¬ k0_cond4 (grid0.coords t) = 1#1 := fun e => h ((coord1 t).symm.trans ((cond4_iff _).mp e))
  rw [beq_eq_false_iff_ne.mpr h']; rfl

theorem leaves6_last (c : Dev nD) (t : Fin grid0.N) (h : t.val % 32 = 31) :
    (dats m 0 c).leavesExact 6 t = owns (c : Thread nD τ) (spec0_6.stage ((cfgA (F := F)).slots t 6)) fullShare (k0_pay19 (stateAt m c t.val t.isLt).dk) := by
  unfold Dat.leavesExact
  rw [show (cfgA (F := F)).idle 6 ((cfgA (F := F)).grid.coords t) = false from idle_last t h, after6] <;> rfl

theorem leaves6_else (c : Dev nD) (t : Fin grid0.N) (h : ¬ t.val % 32 = 31) :
    (dats m 0 c).leavesExact 6 t = iprop(∃ d, owns (c : Thread nD τ) (spec0_6.stage ((cfgA (F := F)).slots t 6)) fullShare ((dats m 0 c).before 6 t d)) :=
  (dats m 0 c).leavesExact_idle 6 t (idle_else t h) (by
    have := flush6 (F := F) t
    rw [← Bool.not_eq_true]; exact fun e => h (this.mp e))

theorem leaves7_last (c : Dev nD) (t : Fin grid0.N) (h : t.val % 32 = 31) :
    (dats m 0 c).leavesExact 7 t = owns (c : Thread nD τ) (spec0_7.stage ((cfgA (F := F)).slots t 7)) fullShare (k0_pay20 (stateAt m c t.val t.isLt).dv) := by
  unfold Dat.leavesExact
  rw [show (cfgA (F := F)).idle 7 ((cfgA (F := F)).grid.coords t) = false from idle_last t h, after7] <;> rfl

theorem leaves7_else (c : Dev nD) (t : Fin grid0.N) (h : ¬ t.val % 32 = 31) :
    (dats m 0 c).leavesExact 7 t = iprop(∃ d, owns (c : Thread nD τ) (spec0_7.stage ((cfgA (F := F)).slots t 7)) fullShare ((dats m 0 c).before 7 t d)) :=
  (dats m 0 c).leavesExact_idle 7 t (idle_else t h) (by
    have := flush7 (F := F) t
    rw [← Bool.not_eq_true]; exact fun e => h (this.mp e))

set_option maxHeartbeats 2000000 in
theorem body_first (c : Dev nD) (t : Fin grid0.N) (h : t.val % 32 = 0) :
    bodyPre m c t ⊢ wp frame (wpE (defs₀ (F := F)) Variants.none c none) Set.univ (bodyAt t) (fun _ => bodyPost m c t) := by
  have hb : (grid0.coords t 1).val = 0 := (coord1 t).trans h
  have hl : ¬ t.val % 32 = 31 := by omega
  unfold bodyPre bodyPost bodyAt
  simp only [before0, before1, before2, before3, before4]
  rw [show (dats m 0 c).owesAt () t.succ = (dats m 0 c).owesAt () t.castSucc from rfl,
    show (dats m 0 c).Φ t.succ = PhiS m c (t.val + 1) t.isLt from rfl, PhiS_succ, Phi_castSucc,
    leaves0, leaves1, leaves2, leaves3, leaves4, leaves5, leaves6_else m c t hl, leaves7_else m c t hl, stateAt_open m c t.val t.isLt h]
  unfold openAt; dsimp only
  iintro ⟨HΦ, Ho, ⟨%d0, W0⟩, ⟨%d1, W1⟩, ⟨%d2, W2⟩, ⟨%d3, W3⟩, ⟨%d4, W4⟩, ⟨%d5, W5⟩, ⟨%d6, W6⟩, ⟨%d7, W7⟩⟩
  ihave HS := (PhiS_free m c t.val (Nat.le_of_lt t.isLt)) $$ HΦ
  icases HS with ⟨⟨⟨S0, S1, S2, S3, S4, S5, S6⟩, Hg⟩, Ht⟩
  iapply (runA c (grid0.coords t) _ _ _ _ _ _ _ _ _ _ _ _ _ _ _ _ _ _ _ _ _ _ _ _ _ _ _ _ _ _ _ _ hb counts (counts_word _) (iblk m c 0 t) (iblk m c 1 t) (iblk m c 2 t) (iblk m c 3 t) (iblk m c 4 t) ((dats m 0 c).before 6 t d6) ((dats m 0 c).before 7 t d7) Set.univ _)
  isplitl [Ht]; · iexact Ht
  isplitl [W0]; · iexact W0
  isplitl [W1]; · iexact W1
  isplitl [W2]; · iexact W2
  isplitl [W3]; · iexact W3
  isplitl [W4]; · iexact W4
  isplitl [W5]; · iexists _; iexact W5
  isplitl [W6]; · iexact W6
  isplitl [W7]; · iexact W7
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨Ht, W0, W1, W2, W3, W4, W5, W6, W7, S0, S1, S2, S3, S4, S5, S6⟩
  isplitl [Ht Hg S0 S1 S2 S3 S4 S5 S6]
  · isplitl [Hg S0 S1 S2 S3 S4 S5 S6]
    · isplitl [S0 S1 S2 S3 S4 S5 S6]
      · isplitl [S0]; · iexact S0
        isplitl [S1]; · iexact S1
        isplitl [S2]; · iexact S2
        isplitl [S3]; · iexact S3
        isplitl [S4]; · iexact S4
        isplitl [S5]; · iexact S5
        iexact S6
      iexact Hg
    iexact Ht
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexists _; iexact W6
  iexists _; iexact W7

set_option maxHeartbeats 2000000 in
theorem body_mid (c : Dev nD) (t : Fin grid0.N) (h : ¬ t.val % 32 = 0) (hl : ¬ t.val % 32 = 31) :
    bodyPre m c t ⊢ wp frame (wpE (defs₀ (F := F)) Variants.none c none) Set.univ (bodyAt t) (fun _ => bodyPost m c t) := by
  obtain ⟨j, hj⟩ : ∃ j, t.val % 32 = j + 1 := ⟨t.val % 32 - 1, by omega⟩
  have hb : (grid0.coords t 1).val = j + 1 := (coord1 t).trans hj
  unfold bodyPre bodyPost bodyAt
  simp only [before0, before1, before2, before3, before4]
  rw [show (dats m 0 c).owesAt () t.succ = (dats m 0 c).owesAt () t.castSucc from rfl,
    show (dats m 0 c).Φ t.succ = PhiS m c (t.val + 1) t.isLt from rfl, PhiS_succ, Phi_castSucc, PhiS_pos m c _ _ (by omega),
    leaves0, leaves1, leaves2, leaves3, leaves4, leaves5, leaves6_else m c t hl, leaves7_else m c t hl, stateAt_next m c t.val t.isLt h]
  unfold goOn; dsimp only
  rw [hj]
  iintro ⟨⟨⟨⟨S0, S1, S2, S3, S4, S5, S6⟩, Hg⟩, Ht⟩, Ho, ⟨%d0, W0⟩, ⟨%d1, W1⟩, ⟨%d2, W2⟩, ⟨%d3, W3⟩, ⟨%d4, W4⟩, ⟨%d5, W5⟩, ⟨%d6, W6⟩, ⟨%d7, W7⟩⟩
  iapply (runB c (grid0.coords t) _ _ _ _ _ _ _ _ _ _ _ _ _ _ _ _ _ _ _ _ _ _ _ _ _ _ _ _ _ _ _ _ j hb (by omega) counts (counts_word _) (iblk m c 0 t) (iblk m c 1 t) (iblk m c 2 t) (iblk m c 3 t) (iblk m c 4 t) ((dats m 0 c).before 6 t d6) ((dats m 0 c).before 7 t d7) _ _ _ _ Set.univ _)
  isplitl [Ht]; · iexact Ht
  isplitl [W0]; · iexact W0
  isplitl [W1]; · iexact W1
  isplitl [W2]; · iexact W2
  isplitl [W3]; · iexact W3
  isplitl [W4]; · iexact W4
  isplitl [W5]; · iexists _; iexact W5
  isplitl [W6]; · iexact W6
  isplitl [W7]; · iexact W7
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨Ht, W0, W1, W2, W3, W4, W5, W6, W7, S0, S1, S2, S3, S4, S5, S6⟩
  isplitl [Ht Hg S0 S1 S2 S3 S4 S5 S6]
  · isplitl [Hg S0 S1 S2 S3 S4 S5 S6]
    · isplitl [S0 S1 S2 S3 S4 S5 S6]
      · isplitl [S0]; · iexact S0
        isplitl [S1]; · iexact S1
        isplitl [S2]; · iexact S2
        isplitl [S3]; · iexact S3
        isplitl [S4]; · iexact S4
        isplitl [S5]; · iexact S5
        iexact S6
      iexact Hg
    iexact Ht
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexists _; iexact W6
  iexists _; iexact W7

set_option maxHeartbeats 2000000 in
theorem body_last (c : Dev nD) (t : Fin grid0.N) (hl : t.val % 32 = 31) :
    bodyPre m c t ⊢ wp frame (wpE (defs₀ (F := F)) Variants.none c none) Set.univ (bodyAt t) (fun _ => bodyPost m c t) := by
  have h : ¬ t.val % 32 = 0 := by omega
  obtain ⟨j, hj⟩ : ∃ j, t.val % 32 = j + 1 := ⟨t.val % 32 - 1, by omega⟩
  have hb : (grid0.coords t 1).val = j + 1 := (coord1 t).trans hj
  unfold bodyPre bodyPost bodyAt
  simp only [before0, before1, before2, before3, before4]
  rw [show (dats m 0 c).owesAt () t.succ = (dats m 0 c).owesAt () t.castSucc from rfl,
    show (dats m 0 c).Φ t.succ = PhiS m c (t.val + 1) t.isLt from rfl, PhiS_succ, Phi_castSucc, PhiS_pos m c _ _ (by omega),
    leaves0, leaves1, leaves2, leaves3, leaves4, leaves5, leaves6_last m c t hl, leaves7_last m c t hl, stateAt_next m c t.val t.isLt h]
  unfold goOn; dsimp only
  rw [hj]
  iintro ⟨⟨⟨⟨S0, S1, S2, S3, S4, S5, S6⟩, Hg⟩, Ht⟩, Ho, ⟨%d0, W0⟩, ⟨%d1, W1⟩, ⟨%d2, W2⟩, ⟨%d3, W3⟩, ⟨%d4, W4⟩, ⟨%d5, W5⟩, ⟨%d6, W6⟩, ⟨%d7, W7⟩⟩
  iapply (runC c (grid0.coords t) _ _ _ _ _ _ _ _ _ _ _ _ _ _ _ _ _ _ _ _ _ _ _ _ _ _ _ _ _ _ _ _ j hb (by omega) counts (counts_word _) (iblk m c 0 t) (iblk m c 1 t) (iblk m c 2 t) (iblk m c 3 t) (iblk m c 4 t) _ _ _ _ Set.univ _)
  isplitl [Ht]; · iexact Ht
  isplitl [W0]; · iexact W0
  isplitl [W1]; · iexact W1
  isplitl [W2]; · iexact W2
  isplitl [W3]; · iexact W3
  isplitl [W4]; · iexact W4
  isplitl [W5]; · iexists _; iexact W5
  isplitl [W6]; · iexists _; iexact W6
  isplitl [W7]; · iexists _; iexact W7
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨Ht, W0, W1, W2, W3, W4, W5, W6, W7, S0, S1, S2, S3, S4, S5, S6⟩
  isplitl [Ht Hg S0 S1 S2 S3 S4 S5 S6]
  · isplitl [Hg S0 S1 S2 S3 S4 S5 S6]
    · isplitl [S0 S1 S2 S3 S4 S5 S6]
      · isplitl [S0]; · iexact S0
        isplitl [S1]; · iexact S1
        isplitl [S2]; · iexact S2
        isplitl [S3]; · iexact S3
        isplitl [S4]; · iexact S4
        isplitl [S5]; · iexact S5
        iexact S6
      iexact Hg
    iexact Ht
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  iexact W7

theorem body_any (c : Dev nD) (t : Fin grid0.N) :
    bodyPre m c t ⊢ wp frame (wpE (defs₀ (F := F)) Variants.none c none) Set.univ (bodyAt t) (fun _ => bodyPost m c t) := by
  by_cases h : t.val % 32 = 0
  · exact body_first m c t h
  · by_cases hl : t.val % 32 = 31
    · exact body_last m c t hl
    · exact body_mid m c t h hl

theorem body_row (t : Fin grid0.N) :
    defs₀ (F := F) .tc (cfgA (F := F)).body ((cfgA (F := F)).bodyArgs t ((cfgA (F := F)).slots t)) = bodyAt t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_any m c t) rfl .rfl fun _ => .rfl

/-! ## The run -/

theorem enter (c : Dev nD) : iprop(Pipeline.ΦA spec0 c ∗ Pipeline.ΦT pre0 (tables (F := F)) c) ⊢ (dats m 0 c).Φ 0 := by
  rw [show (dats m 0 c).Φ 0 = iprop(Pipeline.ΦA spec0 c ∗ ((c : Thread nD τ).loc main_v33 ↦{fullShare.right} (counts (F := F)))) from rfl]
  unfold Pipeline.ΦT
  rw [prefHeld_one]

theorem leave (c : Dev nD) : (dats m 0 c).Φ (Fin.last grid0.N) ⊢ Pipeline.ΦA spec0 c := by
  rw [show (dats m 0 c).Φ (Fin.last grid0.N) = PhiS m c grid0.N (Nat.le_refl _) from rfl, scratch_eq]
  refine (PhiS_free m c _ _).trans ?_
  iintro ⟨H, -⟩
  iexact H

theorem table_held (c : Dev nD) (k : Fin 1) : V m c (pre0.ref k) = (adm0 (F := F)).1 k := by
  match k with
  | ⟨0, _⟩ => exact V_counts m c

set_option backward.isDefEq.respectTransparency.types false in
/-- Every execution ends, with every array at what the pipeline's data name and the semaphores at zero. -/
theorem run_all : θ_run defs (onTc (τ := τ) (main (F := F))) (s₀ m ρ)
    (fun r => Pipeline.FramePost (Pipeline.pin pcfgs adm) (dats m) 0 (V m) r ∧ r.2.sem = fun _ => 0) :=
  Pipeline.θ_run_frameP_track_shared (Q' := _) pcfgs adm (dats m) (0 : Fin 1) launch₀0 defs₀ Variants.none m ρ main
    (hbody := fun c => (body_obligation m c).loose) (hq := fun _ _ _ => rfl)
    (howed := fun _ _ => rfl) (V := V m) (hmain := host_run m Variants.none) (hA := A_eq m) (hpf := table_held m) (hin := enter m) (hout := leave m)

/-- The frame: the argument arrays end as they were, and every semaphore is at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨((h.1 c).1 0).trans ((((dats m 0 c).arrAt_in 0 rfl _).trans (A_eq m c 0)).trans (V_arg0 m c)),
     ((h.1 c).1 3).trans ((((dats m 0 c).arrAt_in 3 rfl _).trans (A_eq m c 3)).trans (V_arg1 m c))⟩, h.2⟩) (run_all m ρ)

end AttnBwd

end
-- ==== Proof.Reals.lean ====
/- Arrays of extended reals whose entries are real numbers: what the operations of the kernel make of them. -/
module

public import proofs.«01_k».proof.Proof.Model
public import Idealize.ShloMosaic.Lib.Pointwise
public import Idealize.ShloMosaic.Lib.WordCmp

@[expose] public section

set_option maxRecDepth 16384

noncomputable section

namespace AttnBwd

open Cert.KernelIdeal Cert.KernelIdeal.Gen
open Idealize.ShloMosaic
open Finset (range)

/-! ## Real entries -/

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) :=
  (EReal.coe_strictMono.monotone.map_max)

/-- A sum of products of real entries. -/
theorem sum_mul_coe {n : ℕ} (x y : Fin n → EReal) (f g : ℕ → ℝ) (hx : ∀ k : Fin n, x k = ((f k.val : ℝ) : EReal))
    (hy : ∀ k : Fin n, y k = ((g k.val : ℝ) : EReal)) :
    (∑ k : Fin n, x k * y k) = ((∑ k ∈ range n, f k * g k : ℝ) : EReal) := by
  rw [Finset.sum_range, coe_sum]
  exact Finset.sum_congr rfl fun k _ => by rw [hx, hy, EReal.coe_mul]

/-- The scale of the scores, `1/√128`. -/
def cc : ℝ := (Real.sqrt 128)⁻¹

theorem scale_coe : (Named.named (F := Ideal) Cert.KernelIdeal.κ "scale" (φ := .f32) 0x3DB504F3#32 : EReal) = ((cc : ℝ) : EReal) := rfl

/-- The root that the host divides the scores by. -/
theorem root_coe : Ideal.sqrt (Ideal.ofBits .f32 0x43000000#32) = ((Real.sqrt 128 : ℝ) : EReal) := by
  have h : (Ideal.ofBits .f32 0x43000000#32 : EReal) = ((128 : ℝ) : EReal) := by
    unfold Ideal.ofBits Ideal.ieee
    dsimp only
    rw [if_neg (by decide), if_neg (by decide)]
    refine congrArg _ ?_
    rw [if_neg (by decide)]
    norm_num [Nat.shiftRight_eq_div_pow]
  rw [h, Ideal.sqrt_coe, if_neg (by norm_num)]

/-- Dividing by the root is multiplying with the scale. -/
theorem div_root (x : ℝ) : Ideal.div (x : EReal) ((Real.sqrt 128 : ℝ) : EReal) = ((x * cc : ℝ) : EReal) := by
  have h : Real.sqrt 128 ≠ 0 := (Real.sqrt_pos.2 (by norm_num)).ne'
  rw [Ideal.div_coe h, ← EReal.coe_mul, one_div]
  rfl

/-- `log (1 + eˣ)`, spelt as every program here spells it. -/
def spl (x : ℝ) : ℝ := max x 0 + Real.log (1 + Real.exp (-|x|))

theorem abs_coe (x : ℝ) : (max (x : EReal) (-(x : EReal))) = ((|x| : ℝ) : EReal) := by
  rw [← EReal.coe_neg, ← coe_max]; rfl

theorem log1p_coe (x : ℝ) : Ideal.log (1 + Ideal.exp (((-|x| : ℝ)) : EReal)) = ((Real.log (1 + Real.exp (-|x|)) : ℝ) : EReal) := by
  rw [Ideal.exp_coe, ← EReal.coe_one, ← EReal.coe_add, Ideal.log_coe, if_neg]
  have := Real.exp_pos (-|x|)
  linarith

/-- The entries of a rectangular array are the real numbers `f`. -/
def Is {a b : ℕ} (X : (⟨2, ![a, b]⟩ : Shape).Idx → EReal) (f : ℕ → ℕ → ℝ) : Prop :=
  ∀ (r : Fin a) (c : Fin b), X (ix2 r c) = ((f r.val c.val : ℝ) : EReal)

theorem Is.congr {a b : ℕ} {X : (⟨2, ![a, b]⟩ : Shape).Idx → EReal} {f g : ℕ → ℕ → ℝ} (h : Is X f)
    (e : ∀ r < a, ∀ c < b, f r c = g r c) : Is X g := fun r c => by rw [h r c, e _ r.isLt _ c.isLt]

/-! ## The operations -/

theorem is_add {a b : ℕ} {φ : FTy} {X Y : FVec Ideal ⟨2, ![a, b]⟩ φ} {f g : ℕ → ℕ → ℝ} (hx : Is X f) (hy : Is Y g) :
    Is (addf X Y) (fun r c => f r c + g r c) := fun r c => by
  rw [EReal.coe_add, ← hx r c, ← hy r c]; rfl

theorem is_sub {a b : ℕ} {φ : FTy} {X Y : FVec Ideal ⟨2, ![a, b]⟩ φ} {f g : ℕ → ℕ → ℝ} (hx : Is X f) (hy : Is Y g) :
    Is (subf X Y) (fun r c => f r c - g r c) := fun r c => by
  rw [EReal.coe_sub, ← hx r c, ← hy r c]; rfl

theorem is_mul {a b : ℕ} {φ : FTy} {X Y : FVec Ideal ⟨2, ![a, b]⟩ φ} {f g : ℕ → ℕ → ℝ} (hx : Is X f) (hy : Is Y g) :
    Is (mulf X Y) (fun r c => f r c * g r c) := fun r c => by
  rw [EReal.coe_mul, ← hx r c, ← hy r c]; rfl

theorem is_exp {a b : ℕ} {φ : FTy} {X : FVec Ideal ⟨2, ![a, b]⟩ φ} {f : ℕ → ℕ → ℝ} (hx : Is X f) :
    Is (exp X) (fun r c => Real.exp (f r c)) := fun r c => by
  show Ideal.exp (X (ix2 r c)) = _
  rw [hx r c, Ideal.exp_coe]

theorem is_select {a b : ℕ} {φ : FTy} {M : IVec ⟨2, ![a, b]⟩ 1} {X Y : FVec Ideal ⟨2, ![a, b]⟩ φ} {p : ℕ → ℕ → Prop}
    [∀ r c, Decidable (p r c)] {f g : ℕ → ℕ → ℝ} (hm : ∀ (r : Fin a) (c : Fin b), M (ix2 r c) = 1#1 ↔ p r.val c.val)
    (hx : Is X f) (hy : Is Y g) : Is (select M X Y) (fun r c => if p r c then f r c else g r c) := fun r c => by
  show Scalar.select (M (ix2 r c)) (X (ix2 r c)) (Y (ix2 r c)) = _
  unfold Scalar.select
  by_cases h : p r.val c.val
  · rw [if_pos (show M (ix2 r c) = 1 from (hm r c).mpr h), hx r c]
    exact congrArg _ (if_pos h).symm
  · rw [if_neg (show ¬ M (ix2 r c) = 1 from fun e => h ((hm r c).mp e)), hy r c]
    exact congrArg _ (if_neg h).symm

theorem is_cast {a b : ℕ} {φ : FTy} {X : FVec Ideal ⟨2, ![a, b]⟩ φ} {f : ℕ → ℕ → ℝ} (hx : Is X f)
    (h : (⟨2, ![a, b]⟩ : Shape).ShapeCasts ⟨2, ![a, b]⟩) : Is (shapeCast ⟨2, ![a, b]⟩ X h) f := by
  rw [shapeCast_self]; exact hx

/-- The scores' softplus. -/
theorem is_spl {X : FVec Ideal S256x256 .f32} {f : ℕ → ℕ → ℝ} (hx : Is X f) :
    Is (addf (maximumf X (broadcast S256x256 (Scalar.ofBits .f32 0x00000000#32)))
      (log (addf (broadcast S256x256 (Scalar.ofBits .f32 0x3F800000#32))
        (exp (subf (broadcast S256x256 (Scalar.ofBits .f32 0x00000000#32)) (absf X))))))
      (fun r c => spl (f r c)) := fun r c => by
  show max (X (ix2 r c)) (Ideal.ofBits .f32 0x00000000#32)
    + Ideal.log (Ideal.ofBits .f32 0x3F800000#32 + Ideal.exp (Ideal.ofBits .f32 0x00000000#32 - max (X (ix2 r c)) (-(X (ix2 r c))))) = _
  rw [Ideal.ofBits_zero_f32, Ideal.ofBits_one_f32, hx r c, abs_coe, zero_sub, ← EReal.coe_neg, log1p_coe, ← EReal.coe_zero, ← coe_max,
    ← EReal.coe_add]
  rfl

theorem is_scale : Is (a := 256) (b := 256) (broadcast S256x256 (Named.named (F := Ideal) Cert.KernelIdeal.κ "scale" (φ := .f32) 0x3DB504F3#32)) (fun _ _ => cc) :=
  fun _ _ => scale_coe

theorem is_zero {a b : ℕ} : Is (a := a) (b := b) (broadcast ⟨2, ![a, b]⟩ (Scalar.ofBits (F := Ideal) .f32 0x00000000#32)) (fun _ _ => 0) :=
  fun _ _ => Ideal.ofBits_zero_f32

/-- A row's last entry, as a column. -/
theorem is_last {X : FVec Ideal S256x256 .f32} {f : ℕ → ℕ → ℝ} (hx : Is X f) :
    Is (a := 256) (b := 1) (extractStridedSlice S256x1 ![0, 255] X slices_S256x256_o0_255_S256x1) (fun r _ => f r 255) := fun r c => by
  pointwise
  exact (hx _ _).trans (by fin_cases c; simp)

/-- A column, along the rows. -/
theorem is_along {X : FVec Ideal S256x1 .f32} {f : ℕ → ℕ → ℝ} (hx : Is (a := 256) (b := 1) X f) :
    Is (broadcastTo S256x256 X broadcasts_S256x1_S256x256) (fun r _ => f r 0) := fun r c => by
  pointwise
  exact hx _ _

/-! ## The products -/

/-- Rows against rows. -/
theorem is_nt {φ ψ : FTy} {X : FVec Ideal S256x128 φ} {Y : FVec Ideal S256x128 ψ} {f g : ℕ → ℕ → ℝ} (hx : Is X f) (hy : Is Y g) :
    Is (matmul dot_S256x128_S256x128_S256x256_1_1_0_0_n_n none X Y (constant S256x256 .f32 0x00000000#32))
      (fun r c => ∑ d ∈ range 128, f r d * g c d) := fun r c => by
  pointwise
  exact sum_mul_coe _ _ _ _ (fun k => hx r k) (fun k => hy c k)

/-- Rows against columns, 256 of them, -/
theorem is_nn {φ ψ : FTy} {X : FVec Ideal S256x256 φ} {Y : FVec Ideal S256x256 ψ} {f g : ℕ → ℕ → ℝ} (hx : Is X f) (hy : Is Y g) :
    Is (matmul dot_S256x256_S256x256_S256x256_1_0_0_1_n_n none X Y (constant S256x256 .f32 0x00000000#32))
      (fun r c => ∑ k ∈ range 256, f r k * g k c) := fun r c => by
  pointwise
  exact sum_mul_coe _ _ _ (fun k => g k c) (fun k => hx r k) (fun k => hy k c)

/-- or 128. -/
theorem is_nn' {φ ψ : FTy} {X : FVec Ideal S256x256 φ} {Y : FVec Ideal S256x128 ψ} {f g : ℕ → ℕ → ℝ} (hx : Is X f) (hy : Is Y g) :
    Is (matmul dot_S256x256_S256x128_S256x128_1_0_0_1_n_n none X Y (constant S256x128 .f32 0x00000000#32))
      (fun r d => ∑ k ∈ range 256, f r k * g k d) := fun r c => by
  pointwise
  exact sum_mul_coe _ _ _ (fun k => g k c) (fun k => hx r k) (fun k => hy k c)

/-- Columns against columns. -/
theorem is_tn {φ ψ : FTy} {X : FVec Ideal S256x256 φ} {Y : FVec Ideal S256x128 ψ} {f g : ℕ → ℕ → ℝ} (hx : Is X f) (hy : Is Y g) :
    Is (matmul dot_S256x256_S256x128_S256x128_0_0_1_1_n_n none X Y (constant S256x128 .f32 0x00000000#32))
      (fun r d => ∑ k ∈ range 256, f k r * g k d) := fun r c => by
  pointwise
  exact sum_mul_coe _ _ (fun k => f k r) (fun k => g k c) (fun k => hx k r) (fun k => hy k c)

/-! ## The masks -/

theorem mask_iff (r c : Fin 256) : k0_pay71 (ix2 r c) = 1#1 ↔ c.val < r.val := by
  unfold k0_pay71
  pointwise
  have := r.isLt; have := c.isLt
  rw [WordCmp.cmpi_slt_eq, WordCmp.ofBool_decide_eq_one_iff, WordCmp.toInt_ofNat_of_lt (by omega), WordCmp.toInt_ofNat_of_lt (by omega)]
  omega

theorem is_upper : Is (k0_pay72 (F := Ideal)) (fun r c => if r ≤ c then 1 else 0) := fun r c => by
  unfold k0_pay72
  pointwise
  show (((((IntOp.cmpi .sle (BitVec.ofNat 32 r.val) (BitVec.ofNat 32 c.val)).setWidth 32).toInt : ℝ)) : EReal) = _
  have := r.isLt; have := c.isLt
  rw [WordCmp.cmpi_sle_eq, WordCmp.toInt_ofNat_of_lt (by omega), WordCmp.toInt_ofNat_of_lt (by omega)]
  by_cases h : r.val ≤ c.val
  · rw [if_pos h, decide_eq_true (by omega)]; simp
  · rw [if_neg h, decide_eq_false (by omega)]; simp

theorem is_trunc {a b : ℕ} {X : FVec Ideal ⟨2, ![a, b]⟩ .f32} {f : ℕ → ℕ → ℝ} (hx : Is X f) (h : FTy.bits .bf16 < FTy.bits .f32) :
    Is (truncf .bf16 X h) f := hx

theorem is_ext {a b : ℕ} {X : FVec Ideal ⟨2, ![a, b]⟩ .bf16} {f : ℕ → ℕ → ℝ} (hx : Is X f) (h : FTy.bits .bf16 < FTy.bits .f32) :
    Is (extf .f32 X h) f := hx

/-! ## Blocks of rows -/

theorem blk_at {e : EltTy} (X : Vec Ideal S8192x128 e) (j : ℕ) (hj : j < 32) (r : Fin 256) (d : Fin 128) :
    blk X j (ix2 r d) = X (ix2 ⟨256 * j + r.val, by omega⟩ d) := by
  unfold blk VecWindow.window
  refine congrArg X (funext fun a => Fin.ext ?_)
  have h : j % 32 = j := Nat.mod_eq_of_lt hj
  fin_cases a
  · show 256 * (j % 32) + 1 * r.val = 256 * j + r.val
    omega
  · show 0 + 1 * d.val = d.val
    omega

theorem is_blk {X : FVec Ideal S8192x128 .bf16} {f : ℕ → ℕ → ℝ} (hx : Is X f) (j : ℕ) (hj : j < 32) :
    Is (a := 256) (b := 128) (blk (F := Ideal) (e := .bf16) X j) (fun r d => f (256 * j + r) d) := fun r d => (blk_at _ j hj r d).trans (hx _ _)

theorem is_blk32 {X : FVec Ideal S8192x128 .f32} {f : ℕ → ℕ → ℝ} (hx : Is X f) (j : ℕ) (hj : j < 32) :
    Is (a := 256) (b := 128) (blk (F := Ideal) (e := .f32) X j) (fun r d => f (256 * j + r) d) := fun r d => (blk_at _ j hj r d).trans (hx _ _)

theorem is_setBlk {X : FVec Ideal S8192x128 .f32} {w : FVec Ideal S256x128 .f32} {f g : ℕ → ℕ → ℝ} (hx : Is X f) (j : ℕ) (hj : j < 32)
    (hw : Is w g) : Is (a := 8192) (b := 128) (setBlk (F := Ideal) (e := .f32) X j w)
      (fun y d => if 256 * j ≤ y ∧ y < 256 * (j + 1) then g (y - 256 * j) d else f y d) := fun y d => by
  have h : j % 32 = j := Nat.mod_eq_of_lt hj
  unfold setBlk VecWindow.put
  by_cases hc : 256 * j ≤ y.val ∧ y.val < 256 * (j + 1)
  · have hc' : ∀ a, bOff j a ≤ ((ix2 y d : S8192x128.Idx) a).val ∧ ((ix2 y d : S8192x128.Idx) a).val < bOff j a + S256x128.size a := by
      intro a
      fin_cases a
      · show 256 * (j % 32) ≤ y.val ∧ y.val < 256 * (j % 32) + 256
        omega
      · show 0 ≤ d.val ∧ d.val < 0 + 128
        omega
    rw [dif_pos hc']
    refine Eq.trans ?_ (congrArg _ (if_pos hc).symm)
    refine Eq.trans (congrArg w (a₂ := ix2 ⟨y.val - 256 * j, by omega⟩ d) (funext fun a => Fin.ext ?_)) (hw _ _)
    fin_cases a
    · show y.val - 256 * (j % 32) = y.val - 256 * j
      rw [h]
    · show d.val - 0 = d.val
      omega
  · rw [dif_neg]
    · exact (hx y d).trans (congrArg _ (if_neg hc).symm)
    · intro hc'
      have := hc' 0
      change 256 * (j % 32) ≤ y.val ∧ y.val < 256 * (j % 32) + 256 at this
      omega

end AttnBwd

end
-- ==== Proof.Steps.lean ====
/- What one grid point computes, in real numbers: a block of 256 queries of one head against the keys up to the block on
   the diagonal. -/
module

public import proofs.«01_k».proof.Proof.Reals

@[expose] public section

set_option maxRecDepth 16384

noncomputable section

namespace AttnBwd

open Cert.KernelIdeal Cert.KernelIdeal.Gen
open Idealize.ShloMosaic
open Finset (range)

/-! ## The mathematics of one head -/

/-- The rows of one head: queries, keys, the gradient of the output, and values. -/
structure Head where
  q : ℕ → ℕ → ℝ
  k : ℕ → ℕ → ℝ
  g : ℕ → ℕ → ℝ
  v : ℕ → ℕ → ℝ

namespace Head

variable (D : Head)

/-- The score of query `t` at key `s`. -/
def z (t s : ℕ) : ℝ := (∑ d ∈ range 128, D.q t d * D.k s d) * cc

/-- How much stick the key `s` breaks off, in the log; nothing at keys that are not before the query. -/
def sp (t s : ℕ) : ℝ := if s < t then spl (D.z t s) else 0

def tot (t : ℕ) : ℝ := ∑ s ∈ range 8192, D.sp t s

/-- The weight of key `s` for query `t`. -/
def w (t s : ℕ) : ℝ := if s < t then Real.exp (D.z t s - (D.tot t - ∑ u ∈ range s, D.sp t u)) else 0

/-- The gradient of the weight, times the weight. -/
def e (t s : ℕ) : ℝ := (∑ d ∈ range 128, D.g t d * D.v s d) * D.w t s

/-- The gradient of the score before its scale, times the scale. -/
def dz (t s : ℕ) : ℝ :=
  if s < t then (D.e t s - Real.exp (D.z t s - spl (D.z t s)) * ∑ u ∈ range (s + 1), D.e t u) * cc else 0

/-- The gradients of query, key and value over the first keys or queries. -/
def dq (n t d : ℕ) : ℝ := ∑ s ∈ range n, D.dz t s * D.k s d
def dk (n s d : ℕ) : ℝ := ∑ t ∈ range n, D.dz t s * D.q t d
def dv (n s d : ℕ) : ℝ := ∑ t ∈ range n, D.w t s * D.g t d

end Head

/-! ## Sums block by block -/

theorem sum_upper (f : ℕ → ℝ) (c : ℕ) (hc : c < 256) :
    (∑ k ∈ range 256, f k * (if k ≤ c then (1 : ℝ) else 0)) = ∑ k ∈ range (c + 1), f k := by
  simp only [mul_ite, mul_one, mul_zero]
  rw [← Finset.sum_filter]
  refine Finset.sum_congr (Finset.ext fun k => ?_) fun _ _ => rfl
  rw [Finset.mem_filter, Finset.mem_range, Finset.mem_range]
  omega

theorem sum_split (f : ℕ → ℝ) (a b : ℕ) : (∑ k ∈ range a, f k) + (∑ k ∈ range b, f (a + k)) = ∑ k ∈ range (a + b), f k :=
  (Finset.sum_range_add f a b).symm

theorem sum_block (f : ℕ → ℝ) (j : ℕ) :
    (∑ k ∈ range (256 * j), f k) + (∑ k ∈ range 256, f (256 * j + k)) = ∑ k ∈ range (256 * (j + 1)), f k := by
  rw [sum_split]; rfl

/-- The weights as the kernel spells them: the total less what is before, less what is inside the block. -/
theorem weight_eq (f : ℕ → ℝ) (T : ℝ) (j c : ℕ) :
    (T - ∑ k ∈ range (256 * j), f k) - ((∑ k ∈ range (c + 1), f (256 * j + k)) - f (256 * j + c)) = T - ∑ k ∈ range (256 * j + c), f k := by
  rw [Finset.sum_range_succ, ← sum_split]
  ring

/-! ## A grid point -/

/-- The values that a grid point reads are those of the head, its queries those of the block `i`. -/
structure Reads (D : Head) (i : ℕ) (E : Env Ideal) : Prop where
  q : Is (a := 256) (b := 128) E.q (fun r d => D.q (256 * i + r) d)
  g : Is (a := 256) (b := 128) E.g (fun r d => D.g (256 * i + r) d)
  tot : Is (a := 256) (b := 1) E.tot (fun r _ => D.tot (256 * i + r))
  k : Is (a := 8192) (b := 128) E.k D.k
  v : Is (a := 8192) (b := 128) E.v D.v

/-- The sums after the first `n` blocks of keys. -/
structure Holds (D : Head) (i n : ℕ) (s : Acc Ideal) : Prop where
  dq : Is (a := 256) (b := 128) s.dq (fun r d => D.dq (256 * n) (256 * i + r) d)
  p : Is (a := 256) (b := 1) s.p (fun r _ => ∑ u ∈ range (256 * n), D.sp (256 * i + r) u)
  e : Is (a := 256) (b := 1) s.e (fun r _ => ∑ u ∈ range (256 * n), D.e (256 * i + r) u)
  dk : Is (a := 8192) (b := 128) s.dk (fun y d => D.dk (256 * (if y < 256 * n then i + 1 else i)) y d)
  dv : Is (a := 8192) (b := 128) s.dv (fun y d => D.dv (256 * (if y < 256 * n then i + 1 else i)) y d)

/-- What a grid point leaves. -/
structure Leaves (D : Head) (i : ℕ) (o : Out Ideal) : Prop where
  dq : Is (a := 256) (b := 128) o.dq (fun r d => D.dq (256 * (i + 1)) (256 * i + r) d)
  dk : Is (a := 8192) (b := 128) o.dk (fun y d => D.dk (256 * (i + 1)) y d)
  dv : Is (a := 8192) (b := 128) o.dv (fun y d => D.dv (256 * (i + 1)) y d)

section block

variable {D : Head} {i j : ℕ} {E : Env Ideal} {s : Acc Ideal}

theorem is21 (hE : Reads D i E) (hj : j < 32) :
    Is (k0_pay21 E.q (blk E.k j)) (fun r c => D.z (256 * i + r) (256 * j + c)) := by
  unfold k0_pay21
  exact is_mul (is_nt hE.q (is_blk hE.k j hj)) is_scale

theorem is27raw (hE : Reads D i E) (hj : j < 32) :
    Is (a := 256) (b := 256) (matmul (F := Ideal) (φ₁ := .bf16) (φ₂ := .bf16) dot_S256x128_S256x128_S256x256_1_1_0_0_n_n none E.g (blk E.v j) (constant S256x256 .f32 0x00000000#32))
      (fun r c => ∑ d ∈ range 128, D.g (256 * i + r) d * D.v (256 * j + c) d) :=
  is_nt hE.g (is_blk hE.v j hj)

/-! ### A block before the diagonal -/

theorem is22 (hE : Reads D i E) (hj : j < 32) (hji : j < i) :
    Is (k0_pay22 E.q (blk E.k j)) (fun r c => D.sp (256 * i + r) (256 * j + c)) := by
  have h := is_spl (is21 hE hj)
  refine Is.congr (f := fun r c => spl (D.z (256 * i + r) (256 * j + c))) ?_ ?_
  · unfold k0_pay22; exact h
  · intro r hr c hc
    exact (if_pos (by omega)).symm

theorem is24 (hE : Reads D i E) (hj : j < 32) (hji : j < i) :
    Is (k0_pay24 E.q (k0_pay72 (F := Ideal)) (blk E.k j)) (fun r c => ∑ k ∈ range (c + 1), D.sp (256 * i + r) (256 * j + k)) := by
  refine Is.congr (f := fun r c => ∑ k ∈ range 256, D.sp (256 * i + r) (256 * j + k) * (if k ≤ c then (1 : ℝ) else 0)) ?_ ?_
  · unfold k0_pay24 k0_pay23
    exact is_nn (is_trunc (is22 hE hj hji) _) is_upper
  · intro r hr c hc
    exact sum_upper _ c hc

theorem is25 (hE : Reads D i E) (hs : Holds D i j s) (hj : j < 32) (hji : j < i) :
    Is (k0_pay25 E.q E.tot (k0_pay72 (F := Ideal)) s.p (blk E.k j)) (fun r c => D.w (256 * i + r) (256 * j + c)) := by
  unfold k0_pay25 k0_pay23
  refine Is.congr (is_exp (is_sub (is21 hE hj) (is_sub (is_along (is_sub hE.tot hs.p)) (is_sub (is24 hE hj hji) (is_ext (is_trunc (is22 hE hj hji) _) _))))) ?_
  intro r hr c hc
  refine Eq.trans ?_ (if_pos (by omega)).symm
  rw [weight_eq]

theorem is26 (hE : Reads D i E) (hs : Holds D i j s) (hj : j < 32) (hji : j < i) :
    Is (k0_pay26 E.q (k0_pay72 (F := Ideal)) s.p (blk E.k j)) (fun r _ => ∑ u ∈ range (256 * (j + 1)), D.sp (256 * i + r) u) := by
  unfold k0_pay26
  refine Is.congr (is_add hs.p (is_last (is24 hE hj hji))) ?_
  intro r hr c hc
  exact sum_block _ j

theorem is27 (hE : Reads D i E) (hs : Holds D i j s) (hj : j < 32) (hji : j < i) :
    Is (k0_pay27 E.q E.g E.tot (k0_pay72 (F := Ideal)) s.p (blk E.k j) (blk E.v j)) (fun r c => D.e (256 * i + r) (256 * j + c)) := by
  unfold k0_pay27
  exact is_mul (is27raw hE hj) (is25 hE hs hj hji)

theorem is28 (hE : Reads D i E) (hs : Holds D i j s) (hj : j < 32) (hji : j < i) :
    Is (k0_pay28 E.q E.g E.tot (k0_pay72 (F := Ideal)) s.p (blk E.k j) (blk E.v j))
      (fun r c => ∑ k ∈ range (c + 1), D.e (256 * i + r) (256 * j + k)) := by
  refine Is.congr (f := fun r c => ∑ k ∈ range 256, D.e (256 * i + r) (256 * j + k) * (if k ≤ c then (1 : ℝ) else 0)) ?_ ?_
  · unfold k0_pay28
    exact is_nn (is_trunc (is27 hE hs hj hji) _) is_upper
  · intro r hr c hc
    exact sum_upper _ c hc

theorem is1 (hE : Reads D i E) (hs : Holds D i j s) (hj : j < 32) (hji : j < i) :
    Is (k0_pay1 (k0_pay29 E.q E.g E.tot (k0_pay72 (F := Ideal)) s.p s.e (blk E.k j) (blk E.v j)) (k0_pay30 (F := Ideal)))
      (fun r c => D.dz (256 * i + r) (256 * j + c)) := by
  unfold k0_pay1 k0_pay29 k0_pay30
  refine Is.congr (is_trunc (is_mul (is_sub (is27 hE hs hj hji) (is_mul (is_exp (is_sub (is21 hE hj) (is22 hE hj hji)))
    (is_add (is_along hs.e) (is28 hE hs hj hji)))) is_scale) _) ?_
  intro r hr c hc
  refine Eq.trans ?_ (if_pos (by omega)).symm
  rw [sum_split, show D.sp (256 * i + r) (256 * j + c) = spl (D.z (256 * i + r) (256 * j + c)) from if_pos (by omega)]
  rfl

/-- A sum of gradients with one more block of queries at the rows of one block of keys. -/
theorem is_grow {X : FVec Ideal S8192x128 .f32} {w : FVec Ideal S256x128 .f32} {f : ℕ → ℕ → ℕ → ℝ} {g : ℕ → ℕ → ℕ → ℝ}
    (hf : ∀ n y d, f n y d = ∑ t ∈ range n, g t y d) (hj : j < 32)
    (hX : Is X (fun y d => f (256 * (if y < 256 * j then i + 1 else i)) y d))
    (hw : Is w (fun r d => f (256 * i) (256 * j + r) d + ∑ t ∈ range 256, g (256 * i + t) (256 * j + r) d)) :
    Is (a := 8192) (b := 128) (setBlk (F := Ideal) (e := .f32) X j w) (fun y d => f (256 * (if y < 256 * (j + 1) then i + 1 else i)) y d) := by
  refine Is.congr (is_setBlk hX j hj hw) ?_
  intro y hy d hd
  by_cases h : 256 * j ≤ y ∧ y < 256 * (j + 1)
  · rw [if_pos h, if_pos h.2, show 256 * j + (y - 256 * j) = y by omega, hf, hf, sum_block]
  · rw [if_neg h]
    by_cases h' : y < 256 * j
    · rw [if_pos h', if_pos (by omega)]
    · rw [if_neg h', if_neg (by omega)]

theorem is_blk_grow {X : FVec Ideal S8192x128 .f32} {f : ℕ → ℕ → ℕ → ℝ} (hj : j < 32)
    (hX : Is X (fun y d => f (256 * (if y < 256 * j then i + 1 else i)) y d)) :
    Is (a := 256) (b := 128) (blk (F := Ideal) (e := .f32) X j) (fun r d => f (256 * i) (256 * j + r) d) := by
  refine Is.congr (is_blk32 hX j hj) ?_
  intro r hr d hd
  rw [if_neg (by omega)]

theorem far_holds (hE : Reads D i E) (hs : Holds D i j s) (hj : j < 32) (hji : j < i) : Holds D i (j + 1) (far E j s) where
  dq := by
    show Is (a := 256) (b := 128) (k0_pay6 (F := Ideal) _ _ _ _) _
    unfold k0_pay6
    refine Is.congr (is_cast (is_add hs.dq (is_nn' (is1 hE hs hj hji) (is_blk hE.k j hj))) _) ?_
    intro r hr d hd
    exact sum_block (fun u => D.dz (256 * i + r) u * D.k u d) j
  p := by
    show Is (a := 256) (b := 1) (k0_pay4 (F := Ideal) (k0_pay26 E.q k0_pay72 s.p (blk E.k j))) _
    unfold k0_pay4
    exact is_cast (is26 hE hs hj hji) _
  e := by
    show Is (a := 256) (b := 1) (k0_pay5 (F := Ideal) _ _) _
    unfold k0_pay5
    refine Is.congr (is_cast (is_add hs.e (is_last (is28 hE hs hj hji))) _) ?_
    intro r hr d hd
    exact sum_block _ j
  dk := by
    refine is_grow (f := D.dk) (g := fun t y d => D.dz t y * D.q t d) (fun _ _ _ => rfl) hj hs.dk ?_
    unfold k0_pay2
    exact is_cast (is_add (is_blk_grow hj hs.dk) (is_tn (is1 hE hs hj hji) hE.q)) _
  dv := by
    refine is_grow (f := D.dv) (g := fun t y d => D.w t y * D.g t d) (fun _ _ _ => rfl) hj hs.dv ?_
    unfold k0_pay3
    exact is_cast (is_add (is_blk_grow hj hs.dv) (is_tn (is_trunc (is25 hE hs hj hji) _) hE.g)) _

theorem fars_holds (hE : Reads D i E) (h0 : Holds D i 0 s) (hi : i < 32) : ∀ n, n ≤ i → Holds D i n (fars E n s)
  | 0, _ => h0
  | n + 1, hn => far_holds hE (fars_holds hE h0 hi n (by omega)) (by omega) (by omega)

/-! ### The block on the diagonal -/

theorem is42 (hE : Reads D j E) (hj : j < 32) :
    Is (k0_pay42 E.q k0_pay71 (blk E.k j)) (fun r c => D.sp (256 * j + r) (256 * j + c)) := by
  refine Is.congr (f := fun r c => if c < r then spl (D.z (256 * j + r) (256 * j + c)) else 0) ?_ ?_
  · unfold k0_pay42
    exact is_select mask_iff (is_spl (is21 hE hj)) is_zero
  · intro r hr c hc
    unfold Head.sp
    simp only [Nat.add_lt_add_iff_left]

theorem is43 (hE : Reads D j E) (hs : Holds D j j s) (hj : j < 32) :
    Is (k0_pay43 E.q E.tot k0_pay71 (k0_pay72 (F := Ideal)) s.p (blk E.k j)) (fun r c => D.w (256 * j + r) (256 * j + c)) := by
  unfold k0_pay43
  refine Is.congr (is_select (p := fun r c => c < r) mask_iff (is_exp (is_sub (is21 hE hj) (is_sub (is_along (is_sub hE.tot hs.p))
    (is_sub (is_nn (is_trunc (is42 hE hj) _) is_upper) (is_ext (is_trunc (is42 hE hj) _) _))))) is_zero) ?_
  intro r hr c hc
  rw [sum_upper _ c hc, weight_eq]
  unfold Head.w
  simp only [Nat.add_lt_add_iff_left]

theorem is44 (hE : Reads D j E) (hs : Holds D j j s) (hj : j < 32) :
    Is (k0_pay44 E.q E.g E.tot k0_pay71 (k0_pay72 (F := Ideal)) s.p (blk E.k j) (blk E.v j))
      (fun r c => D.e (256 * j + r) (256 * j + c)) := by
  unfold k0_pay44
  exact is_mul (is27raw hE hj) (is43 hE hs hj)

theorem is13 (hE : Reads D j E) (hs : Holds D j j s) (hj : j < 32) :
    Is (k0_pay13 k0_pay71 (k0_pay44 E.q E.g E.tot k0_pay71 (k0_pay72 (F := Ideal)) s.p (blk E.k j) (blk E.v j))
      (k0_pay45 E.q E.g E.tot k0_pay71 (k0_pay72 (F := Ideal)) s.p s.e (blk E.k j) (blk E.v j)))
      (fun r c => D.dz (256 * j + r) (256 * j + c)) := by
  unfold k0_pay13 k0_pay45
  refine Is.congr (is_trunc (is_select (p := fun r c => c < r) mask_iff (is_mul (is_sub (is44 hE hs hj) (is_mul
    (is_exp (is_sub (is21 hE hj) (is42 hE hj))) (is_add (is_along hs.e) (is_nn (is_trunc (is44 hE hs hj) _) is_upper)))) is_scale)
    is_zero) _) ?_
  intro r hr c hc
  rw [sum_upper _ c hc, sum_split]
  unfold Head.dz Head.sp
  simp only [Nat.add_lt_add_iff_left]
  by_cases h : c < r
  · rw [if_pos h, if_pos h, if_pos h]; rfl
  · rw [if_neg h, if_neg h]

end block

/-- The block on the diagonal, `j`, after what went before. -/
def diag (E : Env Ideal) (j : ℕ) (s : Acc Ideal) : Out Ideal where
  dq := k0_pay16 k0_pay71 (k0_pay44 E.q E.g E.tot k0_pay71 k0_pay72 s.p (blk E.k j) (blk E.v j))
    (k0_pay45 E.q E.g E.tot k0_pay71 k0_pay72 s.p s.e (blk E.k j) (blk E.v j)) (blk E.k j) s.dq
  dk := setBlk s.dk j (k0_pay14 E.q k0_pay71 (k0_pay44 E.q E.g E.tot k0_pay71 k0_pay72 s.p (blk E.k j) (blk E.v j))
    (k0_pay45 E.q E.g E.tot k0_pay71 k0_pay72 s.p s.e (blk E.k j) (blk E.v j)) (blk s.dk j))
  dv := setBlk s.dv j (k0_pay15 E.g (k0_pay43 E.q E.tot k0_pay71 k0_pay72 s.p (blk E.k j)) (blk s.dv j))

/-- A key takes nothing from the queries up to itself. -/
theorem grown {f : ℕ → ℕ → ℕ → ℝ} {g : ℕ → ℕ → ℕ → ℝ} (hf : ∀ n y d, f n y d = ∑ t ∈ range n, g t y d)
    (hg : ∀ t y d, t ≤ y → g t y d = 0) (j y d : ℕ) :
    f (256 * (if y < 256 * (j + 1) then j + 1 else j)) y d = f (256 * (j + 1)) y d := by
  by_cases h : y < 256 * (j + 1)
  · rw [if_pos h]
  · rw [if_neg h, hf, hf, ← sum_block, Finset.sum_eq_zero (s := range 256), add_zero]
    intro t ht
    rw [Finset.mem_range] at ht
    exact hg _ _ _ (by omega)

theorem diag_leaves {D : Head} {j : ℕ} {E : Env Ideal} {s : Acc Ideal} (hE : Reads D j E) (hs : Holds D j j s) (hj : j < 32) :
    Leaves D j (diag E j s) where
  dq := by
    show Is (a := 256) (b := 128) (k0_pay16 (F := Ideal) _ _ _ _ _) _
    unfold k0_pay16
    refine Is.congr (is_trunc (is_add hs.dq (is_nn' (is13 hE hs hj) (is_blk hE.k j hj))) _) ?_
    intro r hr d hd
    exact sum_block (fun u => D.dz (256 * j + r) u * D.k u d) j
  dk := by
    refine Is.congr (is_grow (f := D.dk) (g := fun t y d => D.dz t y * D.q t d) (fun _ _ _ => rfl) hj hs.dk ?_) ?_
    · unfold k0_pay14
      exact is_cast (is_add (is_blk_grow hj hs.dk) (is_tn (is13 hE hs hj) hE.q)) _
    · intro y hy d hd
      refine grown (g := fun t y d => D.dz t y * D.q t d) (fun _ _ _ => rfl) (fun t y d h => ?_) j y d
      unfold Head.dz
      rw [if_neg (by omega), zero_mul]
  dv := by
    refine Is.congr (is_grow (f := D.dv) (g := fun t y d => D.w t y * D.g t d) (fun _ _ _ => rfl) hj hs.dv ?_) ?_
    · unfold k0_pay15
      exact is_cast (is_add (is_blk_grow hj hs.dv) (is_tn (is_trunc (is43 hE hs hj) _) hE.g)) _
    · intro y hy d hd
      refine grown (g := fun t y d => D.w t y * D.g t d) (fun _ _ _ => rfl) (fun t y d h => ?_) j y d
      unfold Head.w
      rw [if_neg (by omega), zero_mul]

/-! ### The whole point -/

theorem far_p (E : Env Ideal) (j : ℕ) (s : Acc Ideal) : (far E j s).p = k0_pay26 E.q k0_pay72 s.p (blk E.k j) := by
  show k0_pay4 (F := Ideal) (k0_pay26 E.q k0_pay72 s.p (blk E.k j)) = _
  unfold k0_pay4
  exact shapeCast_self _ _

theorem far_e (E : Env Ideal) (j : ℕ) (s : Acc Ideal) : (far E j s).e = addf s.e (extractStridedSlice S256x1 ![0, 255]
    (k0_pay28 E.q E.g E.tot k0_pay72 s.p (blk E.k j) (blk E.v j)) slices_S256x256_o0_255_S256x1) := by
  show k0_pay5 (F := Ideal) _ _ = _
  unfold k0_pay5
  exact shapeCast_self _ _

/-- The block before the diagonal and the block on it, together, are one after the other. -/
theorem later_eq (E : Env Ideal) (j : ℕ) (s : Acc Ideal) : later E j s = diag E (j + 1) (far E j s) := by
  unfold diag
  rw [far_p, far_e]
  unfold later
  congr 1
  show (addf s.dq (addf _ _) : FVec Ideal S256x128 .f32) = _
  unfold k0_pay16
  dsimp only
  show _ = (addf (far E j s).dq _ : FVec Ideal S256x128 .f32)
  show _ = (addf (k0_pay6 _ _ _ _) _ : FVec Ideal S256x128 .f32)
  unfold k0_pay6
  dsimp only
  rw [shapeCast_self]
  funext y
  exact (add_assoc _ _ _).symm

theorem point_leaves {D : Head} {i : ℕ} {E : Env Ideal} {dk dv : FVec Ideal S8192x128 .f32} (hE : Reads D i E) (hi : i < 32)
    (hk : Is dk (fun y d => D.dk (256 * i) y d)) (hv : Is dv (fun y d => D.dv (256 * i) y d)) :
    Leaves D i (point E i dk dv) := by
  have h0 : Holds D i 0 (start dk dv) := by
    refine ⟨?_, ?_, ?_, ?_, ?_⟩
    · show Is (a := 256) (b := 128) (k0_pay73 (F := Ideal)) _
      unfold k0_pay73
      exact is_cast (φ := .f32) (Is.congr is_zero fun _ _ _ _ => rfl) _
    · show Is (a := 256) (b := 1) (k0_pay74 (F := Ideal)) _
      unfold k0_pay74
      exact is_cast (φ := .f32) (Is.congr is_zero fun _ _ _ _ => rfl) _
    · show Is (a := 256) (b := 1) (k0_pay75 (F := Ideal)) _
      unfold k0_pay75
      exact is_cast (φ := .f32) (Is.congr is_zero fun _ _ _ _ => rfl) _
    · exact hk
    · exact hv
  cases i with
  | zero => exact diag_leaves hE h0 (by omega)
  | succ j =>
    show Leaves D (j + 1) (later E j (fars E j (start dk dv)))
    rw [later_eq]
    exact diag_leaves hE (fars_holds hE h0 hi (j + 1) le_rfl) hi

end AttnBwd

end
-- ==== Proof.Stack.lean ====
/- Stacks of matrices whose entries are real numbers, one matrix a head: what the host's operations make of them, and the
   sums that a row's positions run through. -/
module

public import proofs.«01_k».proof.Proof.Steps
public import Idealize.ShloMosaic.Lib.Pointwise
public import Idealize.ShloMosaic.Lib.ShapeFacts

@[expose] public section

set_option maxRecDepth 16384

noncomputable section

namespace AttnBwd

open Idealize.ShloMosaic
open Finset (range)

/-- The entries of a stack of matrices are the real numbers `f`. -/
def Is3 {a b c : ℕ} (X : (⟨3, ![a, b, c]⟩ : Shape).Idx → EReal) (f : ℕ → ℕ → ℕ → ℝ) : Prop :=
  ∀ (h : Fin a) (r : Fin b) (k : Fin c), X (ix3 h r k) = ((f h.val r.val k.val : ℝ) : EReal)

theorem Is3.congr {a b c : ℕ} {X : (⟨3, ![a, b, c]⟩ : Shape).Idx → EReal} {f g : ℕ → ℕ → ℕ → ℝ} (h : Is3 X f)
    (e : ∀ x < a, ∀ r < b, ∀ k < c, f x r k = g x r k) : Is3 X g := fun x r k => by
  rw [h x r k, e _ x.isLt _ r.isLt _ k.isLt]

/-! ## The operations -/

theorem Is3.at {a b c : ℕ} {X : (⟨3, ![a, b, c]⟩ : Shape).Idx → EReal} {f : ℕ → ℕ → ℕ → ℝ} (h : Is3 X f) (j : (⟨3, ![a, b, c]⟩ : Shape).Idx) :
    X j = ((f (j 0).val (j 1).val (j 2).val : ℝ) : EReal) := (congrArg X (eq_ix3 j)).trans (h _ _ _)

theorem Is3.of {a b c : ℕ} {X : (⟨3, ![a, b, c]⟩ : Shape).Idx → EReal} {f : ℕ → ℕ → ℕ → ℝ}
    (h : ∀ j : (⟨3, ![a, b, c]⟩ : Shape).Idx, X j = ((f (j 0).val (j 1).val (j 2).val : ℝ) : EReal)) : Is3 X f := fun x r k => h (ix3 x r k)

section ops

variable {a b c : ℕ} {φ : FTy} {X Y Z I S : FVec Ideal ⟨3, ![a, b, c]⟩ φ} {f g : ℕ → ℕ → ℕ → ℝ}

theorem is3_add (hx : Is3 X f) (hy : Is3 Y g) : Is3 (addf X Y) (fun h r k => f h r k + g h r k) := fun h r k => by
  rw [EReal.coe_add, ← hx h r k, ← hy h r k]; rfl

theorem is3_sub (hx : Is3 X f) (hy : Is3 Y g) : Is3 (subf X Y) (fun h r k => f h r k - g h r k) := fun h r k => by
  rw [EReal.coe_sub, ← hx h r k, ← hy h r k]; rfl

/-- Scores divided by the root of 128, read at every index. -/
theorem is3_root {a b c : ℕ} {X Y : (⟨3, ![a, b, c]⟩ : Shape).Idx → EReal} {f : ℕ → ℕ → ℕ → ℝ} (hx : Is3 X f)
    (hy : ∀ j, Y j = Ideal.sqrt (Ideal.ofBits .f32 0x43000000#32)) :
    Is3 (fun j => Ideal.div (X j) (Y j)) (fun h r k => f h r k * cc) := fun h r k => by
  show Ideal.div (X (ix3 h r k)) (Y (ix3 h r k)) = _
  rw [hx h r k, hy, root_coe, div_root]

theorem is3_mul (hx : Is3 X f) (hy : Is3 Y g) : Is3 (mulf X Y) (fun h r k => f h r k * g h r k) := fun h r k => by
  rw [EReal.coe_mul, ← hx h r k, ← hy h r k]; rfl

theorem is3_neg (hx : Is3 X f) : Is3 (Host.negf X) (fun h r k => -f h r k) := fun h r k => by
  rw [EReal.coe_neg, ← hx h r k]; rfl

theorem is3_exp (hx : Is3 X f) : Is3 (Host.exp X) (fun h r k => Real.exp (f h r k)) := fun h r k => by
  show Ideal.exp (X (ix3 h r k)) = _
  rw [hx h r k, Ideal.exp_coe]

theorem is3_select {M : IVec ⟨3, ![a, b, c]⟩ 1} {p : ℕ → ℕ → Prop} [∀ r k, Decidable (p r k)]
    (hm : ∀ (h : Fin a) (r : Fin b) (k : Fin c), M (ix3 h r k) = 1#1 ↔ p r.val k.val) (hx : Is3 X f) (hy : Is3 Y g) :
    Is3 (select M X Y) (fun h r k => if p r k then f h r k else g h r k) := fun h r k => by
  show Scalar.select (M (ix3 h r k)) (X (ix3 h r k)) (Y (ix3 h r k)) = _
  unfold Scalar.select
  by_cases e : p r.val k.val
  · rw [if_pos (show M (ix3 h r k) = 1 from (hm h r k).mpr e), hx h r k]
    exact congrArg _ (if_pos e).symm
  · rw [if_neg (show ¬ M (ix3 h r k) = 1 from fun o => e ((hm h r k).mp o)), hy h r k]
    exact congrArg _ (if_neg e).symm

/-- The softplus of real entries, as the host spells it. -/
theorem is3_spl (hx : Is3 X f) (hz : Is3 Z fun _ _ _ => 0) :
    Is3 (addf (maximumf X Z) (Host.log1p (Host.exp (Host.negf (Host.absf X))))) (fun h r k => spl (f h r k)) := fun h r k => by
  show max (X (ix3 h r k)) (Z (ix3 h r k)) + Ideal.log (1 + Ideal.exp (-max (X (ix3 h r k)) (-(X (ix3 h r k))))) = _
  rw [hx h r k, hz h r k, abs_coe, ← EReal.coe_neg, log1p_coe, ← coe_max, ← EReal.coe_add]
  rfl

/-- The same under the test that sets an entry aside which is not equal to itself. -/
theorem is3_spl_guarded (hx : Is3 X f) (hz : Is3 Z fun _ _ _ => 0) :
    Is3 (select (cmpf .une (subf X Z) (subf X Z)) (addf X Z)
      (addf (maximumf X Z) (Host.log1p (Host.exp (Host.negf (Host.absf (subf X Z))))))) (fun h r k => spl (f h r k)) := fun h r k => by
  show Scalar.select (Ideal.cmp .une (X (ix3 h r k) - Z (ix3 h r k)) (X (ix3 h r k) - Z (ix3 h r k))) (X (ix3 h r k) + Z (ix3 h r k))
    (max (X (ix3 h r k)) (Z (ix3 h r k))
      + Ideal.log (1 + Ideal.exp (-max (X (ix3 h r k) - Z (ix3 h r k)) (-(X (ix3 h r k) - Z (ix3 h r k)))))) = _
  unfold Scalar.select Ideal.cmp
  rw [if_neg (by simp), hx h r k, hz h r k, ← EReal.coe_sub, sub_zero, abs_coe, ← EReal.coe_neg, log1p_coe, ← coe_max, ← EReal.coe_add]
  rfl

/-- The exponential of a difference of real entries, under the tests that set infinite ones aside. -/
theorem is3_exp_guarded (hx : Is3 X f) (hs : Is3 S g) (hi : ∀ j, I j = ⊤) :
    Is3 (Host.exp (subf (select (cmpf .oeq X I) Z X) (select (cmpf .oeq S I) Y S))) (fun h r k => Real.exp (f h r k - g h r k)) := fun h r k => by
  show Ideal.exp (Scalar.select (Ideal.cmp .oeq (X (ix3 h r k)) (I (ix3 h r k))) (Z (ix3 h r k)) (X (ix3 h r k))
    - Scalar.select (Ideal.cmp .oeq (S (ix3 h r k)) (I (ix3 h r k))) (Y (ix3 h r k)) (S (ix3 h r k))) = _
  unfold Scalar.select Ideal.cmp
  rw [hi, hx h r k, hs h r k, if_neg (by simp), if_neg (by simp), ← EReal.coe_sub, Ideal.exp_coe]

end ops

/-! ## A running sum along a row -/

theorem fold_coe {ι : Type} (l : List ι) (g : ι → EReal) (f : ι → ℝ) (hg : ∀ a ∈ l, g a = ((f a : ℝ) : EReal)) (v : EReal) (z : ℝ)
    (hv : v = ((z : ℝ) : EReal)) : l.foldl (fun r a => r + g a) v = ((z + (l.map f).sum : ℝ) : EReal) := by
  induction l generalizing v z with
  | nil => simpa using hv
  | cons a l ih =>
    rw [List.foldl_cons, ih (fun b hb => hg b (List.mem_cons_of_mem _ hb)) _ (z + f a) (by
      rw [hv, hg a List.mem_cons_self, EReal.coe_add]), List.map_cons, List.sum_cons, add_assoc]

theorem sum_finRange (M : ℕ) (F : ℕ → ℝ) : ((List.finRange M).map fun n => F n.val).sum = ∑ k ∈ range M, F k := by
  rw [Finset.sum_range]
  exact (Fin.sum_univ_def _).symm

theorem numel3 (N : ℕ) : (⟨3, ![1, 1, N]⟩ : Shape).numel = N := by
  rw [Shape.numel_rank3]
  show 1 * 1 * N = N
  omega

theorem last_symm {N : ℕ} (n : Fin (⟨3, ![1, 1, N]⟩ : Shape).numel) :
    ((⟨3, ![1, 1, N]⟩ : Shape).rowMajor.symm n 0).val = 0 ∧ ((⟨3, ![1, 1, N]⟩ : Shape).rowMajor.symm n 1).val = 0
      ∧ ((⟨3, ![1, 1, N]⟩ : Shape).rowMajor.symm n 2).val = n.val := by
  have h0 : ((⟨3, ![1, 1, N]⟩ : Shape).rowMajor.symm n 0).val < 1 := ((⟨3, ![1, 1, N]⟩ : Shape).rowMajor.symm n 0).isLt
  have h1 : ((⟨3, ![1, 1, N]⟩ : Shape).rowMajor.symm n 1).val < 1 := ((⟨3, ![1, 1, N]⟩ : Shape).rowMajor.symm n 1).isLt
  have e := congrArg Fin.val ((⟨3, ![1, 1, N]⟩ : Shape).rowMajor.apply_symm_apply n)
  rw [Shape.rowMajor_val_three] at e
  replace h0 : ((⟨3, ![1, 1, N]⟩ : Shape).rowMajor.symm n 0).val = 0 := by omega
  replace h1 : ((⟨3, ![1, 1, N]⟩ : Shape).rowMajor.symm n 1).val = 0 := by omega
  refine ⟨h0, h1, ?_⟩
  rw [h0, h1] at e
  simpa using e

/-- The window at a position of a row, the row padded high: it reads the positions from there on. -/
theorem suffix_sum {A B N N1 : ℕ} (hN : N1 + 1 = N) {X : (⟨3, ![A, B, N]⟩ : Shape).Idx → EReal} {f : ℕ → ℕ → ℕ → ℝ} (hx : Is3 X f)
    (h : (⟨3, ![A, B, N]⟩ : Shape).ReduceWindows (![1, 1, N] : Fin 3 → ℕ) ![1, 1, 1] ![0, 0, 0] ![0, 0, N1] ⟨3, ![A, B, N]⟩) :
    Is3 (Ideal.hostReduceWindowAdd (s := ⟨3, ![A, B, N]⟩) (t := ⟨3, ![A, B, N]⟩) ![1, 1, N] ![1, 1, 1] ![0, 0, 0] ![0, 0, N1] h X 0)
      (fun a b c => ∑ w ∈ range N, if c + w < N then f a b (c + w) else 0) := fun a b c => by
  unfold Ideal.hostReduceWindowAdd Host.reduceWindow
  refine (fold_coe _ _ (fun n => if c.val + n.val < N then f a.val b.val (c.val + n.val) else 0) (fun n _ => ?_) _ 0 rfl).trans ?_
  · obtain ⟨w0, w1, w2⟩ := last_symm (N := N) n
    dsimp only
    split
    · next hin =>
      have h2 := hin 2
      change 0 ≤ c.val * 1 + ((⟨3, ![1, 1, N]⟩ : Shape).rowMajor.symm n 2).val
        ∧ c.val * 1 + ((⟨3, ![1, 1, N]⟩ : Shape).rowMajor.symm n 2).val - 0 < N at h2
      rw [w2] at h2
      have h3 : c.val + n.val < N := by omega
      rw [if_pos h3]
      refine (congrArg X (funext fun d => Fin.ext ?_)).trans (hx a b ⟨c.val + n.val, h3⟩)
      match d with
      | ⟨0, _⟩ =>
        show a.val * 1 + ((⟨3, ![1, 1, N]⟩ : Shape).rowMajor.symm n 0).val - 0 = a.val
        rw [w0]; omega
      | ⟨1, _⟩ =>
        show b.val * 1 + ((⟨3, ![1, 1, N]⟩ : Shape).rowMajor.symm n 1).val - 0 = b.val
        rw [w1]; omega
      | ⟨2, _⟩ =>
        show c.val * 1 + ((⟨3, ![1, 1, N]⟩ : Shape).rowMajor.symm n 2).val - 0 = c.val + n.val
        rw [w2]; omega
    · next hin =>
      rw [if_neg fun hle => hin fun d => by
        match d with
        | ⟨0, _⟩ =>
          show 0 ≤ a.val * 1 + ((⟨3, ![1, 1, N]⟩ : Shape).rowMajor.symm n 0).val
            ∧ a.val * 1 + ((⟨3, ![1, 1, N]⟩ : Shape).rowMajor.symm n 0).val - 0 < A
          rw [w0]; have := a.isLt; omega
        | ⟨1, _⟩ =>
          show 0 ≤ b.val * 1 + ((⟨3, ![1, 1, N]⟩ : Shape).rowMajor.symm n 1).val
            ∧ b.val * 1 + ((⟨3, ![1, 1, N]⟩ : Shape).rowMajor.symm n 1).val - 0 < B
          rw [w1]; have := b.isLt; omega
        | ⟨2, _⟩ =>
          show 0 ≤ c.val * 1 + ((⟨3, ![1, 1, N]⟩ : Shape).rowMajor.symm n 2).val
            ∧ c.val * 1 + ((⟨3, ![1, 1, N]⟩ : Shape).rowMajor.symm n 2).val - 0 < N
          rw [w2]; omega]
      rfl
  · refine congrArg _ ?_
    rw [zero_add, sum_finRange _ fun w => if c.val + w < N then f a.val b.val (c.val + w) else 0]
    exact congrArg (fun M => ∑ w ∈ range M, if c.val + w < N then f a.val b.val (c.val + w) else 0) (numel3 N)

/-- The window at a position of a row, the row padded low: it reads the positions up to there. -/
theorem prefix_sum {A B N N1 : ℕ} (hN : N1 + 1 = N) {X : (⟨3, ![A, B, N]⟩ : Shape).Idx → EReal} {f : ℕ → ℕ → ℕ → ℝ} (hx : Is3 X f)
    (h : (⟨3, ![A, B, N]⟩ : Shape).ReduceWindows (![1, 1, N] : Fin 3 → ℕ) ![1, 1, 1] ![0, 0, N1] ![0, 0, 0] ⟨3, ![A, B, N]⟩) :
    Is3 (Ideal.hostReduceWindowAdd (s := ⟨3, ![A, B, N]⟩) (t := ⟨3, ![A, B, N]⟩) ![1, 1, N] ![1, 1, 1] ![0, 0, N1] ![0, 0, 0] h X 0)
      (fun a b c => ∑ w ∈ range N, if N1 ≤ c + w then f a b (c + w - N1) else 0) := fun a b c => by
  have hc := c.isLt
  unfold Ideal.hostReduceWindowAdd Host.reduceWindow
  refine (fold_coe _ _ (fun n => if N1 ≤ c.val + n.val then f a.val b.val (c.val + n.val - N1) else 0) (fun n _ => ?_) _ 0 rfl).trans ?_
  · obtain ⟨w0, w1, w2⟩ := last_symm (N := N) n
    have hn : n.val < N := (n.cast (numel3 N)).isLt
    dsimp only
    split
    · next hin =>
      have h2 := hin 2
      change N1 ≤ c.val * 1 + ((⟨3, ![1, 1, N]⟩ : Shape).rowMajor.symm n 2).val
        ∧ c.val * 1 + ((⟨3, ![1, 1, N]⟩ : Shape).rowMajor.symm n 2).val - N1 < N at h2
      rw [w2] at h2
      have h3 : c.val + n.val - N1 < N := by omega
      rw [if_pos (by omega)]
      refine (congrArg X (funext fun d => Fin.ext ?_)).trans (hx a b ⟨c.val + n.val - N1, h3⟩)
      match d with
      | ⟨0, _⟩ =>
        show a.val * 1 + ((⟨3, ![1, 1, N]⟩ : Shape).rowMajor.symm n 0).val - 0 = a.val
        rw [w0]; omega
      | ⟨1, _⟩ =>
        show b.val * 1 + ((⟨3, ![1, 1, N]⟩ : Shape).rowMajor.symm n 1).val - 0 = b.val
        rw [w1]; omega
      | ⟨2, _⟩ =>
        show c.val * 1 + ((⟨3, ![1, 1, N]⟩ : Shape).rowMajor.symm n 2).val - N1 = c.val + n.val - N1
        rw [w2]; omega
    · next hin =>
      rw [if_neg fun hle => hin fun d => by
        match d with
        | ⟨0, _⟩ =>
          show 0 ≤ a.val * 1 + ((⟨3, ![1, 1, N]⟩ : Shape).rowMajor.symm n 0).val
            ∧ a.val * 1 + ((⟨3, ![1, 1, N]⟩ : Shape).rowMajor.symm n 0).val - 0 < A
          rw [w0]; have := a.isLt; omega
        | ⟨1, _⟩ =>
          show 0 ≤ b.val * 1 + ((⟨3, ![1, 1, N]⟩ : Shape).rowMajor.symm n 1).val
            ∧ b.val * 1 + ((⟨3, ![1, 1, N]⟩ : Shape).rowMajor.symm n 1).val - 0 < B
          rw [w1]; have := b.isLt; omega
        | ⟨2, _⟩ =>
          show N1 ≤ c.val * 1 + ((⟨3, ![1, 1, N]⟩ : Shape).rowMajor.symm n 2).val
            ∧ c.val * 1 + ((⟨3, ![1, 1, N]⟩ : Shape).rowMajor.symm n 2).val - N1 < N
          rw [w2]; omega]
      rfl
  · refine congrArg _ ?_
    rw [zero_add, sum_finRange _ fun w => if N1 ≤ c.val + w then f a.val b.val (c.val + w - N1) else 0]
    exact congrArg (fun M => ∑ w ∈ range M, if N1 ≤ c.val + w then f a.val b.val (c.val + w - N1) else 0) (numel3 N)

theorem is3_suffix {A B N N1 : ℕ} (hN : N1 + 1 = N) {X : FVec Ideal ⟨3, ![A, B, N]⟩ .f32} {f : ℕ → ℕ → ℕ → ℝ} (hx : Is3 X f)
    {u : Shape} (init : FVec Ideal u .f32) (hu : 0 < u.numel) (hi : init (Shape.Idx.first hu) = (0 : EReal))
    (h : (⟨3, ![A, B, N]⟩ : Shape).ReduceWindows (![1, 1, N] : Fin 3 → ℕ) ![1, 1, 1] ![0, 0, 0] ![0, 0, N1] ⟨3, ![A, B, N]⟩) :
    Is3 (Host.reduceWindowAdd (F := Ideal) (s := ⟨3, ![A, B, N]⟩) (t := ⟨3, ![A, B, N]⟩) ![1, 1, N] ![1, 1, 1] ![0, 0, 0] ![0, 0, N1] X init h hu)
      (fun a b c => ∑ w ∈ range N, if c + w < N then f a b (c + w) else 0) := by
  have e : Host.reduceWindowAdd (F := Ideal) (s := ⟨3, ![A, B, N]⟩) (t := ⟨3, ![A, B, N]⟩) ![1, 1, N] ![1, 1, 1] ![0, 0, 0] ![0, 0, N1] X init h hu
      = Ideal.hostReduceWindowAdd (s := ⟨3, ![A, B, N]⟩) (t := ⟨3, ![A, B, N]⟩) ![1, 1, N] ![1, 1, 1] ![0, 0, 0] ![0, 0, N1] h X
        (init (Shape.Idx.first hu)) := rfl
  rw [e, hi]
  exact suffix_sum hN hx h

theorem is3_prefix {A B N N1 : ℕ} (hN : N1 + 1 = N) {X : FVec Ideal ⟨3, ![A, B, N]⟩ .f32} {f : ℕ → ℕ → ℕ → ℝ} (hx : Is3 X f)
    {u : Shape} (init : FVec Ideal u .f32) (hu : 0 < u.numel) (hi : init (Shape.Idx.first hu) = (0 : EReal))
    (h : (⟨3, ![A, B, N]⟩ : Shape).ReduceWindows (![1, 1, N] : Fin 3 → ℕ) ![1, 1, 1] ![0, 0, N1] ![0, 0, 0] ⟨3, ![A, B, N]⟩) :
    Is3 (Host.reduceWindowAdd (F := Ideal) (s := ⟨3, ![A, B, N]⟩) (t := ⟨3, ![A, B, N]⟩) ![1, 1, N] ![1, 1, 1] ![0, 0, N1] ![0, 0, 0] X init h hu)
      (fun a b c => ∑ w ∈ range N, if N1 ≤ c + w then f a b (c + w - N1) else 0) := by
  have e : Host.reduceWindowAdd (F := Ideal) (s := ⟨3, ![A, B, N]⟩) (t := ⟨3, ![A, B, N]⟩) ![1, 1, N] ![1, 1, 1] ![0, 0, N1] ![0, 0, 0] X init h hu
      = Ideal.hostReduceWindowAdd (s := ⟨3, ![A, B, N]⟩) (t := ⟨3, ![A, B, N]⟩) ![1, 1, N] ![1, 1, 1] ![0, 0, N1] ![0, 0, 0] h X
        (init (Shape.Idx.first hu)) := rfl
  rw [e, hi]
  exact prefix_sum hN hx h

/-- What the window reads, the row padded high: the row's sum but for the positions before. -/
theorem suffix_eq (F : ℕ → ℝ) (N c : ℕ) (hc : c < N) :
    (∑ w ∈ range N, if c + w < N then F (c + w) else 0) = (∑ u ∈ range N, F u) - ∑ u ∈ range c, F u := by
  obtain ⟨e, rfl⟩ : ∃ e, N = e + c := ⟨N - c, by omega⟩
  rw [Finset.sum_range_add, add_comm e c, Finset.sum_range_add, add_sub_cancel_left]
  have h1 : (∑ x ∈ range c, if c + (e + x) < c + e then F (c + (e + x)) else 0) = 0 :=
    Finset.sum_eq_zero fun x _ => if_neg (by omega)
  rw [h1, add_zero]
  exact Finset.sum_congr rfl fun x hx => if_pos (by have := Finset.mem_range.1 hx; omega)

/-- What the window reads, the row padded low: the sum of the positions up to there. -/
theorem prefix_eq (F : ℕ → ℝ) (N N1 c : ℕ) (hN : N1 + 1 = N) (hc : c < N) :
    (∑ w ∈ range N, if N1 ≤ c + w then F (c + w - N1) else 0) = ∑ u ∈ range (c + 1), F u := by
  obtain ⟨e, rfl⟩ : ∃ e, N = e + (c + 1) := ⟨N - (c + 1), by omega⟩
  rw [Finset.sum_range_add]
  have h1 : (∑ x ∈ range e, if N1 ≤ c + x then F (c + x - N1) else 0) = 0 :=
    Finset.sum_eq_zero fun x hx => if_neg (by have := Finset.mem_range.1 hx; omega)
  rw [h1, zero_add]
  refine Finset.sum_congr rfl fun x hx => ?_
  rw [if_pos (by omega), show c + (e + x) - N1 = x by omega]

/-! ## The score's softplus -/

theorem spl_neg (x : ℝ) : spl (-x) = spl x - x := by
  unfold spl
  rw [abs_neg]
  rcases le_total x 0 with h | h
  · rw [max_eq_left (by linarith), max_eq_right h]; ring
  · rw [max_eq_right (by linarith), max_eq_left h]; ring

theorem exp_spl (x : ℝ) : Real.exp (spl x) = 1 + Real.exp x := by
  have hp : 0 < 1 + Real.exp (-|x|) := by have := Real.exp_pos (-|x|); linarith
  unfold spl
  rw [Real.exp_add, Real.exp_log hp, mul_add, mul_one, ← Real.exp_add]
  rcases le_total x 0 with h | h
  · rw [max_eq_right h, abs_of_nonpos h, Real.exp_zero]; simp
  · rw [max_eq_left h, abs_of_nonneg h]; simp [add_comm]

/-- The stick's two shares sum to one. -/
theorem shares (x : ℝ) : Real.exp (-x - spl (-x)) = 1 - Real.exp (x - spl x) := by
  have h : Real.exp (spl x) ≠ 0 := (Real.exp_pos _).ne'
  rw [spl_neg, show -x - (spl x - x) = -spl x by ring, Real.exp_sub, Real.exp_neg]
  field_simp
  rw [exp_spl]; ring

end AttnBwd

end
-- ==== Proof.Heads.lean ====
/- The heads of the step, as rows of real numbers read from the two arguments. -/
module

public import proofs.«01_k».proof.Proof.Stack

@[expose] public section

set_option maxRecDepth 16384

noncomputable section

namespace AttnBwd

open Idealize.ShloMosaic
open Finset (range)

/-- An array's entries as real numbers. -/
def at2 {a b : ℕ} (X : (⟨2, ![a, b]⟩ : Shape).Idx → EReal) (r c : ℕ) : ℝ :=
  if h : r < a ∧ c < b then (X (ix2 ⟨r, h.1⟩ ⟨c, h.2⟩)).toReal else 0

theorem at2_coe {a b : ℕ} (X : (⟨2, ![a, b]⟩ : Shape).Idx → EReal) (j : (⟨2, ![a, b]⟩ : Shape).Idx) (h : ∃ y : ℝ, X j = (y : EReal)) :
    X j = ((at2 X (j 0).val (j 1).val : ℝ) : EReal) := by
  obtain ⟨y, hy⟩ := h
  have e : ix2 (⟨(j 0).val, (j 0).isLt⟩ : Fin a) (⟨(j 1).val, (j 1).isLt⟩ : Fin b) = j := (eq_ix2 j).symm
  have e2 : at2 X (j 0).val (j 1).val = (X j).toReal := (dif_pos ⟨(j 0).isLt, (j 1).isLt⟩).trans (congrArg (fun i => (X i).toReal) e)
  rw [e2, hy, EReal.toReal_coe]

/-- The arguments: the projections and the gradient of the layer's output. -/
abbrev Proj := (⟨2, ![8192, 13440]⟩ : Shape).Idx → EReal
abbrev Grad := (⟨2, ![8192, 4096]⟩ : Shape).Idx → EReal

/-- The rows of the head `h`. -/
def headOf (x0 : Proj) (x1 : Grad) (h : ℕ) : Head where
  q := fun t d => at2 x0 t (5120 + 128 * h + d)
  k := fun t d => at2 x0 t (7168 + 128 * h + d)
  g := fun t d => at2 x1 t (2048 + 128 * h + d)
  v := fun t d => at2 x0 t (9216 + 128 * h + d)

/-- The columns that the attention reads hold real numbers. -/
structure Finite (x0 : Proj) (x1 : Grad) : Prop where
  p : ∀ j : (⟨2, ![8192, 13440]⟩ : Shape).Idx, 5120 ≤ (j 1).val → (j 1).val < 11264 → ∃ y : ℝ, x0 j = (y : EReal)
  g : ∀ j : (⟨2, ![8192, 4096]⟩ : Shape).Idx, 2048 ≤ (j 1).val → ∃ y : ℝ, x1 j = (y : EReal)

/-- Reading a projection's entry by its row and column. -/
theorem read_proj {x0 : Proj} {x1 : Grad} (hx : Finite x0 x1) (j : (⟨2, ![8192, 13440]⟩ : Shape).Idx) (r c : ℕ) (h0 : (j 0).val = r)
    (h1 : (j 1).val = c) (hc : 5120 ≤ c ∧ c < 11264) : x0 j = ((at2 x0 r c : ℝ) : EReal) := by
  subst h0 h1
  exact at2_coe x0 j (hx.p j hc.1 hc.2)

theorem read_grad {x0 : Proj} {x1 : Grad} (hx : Finite x0 x1) (j : (⟨2, ![8192, 4096]⟩ : Shape).Idx) (r c : ℕ) (h0 : (j 0).val = r)
    (h1 : (j 1).val = c) (hc : 2048 ≤ c) : x1 j = ((at2 x1 r c : ℝ) : EReal) := by
  subst h0 h1
  exact at2_coe x1 j (hx.g j hc)

end AttnBwd

end
-- ==== Proof.Ref.lean ====
/- What the reference program leaves in its results: head by head, the gradients of query, key and value as real sums. -/
module

public import proofs.«01_k».proof.Proof.Heads
public import proofs.«01_k».proof.Proof.Gen.ReferenceIdeal.Read

@[expose] public section

set_option maxRecDepth 16384

noncomputable section

namespace AttnBwd

open Cert.ReferenceIdeal Cert.ReferenceIdeal.Gen Cert.ReferenceIdeal.Read
open Idealize.ShloMosaic
open Finset (range)

variable {x0 : Proj} {x1 : Grad}

/-! ## The rows of the heads -/

theorem ref_q (hx : Finite x0 x1) : Is3 (a := 16) (b := 8192) (c := 128) (val_main_v6 (F := Ideal) x0) (fun h t d => (headOf x0 x1 h).q t d) :=
  Is3.of fun j => by
    rw [val_main_v6_apply, val_main_v5_apply, val_main_v0_apply]
    have h0 : (j 0).val < 16 := (j 0).isLt
    have h1 : (j 1).val < 8192 := (j 1).isLt
    have h2 : (j 2).val < 128 := (j 2).isLt
    refine read_proj hx _ (j 1).val (5120 + 128 * (j 0).val + (j 2).val) ?_ ?_ (by omega)
    · show (((j 1).val * 16 + (j 0).val) * 128 + (j 2).val) / 2048 = (j 1).val
      omega
    · show 5120 + (((j 1).val * 16 + (j 0).val) * 128 + (j 2).val) % 2048 = 5120 + 128 * (j 0).val + (j 2).val
      omega

theorem ref_k (hx : Finite x0 x1) : Is3 (a := 16) (b := 8192) (c := 128) (val_main_v8 (F := Ideal) x0) (fun h t d => (headOf x0 x1 h).k t d) :=
  Is3.of fun j => by
    rw [val_main_v8_apply, val_main_v7_apply, val_main_v1_apply]
    have h0 : (j 0).val < 16 := (j 0).isLt
    have h1 : (j 1).val < 8192 := (j 1).isLt
    have h2 : (j 2).val < 128 := (j 2).isLt
    refine read_proj hx _ (j 1).val (7168 + 128 * (j 0).val + (j 2).val) ?_ ?_ (by omega)
    · show (((j 1).val * 16 + (j 0).val) * 128 + (j 2).val) / 2048 = (j 1).val
      omega
    · show 7168 + (((j 1).val * 16 + (j 0).val) * 128 + (j 2).val) % 2048 = 7168 + 128 * (j 0).val + (j 2).val
      omega

theorem ref_v (hx : Finite x0 x1) : Is3 (a := 16) (b := 8192) (c := 128) (val_main_v29 (F := Ideal) x0) (fun h t d => (headOf x0 x1 h).v t d) :=
  Is3.of fun j => by
    rw [val_main_v29_apply, val_main_v28_apply, val_main_v2_apply]
    have h0 : (j 0).val < 16 := (j 0).isLt
    have h1 : (j 1).val < 8192 := (j 1).isLt
    have h2 : (j 2).val < 128 := (j 2).isLt
    refine read_proj hx _ (j 1).val (9216 + 128 * (j 0).val + (j 2).val) ?_ ?_ (by omega)
    · show (((j 1).val * 16 + (j 0).val) * 128 + (j 2).val) / 2048 = (j 1).val
      omega
    · show 9216 + (((j 1).val * 16 + (j 0).val) * 128 + (j 2).val) % 2048 = 9216 + 128 * (j 0).val + (j 2).val
      omega

theorem ref_g (hx : Finite x0 x1) : Is3 (a := 16) (b := 8192) (c := 128) (val_main_v34 (F := Ideal) x1) (fun h t d => (headOf x0 x1 h).g t d) :=
  Is3.of fun j => by
    rw [val_main_v34_apply, val_main_v33_apply, val_main_v4_apply, val_main_v3_apply]
    have h0 : (j 0).val < 16 := (j 0).isLt
    have h1 : (j 1).val < 8192 := (j 1).isLt
    have h2 : (j 2).val < 128 := (j 2).isLt
    refine read_grad hx _ (j 1).val (2048 + 128 * (j 0).val + (j 2).val) ?_ ?_ (by omega)
    · show (((j 1).val * 16 + (j 0).val) * 128 + (j 2).val) / 2048 = (j 1).val
      omega
    · show 2048 + (((j 1).val * 16 + (j 0).val) * 128 + (j 2).val) % 2048 = 2048 + 128 * (j 0).val + (j 2).val
      omega

/-! ## The mask -/

theorem ref_mask (j : S16x8192x8192.Idx) : val_main_v21_1 (F := Ideal) j = 1#1 ↔ (j 2).val < (j 1).val := by
  have h1 : (j 1).val < 8192 := (j 1).isLt
  have h2 : (j 2).val < 8192 := (j 2).isLt
  rw [val_main_v21_1_apply, val_main_v18_apply, val_main_v16_apply, val_main_v17_apply, val_main_v14_apply, val_main_v15_apply,
    val_main_v13_apply, val_main_v13_apply]
  show IntOp.cmpi .slt (BitVec.ofNat 32 (j 2).val) (BitVec.ofNat 32 (j 1).val) = 1#1 ↔ _
  rw [WordCmp.cmpi_slt_eq, WordCmp.ofBool_decide_eq_one_iff, WordCmp.toInt_ofNat_of_lt (by omega), WordCmp.toInt_ofNat_of_lt (by omega)]
  omega

/-! ## The scores and the weights -/

theorem ref_zero {s t : Shape} (d) (h : s.BroadcastsInDim t d) (j : t.Idx) :
    broadcastInDim t d h (constant (F := Ideal) s .f32 0x00000000#32) j = 0 := Ideal.ofBits_zero_f32

theorem top_word : (Ideal.ofBits .f32 0x7F800000#32 : EReal) = ⊤ := by
  unfold Ideal.ofBits Ideal.ieee
  dsimp only
  rw [if_pos (by decide)]
  first | rfl | (rw [if_pos (by decide)]; first | rfl | (rw [if_neg (by decide)]))

theorem ref_z (hx : Finite x0 x1) : Is3 (a := 16) (b := 8192) (c := 8192) (val_main_v12 (F := Ideal) x0) (fun h t s => (headOf x0 x1 h).z t s) :=
  is3_root (X := val_main_v9 (F := Ideal) x0) (Y := val_main_v11 (F := Ideal))
    (f := fun h t s => ∑ d ∈ range 128, (headOf x0 x1 h).q t d * (headOf x0 x1 h).k s d)
    (Is3.of fun j => by
      rw [val_main_v9_apply]
      exact sum_mul_coe _ _ (fun d => (headOf x0 x1 (j 0).val).q (j 1).val d) (fun d => (headOf x0 x1 (j 0).val).k (j 2).val d)
        (fun k => (ref_q hx).at _) (fun k => (ref_k hx).at _))
    (fun _ => rfl)

/-- The share of what is left of the stick, that the query takes and that it leaves. -/
theorem ref_spl (hx : Finite x0 x1) :
    Is3 (a := 16) (b := 8192) (c := 8192) (val_main_call0_v1_0 (F := Ideal) x0) (fun h t s => spl ((headOf x0 x1 h).z t s)) :=
  is3_spl_guarded (φ := .f32) (X := val_main_call0_v0 (F := Ideal) x0) (Z := val_main_call0_call0_v0 (F := Ideal))
    (Is3.congr (is3_neg (φ := .f32) (X := val_main_v19 (F := Ideal) x0) (is3_neg (φ := .f32) (X := val_main_v12 (F := Ideal) x0) (ref_z hx)))
      fun _ _ _ _ _ _ => neg_neg _)
    (fun _ _ _ => Ideal.ofBits_zero_f32)

theorem ref_take (hx : Finite x0 x1) : Is3 (a := 16) (b := 8192) (c := 8192) (val_main_v20_1 (F := Ideal) x0)
    (fun h t s => Real.exp ((headOf x0 x1 h).z t s - spl ((headOf x0 x1 h).z t s))) :=
  is3_exp_guarded (φ := .f32) (X := val_main_call0_v0 (F := Ideal) x0) (S := val_main_call0_v1_0 (F := Ideal) x0)
    (Z := val_main_call0_call0_v15 (F := Ideal)) (Y := val_main_call0_call0_v19 (F := Ideal)) (I := val_main_call0_call0_v13 (F := Ideal))
    (Is3.congr (is3_neg (φ := .f32) (X := val_main_v19 (F := Ideal) x0) (is3_neg (φ := .f32) (X := val_main_v12 (F := Ideal) x0) (ref_z hx)))
      fun _ _ _ _ _ _ => neg_neg _)
    (ref_spl hx) (fun _ => top_word)

theorem ref_spl_neg (hx : Finite x0 x1) :
    Is3 (a := 16) (b := 8192) (c := 8192) (val_main_call3_v1_0 (F := Ideal) x0) (fun h t s => spl (-(headOf x0 x1 h).z t s)) :=
  is3_spl_guarded (φ := .f32) (X := val_main_call3_v0 (F := Ideal) x0) (Z := val_main_call3_call0_v0 (F := Ideal))
    (is3_neg (φ := .f32) (X := val_main_v12 (F := Ideal) x0) (ref_z hx)) (fun _ _ _ => Ideal.ofBits_zero_f32)

theorem ref_leave (hx : Finite x0 x1) : Is3 (a := 16) (b := 8192) (c := 8192) (val_main_v24_1 (F := Ideal) x0)
    (fun h t s => 1 - Real.exp ((headOf x0 x1 h).z t s - spl ((headOf x0 x1 h).z t s))) :=
  Is3.congr (is3_exp_guarded (φ := .f32) (X := val_main_call3_v0 (F := Ideal) x0) (S := val_main_call3_v1_0 (F := Ideal) x0)
    (Z := val_main_call3_call0_v15 (F := Ideal)) (Y := val_main_call3_call0_v19 (F := Ideal)) (I := val_main_call3_call0_v13 (F := Ideal))
    (is3_neg (φ := .f32) (X := val_main_v12 (F := Ideal) x0) (ref_z hx)) (ref_spl_neg hx) (fun _ => top_word))
    fun _ _ _ _ _ _ => shares _

/-- The logs of what is left, nothing at keys that are not before the query. -/
theorem ref_sp (hx : Finite x0 x1) :
    Is3 (a := 16) (b := 8192) (c := 8192) (val_main_v21_0 (F := Ideal) x0) (fun h t s => -(headOf x0 x1 h).sp t s) :=
  Is3.congr (is3_select (φ := .f32) (M := val_main_v21_1 (F := Ideal)) (X := val_main_v20_0 (F := Ideal) x0) (Y := val_main_call1_v2 (F := Ideal))
    (p := fun t s => s < t) (fun h t s => ref_mask (ix3 h t s))
    (is3_neg (φ := .f32) (X := val_main_call0_v1_0 (F := Ideal) x0) (ref_spl hx)) (g := fun _ _ _ => 0) (fun _ _ _ => Ideal.ofBits_zero_f32))
    fun h _ t _ s _ => by
      show (if s < t then _ else (0 : ℝ)) = -(if s < t then _ else (0 : ℝ))
      split
      · rfl
      · exact neg_zero.symm

/-- Their sum over the keys after a key. -/
theorem ref_after (hx : Finite x0 x1) : Is3 (a := 16) (b := 8192) (c := 8192) (val_main_v23 (F := Ideal) x0)
    (fun h t s => -((headOf x0 x1 h).tot t - ∑ u ∈ range (s + 1), (headOf x0 x1 h).sp t u)) := by
  have h1 : Is3 (a := 16) (b := 8192) (c := 8192) (val_main_v22 (F := Ideal) x0)
      (fun h t s => ∑ w ∈ range 8192, if s + w < 8192 then -(headOf x0 x1 h).sp t (s + w) else 0) := by
    unfold val_main_v22
    exact is3_suffix (A := 16) (B := 8192) (N := 8192) (N1 := 8191) rfl (ref_sp hx) _ _ Ideal.ofBits_zero_f32 _
  refine Is3.congr (is3_sub (φ := .f32) (X := val_main_v22 (F := Ideal) x0) (Y := val_main_v21_0 (F := Ideal) x0) h1 (ref_sp hx))
    fun h _ t _ s hs => ?_
  show (∑ w ∈ range 8192, if s + w < 8192 then -(headOf x0 x1 h).sp t (s + w) else 0) - -(headOf x0 x1 h).sp t s = _
  rw [suffix_eq (fun u => -(headOf x0 x1 h).sp t u) 8192 s hs, Finset.sum_range_succ _ s, Finset.sum_neg_distrib, Finset.sum_neg_distrib]
  unfold Head.tot
  ring

/-- The weights before the mask. -/
theorem ref_exp (hx : Finite x0 x1) : Is3 (a := 16) (b := 8192) (c := 8192) (val_main_v26 (F := Ideal) x0) (fun h t s =>
    Real.exp (-spl (-(headOf x0 x1 h).z t s) + -((headOf x0 x1 h).tot t - ∑ u ∈ range (s + 1), (headOf x0 x1 h).sp t u))) :=
  is3_exp (φ := .f32) (X := val_main_v25 (F := Ideal) x0) (is3_add (φ := .f32) (X := val_main_v24_0 (F := Ideal) x0) (Y := val_main_v23 (F := Ideal) x0)
    (is3_neg (φ := .f32) (X := val_main_call3_v1_0 (F := Ideal) x0) (ref_spl_neg hx)) (ref_after hx))

theorem exp_eq (D : Head) (t s : ℕ) (h : s < t) :
    Real.exp (-spl (-D.z t s) + -(D.tot t - ∑ u ∈ range (s + 1), D.sp t u)) = D.w t s := by
  have e : D.sp t s = spl (D.z t s) := if_pos h
  unfold Head.w
  rw [if_pos h, Finset.sum_range_succ, e, spl_neg]
  congr 1
  ring

theorem ref_w (hx : Finite x0 x1) : Is3 (a := 16) (b := 8192) (c := 8192) (val_main_v27_0 (F := Ideal) x0) (fun h t s => (headOf x0 x1 h).w t s) :=
  Is3.congr (is3_select (φ := .f32) (M := val_main_v27_1 (F := Ideal)) (X := val_main_v26 (F := Ideal) x0) (Y := val_main_call4_v2 (F := Ideal))
    (p := fun t s => s < t) (fun h t s => ref_mask (ix3 h t s)) (ref_exp hx) (g := fun _ _ _ => 0) (fun _ _ _ => Ideal.ofBits_zero_f32))
    fun h _ t _ s _ => by
      by_cases e : s < t
      · rw [if_pos e, exp_eq _ _ _ e]
      · rw [if_neg e]; exact (if_neg e).symm

/-! ## The gradient of the scores -/

theorem ref_e (hx : Finite x0 x1) : Is3 (a := 16) (b := 8192) (c := 8192) (val_main_v41 (F := Ideal) x0 x1) (fun h t s => (headOf x0 x1 h).e t s) := by
  have h36 : Is3 (a := 16) (b := 8192) (c := 8192) (val_main_v37 (F := Ideal) x0 x1)
      (fun h t s => ∑ d ∈ range 128, (headOf x0 x1 h).g t d * (headOf x0 x1 h).v s d) := Is3.of fun j => by
    rw [val_main_v37_apply]
    exact sum_mul_coe _ _ (fun d => (headOf x0 x1 (j 0).val).g (j 1).val d) (fun d => (headOf x0 x1 (j 0).val).v (j 2).val d)
      (fun k => (ref_g (x0 := x0) hx).at _) (fun k => (ref_v hx).at _)
  refine Is3.congr (is3_mul (φ := .f32) (X := val_main_v40 (F := Ideal) x0 x1) (Y := val_main_v26 (F := Ideal) x0)
    (is3_select (φ := .f32) (M := val_main_v27_1 (F := Ideal)) (X := val_main_v37 (F := Ideal) x0 x1) (Y := val_main_call5_v0 (F := Ideal))
      (p := fun t s => s < t) (fun h t s => ref_mask (ix3 h t s)) h36 (g := fun _ _ _ => 0) (fun _ _ _ => Ideal.ofBits_zero_f32))
    (ref_exp hx)) fun h _ t _ s _ => ?_
  unfold Head.e
  by_cases e : s < t
  · rw [if_pos e, exp_eq _ _ _ e]
  · have e2 : (headOf x0 x1 h).w t s = 0 := if_neg e
    rw [if_neg e, e2, zero_mul, mul_zero]

theorem e_zero (D : Head) (t s : ℕ) (h : ¬ s < t) : D.e t s = 0 := by
  have e2 : D.w t s = 0 := if_neg h
  unfold Head.e
  rw [e2, mul_zero]

theorem ref_dz (hx : Finite x0 x1) : Is3 (a := 16) (b := 8192) (c := 8192) (val_main_v51 (F := Ideal) x0 x1) (fun h t s => (headOf x0 x1 h).dz t s) := by
  have h43 : Is3 (a := 16) (b := 8192) (c := 8192) (val_main_v44 (F := Ideal) x0 x1)
      (fun h t s => ∑ w ∈ range 8192, if 8191 ≤ s + w then (headOf x0 x1 h).e t (s + w - 8191) else 0) := by
    unfold val_main_v44
    exact is3_prefix (A := 16) (B := 8192) (N := 8192) (N1 := 8191) rfl (ref_e hx) _ _ Ideal.ofBits_zero_f32 _
  have h41 : Is3 (a := 16) (b := 8192) (c := 8192) (val_main_v42 (F := Ideal) x0 x1) _ :=
    is3_neg (φ := .f32) (X := val_main_call6_v1 (F := Ideal) x0 x1) (is3_mul (φ := .f32) (X := val_main_call6_v0 (F := Ideal) x0 x1)
      (Y := val_main_v24_1 (F := Ideal) x0) (is3_neg (φ := .f32) (X := val_main_v41 (F := Ideal) x0 x1) (ref_e hx)) (ref_leave hx))
  have h45 : Is3 (a := 16) (b := 8192) (c := 8192) (val_main_v46 (F := Ideal) x0 x1) _ :=
    is3_select (φ := .f32) (M := val_main_v21_1 (F := Ideal)) (X := val_main_v45 (F := Ideal) x0 x1) (Y := val_main_call8_v0 (F := Ideal))
      (p := fun t s => s < t) (fun h t s => ref_mask (ix3 h t s))
      (is3_add (φ := .f32) (X := val_main_v43 (F := Ideal) x0 x1) (Y := val_main_v44 (F := Ideal) x0 x1)
        (is3_neg (φ := .f32) (X := val_main_v41 (F := Ideal) x0 x1) (ref_e hx)) h43) (g := fun _ _ _ => 0) (fun _ _ _ => Ideal.ofBits_zero_f32)
  have h47 : Is3 (a := 16) (b := 8192) (c := 8192) (val_main_v48 (F := Ideal) x0 x1) _ :=
    is3_neg (φ := .f32) (X := val_main_v47 (F := Ideal) x0 x1) (is3_neg (φ := .f32) (X := val_main_call9_v1 (F := Ideal) x0 x1)
      (is3_mul (φ := .f32) (X := val_main_call9_v0 (F := Ideal) x0 x1) (Y := val_main_v20_1 (F := Ideal) x0)
        (is3_neg (φ := .f32) (X := val_main_v46 (F := Ideal) x0 x1) h45) (ref_take hx)))
  refine Is3.congr (is3_root (X := val_main_v49 (F := Ideal) x0 x1) (Y := val_main_v50 (F := Ideal))
    (is3_add (φ := .f32) (X := val_main_v42 (F := Ideal) x0 x1) (Y := val_main_v48 (F := Ideal) x0 x1) h41 h47)
    (fun _ => rfl)) fun h _ t _ s hs => ?_
  have hp := prefix_eq (fun u => (headOf x0 x1 h).e t u) 8192 8191 s rfl hs
  rw [hp]
  unfold Head.dz
  by_cases e : s < t
  · rw [if_pos e, if_pos e]
    ring
  · rw [if_neg e, if_neg e, e_zero _ _ _ e]
    ring

/-! ## The gradients -/

theorem ref_dv (hx : Finite x0 x1) : Is3 (a := 16) (b := 128) (c := 8192) (val_main_v35 (F := Ideal) x0 x1)
    (fun h d s => (headOf x0 x1 h).dv 8192 s d) := Is3.of fun j => by
  rw [val_main_v35_apply]
  refine (sum_mul_coe _ _ (fun t => (headOf x0 x1 (j 0).val).g t (j 1).val) (fun t => (headOf x0 x1 (j 0).val).w t (j 2).val)
    (fun k => (ref_g (x0 := x0) hx).at _) (fun k => (ref_w hx).at _)).trans (congrArg _ (Finset.sum_congr rfl fun t _ => mul_comm _ _))

theorem ref_dk (hx : Finite x0 x1) : Is3 (a := 16) (b := 8192) (c := 128) (val_main_v52 (F := Ideal) x0 x1)
    (fun h s d => (headOf x0 x1 h).dk 8192 s d) := Is3.of fun j => by
  rw [val_main_v52_apply]
  exact sum_mul_coe _ _ (fun t => (headOf x0 x1 (j 0).val).dz t (j 1).val) (fun t => (headOf x0 x1 (j 0).val).q t (j 2).val)
    (fun k => (ref_dz hx).at _) (fun k => (ref_q hx).at _)

theorem ref_dq (hx : Finite x0 x1) : Is3 (a := 16) (b := 8192) (c := 128) (val_main_v53 (F := Ideal) x0 x1)
    (fun h t d => (headOf x0 x1 h).dq 8192 t d) := Is3.of fun j => by
  rw [val_main_v53_apply]
  exact sum_mul_coe _ _ (fun s => (headOf x0 x1 (j 0).val).dz (j 1).val s) (fun s => (headOf x0 x1 (j 0).val).k s (j 2).val)
    (fun k => (ref_dz hx).at _) (fun k => (ref_k hx).at _)

/-- Each result at an index is that of its head, the head's columns side by side. -/
theorem ref_out_dq (hx : Finite x0 x1) (i : S8192x2048.Idx) :
    val_main_v58 (F := Ideal) x0 x1 i = (((headOf x0 x1 ((i 1).val / 128)).dq 8192 (i 0).val ((i 1).val % 128) : ℝ) : EReal) := by
  have h0 : (i 0).val < 8192 := (i 0).isLt
  have h1 : (i 1).val < 2048 := (i 1).isLt
  have e0 : ((i 0).val * 2048 + (i 1).val) / 2048 = (i 0).val := by omega
  have e1 : ((i 0).val * 2048 + (i 1).val) / 128 % 16 = (i 1).val / 128 := by omega
  have e2 : ((i 0).val * 2048 + (i 1).val) % 128 = (i 1).val % 128 := by omega
  show val_main_v57 (F := Ideal) x0 x1 i = _
  rw [val_main_v57_apply, val_main_v56_apply]
  refine ((ref_dq hx).at _).trans ?_
  show (((headOf x0 x1 (((i 0).val * 2048 + (i 1).val) / 128 % 16)).dq 8192 (((i 0).val * 2048 + (i 1).val) / 2048)
    (((i 0).val * 2048 + (i 1).val) % 128) : ℝ) : EReal) = _
  rw [e0, e1, e2]

theorem ref_out_dk (hx : Finite x0 x1) (i : S8192x2048.Idx) :
    val_main_v59 (F := Ideal) x0 x1 i = (((headOf x0 x1 ((i 1).val / 128)).dk 8192 (i 0).val ((i 1).val % 128) : ℝ) : EReal) := by
  have h0 : (i 0).val < 8192 := (i 0).isLt
  have h1 : (i 1).val < 2048 := (i 1).isLt
  have e0 : ((i 0).val * 2048 + (i 1).val) / 2048 = (i 0).val := by omega
  have e1 : ((i 0).val * 2048 + (i 1).val) / 128 % 16 = (i 1).val / 128 := by omega
  have e2 : ((i 0).val * 2048 + (i 1).val) % 128 = (i 1).val % 128 := by omega
  show val_main_v55 (F := Ideal) x0 x1 i = _
  rw [val_main_v55_apply, val_main_v54_apply]
  refine ((ref_dk hx).at _).trans ?_
  show (((headOf x0 x1 (((i 0).val * 2048 + (i 1).val) / 128 % 16)).dk 8192 (((i 0).val * 2048 + (i 1).val) / 2048)
    (((i 0).val * 2048 + (i 1).val) % 128) : ℝ) : EReal) = _
  rw [e0, e1, e2]

theorem ref_out_dv (hx : Finite x0 x1) (i : S8192x2048.Idx) :
    val_main_v60 (F := Ideal) x0 x1 i = (((headOf x0 x1 ((i 1).val / 128)).dv 8192 (i 0).val ((i 1).val % 128) : ℝ) : EReal) := by
  have h0 : (i 0).val < 8192 := (i 0).isLt
  have h1 : (i 1).val < 2048 := (i 1).isLt
  have e0 : ((i 0).val * 2048 + (i 1).val) / 2048 = (i 0).val := by omega
  have e1 : ((i 0).val * 2048 + (i 1).val) / 128 % 16 = (i 1).val / 128 := by omega
  have e2 : ((i 0).val * 2048 + (i 1).val) % 128 = (i 1).val % 128 := by omega
  show val_main_v39 (F := Ideal) x0 x1 i = _
  rw [val_main_v39_apply, val_main_v38_apply, val_main_v36_apply]
  refine ((ref_dv hx).at _).trans ?_
  show (((headOf x0 x1 (((i 0).val * 2048 + (i 1).val) / 128 % 16)).dv 8192 (((i 0).val * 2048 + (i 1).val) / 2048)
    (((i 0).val * 2048 + (i 1).val) % 128) : ℝ) : EReal) = _
  rw [e0, e1, e2]

end AttnBwd

end
-- ==== Proof.Host.lean ====
/- The row totals that the host program computes before the kernel's call. -/
module

public import proofs.«01_k».proof.Proof.Points
public import proofs.«01_k».proof.Proof.Ref

@[expose] public section

set_option maxRecDepth 16384

noncomputable section

namespace AttnBwd

open Cert.KernelIdeal Cert.KernelIdeal.Gen
open Idealize.ShloMosaic Idealize.ShloMosaic.TcCoe
open Finset (range)

/-- The scores of all the heads. -/
def hostZ (x0 : FVec Ideal S8192x13440 .f32) : FVec Ideal S16x8192x8192 .f32 :=
  Host.divf (Host.dotGeneral (φ₁ := .f32) (φ₂ := .f32) dot_S16x8192x128_S16x8192x128_S16x8192x8192_2_2_1_1_0_0 none
      (transpose S16x8192x128 [1, 0, 2] (shapeCast S8192x16x128 (extractStridedSlice S8192x2048 ![0, 5120] x0 slices_S8192x13440_S8192x2048_0_5120)
        shapeCasts_S8192x2048_S8192x16x128) transposes_S8192x16x128_S16x8192x128_1_0_2)
      (transpose S16x8192x128 [1, 0, 2] (shapeCast S8192x16x128 (extractStridedSlice S8192x2048 ![0, 7168] x0 slices_S8192x13440_S8192x2048_0_7168)
        shapeCasts_S8192x2048_S8192x16x128) transposes_S8192x16x128_S16x8192x128_1_0_2))
    (broadcastInDim S16x8192x8192 ![] bcast_S_S16x8192x8192 (Host.sqrt (constant S_ .f32 0x43000000#32)))

def hostMask : IVec S16x8192x8192 1 :=
  broadcastInDim S16x8192x8192 ![0, 1, 2] bcast_S1x8192x8192_S16x8192x8192_0_1_2
    (broadcastInDim S1x8192x8192 ![1, 2] bcast_S8192x8192_S1x8192x8192_1_2
      (cmpi .slt (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))

def hostSp (z : FVec Ideal S16x8192x8192 .f32) : FVec Ideal S16x8192x8192 .f32 :=
  select hostMask
    (addf (maximumf z (broadcastInDim S16x8192x8192 ![] bcast_S_S16x8192x8192 (constant S_ .f32 0x00000000#32)))
      (Host.log1p (Host.exp (Host.negf (Host.absf z)))))
    (broadcastInDim S16x8192x8192 ![] bcast_S_S16x8192x8192 (constant S_ .f32 0x00000000#32))

def hostTot (sp : FVec Ideal S16x8192x8192 .f32) : FVec Ideal S16x8192x128 .f32 :=
  broadcastInDim S16x8192x128 ![0, 1, 2] bcast_S16x8192x1_S16x8192x128_0_1_2
    (broadcastInDim S16x8192x1 ![0, 1] bcast_S16x8192_S16x8192x1_0_1
      (Host.reduceAdd sp (constant S_ .f32 0x00000000#32) reducesTo_S16x8192x8192_S16x8192_d2 h_S_))

variable (m : (ℓ : Loc nD τ sig) → Buf (Elt Ideal) ℓ)

theorem V_tot (c : Dev nD) : V m c main_v29 = hostTot (hostSp (hostZ (m ((c : Thread nD τ).loc main_arg0)))) := by
  unfold_abbrev_sides
  after_results_simp
  rfl

theorem host_z {x0 : Proj} {x1 : Grad} (hx : Finite x0 x1) :
    Is3 (a := 16) (b := 8192) (c := 8192) (hostZ x0) (fun h t s => (headOf x0 x1 h).z t s) := ref_z hx

theorem host_mask (h : Fin 16) (t s : Fin 8192) : hostMask (ix3 h t s) = 1#1 ↔ s.val < t.val := by
  unfold hostMask
  pointwise
  have := t.isLt; have := s.isLt
  rw [WordCmp.cmpi_slt_eq, WordCmp.ofBool_decide_eq_one_iff, WordCmp.toInt_ofNat_of_lt (by omega), WordCmp.toInt_ofNat_of_lt (by omega)]
  omega

theorem host_tot_at (sp : FVec Ideal S16x8192x8192 .f32) (h : Fin 16) (t : Fin 8192) (l : Fin 128) :
    hostTot sp (ix3 h t l) = ∑ s : Fin 8192, sp (ix3 h t s) := by
  unfold hostTot
  pointwise

theorem host_tot {x0 : Proj} {x1 : Grad} (hx : Finite x0 x1) :
    Is3 (a := 16) (b := 8192) (c := 128) (hostTot (hostSp (hostZ x0))) (fun h t _ => (headOf x0 x1 h).tot t) := fun h t l => by
  have hs : Is3 (a := 16) (b := 8192) (c := 8192) (hostSp (hostZ x0)) (fun h t s => (headOf x0 x1 h).sp t s) := by
    unfold hostSp
    exact is3_select (φ := .f32) (M := hostMask) (p := fun t s => s < t) host_mask
      (is3_spl (φ := .f32) (X := hostZ x0) (host_z hx) (fun _ _ _ => Ideal.ofBits_zero_f32)) (g := fun _ _ _ => 0)
      (fun _ _ _ => Ideal.ofBits_zero_f32)
  rw [host_tot_at]
  show _ = ((∑ s ∈ range 8192, (headOf x0 x1 h.val).sp t.val s : ℝ) : EReal)
  rw [Finset.sum_range, coe_sum]
  exact Finset.sum_congr rfl fun s _ => hs h t s

end AttnBwd

end
-- ==== Proof.Arrays.lean ====
/- The blocks that a grid point reads, in terms of the arrays: the rows of queries, keys, values and output gradients of
   one head, and the row totals that the host program computes. -/
module

public import proofs.«01_k».proof.Proof.Frame
public import proofs.«01_k».proof.Proof.Host
public import Idealize.ShloMosaic.Lib.Pipeline.ValueKit
public import Idealize.ShloMosaic.Lib.Pipeline.Covers

@[expose] public section

set_option maxRecDepth 16384

noncomputable section

namespace AttnBwd

open Cert.KernelIdeal Cert.KernelIdeal.Gen
open Idealize.ShloMosaic Idealize.ShloMosaic.TcCoe
open Finset (range)

variable (m : (ℓ : Loc nD τ sig) → Buf (Elt Ideal) ℓ)

theorem word_toNat : ∀ a : Fin 32, (BitVec.ofNat 32 a.val).toNat = a.val := by decide
theorem word_toNat_q : ∀ a : Fin 16, (Scalar.addi 40#32 (BitVec.ofNat 32 a.val)).toNat = 40 + a.val := by decide
theorem word_toNat_k : ∀ a : Fin 16, (Scalar.addi 56#32 (BitVec.ofNat 32 a.val)).toNat = 56 + a.val := by decide
theorem word_toNat_v : ∀ a : Fin 16, (Scalar.addi 72#32 (BitVec.ofNat 32 a.val)).toNat = 72 + a.val := by decide
theorem word_toNat_g : ∀ a : Fin 16, (Scalar.addi 16#32 (BitVec.ofNat 32 a.val)).toNat = 16 + a.val := by decide
theorem word_toNat_o : ∀ a : Fin 16, (Scalar.addi 0#32 (BitVec.ofNat 32 a.val)).toNat = a.val := by decide
theorem word_toNat_h : ∀ a : Fin 16, (BitVec.ofNat 32 a.val).toNat = a.val := by decide

theorem t_lt (t : Fin grid0.N) : t.val < 512 := lt_of_lt_of_eq t.isLt N_0

theorem idx0_0 (t : Fin grid0.N) : cc0_transform_0 (grid0.coords t) 0 = t.val % 32 := (word_toNat ⟨_, (grid0.coords t 1).isLt⟩).trans (coord1 t)
theorem idx0_1 (t : Fin grid0.N) : cc0_transform_0 (grid0.coords t) 1 = 40 + t.val / 32 :=
  (word_toNat_q ⟨_, (grid0.coords t 0).isLt⟩).trans (congrArg (40 + ·) (coord0 t))

theorem idx1_0 (t : Fin grid0.N) : cc0_transform_1 (grid0.coords t) 0 = 0 := rfl
theorem idx1_1 (t : Fin grid0.N) : cc0_transform_1 (grid0.coords t) 1 = 56 + t.val / 32 :=
  (word_toNat_k ⟨_, (grid0.coords t 0).isLt⟩).trans (congrArg (56 + ·) (coord0 t))

theorem idx2_0 (t : Fin grid0.N) : cc0_transform_2 (grid0.coords t) 0 = 0 := rfl
theorem idx2_1 (t : Fin grid0.N) : cc0_transform_2 (grid0.coords t) 1 = 72 + t.val / 32 :=
  (word_toNat_v ⟨_, (grid0.coords t 0).isLt⟩).trans (congrArg (72 + ·) (coord0 t))

theorem idx3_0 (t : Fin grid0.N) : cc0_transform_3 (grid0.coords t) 0 = t.val % 32 := (word_toNat ⟨_, (grid0.coords t 1).isLt⟩).trans (coord1 t)
theorem idx3_1 (t : Fin grid0.N) : cc0_transform_3 (grid0.coords t) 1 = 16 + t.val / 32 :=
  (word_toNat_g ⟨_, (grid0.coords t 0).isLt⟩).trans (congrArg (16 + ·) (coord0 t))

theorem idx4_0 (t : Fin grid0.N) : cc0_transform_4 (grid0.coords t) 0 = t.val / 32 := (word_toNat_h ⟨_, (grid0.coords t 0).isLt⟩).trans (coord0 t)
theorem idx4_1 (t : Fin grid0.N) : cc0_transform_4 (grid0.coords t) 1 = t.val % 32 := (word_toNat ⟨_, (grid0.coords t 1).isLt⟩).trans (coord1 t)
theorem idx4_2 (t : Fin grid0.N) : cc0_transform_4 (grid0.coords t) 2 = 0 := rfl

theorem idx5_0 (t : Fin grid0.N) : cc0_transform_5 (grid0.coords t) 0 = t.val % 32 := (word_toNat ⟨_, (grid0.coords t 1).isLt⟩).trans (coord1 t)
theorem idx5_1 (t : Fin grid0.N) : cc0_transform_5 (grid0.coords t) 1 = t.val / 32 :=
  (word_toNat_o ⟨_, (grid0.coords t 0).isLt⟩).trans (coord0 t)

theorem idx6_0 (t : Fin grid0.N) : cc0_transform_6 (grid0.coords t) 0 = 0 := rfl
theorem idx6_1 (t : Fin grid0.N) : cc0_transform_6 (grid0.coords t) 1 = t.val / 32 := (word_toNat_h ⟨_, (grid0.coords t 0).isLt⟩).trans (coord0 t)

theorem idx7_0 (t : Fin grid0.N) : cc0_transform_7 (grid0.coords t) 0 = 0 := rfl
theorem idx7_1 (t : Fin grid0.N) : cc0_transform_7 (grid0.coords t) 1 = t.val / 32 := (word_toNat_h ⟨_, (grid0.coords t 0).isLt⟩).trans (coord0 t)

/-! ## The blocks -/

/-- The head `h` of the two arguments. -/
abbrev hd (c : Dev nD) (h : ℕ) : Head := headOf (m ((c : Thread nD τ).loc main_arg0)) (m ((c : Thread nD τ).loc main_arg1)) h

/-- The columns that the attention reads hold real numbers. -/
abbrev Fine (c : Dev nD) : Prop := Finite (m ((c : Thread nD τ).loc main_arg0)) (m ((c : Thread nD τ).loc main_arg1))

variable {m}

theorem qB_is {c : Dev nD} (hm : Fine m c) (t : Fin grid0.N) :
    Is (a := 256) (b := 128) (qB m c t) (fun r d => (hd m c (t.val / 32)).q (256 * (t.val % 32) + r) d) := fun r d => by
  have ht := t_lt t
  have h0 := idx0_0 t
  have h1 := idx0_1 t
  show V m c main_arg0 ((((cfgA (F := Ideal)).win 0).blk t).view.emb (ix2 r d)) = _
  rw [V_arg0]
  refine read_proj hm _ (256 * (t.val % 32) + r.val) (5120 + 128 * (t.val / 32) + d.val) ?_ ?_ (by omega)
  · show cc0_transform_0 (grid0.coords t) 0 * 256 + 1 * r.val = 256 * (t.val % 32) + r.val
    rw [h0]; omega
  · show cc0_transform_0 (grid0.coords t) 1 * 128 + 1 * d.val = 5120 + 128 * (t.val / 32) + d.val
    rw [h1]; omega

theorem kB_is {c : Dev nD} (hm : Fine m c) (t : Fin grid0.N) :
    Is (a := 8192) (b := 128) (kB m c t) (fun r d => (hd m c (t.val / 32)).k (r) d) := fun r d => by
  have ht := t_lt t
  have h0 := idx1_0 t
  have h1 := idx1_1 t
  show V m c main_arg0 ((((cfgA (F := Ideal)).win 1).blk t).view.emb (ix2 r d)) = _
  rw [V_arg0]
  refine read_proj hm _ (r.val) (7168 + 128 * (t.val / 32) + d.val) ?_ ?_ (by omega)
  · show cc0_transform_1 (grid0.coords t) 0 * 8192 + 1 * r.val = r.val
    rw [h0]; omega
  · show cc0_transform_1 (grid0.coords t) 1 * 128 + 1 * d.val = 7168 + 128 * (t.val / 32) + d.val
    rw [h1]; omega

theorem vB_is {c : Dev nD} (hm : Fine m c) (t : Fin grid0.N) :
    Is (a := 8192) (b := 128) (vB m c t) (fun r d => (hd m c (t.val / 32)).v (r) d) := fun r d => by
  have ht := t_lt t
  have h0 := idx2_0 t
  have h1 := idx2_1 t
  show V m c main_arg0 ((((cfgA (F := Ideal)).win 2).blk t).view.emb (ix2 r d)) = _
  rw [V_arg0]
  refine read_proj hm _ (r.val) (9216 + 128 * (t.val / 32) + d.val) ?_ ?_ (by omega)
  · show cc0_transform_2 (grid0.coords t) 0 * 8192 + 1 * r.val = r.val
    rw [h0]; omega
  · show cc0_transform_2 (grid0.coords t) 1 * 128 + 1 * d.val = 9216 + 128 * (t.val / 32) + d.val
    rw [h1]; omega

theorem gB_is {c : Dev nD} (hm : Fine m c) (t : Fin grid0.N) :
    Is (a := 256) (b := 128) (gB m c t) (fun r d => (hd m c (t.val / 32)).g (256 * (t.val % 32) + r) d) := fun r d => by
  have ht := t_lt t
  have h0 := idx3_0 t
  have h1 := idx3_1 t
  show V m c main_arg1 ((((cfgA (F := Ideal)).win 3).blk t).view.emb (ix2 r d)) = _
  rw [V_arg1]
  refine read_grad hm _ (256 * (t.val % 32) + r.val) (2048 + 128 * (t.val / 32) + d.val) ?_ ?_ (by omega)
  · show cc0_transform_3 (grid0.coords t) 0 * 256 + 1 * r.val = 256 * (t.val % 32) + r.val
    rw [h0]; omega
  · show cc0_transform_3 (grid0.coords t) 1 * 128 + 1 * d.val = 2048 + 128 * (t.val / 32) + d.val
    rw [h1]; omega

theorem totB_is {c : Dev nD} (hm : Fine m c) (t : Fin grid0.N) :
    Is3 (a := 1) (b := 256) (c := 128) (totB m c t) (fun _ r _ => (hd m c (t.val / 32)).tot (256 * (t.val % 32) + r)) := fun u r l => by
  have ht := t_lt t
  have hu := u.isLt
  have h0 := idx4_0 t
  have h1 := idx4_1 t
  have h2 := idx4_2 t
  show V m c main_v29 ((((cfgA (F := Ideal)).win 4).blk t).view.emb (ix3 u r l)) = _
  rw [V_tot]
  refine ((host_tot hm).at _).trans ?_
  show (((hd m c (cc0_transform_4 (grid0.coords t) 0 * 1 + 1 * u.val)).tot (cc0_transform_4 (grid0.coords t) 1 * 256 + 1 * r.val) : ℝ) : EReal) = _
  rw [h0, h1, show t.val / 32 * 1 + 1 * u.val = t.val / 32 by omega, show t.val % 32 * 256 + 1 * r.val = 256 * (t.val % 32) + r.val by omega]

/-- What a point reads, the copies of keys and values being those of its head. -/
theorem reads_at {c : Dev nD} (hm : Fine m c) (t : Fin grid0.N) (kb vb : Vec Ideal S8192x128 .bf16)
    (hk : Is (a := 8192) (b := 128) kb (hd m c (t.val / 32)).k) (hv : Is (a := 8192) (b := 128) vb (hd m c (t.val / 32)).v) :
    Reads (hd m c (t.val / 32)) (t.val % 32) (env (qB m c t) (gB m c t) (totB m c t) kb vb) where
  q := qB_is hm t
  g := gB_is hm t
  tot := by
    show Is (a := 256) (b := 1) (k0_pay70 (F := Ideal) (totB m c t)) _
    unfold k0_pay70
    intro r u
    pointwise
    exact totB_is hm t _ _ _
  k := hk
  v := hv

/-! ## What every point leaves -/

structure Good (D : Head) (i : ℕ) (s : Left Ideal) : Prop where
  kb : Is (a := 8192) (b := 128) s.kb D.k
  vb : Is (a := 8192) (b := 128) s.vb D.v
  dk : Is (a := 8192) (b := 128) s.dk (fun y d => D.dk (256 * (i + 1)) y d)
  dv : Is (a := 8192) (b := 128) s.dv (fun y d => D.dv (256 * (i + 1)) y d)
  dq : Is (a := 256) (b := 128) s.dq (fun r d => D.dq (256 * (i + 1)) (256 * i + r) d)

theorem open_good {c : Dev nD} (hm : Fine m c) (t : Fin grid0.N) (h : t.val % 32 = 0) :
    Good (hd m c (t.val / 32)) (t.val % 32) (openAt m c t) := by
  have hk : Is (a := 8192) (b := 128) (k0_pay65 (F := Ideal) (kB m c t)) (hd m c (t.val / 32)).k := by
    unfold k0_pay65
    exact is_cast (φ := .bf16) (is_trunc (kB_is hm t) _) _
  have hv : Is (a := 8192) (b := 128) (k0_pay66 (F := Ideal) (vB m c t)) (hd m c (t.val / 32)).v := by
    unfold k0_pay66
    exact is_cast (φ := .bf16) (is_trunc (vB_is hm t) _) _
  have hE := reads_at hm t _ _ hk hv
  rw [h] at hE ⊢
  have hz : Is (a := 8192) (b := 128) (k0_pay67 (F := Ideal)) (fun y d => (hd m c (t.val / 32)).dk (256 * 0) y d) := by
    unfold k0_pay67
    exact is_cast (φ := .f32) (Is.congr is_zero fun _ _ _ _ => rfl) _
  have hz' : Is (a := 8192) (b := 128) (k0_pay68 (F := Ideal)) (fun y d => (hd m c (t.val / 32)).dv (256 * 0) y d) := by
    unfold k0_pay68
    exact is_cast (φ := .f32) (Is.congr is_zero fun _ _ _ _ => rfl) _
  have hl := point_leaves hE (by omega) hz hz'
  exact ⟨hk, hv, hl.dk, hl.dv, hl.dq⟩

theorem go_good {c : Dev nD} (hm : Fine m c) (t : Fin grid0.N) (s : Left Ideal) (i : ℕ) (hi : t.val % 32 = i + 1)
    (hs : Good (hd m c (t.val / 32)) i s) : Good (hd m c (t.val / 32)) (t.val % 32) (goOn m c t s) := by
  have hE := reads_at hm t _ _ hs.kb hs.vb
  have hd' : Is (a := 8192) (b := 128) s.dk (fun y d => (hd m c (t.val / 32)).dk (256 * (t.val % 32)) y d) := by rw [hi]; exact hs.dk
  have hv' : Is (a := 8192) (b := 128) s.dv (fun y d => (hd m c (t.val / 32)).dv (256 * (t.val % 32)) y d) := by rw [hi]; exact hs.dv
  have hl := point_leaves hE (Nat.mod_lt _ (by omega)) hd' hv'
  exact ⟨hs.kb, hs.vb, hl.dk, hl.dv, hl.dq⟩

theorem state_good {c : Dev nD} (hm : Fine m c) (n : ℕ) (hn : n < grid0.N) : Good (hd m c (n / 32)) (n % 32) (stateAt m c n hn) := by
  induction n with
  | zero =>
    rw [stateAt_open m c 0 hn rfl]
    exact open_good hm ⟨0, hn⟩ rfl
  | succ n ih =>
    by_cases h : (n + 1) % 32 = 0
    · rw [stateAt_open m c (n + 1) hn h]
      exact open_good hm ⟨n + 1, hn⟩ h
    · rw [stateAt_next m c (n + 1) hn h]
      have e : (n + 1) / 32 = n / 32 := by omega
      have e2 : (n + 1) % 32 = n % 32 + 1 := by omega
      refine go_good hm ⟨n + 1, hn⟩ _ (n % 32) e2 ?_
      show Good (hd m c ((n + 1) / 32)) (n % 32) (stateAt m c n _)
      rw [e]
      exact ih _

/-! ## The outputs after the run -/

/-- The sum over the keys of a query's own blocks is the sum over all. -/
theorem dq_all (D : Head) (i t d : ℕ) (ht : t < 256 * (i + 1)) (hi : i < 32) : D.dq (256 * (i + 1)) t d = D.dq 8192 t d := by
  unfold Head.dq
  refine Finset.sum_subset (fun x hx => ?_) fun s _ hs => ?_
  · rw [Finset.mem_range] at hx ⊢; omega
  · rw [Finset.mem_range] at hs
    have : D.dz t s = 0 := if_neg (by omega)
    rw [this, zero_mul]

/-- The gradients of queries, keys and values, the heads' columns side by side. -/
def outQ (c : Dev nD) (m : (ℓ : Loc nD τ sig) → Buf (Elt Ideal) ℓ) : S8192x2048.Idx → EReal :=
  fun i => (((hd m c ((i 1).val / 128)).dq 8192 (i 0).val ((i 1).val % 128) : ℝ) : EReal)
def outK (c : Dev nD) (m : (ℓ : Loc nD τ sig) → Buf (Elt Ideal) ℓ) : S8192x2048.Idx → EReal :=
  fun i => (((hd m c ((i 1).val / 128)).dk 8192 (i 0).val ((i 1).val % 128) : ℝ) : EReal)
def outV (c : Dev nD) (m : (ℓ : Loc nD τ sig) → Buf (Elt Ideal) ℓ) : S8192x2048.Idx → EReal :=
  fun i => (((hd m c ((i 1).val / 128)).dv 8192 (i 0).val ((i 1).val % 128) : ℝ) : EReal)

theorem point_of (a b : ℕ) (ha : a < 16) (hb : b < 32) : 32 * a + b < grid0.N := by rw [N_0]; omega

theorem covers5 : ((cfgA (F := Ideal)).win 5).Covers :=
  Pipeline.Window.covers_of_indexMap_surj _ rfl (by decide) fun β => by
    have h0 : (β 0).val < 32 := (β 0).isLt
    have h1 : (β 1).val < 16 := (β 1).isLt
    refine ⟨grid0.coords ⟨_, point_of _ _ h1 h0⟩, fun a => ?_⟩
    have e0 := idx5_0 ⟨_, point_of _ _ h1 h0⟩
    have e1 := idx5_1 ⟨_, point_of _ _ h1 h0⟩
    match a with
    | ⟨0, _⟩ => exact e0.trans (by show (32 * (β 1).val + (β 0).val) % 32 = (β 0).val; omega)
    | ⟨1, _⟩ => exact e1.trans (by show (32 * (β 1).val + (β 0).val) / 32 = (β 1).val; omega)

theorem covers6 : ((cfgA (F := Ideal)).win 6).Covers :=
  Pipeline.Window.covers_of_indexMap_surj _ rfl (by decide) fun β => by
    have h0 : (β 0).val < 1 := (β 0).isLt
    have h1 : (β 1).val < 16 := (β 1).isLt
    refine ⟨grid0.coords ⟨_, point_of _ 0 h1 (by omega)⟩, fun a => ?_⟩
    have e1 := idx6_1 ⟨_, point_of _ 0 h1 (by omega)⟩
    match a with
    | ⟨0, _⟩ => show 0 = (β 0).val; omega
    | ⟨1, _⟩ => exact e1.trans (by show (32 * (β 1).val + 0) / 32 = (β 1).val; omega)

theorem covers7 : ((cfgA (F := Ideal)).win 7).Covers :=
  Pipeline.Window.covers_of_indexMap_surj _ rfl (by decide) fun β => by
    have h0 : (β 0).val < 1 := (β 0).isLt
    have h1 : (β 1).val < 16 := (β 1).isLt
    refine ⟨grid0.coords ⟨_, point_of _ 0 h1 (by omega)⟩, fun a => ?_⟩
    have e1 := idx7_1 ⟨_, point_of _ 0 h1 (by omega)⟩
    match a with
    | ⟨0, _⟩ => show 0 = (β 0).val; omega
    | ⟨1, _⟩ => exact e1.trans (by show (32 * (β 1).val + 0) / 32 = (β 1).val; omega)

theorem arr5 {c : Dev nD} (hm : Fine m c) : (dats m 0 c).arrAt 5 (cfgA (F := Ideal)).N = outQ c m := by
  refine (dats m 0 c).arrAt_eq_of_covers 5 _ covers5 fun t _ y => ?_
  have ht : t.val < 512 := t_lt t
  have hy0 : (y 0).val < 256 := (y 0).isLt
  have hy1 : (y 1).val < 128 := (y 1).isLt
  have e0 := idx5_0 t
  have e1 := idx5_1 t
  blk_simp
  rw [after5]
  refine (congrArg (stateAt m c t.val t.isLt).dq (eq_ix2 y)).trans (((state_good hm t.val t.isLt).dq _ _).trans ?_)
  show _ = (((hd m c ((cc0_transform_5 (grid0.coords t) 1 * 128 + 1 * (y 1).val) / 128)).dq 8192 (cc0_transform_5 (grid0.coords t) 0 * 256 + 1 * (y 0).val)
    ((cc0_transform_5 (grid0.coords t) 1 * 128 + 1 * (y 1).val) % 128) : ℝ) : EReal)
  rw [e0, e1, show (t.val / 32 * 128 + 1 * (y 1).val) / 128 = t.val / 32 by omega, show (t.val / 32 * 128 + 1 * (y 1).val) % 128 = (y 1).val by omega,
    show t.val % 32 * 256 + 1 * (y 0).val = 256 * (t.val % 32) + (y 0).val by omega]
  exact congrArg _ (dq_all _ _ _ _ (by show 256 * (t.val % 32) + (y 0).val < _; omega) (by omega))

theorem arr6 {c : Dev nD} (hm : Fine m c) : (dats m 0 c).arrAt 6 (cfgA (F := Ideal)).N = outK c m := by
  refine (dats m 0 c).arrAt_eq_of_covers 6 _ covers6 fun t hf y => ?_
  have ht : t.val < 512 := t_lt t
  have hy1 : (y 1).val < 128 := (y 1).isLt
  have e0 := idx6_0 t
  have e1 := idx6_1 t
  have hl := (flush6 t).mp hf
  blk_simp
  rw [after6]
  refine (congrArg (stateAt m c t.val t.isLt).dk (eq_ix2 y)).trans (((state_good hm t.val t.isLt).dk _ _).trans ?_)
  show _ = (((hd m c ((cc0_transform_6 (grid0.coords t) 1 * 128 + 1 * (y 1).val) / 128)).dk 8192 (cc0_transform_6 (grid0.coords t) 0 * 8192 + 1 * (y 0).val)
    ((cc0_transform_6 (grid0.coords t) 1 * 128 + 1 * (y 1).val) % 128) : ℝ) : EReal)
  rw [e0, e1, hl, show (t.val / 32 * 128 + 1 * (y 1).val) / 128 = t.val / 32 by omega, show (t.val / 32 * 128 + 1 * (y 1).val) % 128 = (y 1).val by omega,
    show 0 * 8192 + 1 * (y 0).val = (y 0).val by omega]

theorem arr7 {c : Dev nD} (hm : Fine m c) : (dats m 0 c).arrAt 7 (cfgA (F := Ideal)).N = outV c m := by
  refine (dats m 0 c).arrAt_eq_of_covers 7 _ covers7 fun t hf y => ?_
  have ht : t.val < 512 := t_lt t
  have hy1 : (y 1).val < 128 := (y 1).isLt
  have e0 := idx7_0 t
  have e1 := idx7_1 t
  have hl := (flush7 t).mp hf
  blk_simp
  rw [after7]
  refine (congrArg (stateAt m c t.val t.isLt).dv (eq_ix2 y)).trans (((state_good hm t.val t.isLt).dv _ _).trans ?_)
  show _ = (((hd m c ((cc0_transform_7 (grid0.coords t) 1 * 128 + 1 * (y 1).val) / 128)).dv 8192 (cc0_transform_7 (grid0.coords t) 0 * 8192 + 1 * (y 0).val)
    ((cc0_transform_7 (grid0.coords t) 1 * 128 + 1 * (y 1).val) % 128) : ℝ) : EReal)
  rw [e0, e1, hl, show (t.val / 32 * 128 + 1 * (y 1).val) / 128 = t.val / 32 by omega, show (t.val / 32 * 128 + 1 * (y 1).val) % 128 = (y 1).val by omega,
    show 0 * 8192 + 1 * (y 0).val = (y 0).val by omega]

end AttnBwd

end
-- ==== Proof.Pre.lean ====
/- What the precondition says: the columns that the attention reads hold real numbers. -/
module

public import proofs.«01_k».proof.Pre_finite
public import proofs.«01_k».proof.Proof.Ref
public import Idealize.ShloMosaic.Lib.ReduceAll
public import Idealize.ShloMosaic.Lib.Pointwise

@[expose] public section

set_option maxRecDepth 16384

noncomputable section

namespace AttnBwd

open Idealize.ShloMosaic
open Cert.Pre_finite

theorem pre_facts : Cert.Pre_finite.Facts where
  slices_S8192x13440_S8192x6144_0_5120 := by decide
  bcast_S_S8192x6144 := by decide
  reducesTo_S8192x6144_S_d0_1 := by decide
  h_S_ := by decide
  slices_S8192x4096_S8192x2048_0_2048 := by decide
  bitsLt_bf16_f32 := by decide
  bcast_S_S8192x2048 := by decide
  reducesTo_S8192x2048_S_d0_1 := by decide

/-- A number whose absolute value is below infinity is real. -/
theorem real_of_abs_lt (x : EReal) (h : max x (-x) < ⊤) : ∃ y : ℝ, x = (y : EReal) := by
  induction x with
  | bot => simp at h
  | coe y => exact ⟨y, rfl⟩
  | top => simp at h

theorem finite_of_pre [hF : Cert.Pre_finite.Facts] (x0 : Proj) (x1 : Grad) (h : Cert.Pre_finite.fn (F := Ideal) x0 x1 = fun _ => 1#1) : Finite x0 x1 := by
  have e := congrFun h (fun a => a.elim0)
  obtain ⟨ha, hb⟩ := IntOp.andi_eq_one.1 e
  haveI : Subsingleton S_.Idx := ⟨fun a b => funext fun i => i.elim0⟩
  constructor
  · intro j h1 h2
    have h0 : (j 0).val < 8192 := (j 0).isLt
    have q := Host.reduce_andi_all _ _ _ _ _ ha (Idealize.ShloMosaic.ix2 (⟨(j 0).val, h0⟩ : Fin 8192) (⟨(j 1).val - 5120, by omega⟩ : Fin 6144))
    refine real_of_abs_lt _ ?_
    have q' := (Ideal.cmp_olt_eq_one _ _).1 q
    have e1 : extractStridedSlice S8192x6144 ![0, 5120] x0 hF.slices_S8192x13440_S8192x6144_0_5120
        (Idealize.ShloMosaic.ix2 (⟨(j 0).val, h0⟩ : Fin 8192) (⟨(j 1).val - 5120, by omega⟩ : Fin 6144)) = x0 j := by
      refine congrArg x0 (funext fun a => Fin.ext ?_)
      fin_cases a
      · show 0 + (j 0).val = (j 0).val; omega
      · show 5120 + ((j 1).val - 5120) = (j 1).val; omega
    rw [← e1]
    exact q'.trans_eq top_word
  · intro j h1
    have h0 : (j 0).val < 8192 := (j 0).isLt
    have h2 : (j 1).val < 4096 := (j 1).isLt
    have q := Host.reduce_andi_all _ _ _ _ _ hb (Idealize.ShloMosaic.ix2 (⟨(j 0).val, h0⟩ : Fin 8192) (⟨(j 1).val - 2048, by omega⟩ : Fin 2048))
    refine real_of_abs_lt _ ?_
    have q' := (Ideal.cmp_olt_eq_one _ _).1 q
    have e1 : extractStridedSlice S8192x2048 ![0, 2048] x1 hF.slices_S8192x4096_S8192x2048_0_2048
        (Idealize.ShloMosaic.ix2 (⟨(j 0).val, h0⟩ : Fin 8192) (⟨(j 1).val - 2048, by omega⟩ : Fin 2048)) = x1 j := by
      refine congrArg x1 (funext fun a => Fin.ext ?_)
      fin_cases a
      · show 0 + (j 0).val = (j 0).val; omega
      · show 2048 + ((j 1).val - 2048) = (j 1).val; omega
    rw [← e1]
    exact q'.trans_eq top_word

end AttnBwd

end
-- ==== Proof.Products.lean ====
/- Products of matrices over the extended reals, computed block by block: the entries of an array by their row and column
   numbers, and the sums that a product leaves. -/
module

public import Idealize.ShloMosaic.Lib.Pointwise
public import Idealize.ShloMosaic.Lib.Pipeline.ValueKit
public import Idealize.ShloMosaic.Lib.Pipeline.Covers

@[expose] public section

noncomputable section

namespace Products

open Idealize.ShloMosaic
open Finset (range)

/-- The entry at row `r` and column `c`, 0 outside the array. -/
def entry {a b : ℕ} (X : (⟨2, ![a, b]⟩ : Shape).Idx → EReal) (r c : ℕ) : EReal :=
  if h : r < a ∧ c < b then X (ix2 ⟨r, h.1⟩ ⟨c, h.2⟩) else 0

theorem eq_entry {a b : ℕ} (X : (⟨2, ![a, b]⟩ : Shape).Idx → EReal) (i : (⟨2, ![a, b]⟩ : Shape).Idx) {r c : ℕ}
    (h0 : (i 0).val = r) (h1 : (i 1).val = c) : X i = entry X r c := by
  subst h0 h1
  unfold entry
  rw [dif_pos ⟨(i 0).isLt, (i 1).isLt⟩]
  exact congrArg X (eq_ix2 i)

/-- The entries of an array are the numbers `f`. -/
def Holds {a b : ℕ} (X : (⟨2, ![a, b]⟩ : Shape).Idx → EReal) (f : ℕ → ℕ → EReal) : Prop :=
  ∀ (r : Fin a) (c : Fin b), X (ix2 r c) = f r.val c.val

theorem Holds.congr {a b : ℕ} {X : (⟨2, ![a, b]⟩ : Shape).Idx → EReal} {f g : ℕ → ℕ → EReal} (h : Holds X f)
    (e : ∀ r < a, ∀ c < b, f r c = g r c) : Holds X g := fun r c => (h r c).trans (e _ r.isLt _ c.isLt)

theorem Holds.at {a b : ℕ} {X : (⟨2, ![a, b]⟩ : Shape).Idx → EReal} {f : ℕ → ℕ → EReal} (h : Holds X f)
    (i : (⟨2, ![a, b]⟩ : Shape).Idx) : X i = f (i 0).val (i 1).val :=
  (congrArg X (eq_ix2 i)).trans (h _ _)

/-- A sum over the places of an axis, by their numbers. -/
theorem sum_number {n : ℕ} (x y : Fin n → EReal) (f g : ℕ → EReal) (hx : ∀ k, x k = f k.val) (hy : ∀ k, y k = g k.val) :
    (∑ k : Fin n, x k * y k) = ∑ k ∈ range n, f k * g k := by
  rw [Finset.sum_range]
  exact Finset.sum_congr rfl fun k _ => by rw [hx, hy]

/-- Block after block, the sum grows to the sum over all that was seen. -/
theorem sum_blocks (f : ℕ → EReal) (w j : ℕ) :
    (∑ k ∈ range (w * j), f k) + (∑ k ∈ range w, f (w * j + k)) = ∑ k ∈ range (w * (j + 1)), f k := by
  rw [Nat.mul_succ]
  exact (Finset.sum_range_add f _ _).symm

theorem zero_offsets : (![0, 0] : Fin 2 → Nat) = fun _ => 0 := funext fun a => by fin_cases a <;> rfl

/-- A grid coordinate as a word and back. -/
theorem word_toNat {n : ℕ} (a : Fin n) (h : n ≤ 4294967296) : (BitVec.ofNat 32 a.val).toNat = a.val := by
  rw [BitVec.toNat_ofNat]
  exact Nat.mod_eq_of_lt (lt_of_lt_of_le a.isLt h)

end Products

end
-- ==== Proof.DwInVal.lean ====
/- The gradient of the input weights: a block of the product is summed over four blocks of the tokens, in a buffer that the
   points hand on, and written after the last. -/
module

public import proofs.«01_k».proof.Proof.Products
public import proofs.«01_k».proof.Proof.Gen.DwInIdeal.Value
public import proofs.«01_k».proof.Proof.Gen.DwInRefIdeal.Read
public import proofs.«01_k».proof.Defs

@[expose] public section

set_option maxRecDepth 16384

noncomputable section

namespace Products.DwIn

open Cert.DwInIdeal Cert.DwInIdeal.Gen Cert.DwInIdeal.Value
open Idealize.ShloMosaic Idealize.ShloMosaic.TcCoe Idealize.SL Idealize.SL.Sem
open Finset (range)

variable (m : (ℓ : Loc nD τ sig) → Buf (Elt Ideal) ℓ) (c : Dev nD)

/-- The two factors. -/
abbrev A : ℕ → ℕ → EReal := entry (a := 8192) (b := 2048) (m ((c : Thread nD τ).loc main_arg0))
abbrev B : ℕ → ℕ → EReal := entry (a := 8192) (b := 13440) (m ((c : Thread nD τ).loc main_arg1))

theorem t_lt (t : Fin grid0.N) : t.val < 60 := lt_of_lt_of_eq t.isLt N_0

theorem coords_eq : ∀ t : Fin grid0.N, (grid0.coords t 0).val = 0 ∧ (grid0.coords t 1).val = t.val / 4 ∧ (grid0.coords t 2).val = t.val % 4 := by
  decide +kernel

theorem idx (i : grid0.Coords) : cc0_transform_0 i 0 = (i 2).val ∧ cc0_transform_0 i 1 = (i 0).val
    ∧ cc0_transform_1 i 0 = (i 2).val ∧ cc0_transform_1 i 1 = (i 1).val
    ∧ cc0_transform_2 i 0 = (i 0).val ∧ cc0_transform_2 i 1 = (i 1).val :=
  ⟨word_toNat (i 2) (by decide), word_toNat (i 0) (by decide), word_toNat (i 2) (by decide), word_toNat (i 1) (by decide),
    word_toNat (i 0) (by decide), word_toNat (i 1) (by decide)⟩

theorem left_block (t : Fin cfg0.N) : Holds (a := 2048) (b := 2048) (iblk m c 0 t) (fun k r => A m c (2048 * (t.val % 4) + k) r) := fun k r => by
  obtain ⟨h0, h1, h2⟩ := coords_eq t
  obtain ⟨e0, e1, -⟩ := idx (grid0.coords t)
  show V m c main_arg0 (((cfg0.win 0).blk t).view.emb (ix2 k r)) = _
  rw [V_main_arg0]
  refine eq_entry _ _ ?_ ?_
  · show cc0_transform_0 (grid0.coords t) 0 * 2048 + 1 * k.val = _
    rw [e0, h2]; omega
  · show cc0_transform_0 (grid0.coords t) 1 * 2048 + 1 * r.val = _
    rw [e1, h0]; omega

theorem right_block (t : Fin cfg0.N) : Holds (a := 2048) (b := 896) (iblk m c 1 t) (fun k d => B m c (2048 * (t.val % 4) + k) (896 * (t.val / 4) + d)) := fun k d => by
  obtain ⟨h0, h1, h2⟩ := coords_eq t
  obtain ⟨-, -, e0, e1, -⟩ := idx (grid0.coords t)
  show V m c main_arg1 (((cfg0.win 1).blk t).view.emb (ix2 k d)) = _
  rw [V_main_arg1]
  refine eq_entry _ _ ?_ ?_
  · show cc0_transform_1 (grid0.coords t) 0 * 2048 + 1 * k.val = _
    rw [e0, h2]; omega
  · show cc0_transform_1 (grid0.coords t) 1 * 896 + 1 * d.val = _
    rw [e1, h1]; omega

/-- The product of two blocks. -/
theorem product_is {x : Vec Ideal S2048x2048 .bf16} {y : Vec Ideal S2048x896 .bf16} {f g : ℕ → ℕ → EReal}
    (hx : Holds (a := 2048) (b := 2048) x f) (hy : Holds (a := 2048) (b := 896) y g) :
    Holds (a := 2048) (b := 896) (k0_pay1 x y) (fun r d => ∑ k ∈ range 2048, f k r * g k d) := fun r d => by
  unfold k0_pay1
  pointwise
  exact sum_number _ _ (fun k => f k r.val) (fun k => g k d.val) (fun k => hx k r) (fun k => hy k d)

/-! ## What the cases leave -/

section Cases

variable (i : grid0.Coords) (a3 : Memref sig .tc .vmem S2048x2048 .bf16) (h3 : a3.IsWhole) (a4 : Memref sig .tc .vmem S2048x896 .bf16) (h4 : a4.IsWhole)
  (a5 : Memref sig .tc .vmem S2048x896 .bf16) (h5 : a5.IsWhole) (a6 : Memref sig .tc .vmem S2048x896 .f32) (h6 : a6.IsWhole)
  (x : Vec Ideal S2048x2048 .bf16) (y : Vec Ideal S2048x896 .bf16) (s : Vec Ideal S2048x896 .f32)

/-- The first block of tokens: the buffer is set to the product. -/
theorem first_buffer (c0 : cond0_0 i) (c1 : ¬cond0_1 i) (c2 : ¬cond0_2 i) :
    sout0_A_0 c i a3 h3 a4 h4 a5 h5 a6 h6 c0 c1 c2 x y = k0_pay1 x y := by
  unfold sout0_A_0
  rw [View.read_writes_eq_canon _ _ _ (scover0_A_0 c i a3 h3 a4 h4 a5 h5 a6 h6 c0 c1 c2 x y)]
  unfold kernelRun0_A
  dsimp only
  rw [View.canon_unit_zero zero_offsets]
  unfold k0_pay2
  simp only [View.readAt_eq_ld, h3.read_unread, h4.read_unread, View.ld_unit_zero (S := S2048x2048) zero_offsets,
    View.ld_unit_zero (S := S2048x896) zero_offsets, shapeCast_self]

/-- The blocks between: the product is added. -/
theorem next_buffer (c0 : ¬cond0_0 i) (c1 : cond0_1 i) (c2 : ¬cond0_2 i) :
    sout0_B_0 c i a3 h3 a4 h4 a5 h5 a6 h6 c0 c1 c2 x y s = addf s (k0_pay1 x y) := by
  unfold sout0_B_0
  rw [View.read_writes_eq_canon _ _ _ (scover0_B_0 c i a3 h3 a4 h4 a5 h5 a6 h6 c0 c1 c2 x y s)]
  unfold kernelRun0_B
  dsimp only
  rw [View.canon_unit_zero zero_offsets]
  unfold k0_pay3
  simp only [View.readAt_eq_ld, h3.read_unread, h4.read_unread, h6.read_unread, View.ld_unit_zero (S := S2048x2048) zero_offsets,
    View.ld_unit_zero (S := S2048x896) zero_offsets, shapeCast_self]

/-- The last block: added too, -/
theorem last_buffer (c0 : ¬cond0_0 i) (c1 : cond0_1 i) (c2 : cond0_2 i) :
    sout0_C_0 c i a3 h3 a4 h4 a5 h5 a6 h6 c0 c1 c2 x y s = addf s (k0_pay1 x y) := by
  unfold sout0_C_0
  rw [View.read_writes_eq_canon _ _ _ (scover0_C_0 c i a3 h3 a4 h4 a5 h5 a6 h6 c0 c1 c2 x y s)]
  unfold kernelRun0_C
  dsimp only
  sl_unfold_words
  rw [View.canon_unit_zero zero_offsets]
  unfold k0_pay3
  simp only [View.readAt_eq_ld, h3.read_unread, h4.read_unread, h6.read_unread, View.ld_unit_zero (S := S2048x2048) zero_offsets,
    View.ld_unit_zero (S := S2048x896) zero_offsets, shapeCast_self]

/-- and the sum is the block of the output. -/
theorem last_output (c0 : ¬cond0_0 i) (c1 : cond0_1 i) (c2 : cond0_2 i) :
    out0_C_2 c i a3 h3 a4 h4 a5 h5 a6 h6 c0 c1 c2 x y s = truncf .bf16 (addf s (k0_pay1 x y)) bitsLt_bf16_f32 := by
  unfold out0_C_2
  rw [View.read_writes_eq_canon _ _ _ (cover0_C_2 c i a3 h3 a4 h4 a5 h5 a6 h6 c0 c1 c2 x y s)]
  unfold kernelRun0_C
  dsimp only
  sl_unfold_words
  rw [View.canon_unit_zero zero_offsets, View.readCov_unit_zero (S := S2048x896) _ zero_offsets]
  unfold k0_pay4 k0_pay3
  simp only [View.readAt_eq_ld, h3.read_unread, h4.read_unread, h6.read_unread, View.ld_unit_zero (S := S2048x2048) zero_offsets,
    View.ld_unit_zero (S := S2048x896) zero_offsets, shapeCast_self]

end Cases

/-! ## What every point leaves -/

/-- The block's sum over the first `j` blocks of tokens. -/
def upto (n j r d : ℕ) : EReal := ∑ k ∈ range (2048 * j), A m c k r * B m c k (896 * (n / 4) + d)

theorem product_at (t : Fin cfg0.N) : Holds (a := 2048) (b := 896) (k0_pay1 (iblk m c 0 t) (iblk m c 1 t))
    (fun r d => ∑ k ∈ range 2048, A m c (2048 * (t.val % 4) + k) r * B m c (2048 * (t.val % 4) + k) (896 * (t.val / 4) + d)) :=
  product_is (left_block m c t) (right_block m c t)

theorem first_sum (t : Fin cfg0.N) (h : t.val % 4 = 0) :
    Holds (a := 2048) (b := 896) (k0_pay1 (iblk m c 0 t) (iblk m c 1 t)) (upto m c t.val (t.val % 4 + 1)) :=
  (product_at m c t).congr fun r _ d _ => by
    unfold upto
    rw [h]
    exact Finset.sum_congr rfl fun k _ => by rw [show 2048 * 0 + k = k by omega]

theorem next_sum (t : Fin cfg0.N) (s : Vec Ideal S2048x896 .f32) (n : ℕ) (hn : n / 4 = t.val / 4)
    (h : t.val % 4 = n % 4 + 1) (hs : Holds (a := 2048) (b := 896) s (upto m c n (n % 4 + 1))) :
    Holds (a := 2048) (b := 896) (addf s (k0_pay1 (iblk m c 0 t) (iblk m c 1 t))) (upto m c t.val (t.val % 4 + 1)) := fun r d => by
  refine (congrArg₂ (· + ·) (hs r d) (product_at m c t r d)).trans ?_
  unfold upto
  rw [hn, ← h]
  exact sum_blocks (fun k => A m c k r * B m c k (896 * (t.val / 4) + d)) 2048 (t.val % 4)

theorem buffer_at : ∀ (n : ℕ) (hn : n < cfg0.N), Holds (a := 2048) (b := 896) (outsAt0 m c n hn).2 (upto m c n (n % 4 + 1))
  | 0, hn => by
    rw [outsAt0_A m c ⟨0, hn⟩ rfl (by show ¬ 1 ≤ 0 % 4; omega) (by show ¬ 0 % 4 = 3; omega)]
    dsimp only
    rw [first_buffer]
    exact first_sum m c ⟨0, hn⟩ rfl
  | n + 1, hn => by
    have ih := buffer_at n (Nat.lt_of_succ_lt hn)
    by_cases h : (n + 1) % 4 = 0
    · rw [outsAt0_A m c ⟨n + 1, hn⟩ h (by show ¬ 1 ≤ (n + 1) % 4; omega) (by show ¬ (n + 1) % 4 = 3; omega)]
      dsimp only
      rw [first_buffer]
      exact first_sum m c ⟨n + 1, hn⟩ h
    · have hd : n / 4 = (n + 1) / 4 := by omega
      have hm : (n + 1) % 4 = n % 4 + 1 := by omega
      by_cases h' : (n + 1) % 4 = 3
      · rw [outsAt0_C m c ⟨n + 1, hn⟩ h (by show 1 ≤ (n + 1) % 4; omega) h']
        dsimp only
        rw [last_buffer]
        exact next_sum m c ⟨n + 1, hn⟩ _ n hd hm ih
      · rw [outsAt0_B m c ⟨n + 1, hn⟩ h (by show 1 ≤ (n + 1) % 4; omega) h']
        dsimp only
        rw [next_buffer]
        exact next_sum m c ⟨n + 1, hn⟩ _ n hd hm ih

/-- What the last of four points leaves for the output. -/
theorem output_at (t : Fin cfg0.N) (h : t.val % 4 = 3) : Holds (a := 2048) (b := 896) (outsAt0 m c t.val t.isLt).1 (upto m c t.val 4) := by
  have ih := buffer_at m c (t.val - 1) (Nat.lt_of_le_of_lt (Nat.sub_le _ _) t.isLt)
  have hs := next_sum m c t _ (t.val - 1) (by omega) (by omega) ih
  rw [outsAt0_C m c t (by omega) (by omega) h]
  dsimp only
  rw [last_output]
  rw [h] at hs
  exact hs

/-- The whole product. -/
def whole : S2048x13440.Idx → EReal := fun i => ∑ k ∈ range 8192, A m c k (i 0).val * B m c k (i 1).val

theorem covers : (cfg0.win 2).Covers :=
  Pipeline.Window.covers_of_indexMap_surj _ rfl (by decide) fun β => by
    have h0 : (β 0).val < 1 := (β 0).isLt
    have h1 : (β 1).val < 15 := (β 1).isLt
    let t : Fin grid0.N := ⟨4 * (β 1).val, by rw [N_0]; omega⟩
    obtain ⟨c0, c1, c2⟩ := coords_eq t
    obtain ⟨-, -, -, -, e0, e1⟩ := idx (grid0.coords t)
    refine ⟨grid0.coords t, fun a => ?_⟩
    match a with
    | ⟨0, _⟩ => exact (e0.trans c0).trans (by show 0 = (β 0).val; omega)
    | ⟨1, _⟩ => exact (e1.trans c1).trans (by show (4 * (β 1).val) / 4 = (β 1).val; omega)

theorem array_eq : (dats m 0 c).arrAt 2 cfg0.N = whole m c := by
  refine (dats m 0 c).arrAt_eq_of_covers 2 _ covers fun t hf y => ?_
  have hl := (flush0_2 t).mp hf
  obtain ⟨c0, c1, c2⟩ := coords_eq t
  obtain ⟨-, -, -, -, e0, e1⟩ := idx (grid0.coords t)
  blk_simp
  rw [after0_2]
  refine ((output_at m c t hl).at y).trans ?_
  show upto m c t.val 4 (y 0).val (y 1).val = ∑ k ∈ range 8192, A m c k (cc0_transform_2 (grid0.coords t) 0 * 2048 + 1 * (y 0).val)
    * B m c k (cc0_transform_2 (grid0.coords t) 1 * 896 + 1 * (y 1).val)
  rw [e0, e1, c0, c1, show 0 * 2048 + 1 * (y 0).val = (y 0).val by omega,
    show t.val / 4 * 896 + 1 * (y 1).val = 896 * (t.val / 4) + (y 1).val by omega]
  rfl

/-! ## The reference -/

open Cert.DwInRefIdeal.Read in
theorem reference_eq (x : Vec Ideal S8192x2048 .bf16) (w : Vec Ideal S8192x13440 .bf16) (i : S2048x13440.Idx) :
    val_main_v6 (F := Ideal) x w i
      = ∑ k ∈ range 8192, entry (a := 8192) (b := 2048) x k (i 0).val * entry (a := 8192) (b := 13440) w k (i 1).val := by
  rw [val_main_v6_apply]
  show val_main_v5 (F := Ideal) x w i = _
  rw [val_main_v5_apply, val_main_v4_apply]
  refine (sum_number _ _ (fun k => entry (a := 8192) (b := 13440) w k (i 1).val) (fun k => entry (a := 8192) (b := 2048) x k (i 0).val)
    (fun k => eq_entry w _ rfl rfl) (fun k => eq_entry x _ rfl rfl)).trans ?_
  exact Finset.sum_congr rfl fun k _ => mul_comm _ _

/-! ## The claims -/

theorem frame_reference : Cert.quiescent_DwInRefIdeal := fun m ρ _ =>
  (θ_run Cert.DwInRefIdeal.defs _ _).mono
    (fun r h => ⟨fun c => (h c).2, sem_eq_zero_of_no_sems (by decide) r.2⟩) (Cert.DwInRefIdeal.Value.run (F := Ideal) m ρ)

theorem algebraic : Cert.algebraic_DwInIdeal_DwInRefIdeal := by
  intro m ρ m' ρ' _ hagree
  refine ⟨fun c => whole m c, ?_, ?_⟩
  · exact (θ_run Cert.DwInIdeal.defs _ _).mono (fun r h c => ⟨(h c).1.trans (array_eq m c), (h c).2⟩) (run_blocks m ρ)
  · refine (θ_run Cert.DwInRefIdeal.defs _ _).mono (fun r h c => ⟨(h c).1.trans ?_, (h c).2⟩)
      (Cert.DwInRefIdeal.Value.run (F := Ideal) m' ρ')
    rw [Cert.DwInRefIdeal.Read.val_main_v6_eq, (hagree c).1, (hagree c).2]
    exact funext fun i => reference_eq _ _ i

end Products.DwIn

end
-- ==== Proof.DwOutVal.lean ====
/- The gradient of the output weights: a block of the product is summed over sixteen blocks of the tokens, in a buffer that the
   points hand on, and written after the last. -/
module

public import proofs.«01_k».proof.Proof.Products
public import proofs.«01_k».proof.Proof.Gen.DwOutIdeal.Value
public import proofs.«01_k».proof.Proof.Gen.DwOutRefIdeal.Read
public import proofs.«01_k».proof.Defs

@[expose] public section

set_option maxRecDepth 16384

noncomputable section

namespace Products.DwOut

open Cert.DwOutIdeal Cert.DwOutIdeal.Gen Cert.DwOutIdeal.Value
open Idealize.ShloMosaic Idealize.ShloMosaic.TcCoe Idealize.SL Idealize.SL.Sem
open Finset (range)

variable (m : (ℓ : Loc nD τ sig) → Buf (Elt Ideal) ℓ) (c : Dev nD)

/-- The two factors. -/
abbrev A : ℕ → ℕ → EReal := entry (a := 8192) (b := 4096) (m ((c : Thread nD τ).loc main_arg0))
abbrev B : ℕ → ℕ → EReal := entry (a := 8192) (b := 2048) (m ((c : Thread nD τ).loc main_arg1))

theorem t_lt (t : Fin grid0.N) : t.val < 64 := lt_of_lt_of_eq t.isLt N_0

theorem coords_eq : ∀ t : Fin grid0.N, (grid0.coords t 0).val = t.val / 16 ∧ (grid0.coords t 1).val = 0 ∧ (grid0.coords t 2).val = t.val % 16 := by
  decide +kernel

theorem idx (i : grid0.Coords) : cc0_transform_0 i 0 = (i 2).val ∧ cc0_transform_0 i 1 = (i 0).val
    ∧ cc0_transform_1 i 0 = (i 2).val ∧ cc0_transform_1 i 1 = (i 1).val
    ∧ cc0_transform_2 i 0 = (i 0).val ∧ cc0_transform_2 i 1 = (i 1).val :=
  ⟨word_toNat (i 2) (by decide), word_toNat (i 0) (by decide), word_toNat (i 2) (by decide), word_toNat (i 1) (by decide),
    word_toNat (i 0) (by decide), word_toNat (i 1) (by decide)⟩

theorem left_block (t : Fin cfg0.N) : Holds (a := 512) (b := 1024) (iblk m c 0 t) (fun k r => A m c (512 * (t.val % 16) + k) (1024 * (t.val / 16) + r)) := fun k r => by
  obtain ⟨h0, h1, h2⟩ := coords_eq t
  obtain ⟨e0, e1, -⟩ := idx (grid0.coords t)
  show V m c main_arg0 (((cfg0.win 0).blk t).view.emb (ix2 k r)) = _
  rw [V_main_arg0]
  refine eq_entry _ _ ?_ ?_
  · show cc0_transform_0 (grid0.coords t) 0 * 512 + 1 * k.val = _
    rw [e0, h2]; omega
  · show cc0_transform_0 (grid0.coords t) 1 * 1024 + 1 * r.val = _
    rw [e1, h0]; omega

theorem right_block (t : Fin cfg0.N) : Holds (a := 512) (b := 2048) (iblk m c 1 t) (fun k d => B m c (512 * (t.val % 16) + k) d) := fun k d => by
  obtain ⟨h0, h1, h2⟩ := coords_eq t
  obtain ⟨-, -, e0, e1, -⟩ := idx (grid0.coords t)
  show V m c main_arg1 (((cfg0.win 1).blk t).view.emb (ix2 k d)) = _
  rw [V_main_arg1]
  refine eq_entry _ _ ?_ ?_
  · show cc0_transform_1 (grid0.coords t) 0 * 512 + 1 * k.val = _
    rw [e0, h2]; omega
  · show cc0_transform_1 (grid0.coords t) 1 * 2048 + 1 * d.val = _
    rw [e1, h1]; omega

/-- The product of two blocks. -/
theorem product_is {x : Vec Ideal S512x1024 .bf16} {y : Vec Ideal S512x2048 .f32} {f g : ℕ → ℕ → EReal}
    (hx : Holds (a := 512) (b := 1024) x f) (hy : Holds (a := 512) (b := 2048) y g) :
    Holds (a := 1024) (b := 2048) (k0_pay1 x y) (fun r d => ∑ k ∈ range 512, f k r * g k d) := fun r d => by
  unfold k0_pay1
  pointwise
  exact sum_number _ _ (fun k => f k r.val) (fun k => g k d.val) (fun k => hx k r) (fun k => hy k d)

/-! ## What the cases leave -/

section Cases

variable (i : grid0.Coords) (a3 : Memref sig .tc .vmem S512x1024 .bf16) (h3 : a3.IsWhole) (a4 : Memref sig .tc .vmem S512x2048 .f32) (h4 : a4.IsWhole)
  (a5 : Memref sig .tc .vmem S1024x2048 .bf16) (h5 : a5.IsWhole) (a6 : Memref sig .tc .vmem S1024x2048 .f32) (h6 : a6.IsWhole)
  (x : Vec Ideal S512x1024 .bf16) (y : Vec Ideal S512x2048 .f32) (s : Vec Ideal S1024x2048 .f32)

/-- The first block of tokens: the buffer is set to the product. -/
theorem first_buffer (c0 : cond0_0 i) (c1 : ¬cond0_1 i) (c2 : ¬cond0_2 i) :
    sout0_A_0 c i a3 h3 a4 h4 a5 h5 a6 h6 c0 c1 c2 x y = k0_pay1 x y := by
  unfold sout0_A_0
  rw [View.read_writes_eq_canon _ _ _ (scover0_A_0 c i a3 h3 a4 h4 a5 h5 a6 h6 c0 c1 c2 x y)]
  unfold kernelRun0_A
  dsimp only
  rw [View.canon_unit_zero zero_offsets]
  unfold k0_pay2
  simp only [View.readAt_eq_ld, h3.read_unread, h4.read_unread, View.ld_unit_zero (S := S512x1024) zero_offsets, View.ld_unit_zero (S := S512x2048) zero_offsets,
    View.ld_unit_zero (S := S1024x2048) zero_offsets, shapeCast_self]

/-- The blocks between: the product is added. -/
theorem next_buffer (c0 : ¬cond0_0 i) (c1 : cond0_1 i) (c2 : ¬cond0_2 i) :
    sout0_B_0 c i a3 h3 a4 h4 a5 h5 a6 h6 c0 c1 c2 x y s = addf s (k0_pay1 x y) := by
  unfold sout0_B_0
  rw [View.read_writes_eq_canon _ _ _ (scover0_B_0 c i a3 h3 a4 h4 a5 h5 a6 h6 c0 c1 c2 x y s)]
  unfold kernelRun0_B
  dsimp only
  rw [View.canon_unit_zero zero_offsets]
  unfold k0_pay3
  simp only [View.readAt_eq_ld, h3.read_unread, h4.read_unread, h6.read_unread, View.ld_unit_zero (S := S512x1024) zero_offsets, View.ld_unit_zero (S := S512x2048) zero_offsets,
    View.ld_unit_zero (S := S1024x2048) zero_offsets, shapeCast_self]

/-- The last block: added too, -/
theorem last_buffer (c0 : ¬cond0_0 i) (c1 : cond0_1 i) (c2 : cond0_2 i) :
    sout0_C_0 c i a3 h3 a4 h4 a5 h5 a6 h6 c0 c1 c2 x y s = addf s (k0_pay1 x y) := by
  unfold sout0_C_0
  rw [View.read_writes_eq_canon _ _ _ (scover0_C_0 c i a3 h3 a4 h4 a5 h5 a6 h6 c0 c1 c2 x y s)]
  unfold kernelRun0_C
  dsimp only
  sl_unfold_words
  rw [View.canon_unit_zero zero_offsets]
  unfold k0_pay3
  simp only [View.readAt_eq_ld, h3.read_unread, h4.read_unread, h6.read_unread, View.ld_unit_zero (S := S512x1024) zero_offsets, View.ld_unit_zero (S := S512x2048) zero_offsets,
    View.ld_unit_zero (S := S1024x2048) zero_offsets, shapeCast_self]

/-- and the sum is the block of the output. -/
theorem last_output (c0 : ¬cond0_0 i) (c1 : cond0_1 i) (c2 : cond0_2 i) :
    out0_C_2 c i a3 h3 a4 h4 a5 h5 a6 h6 c0 c1 c2 x y s = truncf .bf16 (addf s (k0_pay1 x y)) bitsLt_bf16_f32 := by
  unfold out0_C_2
  rw [View.read_writes_eq_canon _ _ _ (cover0_C_2 c i a3 h3 a4 h4 a5 h5 a6 h6 c0 c1 c2 x y s)]
  unfold kernelRun0_C
  dsimp only
  sl_unfold_words
  rw [View.canon_unit_zero zero_offsets, View.readCov_unit_zero (S := S1024x2048) _ zero_offsets]
  unfold k0_pay4 k0_pay3
  simp only [View.readAt_eq_ld, h3.read_unread, h4.read_unread, h6.read_unread, View.ld_unit_zero (S := S512x1024) zero_offsets, View.ld_unit_zero (S := S512x2048) zero_offsets,
    View.ld_unit_zero (S := S1024x2048) zero_offsets, shapeCast_self]

end Cases

/-! ## What every point leaves -/

/-- The block's sum over the first `j` blocks of tokens. -/
def upto (n j r d : ℕ) : EReal := ∑ k ∈ range (512 * j), A m c k (1024 * (n / 16) + r) * B m c k d

theorem product_at (t : Fin cfg0.N) : Holds (a := 1024) (b := 2048) (k0_pay1 (iblk m c 0 t) (iblk m c 1 t))
    (fun r d => ∑ k ∈ range 512, A m c (512 * (t.val % 16) + k) (1024 * (t.val / 16) + r) * B m c (512 * (t.val % 16) + k) d) :=
  product_is (left_block m c t) (right_block m c t)

theorem first_sum (t : Fin cfg0.N) (h : t.val % 16 = 0) :
    Holds (a := 1024) (b := 2048) (k0_pay1 (iblk m c 0 t) (iblk m c 1 t)) (upto m c t.val (t.val % 16 + 1)) :=
  (product_at m c t).congr fun r _ d _ => by
    unfold upto
    rw [h]
    exact Finset.sum_congr rfl fun k _ => by rw [show 512 * 0 + k = k by omega]

theorem next_sum (t : Fin cfg0.N) (s : Vec Ideal S1024x2048 .f32) (n : ℕ) (hn : n / 16 = t.val / 16)
    (h : t.val % 16 = n % 16 + 1) (hs : Holds (a := 1024) (b := 2048) s (upto m c n (n % 16 + 1))) :
    Holds (a := 1024) (b := 2048) (addf s (k0_pay1 (iblk m c 0 t) (iblk m c 1 t))) (upto m c t.val (t.val % 16 + 1)) := fun r d => by
  refine (congrArg₂ (· + ·) (hs r d) (product_at m c t r d)).trans ?_
  unfold upto
  rw [hn, ← h]
  exact sum_blocks (fun k => A m c k (1024 * (t.val / 16) + r) * B m c k d) 512 (t.val % 16)

theorem buffer_at : ∀ (n : ℕ) (hn : n < cfg0.N), Holds (a := 1024) (b := 2048) (outsAt0 m c n hn).2 (upto m c n (n % 16 + 1))
  | 0, hn => by
    rw [outsAt0_A m c ⟨0, hn⟩ rfl (by show ¬ 1 ≤ 0 % 16; omega) (by show ¬ 0 % 16 = 15; omega)]
    dsimp only
    rw [first_buffer]
    exact first_sum m c ⟨0, hn⟩ rfl
  | n + 1, hn => by
    have ih := buffer_at n (Nat.lt_of_succ_lt hn)
    by_cases h : (n + 1) % 16 = 0
    · rw [outsAt0_A m c ⟨n + 1, hn⟩ h (by show ¬ 1 ≤ (n + 1) % 16; omega) (by show ¬ (n + 1) % 16 = 15; omega)]
      dsimp only
      rw [first_buffer]
      exact first_sum m c ⟨n + 1, hn⟩ h
    · have hd : n / 16 = (n + 1) / 16 := by omega
      have hm : (n + 1) % 16 = n % 16 + 1 := by omega
      by_cases h' : (n + 1) % 16 = 15
      · rw [outsAt0_C m c ⟨n + 1, hn⟩ h (by show 1 ≤ (n + 1) % 16; omega) h']
        dsimp only
        rw [last_buffer]
        exact next_sum m c ⟨n + 1, hn⟩ _ n hd hm ih
      · rw [outsAt0_B m c ⟨n + 1, hn⟩ h (by show 1 ≤ (n + 1) % 16; omega) h']
        dsimp only
        rw [next_buffer]
        exact next_sum m c ⟨n + 1, hn⟩ _ n hd hm ih

/-- What the last of sixteen points leaves for the output. -/
theorem output_at (t : Fin cfg0.N) (h : t.val % 16 = 15) : Holds (a := 1024) (b := 2048) (outsAt0 m c t.val t.isLt).1 (upto m c t.val 16) := by
  have ih := buffer_at m c (t.val - 1) (Nat.lt_of_le_of_lt (Nat.sub_le _ _) t.isLt)
  have hs := next_sum m c t _ (t.val - 1) (by omega) (by omega) ih
  rw [outsAt0_C m c t (by omega) (by omega) h]
  dsimp only
  rw [last_output]
  rw [h] at hs
  exact hs

/-- The whole product. -/
def whole : S4096x2048.Idx → EReal := fun i => ∑ k ∈ range 8192, A m c k (i 0).val * B m c k (i 1).val

theorem covers : (cfg0.win 2).Covers :=
  Pipeline.Window.covers_of_indexMap_surj _ rfl (by decide) fun β => by
    have h0 : (β 0).val < 4 := (β 0).isLt
    have h1 : (β 1).val < 1 := (β 1).isLt
    let t : Fin grid0.N := ⟨16 * (β 0).val, by rw [N_0]; omega⟩
    obtain ⟨c0, c1, c2⟩ := coords_eq t
    obtain ⟨-, -, -, -, e0, e1⟩ := idx (grid0.coords t)
    refine ⟨grid0.coords t, fun a => ?_⟩
    match a with
    | ⟨0, _⟩ => exact (e0.trans c0).trans (by show (16 * (β 0).val) / 16 = (β 0).val; omega)
    | ⟨1, _⟩ => exact (e1.trans c1).trans (by show 0 = (β 1).val; omega)

theorem array_eq : (dats m 0 c).arrAt 2 cfg0.N = whole m c := by
  refine (dats m 0 c).arrAt_eq_of_covers 2 _ covers fun t hf y => ?_
  have hl := (flush0_2 t).mp hf
  obtain ⟨c0, c1, c2⟩ := coords_eq t
  obtain ⟨-, -, -, -, e0, e1⟩ := idx (grid0.coords t)
  blk_simp
  rw [after0_2]
  refine ((output_at m c t hl).at y).trans ?_
  show upto m c t.val 16 (y 0).val (y 1).val = ∑ k ∈ range 8192, A m c k (cc0_transform_2 (grid0.coords t) 0 * 1024 + 1 * (y 0).val)
    * B m c k (cc0_transform_2 (grid0.coords t) 1 * 2048 + 1 * (y 1).val)
  rw [e0, e1, c0, c1, show t.val / 16 * 1024 + 1 * (y 0).val = 1024 * (t.val / 16) + (y 0).val by omega,
    show 0 * 2048 + 1 * (y 1).val = (y 1).val by omega]
  rfl

/-! ## The reference -/

open Cert.DwOutRefIdeal.Read in
theorem reference_eq (x : Vec Ideal S8192x4096 .bf16) (w : Vec Ideal S8192x2048 .f32) (i : S4096x2048.Idx) :
    val_main_v5 (F := Ideal) x w i
      = ∑ k ∈ range 8192, entry (a := 8192) (b := 4096) x k (i 0).val * entry (a := 8192) (b := 2048) w k (i 1).val := by
  rw [val_main_v5_apply]
  show val_main_v4 (F := Ideal) x w i = _
  rw [val_main_v4_apply, val_main_v3_apply]
  refine (sum_number _ _ (fun k => entry (a := 8192) (b := 2048) w k (i 1).val) (fun k => entry (a := 8192) (b := 4096) x k (i 0).val)
    (fun k => eq_entry w _ rfl rfl) (fun k => eq_entry x _ rfl rfl)).trans ?_
  exact Finset.sum_congr rfl fun k _ => mul_comm _ _

/-! ## The claims -/

theorem frame_reference : Cert.quiescent_DwOutRefIdeal := fun m ρ _ =>
  (θ_run Cert.DwOutRefIdeal.defs _ _).mono
    (fun r h => ⟨fun c => (h c).2, sem_eq_zero_of_no_sems (by decide) r.2⟩) (Cert.DwOutRefIdeal.Value.run (F := Ideal) m ρ)

theorem algebraic : Cert.algebraic_DwOutIdeal_DwOutRefIdeal := by
  intro m ρ m' ρ' _ hagree
  refine ⟨fun c => whole m c, ?_, ?_⟩
  · exact (θ_run Cert.DwOutIdeal.defs _ _).mono (fun r h c => ⟨(h c).1.trans (array_eq m c), (h c).2⟩) (run_blocks m ρ)
  · refine (θ_run Cert.DwOutRefIdeal.defs _ _).mono (fun r h c => ⟨(h c).1.trans ?_, (h c).2⟩)
      (Cert.DwOutRefIdeal.Value.run (F := Ideal) m' ρ')
    rw [Cert.DwOutRefIdeal.Read.val_main_v5_eq, (hagree c).1, (hagree c).2]
    exact funext fun i => reference_eq _ _ i

end Products.DwOut

end
-- ==== Proof.DHVal.lean ====
/- The gradient of the input projection's input: a block of the product with the transposed weights is summed over seven blocks
   of columns, in the block of the output. -/
module

public import proofs.«01_k».proof.Proof.Products
public import proofs.«01_k».proof.Proof.Gen.DHIdeal.Value
public import proofs.«01_k».proof.Proof.Gen.DHRefIdeal.Read
public import proofs.«01_k».proof.Defs

@[expose] public section

set_option maxRecDepth 16384

noncomputable section

namespace Products.DH

open Cert.DHIdeal Cert.DHIdeal.Gen Cert.DHIdeal.Value
open Idealize.ShloMosaic Idealize.ShloMosaic.TcCoe Idealize.SL Idealize.SL.Sem
open Finset (range)

variable (m : (ℓ : Loc nD τ sig) → Buf (Elt Ideal) ℓ) (c : Dev nD)

/-- The two factors. -/
abbrev A : ℕ → ℕ → EReal := entry (a := 8192) (b := 13440) (m ((c : Thread nD τ).loc main_arg0))
abbrev B : ℕ → ℕ → EReal := entry (a := 2048) (b := 13440) (m ((c : Thread nD τ).loc main_arg1))

theorem t_lt (t : Fin grid0.N) : t.val < 112 := lt_of_lt_of_eq t.isLt N_0

theorem coords_eq : ∀ t : Fin grid0.N, (grid0.coords t 0).val = t.val / 7 ∧ (grid0.coords t 1).val = 0 ∧ (grid0.coords t 2).val = t.val % 7 := by
  decide +kernel

theorem idx (i : grid0.Coords) : cc0_transform_0 i 0 = (i 0).val ∧ cc0_transform_0 i 1 = (i 2).val
    ∧ cc0_transform_1 i 0 = (i 1).val ∧ cc0_transform_1 i 1 = (i 2).val
    ∧ cc0_transform_2 i 0 = (i 0).val ∧ cc0_transform_2 i 1 = (i 1).val :=
  ⟨word_toNat (i 0) (by decide), word_toNat (i 2) (by decide), word_toNat (i 1) (by decide), word_toNat (i 2) (by decide),
    word_toNat (i 0) (by decide), word_toNat (i 1) (by decide)⟩

theorem left_block (t : Fin cfg0.N) : Holds (a := 512) (b := 1920) (iblk m c 0 t) (fun r k => A m c (512 * (t.val / 7) + r) (1920 * (t.val % 7) + k)) := fun r k => by
  obtain ⟨h0, h1, h2⟩ := coords_eq t
  obtain ⟨e0, e1, -⟩ := idx (grid0.coords t)
  show V m c main_arg0 (((cfg0.win 0).blk t).view.emb (ix2 r k)) = _
  rw [V_main_arg0]
  refine eq_entry _ _ ?_ ?_
  · show cc0_transform_0 (grid0.coords t) 0 * 512 + 1 * r.val = _
    rw [e0, h0]; omega
  · show cc0_transform_0 (grid0.coords t) 1 * 1920 + 1 * k.val = _
    rw [e1, h2]; omega

theorem right_block (t : Fin cfg0.N) : Holds (a := 2048) (b := 1920) (iblk m c 1 t) (fun d k => B m c d (1920 * (t.val % 7) + k)) := fun d k => by
  obtain ⟨h0, h1, h2⟩ := coords_eq t
  obtain ⟨-, -, e0, e1, -⟩ := idx (grid0.coords t)
  show V m c main_arg1 (((cfg0.win 1).blk t).view.emb (ix2 d k)) = _
  rw [V_main_arg1]
  refine eq_entry _ _ ?_ ?_
  · show cc0_transform_1 (grid0.coords t) 0 * 2048 + 1 * d.val = _
    rw [e0, h1]; omega
  · show cc0_transform_1 (grid0.coords t) 1 * 1920 + 1 * k.val = _
    rw [e1, h2]; omega

/-- The product of two blocks. -/
theorem product_is {x : Vec Ideal S512x1920 .bf16} {y : Vec Ideal S2048x1920 .bf16} {f g : ℕ → ℕ → EReal}
    (hx : Holds (a := 512) (b := 1920) x f) (hy : Holds (a := 2048) (b := 1920) y g) :
    Holds (a := 512) (b := 2048) (k0_pay1 x y) (fun r d => ∑ k ∈ range 1920, f r k * g d k) := fun r d => by
  unfold k0_pay1
  pointwise
  exact sum_number _ _ (fun k => f r.val k) (fun k => g d.val k) (fun k => hx r k) (fun k => hy d k)

/-! ## What the cases leave -/

section Cases

variable (i : grid0.Coords) (a3 : Memref sig .tc .vmem S512x1920 .bf16) (h3 : a3.IsWhole) (a4 : Memref sig .tc .vmem S2048x1920 .bf16) (h4 : a4.IsWhole)
  (a5 : Memref sig .tc .vmem S512x2048 .f32) (h5 : a5.IsWhole)
  (x : Vec Ideal S512x1920 .bf16) (y : Vec Ideal S2048x1920 .bf16) (s : Vec Ideal S512x2048 .f32)

/-- The first block of columns: the output's block is set to the product. -/
theorem first_output (c0 : cond0_0 i) (c1 : ¬cond0_1 i) : out0_A_2 c i a3 h3 a4 h4 a5 h5 c0 c1 x y = k0_pay1 x y := by
  unfold out0_A_2
  rw [View.read_writes_eq_canon _ _ _ (cover0_A_2 c i a3 h3 a4 h4 a5 h5 c0 c1 x y)]
  unfold kernelRun0_A
  dsimp only
  rw [View.canon_unit_zero zero_offsets]
  simp only [View.readAt_eq_ld, h3.read_unread, h4.read_unread, View.ld_unit_zero (S := S512x1920) zero_offsets,
    View.ld_unit_zero (S := S2048x1920) zero_offsets, shapeCast_self]

/-- The blocks after it: the product is added. -/
theorem next_output (c0 : ¬cond0_0 i) (c1 : cond0_1 i) : out0_B_2 c i a3 h3 a4 h4 a5 h5 c0 c1 x y s = addf s (k0_pay1 x y) := by
  unfold out0_B_2
  rw [View.read_writes_eq_canon _ _ _ (cover0_B_2 c i a3 h3 a4 h4 a5 h5 c0 c1 x y s)]
  unfold kernelRun0_B
  dsimp only
  rw [View.canon_unit_zero zero_offsets]
  unfold k0_pay2
  simp only [View.readAt_eq_ld, h3.read_unread, h4.read_unread, h5.read_unread, View.ld_unit_zero (S := S512x1920) zero_offsets,
    View.ld_unit_zero (S := S2048x1920) zero_offsets, View.ld_unit_zero (S := S512x2048) zero_offsets, shapeCast_self]

end Cases

/-! ## What every point leaves -/

/-- The block's sum over the first `j` blocks of columns. -/
def upto (n j r d : ℕ) : EReal := ∑ k ∈ range (1920 * j), A m c (512 * (n / 7) + r) k * B m c d k

theorem product_at (t : Fin cfg0.N) : Holds (a := 512) (b := 2048) (k0_pay1 (iblk m c 0 t) (iblk m c 1 t))
    (fun r d => ∑ k ∈ range 1920, A m c (512 * (t.val / 7) + r) (1920 * (t.val % 7) + k) * B m c d (1920 * (t.val % 7) + k)) :=
  product_is (left_block m c t) (right_block m c t)

theorem first_sum (t : Fin cfg0.N) (h : t.val % 7 = 0) :
    Holds (a := 512) (b := 2048) (k0_pay1 (iblk m c 0 t) (iblk m c 1 t)) (upto m c t.val (t.val % 7 + 1)) :=
  (product_at m c t).congr fun r _ d _ => by
    unfold upto
    rw [h]
    exact Finset.sum_congr rfl fun k _ => by rw [show 1920 * 0 + k = k by omega]

theorem next_sum (t : Fin cfg0.N) (s : Vec Ideal S512x2048 .f32) (n : ℕ) (hn : n / 7 = t.val / 7)
    (h : t.val % 7 = n % 7 + 1) (hs : Holds (a := 512) (b := 2048) s (upto m c n (n % 7 + 1))) :
    Holds (a := 512) (b := 2048) (addf s (k0_pay1 (iblk m c 0 t) (iblk m c 1 t))) (upto m c t.val (t.val % 7 + 1)) := fun r d => by
  refine (congrArg₂ (· + ·) (hs r d) (product_at m c t r d)).trans ?_
  unfold upto
  rw [hn, ← h]
  exact sum_blocks (fun k => A m c (512 * (t.val / 7) + r.val) k * B m c d.val k) 1920 (t.val % 7)

theorem output_at : ∀ (n : ℕ) (hn : n < cfg0.N), Holds (a := 512) (b := 2048) (outsAt0 m c n hn) (upto m c n (n % 7 + 1))
  | 0, hn => by
    rw [outsAt0_A m c ⟨0, hn⟩ rfl (by show ¬ 1 ≤ 0 % 7; omega), first_output]
    exact first_sum m c ⟨0, hn⟩ rfl
  | n + 1, hn => by
    have ih := output_at n (Nat.lt_of_succ_lt hn)
    by_cases h : (n + 1) % 7 = 0
    · rw [outsAt0_A m c ⟨n + 1, hn⟩ h (by show ¬ 1 ≤ (n + 1) % 7; omega), first_output]
      exact first_sum m c ⟨n + 1, hn⟩ h
    · rw [outsAt0_B m c ⟨n + 1, hn⟩ h (by show 1 ≤ (n + 1) % 7; omega), next_output]
      exact next_sum m c ⟨n + 1, hn⟩ _ n (by show n / 7 = (n + 1) / 7; omega) (by show (n + 1) % 7 = n % 7 + 1; omega) ih

/-- The whole product. -/
def whole : S8192x2048.Idx → EReal := fun i => ∑ k ∈ range 13440, A m c (i 0).val k * B m c (i 1).val k

theorem covers : (cfg0.win 2).Covers :=
  Pipeline.Window.covers_of_indexMap_surj _ rfl (by decide) fun β => by
    have h0 : (β 0).val < 16 := (β 0).isLt
    have h1 : (β 1).val < 1 := (β 1).isLt
    let t : Fin grid0.N := ⟨7 * (β 0).val + 6, by rw [N_0]; omega⟩
    obtain ⟨c0, c1, c2⟩ := coords_eq t
    obtain ⟨-, -, -, -, e0, e1⟩ := idx (grid0.coords t)
    refine ⟨grid0.coords t, fun a => ?_⟩
    match a with
    | ⟨0, _⟩ => exact (e0.trans c0).trans (by show (7 * (β 0).val + 6) / 7 = (β 0).val; omega)
    | ⟨1, _⟩ => exact (e1.trans c1).trans (by show 0 = (β 1).val; omega)

theorem array_eq : (dats m 0 c).arrAt 2 cfg0.N = whole m c := by
  refine (dats m 0 c).arrAt_eq_of_covers 2 _ covers fun t hf y => ?_
  have hl := (flush0_2 t).mp hf
  obtain ⟨c0, c1, c2⟩ := coords_eq t
  obtain ⟨-, -, -, -, e0, e1⟩ := idx (grid0.coords t)
  blk_simp
  rw [after0_2]
  have ho := output_at m c t.val t.isLt
  rw [hl] at ho
  refine (ho.at y).trans ?_
  show upto m c t.val 7 (y 0).val (y 1).val = ∑ k ∈ range 13440, A m c (cc0_transform_2 (grid0.coords t) 0 * 512 + 1 * (y 0).val) k
    * B m c (cc0_transform_2 (grid0.coords t) 1 * 2048 + 1 * (y 1).val) k
  rw [e0, e1, c0, c1, show t.val / 7 * 512 + 1 * (y 0).val = 512 * (t.val / 7) + (y 0).val by omega,
    show 0 * 2048 + 1 * (y 1).val = (y 1).val by omega]
  rfl

/-! ## The reference -/

open Cert.DHRefIdeal.Read in
theorem reference_eq (x : Vec Ideal S8192x13440 .bf16) (w : Vec Ideal S2048x13440 .bf16) (i : S8192x2048.Idx) :
    val_main_v4 (F := Ideal) x w i
      = ∑ k ∈ range 13440, entry (a := 8192) (b := 13440) x (i 0).val k * entry (a := 2048) (b := 13440) w (i 1).val k := by
  rw [val_main_v4_apply]
  exact sum_number _ _ (fun k => entry (a := 8192) (b := 13440) x (i 0).val k) (fun k => entry (a := 2048) (b := 13440) w (i 1).val k)
    (fun k => eq_entry x _ rfl rfl) (fun k => eq_entry w _ rfl rfl)

/-! ## The claims -/

theorem frame_reference : Cert.quiescent_DHRefIdeal := fun m ρ _ =>
  (θ_run Cert.DHRefIdeal.defs _ _).mono
    (fun r h => ⟨fun c => (h c).2, sem_eq_zero_of_no_sems (by decide) r.2⟩) (Cert.DHRefIdeal.Value.run (F := Ideal) m ρ)

theorem algebraic : Cert.algebraic_DHIdeal_DHRefIdeal := by
  intro m ρ m' ρ' _ hagree
  refine ⟨fun c => whole m c, ?_, ?_⟩
  · exact (θ_run Cert.DHIdeal.defs _ _).mono (fun r h c => ⟨(h c).1.trans (array_eq m c), (h c).2⟩) (run_blocks m ρ)
  · refine (θ_run Cert.DHRefIdeal.defs _ _).mono (fun r h c => ⟨(h c).1.trans ?_, (h c).2⟩)
      (Cert.DHRefIdeal.Value.run (F := Ideal) m' ρ')
    rw [Cert.DHRefIdeal.Read.val_main_v4_eq, (hagree c).1, (hagree c).2]
    exact funext fun i => reference_eq _ _ i

end Products.DH

end
-- ==== Proof.DMixVal.lean ====
/- The gradient of the mixed heads: every grid point's product is a block of the whole product. -/
module

public import proofs.«01_k».proof.Proof.Products
public import proofs.«01_k».proof.Proof.Gen.DMixIdeal.Value
public import proofs.«01_k».proof.Proof.Gen.DMixRefIdeal.Read
public import proofs.«01_k».proof.Defs

@[expose] public section

set_option maxRecDepth 16384

noncomputable section

namespace Products.DMix

open Cert.DMixIdeal Cert.DMixIdeal.Gen Cert.DMixIdeal.Value
open Idealize.ShloMosaic Idealize.ShloMosaic.TcCoe Idealize.SL Idealize.SL.Sem
open Finset (range)

variable (m : (ℓ : Loc nD τ sig) → Buf (Elt Ideal) ℓ) (c : Dev nD)

/-- The two factors. -/
abbrev A : ℕ → ℕ → EReal := entry (a := 8192) (b := 2048) (m ((c : Thread nD τ).loc main_arg0))
abbrev B : ℕ → ℕ → EReal := entry (a := 4096) (b := 2048) (m ((c : Thread nD τ).loc main_arg1))

theorem t_lt (t : Fin grid0.N) : t.val < 64 := lt_of_lt_of_eq t.isLt N_0

theorem coords_eq : ∀ t : Fin grid0.N, (grid0.coords t 0).val = t.val / 4 ∧ (grid0.coords t 1).val = t.val % 4 ∧ (grid0.coords t 2).val = 0 := by
  decide +kernel

theorem idx (i : grid0.Coords) : cc0_transform_0 i 0 = (i 0).val ∧ cc0_transform_0 i 1 = (i 2).val
    ∧ cc0_transform_1 i 0 = (i 1).val ∧ cc0_transform_1 i 1 = (i 2).val
    ∧ cc0_transform_2 i 0 = (i 0).val ∧ cc0_transform_2 i 1 = (i 1).val :=
  ⟨word_toNat (i 0) (by decide), word_toNat (i 2) (by decide), word_toNat (i 1) (by decide), word_toNat (i 2) (by decide),
    word_toNat (i 0) (by decide), word_toNat (i 1) (by decide)⟩

theorem left_block (t : Fin cfg0.N) : Holds (a := 512) (b := 2048) (iblk m c 0 t) (fun r k => A m c (512 * (t.val / 4) + r) k) := fun r k => by
  obtain ⟨h0, h1, h2⟩ := coords_eq t
  obtain ⟨e0, e1, -⟩ := idx (grid0.coords t)
  show V m c main_arg0 (((cfg0.win 0).blk t).view.emb (ix2 r k)) = _
  rw [V_main_arg0]
  refine eq_entry _ _ ?_ ?_
  · show cc0_transform_0 (grid0.coords t) 0 * 512 + 1 * r.val = _
    rw [e0, h0]; omega
  · show cc0_transform_0 (grid0.coords t) 1 * 2048 + 1 * k.val = _
    rw [e1, h2]; omega

theorem right_block (t : Fin cfg0.N) : Holds (a := 1024) (b := 2048) (iblk m c 1 t) (fun r k => B m c (1024 * (t.val % 4) + r) k) := fun r k => by
  obtain ⟨h0, h1, h2⟩ := coords_eq t
  obtain ⟨-, -, e0, e1, -⟩ := idx (grid0.coords t)
  show V m c main_arg1 (((cfg0.win 1).blk t).view.emb (ix2 r k)) = _
  rw [V_main_arg1]
  refine eq_entry _ _ ?_ ?_
  · show cc0_transform_1 (grid0.coords t) 0 * 1024 + 1 * r.val = _
    rw [e0, h1]; omega
  · show cc0_transform_1 (grid0.coords t) 1 * 2048 + 1 * k.val = _
    rw [e1, h2]; omega

/-- The product of two blocks. -/
theorem product_is {x : Vec Ideal S512x2048 .f32} {y : Vec Ideal S1024x2048 .bf16} {f g : ℕ → ℕ → EReal}
    (hx : Holds (a := 512) (b := 2048) x f) (hy : Holds (a := 1024) (b := 2048) y g) :
    Holds (a := 512) (b := 1024) (k0_pay1 x y) (fun r d => ∑ k ∈ range 2048, f r k * g d k) := fun r d => by
  unfold k0_pay1
  pointwise
  exact sum_number _ _ _ _ (fun k => hx r k) (fun k => hy d k)

theorem left_at (t : Fin cfg0.N) : Holds (a := 512) (b := 1024) (out0_2 (iblk m c 0 t) (iblk m c 1 t))
    (fun r d => ∑ k ∈ range 2048, A m c (512 * (t.val / 4) + r) k * B m c (1024 * (t.val % 4) + d) k) := by
  unfold out0_2
  rw [View.canon_unit_zero zero_offsets, View.ld_unit_zero (S := S512x2048) zero_offsets, View.ld_unit_zero (S := S1024x2048) zero_offsets]
  exact product_is (left_block m c t) (right_block m c t)

/-- The whole product. -/
def whole : S8192x4096.Idx → EReal := fun i => ∑ k ∈ range 2048, A m c (i 0).val k * B m c (i 1).val k

theorem covers : (cfg0.win 2).Covers :=
  Pipeline.Window.covers_of_indexMap_surj _ rfl (by decide) fun β => by
    have h0 : (β 0).val < 16 := (β 0).isLt
    have h1 : (β 1).val < 4 := (β 1).isLt
    let t : Fin grid0.N := ⟨4 * (β 0).val + (β 1).val, by rw [N_0]; omega⟩
    obtain ⟨c0, c1, c2⟩ := coords_eq t
    obtain ⟨-, -, -, -, e0, e1⟩ := idx (grid0.coords t)
    refine ⟨grid0.coords t, fun a => ?_⟩
    match a with
    | ⟨0, _⟩ => exact (e0.trans c0).trans (by show (4 * (β 0).val + (β 1).val) / 4 = (β 0).val; omega)
    | ⟨1, _⟩ => exact (e1.trans c1).trans (by show (4 * (β 0).val + (β 1).val) % 4 = (β 1).val; omega)

theorem array_eq : (dats m 0 c).arrAt 2 cfg0.N = whole m c := by
  refine (dats m 0 c).arrAt_eq_of_covers 2 _ covers fun t _ y => ?_
  obtain ⟨c0, c1, c2⟩ := coords_eq t
  obtain ⟨-, -, -, -, e0, e1⟩ := idx (grid0.coords t)
  blk_simp
  rw [after0_2]
  refine ((left_at m c t).at y).trans ?_
  show _ = ∑ k ∈ range 2048, A m c (cc0_transform_2 (grid0.coords t) 0 * 512 + 1 * (y 0).val) k
    * B m c (cc0_transform_2 (grid0.coords t) 1 * 1024 + 1 * (y 1).val) k
  rw [e0, e1, c0, c1, show t.val / 4 * 512 + 1 * (y 0).val = 512 * (t.val / 4) + (y 0).val by omega,
    show t.val % 4 * 1024 + 1 * (y 1).val = 1024 * (t.val % 4) + (y 1).val by omega]

/-! ## The reference -/

open Cert.DMixRefIdeal.Read in
theorem reference_eq (x : Vec Ideal S8192x2048 .f32) (w : Vec Ideal S4096x2048 .bf16) (i : S8192x4096.Idx) :
    val_main_v4 (F := Ideal) x w i
      = ∑ k ∈ range 2048, entry (a := 8192) (b := 2048) x (i 0).val k * entry (a := 4096) (b := 2048) w (i 1).val k := by
  rw [val_main_v4_apply]
  show val_main_v3 (F := Ideal) x w i = _
  rw [val_main_v3_apply]
  exact sum_number _ _ _ _ (fun k => eq_entry x _ rfl rfl) (fun k => eq_entry w _ rfl rfl)

/-! ## The claims -/

theorem frame_reference : Cert.quiescent_DMixRefIdeal := fun m ρ _ =>
  (θ_run Cert.DMixRefIdeal.defs _ _).mono
    (fun r h => ⟨fun c => (h c).2, sem_eq_zero_of_no_sems (by decide) r.2⟩) (Cert.DMixRefIdeal.Value.run (F := Ideal) m ρ)

theorem algebraic : Cert.algebraic_DMixIdeal_DMixRefIdeal := by
  intro m ρ m' ρ' _ hagree
  refine ⟨fun c => whole m c, ?_, ?_⟩
  · exact (θ_run Cert.DMixIdeal.defs _ _).mono (fun r h c => ⟨(h c).1.trans (array_eq m c), (h c).2⟩) (run_blocks m ρ)
  · refine (θ_run Cert.DMixRefIdeal.defs _ _).mono (fun r h c => ⟨(h c).1.trans ?_, (h c).2⟩)
      (Cert.DMixRefIdeal.Value.run (F := Ideal) m' ρ')
    rw [Cert.DMixRefIdeal.Read.val_main_v4_eq, (hagree c).1, (hagree c).2]
    exact funext fun i => reference_eq _ _ i

end Products.DMix

end
-- ==== Proof.InProjVal.lean ====
/- The product with the input weights: every grid point's product is a block of the whole product. -/
module

public import proofs.«01_k».proof.Proof.Products
public import proofs.«01_k».proof.Proof.Gen.InProjIdeal.Value
public import proofs.«01_k».proof.Proof.Gen.InProjRefIdeal.Read
public import proofs.«01_k».proof.Defs

@[expose] public section

set_option maxRecDepth 16384

noncomputable section

namespace Products.InProj

open Cert.InProjIdeal Cert.InProjIdeal.Gen Cert.InProjIdeal.Value
open Idealize.ShloMosaic Idealize.ShloMosaic.TcCoe Idealize.SL Idealize.SL.Sem
open Finset (range)

variable (m : (ℓ : Loc nD τ sig) → Buf (Elt Ideal) ℓ) (c : Dev nD)

/-- The two factors. -/
abbrev A : ℕ → ℕ → EReal := entry (a := 8192) (b := 2048) (m ((c : Thread nD τ).loc main_arg0))
abbrev B : ℕ → ℕ → EReal := entry (a := 2048) (b := 13440) (m ((c : Thread nD τ).loc main_arg1))

theorem t_lt (t : Fin grid0.N) : t.val < 112 := lt_of_lt_of_eq t.isLt N_0

theorem coords_eq : ∀ t : Fin grid0.N, (grid0.coords t 0).val = t.val / 16 ∧ (grid0.coords t 1).val = t.val % 16 ∧ (grid0.coords t 2).val = 0 := by
  decide +kernel

theorem idx (i : grid0.Coords) : cc0_transform_0 i 0 = (i 1).val ∧ cc0_transform_0 i 1 = (i 2).val
    ∧ cc0_transform_1 i 0 = (i 2).val ∧ cc0_transform_1 i 1 = (i 0).val
    ∧ cc0_transform_2 i 0 = (i 1).val ∧ cc0_transform_2 i 1 = (i 0).val :=
  ⟨word_toNat (i 1) (by decide), word_toNat (i 2) (by decide), word_toNat (i 2) (by decide), word_toNat (i 0) (by decide),
    word_toNat (i 1) (by decide), word_toNat (i 0) (by decide)⟩

theorem left_block (t : Fin cfg0.N) : Holds (a := 512) (b := 2048) (iblk m c 0 t) (fun r k => A m c (512 * (t.val % 16) + r) k) := fun r k => by
  obtain ⟨h0, h1, h2⟩ := coords_eq t
  obtain ⟨e0, e1, -⟩ := idx (grid0.coords t)
  show V m c main_arg0 (((cfg0.win 0).blk t).view.emb (ix2 r k)) = _
  rw [V_main_arg0]
  refine eq_entry _ _ ?_ ?_
  · show cc0_transform_0 (grid0.coords t) 0 * 512 + 1 * r.val = _
    rw [e0, h1]; omega
  · show cc0_transform_0 (grid0.coords t) 1 * 2048 + 1 * k.val = _
    rw [e1, h2]; omega

theorem right_block (t : Fin cfg0.N) : Holds (a := 2048) (b := 1920) (iblk m c 1 t) (fun k r => B m c k (1920 * (t.val / 16) + r)) := fun k r => by
  obtain ⟨h0, h1, h2⟩ := coords_eq t
  obtain ⟨-, -, e0, e1, -⟩ := idx (grid0.coords t)
  show V m c main_arg1 (((cfg0.win 1).blk t).view.emb (ix2 k r)) = _
  rw [V_main_arg1]
  refine eq_entry _ _ ?_ ?_
  · show cc0_transform_1 (grid0.coords t) 0 * 2048 + 1 * k.val = _
    rw [e0, h2]; omega
  · show cc0_transform_1 (grid0.coords t) 1 * 1920 + 1 * r.val = _
    rw [e1, h0]; omega

/-- The product of two blocks. -/
theorem product_is {x : Vec Ideal S512x2048 .bf16} {y : Vec Ideal S2048x1920 .bf16} {f g : ℕ → ℕ → EReal}
    (hx : Holds (a := 512) (b := 2048) x f) (hy : Holds (a := 2048) (b := 1920) y g) :
    Holds (a := 512) (b := 1920) (k0_pay1 x y) (fun r d => ∑ k ∈ range 2048, f r k * g k d) := fun r d => by
  unfold k0_pay1
  pointwise
  exact sum_number _ _ _ (fun k => g k d.val) (fun k => hx r k) (fun k => hy k d)

theorem left_at (t : Fin cfg0.N) : Holds (a := 512) (b := 1920) (out0_2 (iblk m c 0 t) (iblk m c 1 t))
    (fun r d => ∑ k ∈ range 2048, A m c (512 * (t.val % 16) + r) k * B m c k (1920 * (t.val / 16) + d)) := by
  unfold out0_2
  rw [View.canon_unit_zero zero_offsets, View.ld_unit_zero (S := S512x2048) zero_offsets, View.ld_unit_zero (S := S2048x1920) zero_offsets]
  exact product_is (left_block m c t) (right_block m c t)

/-- The whole product. -/
def whole : S8192x13440.Idx → EReal := fun i => ∑ k ∈ range 2048, A m c (i 0).val k * B m c k (i 1).val

theorem covers : (cfg0.win 2).Covers :=
  Pipeline.Window.covers_of_indexMap_surj _ rfl (by decide) fun β => by
    have h0 : (β 0).val < 16 := (β 0).isLt
    have h1 : (β 1).val < 7 := (β 1).isLt
    let t : Fin grid0.N := ⟨16 * (β 1).val + (β 0).val, by rw [N_0]; omega⟩
    obtain ⟨c0, c1, c2⟩ := coords_eq t
    obtain ⟨-, -, -, -, e0, e1⟩ := idx (grid0.coords t)
    refine ⟨grid0.coords t, fun a => ?_⟩
    match a with
    | ⟨0, _⟩ => exact (e0.trans c1).trans (by show (16 * (β 1).val + (β 0).val) % 16 = (β 0).val; omega)
    | ⟨1, _⟩ => exact (e1.trans c0).trans (by show (16 * (β 1).val + (β 0).val) / 16 = (β 1).val; omega)

theorem array_eq : (dats m 0 c).arrAt 2 cfg0.N = whole m c := by
  refine (dats m 0 c).arrAt_eq_of_covers 2 _ covers fun t _ y => ?_
  obtain ⟨c0, c1, c2⟩ := coords_eq t
  obtain ⟨-, -, -, -, e0, e1⟩ := idx (grid0.coords t)
  blk_simp
  rw [after0_2]
  refine ((left_at m c t).at y).trans ?_
  show _ = ∑ k ∈ range 2048, A m c (cc0_transform_2 (grid0.coords t) 0 * 512 + 1 * (y 0).val) k
    * B m c k (cc0_transform_2 (grid0.coords t) 1 * 1920 + 1 * (y 1).val)
  rw [e0, e1, c0, c1, show t.val % 16 * 512 + 1 * (y 0).val = 512 * (t.val % 16) + (y 0).val by omega,
    show t.val / 16 * 1920 + 1 * (y 1).val = 1920 * (t.val / 16) + (y 1).val by omega]

/-! ## The reference -/

open Cert.InProjRefIdeal.Read in
theorem reference_eq (x : Vec Ideal S8192x2048 .bf16) (w : Vec Ideal S2048x13440 .bf16) (i : S8192x13440.Idx) :
    val_main_v2 (F := Ideal) x w i
      = ∑ k ∈ range 2048, entry (a := 8192) (b := 2048) x (i 0).val k * entry (a := 2048) (b := 13440) w k (i 1).val := by
  rw [val_main_v2_apply]
  exact sum_number _ _ _ (fun k => entry (a := 2048) (b := 13440) w k (i 1).val) (fun k => eq_entry x _ rfl rfl) (fun k => eq_entry w _ rfl rfl)

/-! ## The claims -/

theorem frame_reference : Cert.quiescent_InProjRefIdeal := fun m ρ _ =>
  (θ_run Cert.InProjRefIdeal.defs _ _).mono
    (fun r h => ⟨fun c => (h c).2, sem_eq_zero_of_no_sems (by decide) r.2⟩) (Cert.InProjRefIdeal.Value.run (F := Ideal) m ρ)

theorem algebraic : Cert.algebraic_InProjIdeal_InProjRefIdeal := by
  intro m ρ m' ρ' _ hagree
  refine ⟨fun c => whole m c, ?_, ?_⟩
  · exact (θ_run Cert.InProjIdeal.defs _ _).mono (fun r h c => ⟨(h c).1.trans (array_eq m c), (h c).2⟩) (run_blocks m ρ)
  · refine (θ_run Cert.InProjRefIdeal.defs _ _).mono (fun r h c => ⟨(h c).1.trans ?_, (h c).2⟩)
      (Cert.InProjRefIdeal.Value.run (F := Ideal) m' ρ')
    rw [Cert.InProjRefIdeal.Read.val_main_v2_eq, (hagree c).1, (hagree c).2]
    exact funext fun i => reference_eq _ _ i

end Products.InProj

end
-- ==== Proof.OutProjVal.lean ====
/- The product with the output weights, added to the stream: every grid point's product is a block of the whole product. -/
module

public import proofs.«01_k».proof.Proof.Products
public import proofs.«01_k».proof.Proof.Gen.OutProjIdeal.Value
public import proofs.«01_k».proof.Proof.Gen.OutProjRefIdeal.Read
public import proofs.«01_k».proof.Defs

@[expose] public section

set_option maxRecDepth 16384

noncomputable section

namespace Products.OutProj

open Cert.OutProjIdeal Cert.OutProjIdeal.Gen Cert.OutProjIdeal.Value
open Idealize.ShloMosaic Idealize.ShloMosaic.TcCoe Idealize.SL Idealize.SL.Sem
open Finset (range)

variable (m : (ℓ : Loc nD τ sig) → Buf (Elt Ideal) ℓ) (c : Dev nD)

/-- The two factors and the stream. -/
abbrev A : ℕ → ℕ → EReal := entry (a := 8192) (b := 4096) (m ((c : Thread nD τ).loc main_arg0))
abbrev B : ℕ → ℕ → EReal := entry (a := 4096) (b := 2048) (m ((c : Thread nD τ).loc main_arg1))
abbrev R : ℕ → ℕ → EReal := entry (a := 8192) (b := 2048) (m ((c : Thread nD τ).loc main_arg2))

theorem t_lt (t : Fin grid0.N) : t.val < 32 := lt_of_lt_of_eq t.isLt N_0

theorem coords_eq : ∀ t : Fin grid0.N, (grid0.coords t 0).val = t.val / 2 ∧ (grid0.coords t 1).val = t.val % 2 ∧ (grid0.coords t 2).val = 0 := by
  decide +kernel

theorem idx (i : grid0.Coords) : cc0_transform_0 i 0 = (i 0).val ∧ cc0_transform_0 i 1 = (i 2).val
    ∧ cc0_transform_1 i 0 = (i 2).val ∧ cc0_transform_1 i 1 = (i 1).val
    ∧ cc0_transform_2 i 0 = (i 0).val ∧ cc0_transform_2 i 1 = (i 1).val
    ∧ cc0_transform_3 i 0 = (i 0).val ∧ cc0_transform_3 i 1 = (i 1).val :=
  ⟨word_toNat (i 0) (by decide), word_toNat (i 2) (by decide), word_toNat (i 2) (by decide), word_toNat (i 1) (by decide),
    word_toNat (i 0) (by decide), word_toNat (i 1) (by decide), word_toNat (i 0) (by decide), word_toNat (i 1) (by decide)⟩

theorem left_block (t : Fin cfg0.N) : Holds (a := 512) (b := 4096) (iblk m c 0 t) (fun r k => A m c (512 * (t.val / 2) + r) k) := fun r k => by
  obtain ⟨h0, h1, h2⟩ := coords_eq t
  obtain ⟨e0, e1, -⟩ := idx (grid0.coords t)
  show V m c main_arg0 (((cfg0.win 0).blk t).view.emb (ix2 r k)) = _
  rw [V_main_arg0]
  refine eq_entry _ _ ?_ ?_
  · show cc0_transform_0 (grid0.coords t) 0 * 512 + 1 * r.val = _
    rw [e0, h0]; omega
  · show cc0_transform_0 (grid0.coords t) 1 * 4096 + 1 * k.val = _
    rw [e1, h2]; omega

theorem right_block (t : Fin cfg0.N) : Holds (a := 4096) (b := 1024) (iblk m c 1 t) (fun k r => B m c k (1024 * (t.val % 2) + r)) := fun k r => by
  obtain ⟨h0, h1, h2⟩ := coords_eq t
  obtain ⟨-, -, e0, e1, -⟩ := idx (grid0.coords t)
  show V m c main_arg1 (((cfg0.win 1).blk t).view.emb (ix2 k r)) = _
  rw [V_main_arg1]
  refine eq_entry _ _ ?_ ?_
  · show cc0_transform_1 (grid0.coords t) 0 * 4096 + 1 * k.val = _
    rw [e0, h2]; omega
  · show cc0_transform_1 (grid0.coords t) 1 * 1024 + 1 * r.val = _
    rw [e1, h1]; omega

theorem stream_block (t : Fin cfg0.N) : Holds (a := 512) (b := 1024) (iblk m c 2 t) (fun r d => R m c (512 * (t.val / 2) + r) (1024 * (t.val % 2) + d)) := fun r d => by
  obtain ⟨h0, h1, h2⟩ := coords_eq t
  obtain ⟨-, -, -, -, e0, e1, -⟩ := idx (grid0.coords t)
  show V m c main_arg2 (((cfg0.win 2).blk t).view.emb (ix2 r d)) = _
  rw [V_main_arg2]
  refine eq_entry _ _ ?_ ?_
  · show cc0_transform_2 (grid0.coords t) 0 * 512 + 1 * r.val = _
    rw [e0, h0]; omega
  · show cc0_transform_2 (grid0.coords t) 1 * 1024 + 1 * d.val = _
    rw [e1, h1]; omega

/-- The product of two blocks and what it is added to. -/
theorem product_is {x : Vec Ideal S512x4096 .bf16} {y : Vec Ideal S4096x1024 .bf16} {z : Vec Ideal S512x1024 .f32} {f g s : ℕ → ℕ → EReal}
    (hx : Holds (a := 512) (b := 4096) x f) (hy : Holds (a := 4096) (b := 1024) y g) (hz : Holds (a := 512) (b := 1024) z s) :
    Holds (a := 512) (b := 1024) (k0_pay1 x y z) (fun r d => (∑ k ∈ range 4096, f r k * g k d) + s r d) := fun r d => by
  unfold k0_pay1
  pointwise
  exact congrArg₂ (· + ·) (sum_number _ _ _ (fun k => g k d.val) (fun k => hx r k) (fun k => hy k d)) (hz r d)

theorem left_at (t : Fin cfg0.N) : Holds (a := 512) (b := 1024) (out0_3 (iblk m c 0 t) (iblk m c 1 t) (iblk m c 2 t))
    (fun r d => (∑ k ∈ range 4096, A m c (512 * (t.val / 2) + r) k * B m c k (1024 * (t.val % 2) + d)) + R m c (512 * (t.val / 2) + r) (1024 * (t.val % 2) + d)) := by
  unfold out0_3
  rw [View.canon_unit_zero zero_offsets, View.ld_unit_zero (S := S512x4096) zero_offsets, View.ld_unit_zero (S := S4096x1024) zero_offsets,
    View.ld_unit_zero (S := S512x1024) zero_offsets]
  exact product_is (left_block m c t) (right_block m c t) (stream_block m c t)

/-- The stream with the whole product. -/
def whole : S8192x2048.Idx → EReal := fun i => R m c (i 0).val (i 1).val + ∑ k ∈ range 4096, A m c (i 0).val k * B m c k (i 1).val

theorem covers : (cfg0.win 3).Covers :=
  Pipeline.Window.covers_of_indexMap_surj _ rfl (by decide) fun β => by
    have h0 : (β 0).val < 16 := (β 0).isLt
    have h1 : (β 1).val < 2 := (β 1).isLt
    let t : Fin grid0.N := ⟨2 * (β 0).val + (β 1).val, by rw [N_0]; omega⟩
    obtain ⟨c0, c1, c2⟩ := coords_eq t
    obtain ⟨-, -, -, -, -, -, e0, e1⟩ := idx (grid0.coords t)
    refine ⟨grid0.coords t, fun a => ?_⟩
    match a with
    | ⟨0, _⟩ => exact (e0.trans c0).trans (by show (2 * (β 0).val + (β 1).val) / 2 = (β 0).val; omega)
    | ⟨1, _⟩ => exact (e1.trans c1).trans (by show (2 * (β 0).val + (β 1).val) % 2 = (β 1).val; omega)

theorem array_eq : (dats m 0 c).arrAt 3 cfg0.N = whole m c := by
  refine (dats m 0 c).arrAt_eq_of_covers 3 _ covers fun t _ y => ?_
  obtain ⟨c0, c1, c2⟩ := coords_eq t
  obtain ⟨-, -, -, -, -, -, e0, e1⟩ := idx (grid0.coords t)
  blk_simp
  rw [after0_3]
  refine ((left_at m c t).at y).trans ?_
  show _ = R m c (cc0_transform_3 (grid0.coords t) 0 * 512 + 1 * (y 0).val) (cc0_transform_3 (grid0.coords t) 1 * 1024 + 1 * (y 1).val)
    + ∑ k ∈ range 4096, A m c (cc0_transform_3 (grid0.coords t) 0 * 512 + 1 * (y 0).val) k
      * B m c k (cc0_transform_3 (grid0.coords t) 1 * 1024 + 1 * (y 1).val)
  rw [e0, e1, c0, c1, show t.val / 2 * 512 + 1 * (y 0).val = 512 * (t.val / 2) + (y 0).val by omega,
    show t.val % 2 * 1024 + 1 * (y 1).val = 1024 * (t.val % 2) + (y 1).val by omega]
  exact add_comm _ _

/-! ## The reference -/

open Cert.OutProjRefIdeal.Read in
theorem reference_eq (x : Vec Ideal S8192x4096 .bf16) (w : Vec Ideal S4096x2048 .bf16) (z : Vec Ideal S8192x2048 .f32) (i : S8192x2048.Idx) :
    val_main_v3 (F := Ideal) x w z i
      = entry (a := 8192) (b := 2048) z (i 0).val (i 1).val
        + ∑ k ∈ range 4096, entry (a := 8192) (b := 4096) x (i 0).val k * entry (a := 4096) (b := 2048) w k (i 1).val := by
  rw [val_main_v3_apply, val_main_v2_apply]
  exact congrArg₂ (· + ·) (eq_entry z _ rfl rfl)
    (sum_number _ _ _ (fun k => entry (a := 4096) (b := 2048) w k (i 1).val) (fun k => eq_entry x _ rfl rfl) (fun k => eq_entry w _ rfl rfl))

/-! ## The claims -/

theorem frame_reference : Cert.quiescent_OutProjRefIdeal := fun m ρ _ =>
  (θ_run Cert.OutProjRefIdeal.defs _ _).mono
    (fun r h => ⟨fun c => (h c).2, sem_eq_zero_of_no_sems (by decide) r.2⟩) (Cert.OutProjRefIdeal.Value.run (F := Ideal) m ρ)

theorem algebraic : Cert.algebraic_OutProjIdeal_OutProjRefIdeal := by
  intro m ρ m' ρ' _ hagree
  refine ⟨fun c => whole m c, ?_, ?_⟩
  · exact (θ_run Cert.OutProjIdeal.defs _ _).mono (fun r h c => ⟨(h c).1.trans (array_eq m c), (h c).2⟩) (run_blocks m ρ)
  · refine (θ_run Cert.OutProjRefIdeal.defs _ _).mono (fun r h c => ⟨(h c).1.trans ?_, (h c).2⟩)
      (Cert.OutProjRefIdeal.Value.run (F := Ideal) m' ρ')
    rw [Cert.OutProjRefIdeal.Read.val_main_v3_eq, (hagree c).1, (hagree c).2.1, (hagree c).2.2]
    exact funext fun i => reference_eq _ _ _ i

end Products.OutProj

end
-- ==== Proof.ConvInVal.lean ====
/- The input gradient of the causal convolution: every grid point's block takes its own rows and the first rows of the block
   below it. -/
module

public import proofs.«01_k».proof.Proof.Products
public import proofs.«01_k».proof.Proof.Gen.ConvInIdeal.Value
public import proofs.«01_k».proof.Proof.Gen.ConvInRefIdeal.Read
public import Idealize.ShloMosaic.Lib.KernelVsHost
public import proofs.«01_k».proof.Defs

@[expose] public section

set_option maxRecDepth 16384

noncomputable section

namespace Products.ConvIn

open Cert.ConvInIdeal Cert.ConvInIdeal.Gen Cert.ConvInIdeal.Value
open Idealize.ShloMosaic Idealize.ShloMosaic.TcCoe Idealize.SL Idealize.SL.Sem

/-- A row of the gradient, from the rows `f` after it and the weights `w`. -/
def taps (f w : ℕ → ℕ → EReal) (r d : ℕ) : EReal :=
  w 3 d * f r d + w 2 d * f (r + 1) d + w 1 d * f (r + 2) d + w 0 d * f (r + 3) d

variable (m : (ℓ : Loc nD τ sig) → Buf (Elt Ideal) ℓ) (c : Dev nD)

/-- The rows and the weights. -/
abbrev A : ℕ → ℕ → EReal := entry (a := 8192) (b := 3072) (m ((c : Thread nD τ).loc main_arg0))
abbrev B : ℕ → ℕ → EReal := entry (a := 4) (b := 3072) (m ((c : Thread nD τ).loc main_arg1))

theorem t_lt (t : Fin grid0.N) : t.val < 48 := lt_of_lt_of_eq t.isLt N_0

theorem coords_eq : ∀ t : Fin grid0.N, (grid0.coords t 0).val = t.val / 8 ∧ (grid0.coords t 1).val = t.val % 8 := by
  decide +kernel

theorem next_rows : ∀ n : Fin 8,
    (Scalar.minsi (Scalar.muli (Scalar.addi (BitVec.ofNat 32 n.val) 1#32) 128#32) 1023#32).toNat = min (128 * (n.val + 1)) 1023 := by
  decide +kernel

theorem idx (i : grid0.Coords) : cc0_transform_0 i 0 = (i 1).val ∧ cc0_transform_0 i 1 = (i 0).val
    ∧ cc0_transform_1 i 0 = min (128 * ((i 1).val + 1)) 1023 ∧ cc0_transform_1 i 1 = (i 0).val
    ∧ cc0_transform_2 i 0 = 0 ∧ cc0_transform_2 i 1 = (i 0).val
    ∧ cc0_transform_3 i 0 = (i 1).val ∧ cc0_transform_3 i 1 = (i 0).val :=
  ⟨word_toNat (i 1) (by decide), word_toNat (i 0) (by decide), next_rows (i 1), word_toNat (i 0) (by decide), rfl,
    word_toNat (i 0) (by decide), word_toNat (i 1) (by decide), word_toNat (i 0) (by decide)⟩

/-- The point's rows. -/
theorem own_block (t : Fin cfg0.N) : Holds (a := 1024) (b := 512) (iblk m c 0 t)
    (fun r d => A m c (1024 * (t.val % 8) + r) (512 * (t.val / 8) + d)) := fun r d => by
  obtain ⟨h0, h1⟩ := coords_eq t
  obtain ⟨e0, e1, -⟩ := idx (grid0.coords t)
  show V m c main_arg0 (((cfg0.win 0).blk t).view.emb (ix2 r d)) = _
  rw [V_main_arg0]
  refine eq_entry _ _ ?_ ?_
  · show cc0_transform_0 (grid0.coords t) 0 * 1024 + 1 * r.val = _
    rw [e0, h1]; omega
  · show cc0_transform_0 (grid0.coords t) 1 * 512 + 1 * d.val = _
    rw [e1, h0]; omega

/-- The rows after them. -/
theorem next_block (t : Fin cfg0.N) : Holds (a := 8) (b := 512) (iblk m c 1 t)
    (fun r d => A m c (8 * min (128 * (t.val % 8 + 1)) 1023 + r) (512 * (t.val / 8) + d)) := fun r d => by
  obtain ⟨h0, h1⟩ := coords_eq t
  obtain ⟨-, -, e0, e1, -⟩ := idx (grid0.coords t)
  show V m c main_arg0 (((cfg0.win 1).blk t).view.emb (ix2 r d)) = _
  rw [V_main_arg0]
  refine eq_entry _ _ ?_ ?_
  · show cc0_transform_1 (grid0.coords t) 0 * 8 + 1 * r.val = _
    rw [e0, h1]; omega
  · show cc0_transform_1 (grid0.coords t) 1 * 512 + 1 * d.val = _
    rw [e1, h0]; omega

theorem weight_block (t : Fin cfg0.N) : Holds (a := 4) (b := 512) (iblk m c 2 t)
    (fun r d => B m c r (512 * (t.val / 8) + d)) := fun r d => by
  obtain ⟨h0, h1⟩ := coords_eq t
  obtain ⟨-, -, -, -, e0, e1, -⟩ := idx (grid0.coords t)
  show V m c main_arg1 (((cfg0.win 2).blk t).view.emb (ix2 r d)) = _
  rw [V_main_arg1]
  refine eq_entry _ _ ?_ ?_
  · show cc0_transform_2 (grid0.coords t) 0 * 4 + 1 * r.val = _
    rw [e0]; omega
  · show cc0_transform_2 (grid0.coords t) 1 * 512 + 1 * d.val = _
    rw [e1, h0]; omega

/-! ## A point's block -/

theorem cmp_ge : ∀ a < 8, ∀ k < 8, IntOp.cmpi .sge (BitVec.ofNat 32 a) (BitVec.ofNat 32 k) = if k ≤ a then 1 else 0 := by
  decide +kernel

theorem cmp_last : ∀ n < 8, Scalar.cmpi .eq (BitVec.ofNat 32 n) 7#32 = if n = 7 then 1 else 0 := by
  decide +kernel

theorem select_if {p : Prop} [Decidable p] (x y : EReal) : Scalar.select (if p then 1 else 0) x y = if p then x else y := by
  unfold Scalar.select
  by_cases h : p
  · rw [if_pos h, if_pos rfl, if_pos h]
  · rw [if_neg h, if_neg (by decide), if_neg h]

/-- The block moved up by `s` rows, the next rows behind it. -/
theorem moved {v1 : Vec Ideal S8x512 .f32} {v4 : Vec Ideal S1024x512 .f32} {f : ℕ → ℕ → EReal} {n : ℕ} (hn : n < 8)
    (h4 : Holds (a := 1024) (b := 512) v4 (fun r d => f (1024 * n + r) d))
    (h1 : ∀ (r : Fin 8) (d : Fin 512), (if n = 7 then 0 else v1 (ix2 r d)) = f (1024 * n + 1024 + r.val) d.val)
    (s k l : ℕ) (hk : k + s = 1024) (hl : l + s = 8) (hs : 0 < s) (r : Fin 1024) (d : Fin 512)
    (p : (r.val + 1024 - k) % 1024 < 1024) (q : (r.val - 1016 + 8 - l) % 8 < 8)
    (u : (1016 + (r.val - 1016) + 1024 - k) % 1024 < 1024) :
    (if r.val < 1016 then v4 (ix2 ⟨(r.val + 1024 - k) % 1024, p⟩ d)
      else Scalar.select (IntOp.cmpi .sge (BitVec.ofNat 32 (r.val - 1016)) (BitVec.ofNat 32 l))
        (Scalar.select (Scalar.cmpi .eq (BitVec.ofNat 32 n) 7#32) 0 (v1 (ix2 ⟨(r.val - 1016 + 8 - l) % 8, q⟩ d)))
        (v4 (ix2 ⟨(1016 + (r.val - 1016) + 1024 - k) % 1024, u⟩ d)))
      = f (1024 * n + r.val + s) d.val := by
  have hr := r.isLt
  by_cases h : r.val < 1016
  · rw [if_pos h, h4]
    exact congrArg (f · d.val) (by show 1024 * n + (r.val + 1024 - k) % 1024 = 1024 * n + r.val + s; omega)
  · rw [if_neg h, cmp_ge _ (by omega) _ (by omega), select_if, cmp_last n hn, select_if, h1, h4]
    by_cases g : l ≤ r.val - 1016
    · rw [if_pos g]
      exact congrArg (f · d.val) (by show 1024 * n + 1024 + (r.val - 1016 + 8 - l) % 8 = 1024 * n + r.val + s; omega)
    · rw [if_neg g]
      exact congrArg (f · d.val) (by show 1024 * n + (1016 + (r.val - 1016) + 1024 - k) % 1024 = 1024 * n + r.val + s; omega)

theorem block_is {i : grid0.Coords} {n : ℕ} (hi : (i 1).val = n) (hn : n < 8)
    {v1 : Vec Ideal S8x512 .f32} {v4 : Vec Ideal S1024x512 .f32} {v5 : Vec Ideal S4x512 .f32} {f w : ℕ → ℕ → EReal}
    (h4 : Holds (a := 1024) (b := 512) v4 (fun r d => f (1024 * n + r) d))
    (h1 : ∀ (r : Fin 8) (d : Fin 512), (if n = 7 then 0 else v1 (ix2 r d)) = f (1024 * n + 1024 + r.val) d.val)
    (h5 : Holds (a := 4) (b := 512) v5 w) :
    Holds (a := 1024) (b := 512) (k0_pay1 (k0_pay3 i v1 v4 v5) (k0_pay4 v5) (k0_pay5 v4) k0_pay6 (k0_pay7 i v1))
      (fun r d => taps f w (1024 * n + r) d) := fun r d => by
  unfold k0_pay1 k0_pay3 k0_pay4 k0_pay5 k0_pay6 k0_pay7 k0_pay2
  pointwise
  have e1 := moved hn h4 h1 1 1023 7 rfl rfl (by decide) r d (Nat.mod_lt _ (by decide)) (Nat.mod_lt _ (by decide)) (Nat.mod_lt _ (by decide))
  have e2 := moved hn h4 h1 2 1022 6 rfl rfl (by decide) r d (Nat.mod_lt _ (by decide)) (Nat.mod_lt _ (by decide)) (Nat.mod_lt _ (by decide))
  have e3 := moved hn h4 h1 3 1021 5 rfl rfl (by decide) r d (Nat.mod_lt _ (by decide)) (Nat.mod_lt _ (by decide)) (Nat.mod_lt _ (by decide))
  rw [← hi] at e1 e2 e3 ⊢
  unfold taps
  refine congrArg₂ (· + ·) (congrArg₂ (· + ·) (congrArg₂ (· + ·) (congrArg₂ (· * ·) (h5 3 d) ?_) (congrArg₂ (· * ·) (h5 2 d) e1))
    (congrArg₂ (· * ·) (h5 1 d) e2)) (congrArg₂ (· * ·) (h5 0 d) e3)
  rw [hi]
  exact h4 r d

theorem out_at (t : Fin cfg0.N) : Holds (a := 1024) (b := 512) (out0_3 (grid0.coords t) (iblk m c 0 t) (iblk m c 1 t) (iblk m c 2 t))
    (fun r d => taps (A m c) (B m c) (1024 * (t.val % 8) + r) (512 * (t.val / 8) + d)) := by
  unfold out0_3
  rw [View.canon_unit_zero zero_offsets, View.ld_unit_zero (S := S1024x512) zero_offsets, View.ld_unit_zero (S := S8x512) zero_offsets,
    View.ld_unit_zero (S := S4x512) zero_offsets]
  refine block_is (n := t.val % 8) (coords_eq t).2 (by omega) (f := fun r d => A m c r (512 * (t.val / 8) + d))
    (w := fun r d => B m c r (512 * (t.val / 8) + d)) (own_block m c t) (fun r d => ?_) (weight_block m c t)
  have hr := r.isLt
  have hm : t.val % 8 < 8 := Nat.mod_lt _ (by decide)
  by_cases h : t.val % 8 = 7
  · rw [if_pos h]
    show 0 = entry _ _ _
    unfold entry
    rw [dif_neg (by omega)]
  · rw [if_neg h, next_block]
    exact congrArg (A m c · _) (by omega)

/-- The whole gradient. -/
def whole : S8192x3072.Idx → EReal := fun i => taps (A m c) (B m c) (i 0).val (i 1).val

theorem covers : (cfg0.win 3).Covers :=
  Pipeline.Window.covers_of_indexMap_surj _ rfl (by decide) fun β => by
    have h0 : (β 0).val < 8 := (β 0).isLt
    have h1 : (β 1).val < 6 := (β 1).isLt
    let t : Fin grid0.N := ⟨8 * (β 1).val + (β 0).val, by rw [N_0]; omega⟩
    obtain ⟨c0, c1⟩ := coords_eq t
    obtain ⟨-, -, -, -, -, -, e0, e1⟩ := idx (grid0.coords t)
    refine ⟨grid0.coords t, fun a => ?_⟩
    match a with
    | ⟨0, _⟩ => exact (e0.trans c1).trans (by show (8 * (β 1).val + (β 0).val) % 8 = (β 0).val; omega)
    | ⟨1, _⟩ => exact (e1.trans c0).trans (by show (8 * (β 1).val + (β 0).val) / 8 = (β 1).val; omega)

theorem array_eq : (dats m 0 c).arrAt 3 cfg0.N = whole m c := by
  refine (dats m 0 c).arrAt_eq_of_covers 3 _ covers fun t _ y => ?_
  obtain ⟨c0, c1⟩ := coords_eq t
  obtain ⟨-, -, -, -, -, -, e0, e1⟩ := idx (grid0.coords t)
  blk_simp
  rw [after0_3]
  refine ((out_at m c t).at y).trans ?_
  show _ = taps (A m c) (B m c) (cc0_transform_3 (grid0.coords t) 0 * 1024 + 1 * (y 0).val)
    (cc0_transform_3 (grid0.coords t) 1 * 512 + 1 * (y 1).val)
  rw [e0, e1, c0, c1, show t.val % 8 * 1024 + 1 * (y 0).val = 1024 * (t.val % 8) + (y 0).val by omega,
    show t.val / 8 * 512 + 1 * (y 1).val = 512 * (t.val / 8) + (y 1).val by omega]

/-! ## The reference -/

/-- Zeros above and below an array, read at a row. -/
theorem padded (lo hi : ℕ) (y : S8192x3072.Idx → EReal) (v : Cert.ConvInRefIdeal.S_.Idx → EReal) (hv : ∀ i, v i = 0)
    (h : S8192x3072.Pads ![lo, 0] ![hi, 0] ![0, 0] Cert.ConvInRefIdeal.S8195x3072) (hu : 0 < Cert.ConvInRefIdeal.S_.numel)
    (j : Cert.ConvInRefIdeal.S8195x3072.Idx) (hj : lo ≤ (j 0).val) :
    pad Cert.ConvInRefIdeal.S8195x3072 ![lo, 0] ![hi, 0] ![0, 0] y v h hu j
      = entry (a := 8192) (b := 3072) y ((j 0).val - lo) (j 1).val := by
  have h1 : (j 1).val < 3072 := (j 1).isLt
  by_cases hin : (j 0).val - lo < 8192
  · rw [pad_apply_of_inside _ _ _ y v h hu j (Idealize.ShloMosaic.ix2 ⟨(j 0).val - lo, hin⟩ ⟨(j 1).val, h1⟩) (fun a => match a with
      | ⟨0, _⟩ => by show (j 0).val = lo + ((j 0).val - lo) * (0 + 1); omega
      | ⟨1, _⟩ => by show (j 1).val = 0 + (j 1).val * (0 + 1); omega)]
    exact eq_entry y _ rfl rfl
  · rw [pad_apply_of_not_inside _ _ _ y v h hu j (0 : Fin 2) (by
      show ¬(lo ≤ (j 0).val ∧ ((j 0).val - lo) % (0 + 1) = 0 ∧ ((j 0).val - lo) / (0 + 1) < 8192)
      rw [Nat.div_one]
      exact fun e => hin e.2.2), hv]
    unfold entry
    rw [dif_neg fun e => hin e.1]

/-- The rows times a row of weights, zero outside. -/
theorem weighted (x y : S8192x3072.Idx → EReal) (w : ℕ → EReal) (h : ∀ i, y i = w (i 1).val * x i) (r d : ℕ) :
    entry (a := 8192) (b := 3072) y r d = w d * entry (a := 8192) (b := 3072) x r d := by
  unfold entry
  by_cases e : r < 8192 ∧ d < 3072
  · rw [dif_pos e, dif_pos e, h]
    rfl
  · rw [dif_neg e, dif_neg e, mul_zero]

section Reference

open Cert.ConvInRefIdeal.Read

variable (x : Vec Ideal S8192x3072 .f32) (w : Vec Ideal S4x3072 .f32)

theorem tap3 (i : S8192x3072.Idx) : val_main_v36 (F := Ideal) x w i = entry (a := 4) (b := 3072) w 3 (i 1).val * x i := by
  have h0 : (i 0).val < 8192 := (i 0).isLt
  have h1 : (i 1).val < 3072 := (i 1).isLt
  rw [val_main_v36_apply, val_main_v35_apply, val_main_v34_apply, val_main_v29_apply, val_main_v27_apply, val_main_v26_apply]
  refine congrArg₂ (· * ·) (eq_entry w _ ?_ ?_) (congrArg x (funext fun a => Fin.ext ?_))
  · rfl
  · show (i 1).val % 3072 = (i 1).val; omega
  · match a with
    | ⟨0, _⟩ => show ((i 0).val * 3072 + (i 1).val) / 3072 = (i 0).val; omega
    | ⟨1, _⟩ => show ((i 0).val * 3072 + (i 1).val) % 3072 = (i 1).val; omega

theorem tap2 (i : S8192x3072.Idx) : val_main_v39 (F := Ideal) x w i = entry (a := 4) (b := 3072) w 2 (i 1).val * x i := by
  have h0 : (i 0).val < 8192 := (i 0).isLt
  have h1 : (i 1).val < 3072 := (i 1).isLt
  rw [val_main_v39_apply, val_main_v38_apply, val_main_v33_apply, val_main_v22_apply, val_main_v20_apply, val_main_v19_apply]
  refine congrArg₂ (· * ·) (eq_entry w _ ?_ ?_) (congrArg x (funext fun a => Fin.ext ?_))
  · rfl
  · show (i 1).val % 3072 = (i 1).val; omega
  · match a with
    | ⟨0, _⟩ => show ((i 0).val * 3072 + (i 1).val) / 3072 = (i 0).val; omega
    | ⟨1, _⟩ => show ((i 0).val * 3072 + (i 1).val) % 3072 = (i 1).val; omega

theorem tap1 (i : S8192x3072.Idx) : val_main_v43 (F := Ideal) x w i = entry (a := 4) (b := 3072) w 1 (i 1).val * x i := by
  have h0 : (i 0).val < 8192 := (i 0).isLt
  have h1 : (i 1).val < 3072 := (i 1).isLt
  rw [val_main_v43_apply, val_main_v42_apply, val_main_v33_apply, val_main_v15_apply, val_main_v13_apply, val_main_v12_apply]
  refine congrArg₂ (· * ·) (eq_entry w _ ?_ ?_) (congrArg x (funext fun a => Fin.ext ?_))
  · rfl
  · show (i 1).val % 3072 = (i 1).val; omega
  · match a with
    | ⟨0, _⟩ => show ((i 0).val * 3072 + (i 1).val) / 3072 = (i 0).val; omega
    | ⟨1, _⟩ => show ((i 0).val * 3072 + (i 1).val) % 3072 = (i 1).val; omega

theorem tap0 (i : S8192x3072.Idx) : val_main_v47 (F := Ideal) x w i = entry (a := 4) (b := 3072) w 0 (i 1).val * x i := by
  have h0 : (i 0).val < 8192 := (i 0).isLt
  have h1 : (i 1).val < 3072 := (i 1).isLt
  rw [val_main_v47_apply, val_main_v46_apply, val_main_v33_apply, val_main_v7_apply, val_main_v5_apply, val_main_v4_apply]
  refine congrArg₂ (· * ·) (eq_entry w _ ?_ ?_) (congrArg x (funext fun a => Fin.ext ?_))
  · rfl
  · show (i 1).val % 3072 = (i 1).val; omega
  · match a with
    | ⟨0, _⟩ => show ((i 0).val * 3072 + (i 1).val) / 3072 = (i 0).val; omega
    | ⟨1, _⟩ => show ((i 0).val * 3072 + (i 1).val) % 3072 = (i 1).val; omega

theorem reference_eq (i : S8192x3072.Idx) :
    val_main_v52 (F := Ideal) x w i = taps (entry (a := 8192) (b := 3072) x) (entry (a := 4) (b := 3072) w) (i 0).val (i 1).val := by
  rw [val_main_v52_apply, val_main_v51_apply, val_main_v49_apply, val_main_v45_apply, val_main_v41_apply]
  have row (lo : ℕ) (h : lo ≤ 3) : lo ≤ ((idx_main_v51 i) 0).val := by
    show lo ≤ 3 + (i 0).val
    omega
  unfold taps val_main_v37 val_main_v40 val_main_v44 val_main_v48
  refine congrArg₂ (· + ·) (congrArg₂ (· + ·) (congrArg₂ (· + ·)
    (((padded 3 0 _ _ (fun _ => Ideal.ofBits_zero_f32) _ _ _ (row 3 (by decide))).trans
      (weighted x _ (entry (a := 4) (b := 3072) w 3) (tap3 x w) _ _)).trans (congrArg (fun n => entry (a := 4) (b := 3072) w 3 (i 1).val * entry (a := 8192) (b := 3072) x n (i 1).val) ?_))
    (((padded 2 1 _ _ (fun _ => Ideal.ofBits_zero_f32) _ _ _ (row 2 (by decide))).trans
      (weighted x _ (entry (a := 4) (b := 3072) w 2) (tap2 x w) _ _)).trans (congrArg (fun n => entry (a := 4) (b := 3072) w 2 (i 1).val * entry (a := 8192) (b := 3072) x n (i 1).val) ?_)))
    (((padded 1 2 _ _ (fun _ => Ideal.ofBits_zero_f32) _ _ _ (row 1 (by decide))).trans
      (weighted x _ (entry (a := 4) (b := 3072) w 1) (tap1 x w) _ _)).trans (congrArg (fun n => entry (a := 4) (b := 3072) w 1 (i 1).val * entry (a := 8192) (b := 3072) x n (i 1).val) ?_)))
    (((padded 0 3 _ _ (fun _ => Ideal.ofBits_zero_f32) _ _ _ (row 0 (by decide))).trans
      (weighted x _ (entry (a := 4) (b := 3072) w 0) (tap0 x w) _ _)).trans (congrArg (fun n => entry (a := 4) (b := 3072) w 0 (i 1).val * entry (a := 8192) (b := 3072) x n (i 1).val) ?_))
  · show 3 + (i 0).val - 3 = (i 0).val; omega
  · show 3 + (i 0).val - 2 = (i 0).val + 1; omega
  · show 3 + (i 0).val - 1 = (i 0).val + 2; omega
  · show 3 + (i 0).val - 0 = (i 0).val + 3; omega

end Reference

/-! ## The claims -/

theorem frame_reference : Cert.quiescent_ConvInRefIdeal := fun m ρ _ =>
  (θ_run Cert.ConvInRefIdeal.defs _ _).mono
    (fun r h => ⟨fun c => (h c).2, sem_eq_zero_of_no_sems (by decide) r.2⟩) (Cert.ConvInRefIdeal.Value.run (F := Ideal) m ρ)

theorem algebraic : Cert.algebraic_ConvInIdeal_ConvInRefIdeal := by
  intro m ρ m' ρ' _ hagree
  refine ⟨fun c => whole m c, ?_, ?_⟩
  · exact (θ_run Cert.ConvInIdeal.defs _ _).mono (fun r h c => ⟨(h c).1.trans (array_eq m c), (h c).2⟩) (run_blocks m ρ)
  · refine (θ_run Cert.ConvInRefIdeal.defs _ _).mono (fun r h c => ⟨(h c).1.trans ?_, (h c).2⟩)
      (Cert.ConvInRefIdeal.Value.run (F := Ideal) m' ρ')
    rw [Cert.ConvInRefIdeal.Read.val_main_v52_eq, (hagree c).1, (hagree c).2]
    exact funext fun i => reference_eq _ _ i

end Products.ConvIn

end
-- ==== Proof.NormGradVal.lean ====
/- The gradient of the norm: the rows of every grid point's block, and the weights' gradient gathered over the points. -/
module

public import proofs.«01_k».proof.Proof.Products
public import proofs.«01_k».proof.Proof.Gen.NormGradIdeal.Value
public import proofs.«01_k».proof.Proof.Gen.NormGradRefIdeal.Read
public import Idealize.ShloMosaic.Lib.WritesUnit
public import Idealize.ShloMosaic.Lib.VecWindow
public import Idealize.ShloMosaic.Lib.KernelVsHost
public import proofs.«01_k».proof.Defs

@[expose] public section

set_option maxRecDepth 16384

noncomputable section

namespace Products.NormGrad

open Cert.NormGradIdeal Cert.NormGradIdeal.Gen Cert.NormGradIdeal.Value
open Idealize.ShloMosaic Idealize.ShloMosaic.TcCoe Idealize.SL Idealize.SL.Sem
open Finset (range)

/-! ## The identity behind a row's gradient -/

theorem number_coe : (Ideal.ofBits .f32 0x45000000#32 : EReal) = ((2048 : ℝ) : EReal) := by
  unfold Ideal.ofBits Ideal.ieee
  dsimp only
  rw [if_neg (by decide), if_neg (by decide)]
  refine congrArg _ ?_
  rw [if_neg (by decide)]
  norm_num [Nat.shiftRight_eq_div_pow]

theorem half_coe : (Ideal.ofBits .f32 0xBF000000#32 : EReal) = ((-(1 / 2) : ℝ) : EReal) := by
  unfold Ideal.ofBits Ideal.ieee
  dsimp only
  rw [if_neg (by decide), if_neg (by decide)]
  refine congrArg _ ?_
  rw [if_pos (by decide)]
  norm_num [Nat.shiftRight_eq_div_pow]

theorem small_coe : ∃ e : ℝ, 0 < e ∧ (Ideal.ofBits .f32 0x358637BD#32 : EReal) = (e : EReal) := by
  refine ⟨8796093 * (2 ^ 43)⁻¹, by positivity, ?_⟩
  unfold Ideal.ofBits Ideal.ieee
  dsimp only
  rw [if_neg (by decide), if_neg (by decide)]
  refine congrArg _ ?_
  rw [if_neg (by decide)]
  norm_num [Nat.shiftRight_eq_div_pow]

/-- The mean of the squares of 2048 numbers, moved off zero, from the sum of their squares, and its inverse root. -/
def mean (s : EReal) : EReal := Ideal.div s (Ideal.ofBits .f32 0x45000000#32) + Ideal.ofBits .f32 0x358637BD#32

def inverse (s : EReal) : EReal := Ideal.rsqrt (mean s)

theorem div_number (x : EReal) : Ideal.div x (Ideal.ofBits .f32 0x45000000#32) = x * ((1 / 2048 : ℝ) : EReal) := by
  rw [number_coe]
  unfold Ideal.div
  rw [if_neg (by exact_mod_cast (by norm_num : (2048 : ℝ) ≠ 0)), ← EReal.coe_inv]
  norm_num

theorem square_nonneg (x : EReal) : 0 ≤ x * x := by
  induction x with
  | bot => simp
  | top => simp
  | coe a => exact_mod_cast mul_self_nonneg a

theorem sum_mul_real (f : ℕ → EReal) (a : ℝ) (h : 0 ≤ a) (n : ℕ) : (∑ k ∈ range n, f k * (a : EReal)) = (a : EReal) * ∑ k ∈ range n, f k := by
  induction n with
  | zero => simp
  | succ n ih =>
    rw [Finset.sum_range_succ, Finset.sum_range_succ, ih,
      EReal.left_distrib_of_nonneg_of_ne_top (by exact_mod_cast h) (EReal.coe_ne_top a), mul_comm (f n)]

theorem twice (x : EReal) : x + x = ((2 : ℝ) : EReal) * x := by
  induction x with
  | bot => rw [EReal.coe_mul_bot_of_pos (by norm_num)]; rfl
  | top => rw [EReal.coe_mul_top_of_pos (by norm_num)]; rfl
  | coe a => rw [← EReal.coe_add, ← EReal.coe_mul, two_mul]

/-- The sum of squares is infinite, or its mean is a positive number. -/
theorem mean_cases (s : EReal) (h : 0 ≤ s) : mean s = ⊤ ∨ ∃ M : ℝ, 0 < M ∧ mean s = (M : EReal) := by
  obtain ⟨e, he, hc⟩ := small_coe
  unfold mean
  rw [div_number, hc]
  induction s with
  | bot => exact absurd h (by simp)
  | top => exact Or.inl (by rw [EReal.top_mul_coe_of_pos (by norm_num)]; rfl)
  | coe a =>
    have ha : 0 ≤ a := by exact_mod_cast h
    exact Or.inr ⟨a * (1 / 2048) + e, by positivity, by push_cast; rfl⟩

/-- The entry of a row's gradient as the call computes it and as the derivative of the norm is written. -/
theorem row_identity (s : EReal) (hs : 0 ≤ s) (x y : ℕ → EReal) (d : ℕ) :
    inverse s * (y d - x d * inverse s * Ideal.div (∑ k ∈ range 2048, y k * (x k * inverse s)) (Ideal.ofBits .f32 0x45000000#32))
      = y d * inverse s
        + x d * Ideal.div ((∑ k ∈ range 2048, x k * y k) * (Ideal.ofBits .f32 0xBF000000#32 * Ideal.div (inverse s) (mean s)))
            (Ideal.ofBits .f32 0x45000000#32)
        + Ideal.div ((∑ k ∈ range 2048, x k * y k) * (Ideal.ofBits .f32 0xBF000000#32 * Ideal.div (inverse s) (mean s)))
            (Ideal.ofBits .f32 0x45000000#32) * x d := by
  unfold inverse
  rw [half_coe, div_number, div_number]
  rcases mean_cases s hs with hM | ⟨M, hM0, hM⟩
  · rw [hM, show Ideal.rsqrt ⊤ = 0 from rfl]
    have : Ideal.div 0 ⊤ = 0 := by unfold Ideal.div; simp
    simp only [this, zero_mul, mul_zero, add_zero]
  · rw [hM]
    have hR : Ideal.rsqrt (M : EReal) = (((Real.sqrt M)⁻¹ : ℝ) : EReal) := by
      show (if M < 0 then ⊥ else if M = 0 then ⊤ else (((Real.sqrt M)⁻¹ : ℝ) : EReal)) = _
      rw [if_neg (not_lt.mpr hM0.le), if_neg hM0.ne']
    have hsq : Real.sqrt M * Real.sqrt M = M := Real.mul_self_sqrt hM0.le
    have hpos : 0 < Real.sqrt M := Real.sqrt_pos.mpr hM0
    have hD : Ideal.div (((Real.sqrt M)⁻¹ : ℝ) : EReal) (M : EReal) = ((((Real.sqrt M)⁻¹) ^ 3 : ℝ) : EReal) := by
      unfold Ideal.div
      rw [if_neg (by exact_mod_cast hM0.ne'), ← EReal.coe_inv, ← EReal.coe_mul]
      refine congrArg _ ?_
      rw [show M⁻¹ = (Real.sqrt M)⁻¹ * (Real.sqrt M)⁻¹ by rw [← mul_inv, hsq]]
      ring
    rw [hR, hD]
    have hR0 : 0 ≤ (Real.sqrt M)⁻¹ := (inv_pos.mpr hpos).le
    generalize (Real.sqrt M)⁻¹ = R at hR0 ⊢
    rw [show (∑ k ∈ range 2048, y k * (x k * (R : EReal))) = ∑ k ∈ range 2048, x k * y k * (R : EReal) from
      Finset.sum_congr rfl fun k _ => by rw [← mul_assoc, mul_comm (y k)], sum_mul_real _ R hR0]
    generalize (∑ k ∈ range 2048, x k * y k) = S
    generalize x d = X
    generalize y d = Y
    have e1 : X * (R : EReal) * ((R : EReal) * S * ((1 / 2048 : ℝ) : EReal)) = X * S * ((R * R * (1 / 2048) : ℝ) : EReal) := by
      rw [EReal.coe_mul, EReal.coe_mul]
      ac_rfl
    have e2 : X * (S * (((-(1 / 2) : ℝ) : EReal) * ((R ^ 3 : ℝ) : EReal)) * ((1 / 2048 : ℝ) : EReal))
        = X * S * ((-(1 / 2) * R ^ 3 * (1 / 2048) : ℝ) : EReal) := by
      rw [EReal.coe_mul, EReal.coe_mul]
      ac_rfl
    rw [add_assoc, mul_comm _ X, e1, e2, twice, sub_eq_add_neg, EReal.left_distrib_of_nonneg_of_ne_top (by exact_mod_cast hR0) (EReal.coe_ne_top R),
      mul_comm (R : EReal) Y, ← mul_neg, ← EReal.coe_neg]
    refine congrArg (Y * (R : EReal) + ·) ?_
    rw [mul_left_comm, mul_left_comm ((2 : ℝ) : EReal), ← EReal.coe_mul, ← EReal.coe_mul]
    refine congrArg (fun z : ℝ => X * S * (z : EReal)) ?_
    ring

/-! ## What the cases leave -/

section Cases

variable (c : Dev nD) (i : grid0.Coords) (a1 : Memref sig .tc .vmem S256x2048 .f32) (h1 : a1.IsWhole) (a2 : Memref sig .tc .vmem S256x2048 .f32) (h2 : a2.IsWhole)
  (a3 : Memref sig .tc .vmem S1x2048 .f32) (h3 : a3.IsWhole) (a4 : Memref sig .tc .vmem S256x2048 .f32) (h4 : a4.IsWhole)
  (a5 : Memref sig .tc .vmem S256x2048 .f32) (h5 : a5.IsWhole) (a6 : Memref sig .tc .vmem S8x2048 .f32) (h6 : a6.IsWhole)
  (g x : Vec Ideal S256x2048 .f32) (w : Vec Ideal S1x2048 .f32) (s : Vec Ideal S256x2048 .f32) (o : Vec Ideal S8x2048 .f32)

theorem first_rows (c0 : cond0_0 i) : out0_A_4 c i a1 h1 a2 h2 a3 h3 a4 h4 a5 h5 a6 h6 c0 g x w s = k0_pay5 x g w s := by
  unfold out0_A_4
  rw [View.read_writes_eq_canon _ _ _ (cover0_A_4 c i a1 h1 a2 h2 a3 h3 a4 h4 a5 h5 a6 h6 c0 g x w s)]
  unfold kernelRun0_A
  dsimp only
  sl_unfold_words
  rw [View.canon_unit_zero zero_offsets]
  simp only [View.readAt_eq_ld, h1.read_unread, h2.read_unread, h3.read_unread, h4.read_unread, View.ld_unit_zero (S := S256x2048) zero_offsets,
    View.ld_unit_zero (S := S1x2048) zero_offsets]

theorem next_rows (c0 : ¬cond0_0 i) : out0_B_4 c i a1 h1 a2 h2 a3 h3 a4 h4 a5 h5 a6 h6 c0 g x w s o = k0_pay5 x g w s := by
  unfold out0_B_4
  rw [View.read_writes_eq_canon _ _ _ (cover0_B_4 c i a1 h1 a2 h2 a3 h3 a4 h4 a5 h5 a6 h6 c0 g x w s o)]
  unfold kernelRun0_B
  dsimp only
  sl_unfold_words
  rw [View.canon_unit_zero zero_offsets]
  simp only [View.readAt_eq_ld, h1.read_unread, h2.read_unread, h3.read_unread, h4.read_unread, View.ld_unit_zero (S := S256x2048) zero_offsets,
    View.ld_unit_zero (S := S1x2048) zero_offsets]

/-- The block of the weights' gradient with its first row replaced. -/
def first_row (o : Vec Ideal S8x2048 .f32) (z : Vec Ideal S1x2048 .f32) : Vec Ideal S8x2048 .f32 := fun y =>
  if (y 0).val = 0 then z (ix2 0 ⟨(y 1).val, (y 1).isLt⟩) else o y

theorem row_over (v : View sig Kind.tc Space.vmem S8x2048 .f32) (f : v.ty.Contents (Elt Ideal)) (z : Vec Ideal S1x2048 .f32)
    (L : List (View.Piece (Elt Ideal) S8x2048 .f32)) (o : Vec Ideal S8x2048 .f32)
    (ho : v.read (Elt Ideal) (v.writes (Elt Ideal) f L) = o) :
    v.read (Elt Ideal) (v.writes (Elt Ideal) f (⟨Rect.unit ![0, 0] ![1, 2048] inb_S8x2048_S1x2048_0_0, z⟩ :: L)) = first_row o z := by
  funext y
  unfold first_row
  by_cases h : (y 0).val = 0
  · rw [if_pos h]
    exact View.read_writes_cons_rows_of_mem (o := 0) v f inb_S8x2048_S1x2048_0_0 z L y (ix2 0 ⟨(y 1).val, (y 1).isLt⟩) rfl
      (by show (y 0).val = 0 + 0; omega) rfl
  · rw [if_neg h, View.read_writes_cons_rows_of_not_mem (o := 0) (W := 1) v f inb_S8x2048_S1x2048_0_0 z L y rfl rfl
      (by right; show 0 + 1 ≤ (y 0).val; omega), ho]

/-- The block's first row. -/
def top (o : Vec Ideal S8x2048 .f32) : Vec Ideal S1x2048 .f32 := fun j => o (ix2 0 ⟨(j 1).val, (j 1).isLt⟩)

def zeros : Vec Ideal S8x2048 .f32 := k0_pay1 (F := Ideal)

theorem first_weights (c0 : cond0_0 i) :
    out0_A_5 c i a1 h1 a2 h2 a3 h3 a4 h4 a5 h5 a6 h6 c0 g x w s = first_row zeros (k0_pay4 x g (top zeros)) := by
  unfold out0_A_5 kernelRun0_A
  dsimp only
  sl_unfold_words
  simp only [View.readAt_eq_ld, h1.read_unread, h2.read_unread, h3.read_unread, h4.read_unread, View.ld_unit_zero (S := S256x2048) zero_offsets,
    View.ld_unit_zero (S := S1x2048) zero_offsets]
  refine (row_over _ _ _ _ zeros (View.read_writes_full (s := S8x2048) _ _ _ _ _)).trans ?_
  refine congrArg (fun z => first_row zeros (k0_pay4 x g z)) ?_
  funext j
  exact congrFun (View.read_writes_full (s := S8x2048) a6.view a6.view.junk inb_S8x2048_S8x2048_0_0 zeros []) _

theorem next_weights (c0 : ¬cond0_0 i) :
    out0_B_5 c i a1 h1 a2 h2 a3 h3 a4 h4 a5 h5 a6 h6 c0 g x w s o = first_row o (k0_pay4 x g (top o)) := by
  unfold out0_B_5 kernelRun0_B
  dsimp only
  sl_unfold_words
  simp only [View.readAt_eq_ld, h1.read_unread, h2.read_unread, h3.read_unread, h4.read_unread, h6.read_unread, View.ld_unit_zero (S := S256x2048) zero_offsets,
    View.ld_unit_zero (S := S1x2048) zero_offsets]
  refine (row_over a6.view (h6.unread o) _ [] o (h6.read_unread o)).trans ?_
  refine congrArg (fun z => first_row o (k0_pay4 x g z)) ?_
  funext j
  refine congrArg o (funext fun a => Fin.ext ?_)
  have hj : (j 0).val < 1 := (j 0).isLt
  match a with
  | ⟨0, _⟩ => show 0 + 1 * (j 0).val = 0; omega
  | ⟨1, _⟩ => show 0 + 1 * (j 1).val = (j 1).val; omega

end Cases

/-! ## What every point leaves -/

variable (m : (ℓ : Loc nD τ sig) → Buf (Elt Ideal) ℓ) (c : Dev nD)

/-- The gradient that comes in, the rows, the weights and the gradient that passes by. -/
abbrev G : ℕ → ℕ → EReal := entry (a := 8192) (b := 2048) (m ((c : Thread nD τ).loc main_arg0))
abbrev X : ℕ → ℕ → EReal := entry (a := 8192) (b := 2048) (m ((c : Thread nD τ).loc main_arg1))
abbrev W : ℕ → ℕ → EReal := entry (a := 1) (b := 2048) (m ((c : Thread nD τ).loc main_arg2))
abbrev D : ℕ → ℕ → EReal := entry (a := 8192) (b := 2048) (m ((c : Thread nD τ).loc main_arg3))

/-- The sum of the squares of a row. -/
def squares (x : ℕ → ℕ → EReal) (r : ℕ) : EReal := ∑ k ∈ range 2048, x r k * x r k

/-- An entry of the rows' gradient. -/
def rows (g x w s : ℕ → ℕ → EReal) (r d : ℕ) : EReal :=
  s r d + inverse (squares x r) * (g r d * w 0 d - x r d * inverse (squares x r)
    * Ideal.div (∑ k ∈ range 2048, g r k * w 0 k * (x r k * inverse (squares x r))) (Ideal.ofBits .f32 0x45000000#32))

/-- What a row adds to an entry of the weights' gradient. -/
def share (g x : ℕ → ℕ → EReal) (d r : ℕ) : EReal := g r d * (x r d * inverse (squares x r))

/-- The weights' gradient from the first `n` rows, in the first of eight rows. -/
def weights (g x : ℕ → ℕ → EReal) (n r d : ℕ) : EReal := if r = 0 then ∑ k ∈ range n, share g x d k else 0

theorem t_lt (t : Fin grid0.N) : t.val < 32 := lt_of_lt_of_eq t.isLt N_0

theorem coords_eq : ∀ t : Fin grid0.N, (grid0.coords t 0).val = t.val := by
  decide +kernel

theorem idx (i : grid0.Coords) : cc0_transform_0 i 0 = (i 0).val ∧ cc0_transform_1 i 0 = (i 0).val ∧ cc0_transform_3 i 0 = (i 0).val
    ∧ cc0_transform_4 i 0 = (i 0).val :=
  ⟨word_toNat (i 0) (by decide), word_toNat (i 0) (by decide), word_toNat (i 0) (by decide), word_toNat (i 0) (by decide)⟩

theorem block0 (t : Fin cfg0.N) : Holds (a := 256) (b := 2048) (iblk m c 0 t) (fun r k => G m c (256 * t.val + r) k) := fun r k => by
  have h0 := coords_eq t
  obtain ⟨e0, -⟩ := idx (grid0.coords t)
  show V m c main_arg0 (((cfg0.win 0).blk t).view.emb (ix2 r k)) = _
  rw [V_main_arg0]
  refine eq_entry _ _ ?_ ?_
  · show cc0_transform_0 (grid0.coords t) 0 * 256 + 1 * r.val = _
    rw [e0, h0]; omega
  · show 0 * 2048 + 1 * k.val = _
    omega

theorem block1 (t : Fin cfg0.N) : Holds (a := 256) (b := 2048) (iblk m c 1 t) (fun r k => X m c (256 * t.val + r) k) := fun r k => by
  have h0 := coords_eq t
  obtain ⟨-, e0, -⟩ := idx (grid0.coords t)
  show V m c main_arg1 (((cfg0.win 1).blk t).view.emb (ix2 r k)) = _
  rw [V_main_arg1]
  refine eq_entry _ _ ?_ ?_
  · show cc0_transform_1 (grid0.coords t) 0 * 256 + 1 * r.val = _
    rw [e0, h0]; omega
  · show 0 * 2048 + 1 * k.val = _
    omega

theorem block2 (t : Fin cfg0.N) : Holds (a := 1) (b := 2048) (iblk m c 2 t) (W m c) := fun r k => by
  show V m c main_arg2 (((cfg0.win 2).blk t).view.emb (ix2 r k)) = _
  rw [V_main_arg2]
  refine eq_entry _ _ ?_ ?_
  · show 0 * 1 + 1 * r.val = _
    omega
  · show 0 * 2048 + 1 * k.val = _
    omega

theorem block3 (t : Fin cfg0.N) : Holds (a := 256) (b := 2048) (iblk m c 3 t) (fun r k => D m c (256 * t.val + r) k) := fun r k => by
  have h0 := coords_eq t
  obtain ⟨-, -, e0, -⟩ := idx (grid0.coords t)
  show V m c main_arg3 (((cfg0.win 3).blk t).view.emb (ix2 r k)) = _
  rw [V_main_arg3]
  refine eq_entry _ _ ?_ ?_
  · show cc0_transform_3 (grid0.coords t) 0 * 256 + 1 * r.val = _
    rw [e0, h0]; omega
  · show 0 * 2048 + 1 * k.val = _
    omega

theorem rows_are {g x s : Vec Ideal S256x2048 .f32} {w : Vec Ideal S1x2048 .f32} {g' x' w' s' : ℕ → ℕ → EReal}
    (hg : Holds (a := 256) (b := 2048) g g') (hx : Holds (a := 256) (b := 2048) x x') (hw : Holds (a := 1) (b := 2048) w w')
    (hs : Holds (a := 256) (b := 2048) s s') : Holds (a := 256) (b := 2048) (k0_pay5 x g w s) (rows g' x' w' s') := fun r d => by
  unfold k0_pay5 k0_pay3 k0_pay2
  pointwise
  rw [sum_number _ _ _ _ (fun k => hx r k) (fun k => hx r k)]
  rw [hs r d, hg r d, hw 0 d, hx r d]
  refine congrArg (fun z => s' r.val d.val + inverse (squares x' r.val) * (g' r.val d.val * w' 0 d.val
    - x' r.val d.val * inverse (squares x' r.val) * Ideal.div z (Ideal.ofBits .f32 0x45000000#32))) ?_
  exact sum_number _ _ (fun k => g' r.val k * w' 0 k) (fun k => x' r.val k * inverse (squares x' r.val))
    (fun k => congrArg₂ (· * ·) (hg r k) (hw 0 k)) (fun k => congrArg (· * inverse (squares x' r.val)) (hx r k))

theorem weights_are {g x : Vec Ideal S256x2048 .f32} {o : Vec Ideal S1x2048 .f32} {g' x' : ℕ → ℕ → EReal}
    (hg : Holds (a := 256) (b := 2048) g g') (hx : Holds (a := 256) (b := 2048) x x') (d : Fin 2048) :
    k0_pay4 x g o (ix2 0 d) = o (ix2 0 d) + ∑ k ∈ range 256, share g' x' d.val k := by
  unfold k0_pay4 k0_pay3 k0_pay2
  pointwise
  refine congrArg (o (ix2 0 d) + ·) ?_
  refine sum_number _ _ (fun k => g' k d.val) (fun k => x' k d.val * inverse (squares x' k)) (fun k => hg k d) (fun k => ?_)
  rw [sum_number _ _ _ _ (fun l => hx k l) (fun l => hx k l), hx k d]
  rfl

theorem zeros_are (i : S8x2048.Idx) : zeros i = 0 := Ideal.ofBits_zero_f32

theorem rows_at (t : Fin cfg0.N) : Holds (a := 256) (b := 2048) (outsAt0 m c t.val t.isLt).1
    (fun r d => rows (G m c) (X m c) (W m c) (D m c) (256 * t.val + r) d) := by
  by_cases h : t.val % 32 = 0
  · rw [outsAt0_A m c t h, first_rows]
    exact rows_are (block0 m c t) (block1 m c t) (block2 m c t) (block3 m c t)
  · rw [outsAt0_B m c t h, next_rows]
    exact rows_are (block0 m c t) (block1 m c t) (block2 m c t) (block3 m c t)

/-- A block of rows added to the weights' gradient. -/
theorem weights_step (t : Fin cfg0.N) (o : Vec Ideal S8x2048 .f32)
    (ho : Holds (a := 8) (b := 2048) o (weights (G m c) (X m c) (256 * t.val))) :
    Holds (a := 8) (b := 2048) (first_row o (k0_pay4 (iblk m c 1 t) (iblk m c 0 t) (top o)))
      (weights (G m c) (X m c) (256 * (t.val + 1))) := fun r d => by
  unfold first_row
  by_cases h : r.val = 0
  · have hr : r = 0 := Fin.ext h
    subst hr
    refine (if_pos rfl).trans ((weights_are (block0 m c t) (block1 m c t) d).trans ?_)
    refine (congrArg (· + _) (ho 0 d)).trans ?_
    unfold weights
    rw [if_pos h, if_pos h]
    exact sum_blocks (share (G m c) (X m c) d.val) 256 t.val
  · refine (if_neg h).trans ((ho r d).trans ?_)
    unfold weights
    rw [if_neg h, if_neg h]

theorem weights_at : ∀ (n : ℕ) (hn : n < cfg0.N),
    Holds (a := 8) (b := 2048) (outsAt0 m c n hn).2 (weights (G m c) (X m c) (256 * (n + 1)))
  | 0, hn => by
    rw [outsAt0_A m c ⟨0, hn⟩ rfl, first_weights]
    refine weights_step m c ⟨0, hn⟩ zeros fun r d => (zeros_are _).trans ?_
    unfold weights
    show 0 = if r.val = 0 then ∑ k ∈ range 0, _ else 0
    rw [Finset.sum_range_zero, ite_self]
  | n + 1, hn => by
    have ih := weights_at n (Nat.lt_of_succ_lt hn)
    have hN : n + 1 < 32 := lt_of_lt_of_eq hn N_0
    rw [outsAt0_B m c ⟨n + 1, hn⟩ (by show ¬(n + 1) % 32 = 0; omega), next_weights]
    exact weights_step m c ⟨n + 1, hn⟩ _ ih

def whole_rows : S8192x2048.Idx → EReal := fun i => rows (G m c) (X m c) (W m c) (D m c) (i 0).val (i 1).val
def whole_weights : S8x2048.Idx → EReal := fun i => weights (G m c) (X m c) 8192 (i 0).val (i 1).val

theorem covers4 : (cfg0.win 4).Covers :=
  Pipeline.Window.covers_of_indexMap_surj _ rfl (by decide) fun β => by
    have h0 : (β 0).val < 32 := (β 0).isLt
    have h1 : (β 1).val < 1 := (β 1).isLt
    let t : Fin grid0.N := ⟨(β 0).val, by rw [N_0]; omega⟩
    obtain ⟨-, -, -, e0⟩ := idx (grid0.coords t)
    refine ⟨grid0.coords t, fun a => ?_⟩
    match a with
    | ⟨0, _⟩ => exact e0.trans (coords_eq t)
    | ⟨1, _⟩ => show 0 = (β 1).val; omega

theorem covers5 : (cfg0.win 5).Covers :=
  Pipeline.Window.covers_of_indexMap_surj _ rfl (by decide) fun β => by
    have h0 : (β 0).val < 1 := (β 0).isLt
    have h1 : (β 1).val < 1 := (β 1).isLt
    let t : Fin grid0.N := ⟨31, by rw [N_0]; omega⟩
    refine ⟨grid0.coords t, fun a => ?_⟩
    match a with
    | ⟨0, _⟩ => show 0 = (β 0).val; omega
    | ⟨1, _⟩ => show 0 = (β 1).val; omega

theorem array4 : (dats m 0 c).arrAt 4 cfg0.N = whole_rows m c := by
  refine (dats m 0 c).arrAt_eq_of_covers 4 _ covers4 fun t _ y => ?_
  obtain ⟨-, -, -, e0⟩ := idx (grid0.coords t)
  blk_simp
  rw [after0_4]
  refine ((rows_at m c t).at y).trans ?_
  show _ = rows (G m c) (X m c) (W m c) (D m c) (cc0_transform_4 (grid0.coords t) 0 * 256 + 1 * (y 0).val) (0 * 2048 + 1 * (y 1).val)
  rw [e0, coords_eq t, show t.val * 256 + 1 * (y 0).val = 256 * t.val + (y 0).val by omega,
    show 0 * 2048 + 1 * (y 1).val = (y 1).val by omega]

theorem array5 : (dats m 0 c).arrAt 5 cfg0.N = whole_weights m c := by
  refine (dats m 0 c).arrAt_eq_of_covers 5 _ covers5 fun t hf y => ?_
  have hl := (flush0_5 t).mp hf
  have ht := t_lt t
  blk_simp
  rw [after0_5]
  have ho := weights_at m c t.val t.isLt
  rw [show 256 * (t.val + 1) = 8192 by omega] at ho
  refine (ho.at y).trans ?_
  show _ = weights (G m c) (X m c) 8192 (0 * 8 + 1 * (y 0).val) (0 * 2048 + 1 * (y 1).val)
  rw [show 0 * 8 + 1 * (y 0).val = (y 0).val by omega, show 0 * 2048 + 1 * (y 1).val = (y 1).val by omega]

/-! ## The reference -/

section Reference

open Cert.NormGradRefIdeal.Read

variable (g x : Vec Ideal S8192x2048 .f32) (w : Vec Ideal S1x2048 .f32) (s : Vec Ideal S8192x2048 .f32)

/-- An array's entries by their numbers. -/
abbrev E (x : Vec Ideal S8192x2048 .f32) : ℕ → ℕ → EReal := entry (a := 8192) (b := 2048) x
abbrev E1 (w : Vec Ideal S1x2048 .f32) : ℕ → ℕ → EReal := entry (a := 1) (b := 2048) w

theorem ref_mean (i : Cert.NormGradRefIdeal.S8192x1.Idx) : val_main_v6 (F := Ideal) x i = mean (squares (E x) (i 0).val) := by
  rw [val_main_v6_apply, val_main_v5_apply, val_main_v4_apply, val_main_v3_apply, val_main_v2_apply, val_main_v1_apply]
  simp only [val_main_v0_apply]
  show Ideal.div (Ideal.ofBits .f32 0x00000000#32 + ∑ k, x _ * x _) (Ideal.ofBits .f32 0x45000000#32)
    + Ideal.ofBits .f32 0x358637BD#32 = _
  rw [Ideal.ofBits_zero_f32, zero_add, sum_number _ _ _ _ (fun k => eq_entry x _ rfl rfl) (fun k => eq_entry x _ rfl rfl)]
  rfl

theorem ref_inverse (i : Cert.NormGradRefIdeal.S8192x1.Idx) : val_main_v7 (F := Ideal) x i = inverse (squares (E x) (i 0).val) := by
  rw [val_main_v7_apply, ref_mean]
  rfl

theorem ref_gain (i : S8192x2048.Idx) : val_main_v19 (F := Ideal) g w i = E g (i 0).val (i 1).val * E1 w 0 (i 1).val := by
  rw [val_main_v19_apply, val_main_v18_apply]
  exact congrArg₂ (· * ·) (eq_entry g i rfl rfl) (eq_entry w _ rfl rfl)

theorem ref_slope (i : Cert.NormGradRefIdeal.S8192.Idx) : val_main_v28 (F := Ideal) g x w i
    = Ideal.div ((∑ k ∈ range 2048, E x (i 0).val k * (E g (i 0).val k * E1 w 0 k))
        * (Ideal.ofBits .f32 0xBF000000#32 * Ideal.div (inverse (squares (E x) (i 0).val)) (mean (squares (E x) (i 0).val))))
      (Ideal.ofBits .f32 0x45000000#32) := by
  rw [val_main_v28_apply, Fin.sum_univ_one, val_main_v27_apply, val_main_v26_apply, val_main_v25_apply, val_main_v22_apply, val_main_v21_apply,
    val_main_v10_apply, val_main_v9_apply, val_main_v8_apply, ref_inverse, ref_mean]
  show Ideal.ofBits .f32 0x00000000#32 + Ideal.div ((Ideal.ofBits .f32 0x00000000#32 + ∑ k, val_main_v20 (F := Ideal) g x w _)
    * (Ideal.ofBits .f32 0xBF000000#32 * Ideal.div _ _)) (Ideal.ofBits .f32 0x45000000#32) = _
  simp only [val_main_v20_apply]
  rw [Ideal.ofBits_zero_f32, zero_add, zero_add]
  refine congrArg₂ (fun a b => Ideal.div (a * b) _) ?_ rfl
  refine sum_number _ _ _ (fun k => E g (i 0).val k * E1 w 0 k) (fun k => eq_entry x _ ?_ rfl) (fun k => (ref_gain g w _).trans ?_)
  · show (i 0).val * 1 + 0 = _; omega
  · show E g ((i 0).val * 1 + 0) k.val * E1 w 0 k.val = _
    rw [show (i 0).val * 1 + 0 = (i 0).val by omega]

theorem squares_nonneg (x : ℕ → ℕ → EReal) (r : ℕ) : 0 ≤ squares x r := Finset.sum_nonneg fun _ _ => square_nonneg _

theorem reference_rows (i : S8192x2048.Idx) :
    val_main_v34 (F := Ideal) g x w s i = rows (E g) (E x) (E1 w) (E s) (i 0).val (i 1).val := by
  rw [val_main_v34_apply, val_main_v33_apply, val_main_v32_apply, val_main_v31_apply, val_main_v30_apply, val_main_v29_apply, val_main_v24_apply,
    val_main_v23_apply, ref_gain, ref_inverse, ref_slope]
  unfold rows
  refine congrArg₂ (· + ·) (eq_entry s i rfl rfl) ?_
  rw [eq_entry x i rfl rfl]
  exact (row_identity (squares (E x) (i 0).val) (squares_nonneg _ _) (E x (i 0).val) (fun k => E g (i 0).val k * E1 w 0 k) (i 1).val).symm

theorem reference_weights (i : S8x2048.Idx) :
    val_main_v35 (F := Ideal) g x i = weights (E g) (E x) 8192 (i 0).val (i 1).val := by
  have h1 : (i 1).val < 2048 := (i 1).isLt
  unfold val_main_v35 weights
  by_cases h : (i 0).val = 0
  · rw [if_pos h, pad_apply_of_inside _ _ _ _ _ _ _ i (Idealize.ShloMosaic.ix2 ⟨0, Nat.one_pos⟩ ⟨(i 1).val, h1⟩) (fun a => match a with
      | ⟨0, _⟩ => by show (i 0).val = 0 + 0 * (0 + 1); omega
      | ⟨1, _⟩ => by show (i 1).val = 0 + (i 1).val * (0 + 1); omega), val_main_v17_apply, val_main_v16_apply]
    show Ideal.ofBits .f32 0x00000000#32 + _ = _
    rw [Ideal.ofBits_zero_f32, zero_add]
    refine (Finset.sum_congr rfl fun k _ => ?_).trans (Finset.sum_range (n := 8192) (share (E g) (E x) (i 1).val)).symm
    rw [val_main_v15_apply, val_main_v12_apply, val_main_v11_apply, ref_inverse]
    refine (mul_comm _ _).trans (congrArg₂ (· * ·) (eq_entry g _ rfl ?_) (congrArg₂ (· * ·) (eq_entry x _ rfl ?_) rfl))
    · show 0 * 2048 + (i 1).val = (i 1).val; omega
    · show 0 * 2048 + (i 1).val = (i 1).val; omega
  · rw [if_neg h, pad_apply_of_not_inside _ _ _ _ _ _ _ i (0 : Fin 2) (by
      show ¬(0 ≤ (i 0).val ∧ ((i 0).val - 0) % (0 + 1) = 0 ∧ ((i 0).val - 0) / (0 + 1) < 1)
      rw [Nat.div_one]
      omega)]
    show ((((0#32 : BitVec 32).toInt : ℝ)) : EReal) = 0
    simp

end Reference

/-! ## The claims -/

theorem frame_reference : Cert.quiescent_NormGradRefIdeal := fun m ρ _ =>
  (θ_run Cert.NormGradRefIdeal.defs _ _).mono
    (fun r h => ⟨fun c => (h c).2.2, sem_eq_zero_of_no_sems (by decide) r.2⟩) (Cert.NormGradRefIdeal.Value.run (F := Ideal) m ρ)

theorem algebraic : Cert.algebraic_NormGradIdeal_NormGradRefIdeal := by
  intro m ρ m' ρ' _ hagree
  refine ⟨fun c => whole_rows m c, fun c => whole_weights m c, ?_, ?_⟩
  · exact (θ_run Cert.NormGradIdeal.defs _ _).mono
      (fun r h c => ⟨(h c).1.trans (array4 m c), (h c).2.1.trans (array5 m c), (h c).2.2⟩) (run_blocks m ρ)
  · refine (θ_run Cert.NormGradRefIdeal.defs _ _).mono (fun r h c => ⟨(h c).1.trans ?_, (h c).2.1.trans ?_, (h c).2.2⟩)
      (Cert.NormGradRefIdeal.Value.run (F := Ideal) m' ρ')
    · rw [Cert.NormGradRefIdeal.Read.val_main_v34_eq, (hagree c).1, (hagree c).2.1, (hagree c).2.2.1, (hagree c).2.2.2]
      exact funext fun i => reference_rows _ _ _ _ i
    · rw [Cert.NormGradRefIdeal.Read.val_main_v35_eq, (hagree c).1, (hagree c).2.1]
      exact funext fun i => reference_weights _ _ i

end Products.NormGrad

end
-- ==== Proof.NormVal.lean ====
/- The norm: every grid point normalises the rows of its block. -/
module

public import proofs.«01_k».proof.Proof.Products
public import proofs.«01_k».proof.Proof.Gen.NormIdeal.Value
public import proofs.«01_k».proof.Proof.Gen.NormRefIdeal.Read
public import proofs.«01_k».proof.Defs

@[expose] public section

set_option maxRecDepth 16384

noncomputable section

namespace Products.Norm

open Cert.NormIdeal Cert.NormIdeal.Gen Cert.NormIdeal.Value
open Idealize.ShloMosaic Idealize.ShloMosaic.TcCoe Idealize.SL Idealize.SL.Sem
open Finset (range)

/-- The inverse root of the mean of the squares of 2048 numbers, from the sum of their squares. -/
def inverse (s : EReal) : EReal :=
  Ideal.rsqrt (Ideal.div s (Ideal.ofBits .f32 0x45000000#32) + Ideal.ofBits .f32 0x358637BD#32)

/-- The row `r` of the numbers `f` normalised, with the weights `g`. -/
def normed (f g : ℕ → ℕ → EReal) (r d : ℕ) : EReal := f r d * inverse (∑ k ∈ range 2048, f r k * f r k) * g 0 d

variable (m : (ℓ : Loc nD τ sig) → Buf (Elt Ideal) ℓ) (c : Dev nD)

/-- The rows and the weights. -/
abbrev A : ℕ → ℕ → EReal := entry (a := 8192) (b := 2048) (m ((c : Thread nD τ).loc main_arg0))
abbrev B : ℕ → ℕ → EReal := entry (a := 1) (b := 2048) (m ((c : Thread nD τ).loc main_arg1))

theorem t_lt (t : Fin grid0.N) : t.val < 16 := lt_of_lt_of_eq t.isLt N_0

theorem coords_eq : ∀ t : Fin grid0.N, (grid0.coords t 0).val = t.val := by
  decide +kernel

theorem idx (i : grid0.Coords) : cc0_transform_0 i 0 = (i 0).val ∧ cc0_transform_0 i 1 = 0
    ∧ cc0_transform_1 i 0 = 0 ∧ cc0_transform_1 i 1 = 0
    ∧ cc0_transform_2 i 0 = (i 0).val ∧ cc0_transform_2 i 1 = 0 :=
  ⟨word_toNat (i 0) (by decide), rfl, rfl, rfl, word_toNat (i 0) (by decide), rfl⟩

theorem left_block (t : Fin cfg0.N) : Holds (a := 512) (b := 2048) (iblk m c 0 t) (fun r k => A m c (512 * t.val + r) k) := fun r k => by
  have h0 := coords_eq t
  obtain ⟨e0, e1, -⟩ := idx (grid0.coords t)
  show V m c main_arg0 (((cfg0.win 0).blk t).view.emb (ix2 r k)) = _
  rw [V_main_arg0]
  refine eq_entry _ _ ?_ ?_
  · show cc0_transform_0 (grid0.coords t) 0 * 512 + 1 * r.val = _
    rw [e0, h0]; omega
  · show cc0_transform_0 (grid0.coords t) 1 * 2048 + 1 * k.val = _
    rw [e1]; omega

theorem right_block (t : Fin cfg0.N) : Holds (a := 1) (b := 2048) (iblk m c 1 t) (fun r k => B m c r k) := fun r k => by
  obtain ⟨-, -, e0, e1, -⟩ := idx (grid0.coords t)
  show V m c main_arg1 (((cfg0.win 1).blk t).view.emb (ix2 r k)) = _
  rw [V_main_arg1]
  refine eq_entry _ _ ?_ ?_
  · show cc0_transform_1 (grid0.coords t) 0 * 1 + 1 * r.val = _
    rw [e0]; omega
  · show cc0_transform_1 (grid0.coords t) 1 * 2048 + 1 * k.val = _
    rw [e1]; omega

/-- The rows of a block normalised. -/
theorem norm_is {x : Vec Ideal S512x2048 .f32} {w : Vec Ideal S1x2048 .f32} {f g : ℕ → ℕ → EReal}
    (hx : Holds (a := 512) (b := 2048) x f) (hw : Holds (a := 1) (b := 2048) w g) :
    Holds (a := 512) (b := 2048) (k0_pay1 x w) (normed f g) := fun r d => by
  unfold k0_pay1
  pointwise
  rw [sum_number _ _ _ _ (fun k => hx r k) (fun k => hx r k), hx r d, hw 0 d]
  rfl

theorem left_at (t : Fin cfg0.N) : Holds (a := 512) (b := 2048) (out0_2 (iblk m c 0 t) (iblk m c 1 t))
    (fun r d => normed (A m c) (B m c) (512 * t.val + r) d) := by
  unfold out0_2
  rw [View.canon_unit_zero zero_offsets, View.ld_unit_zero (S := S512x2048) zero_offsets, View.ld_unit_zero (S := S1x2048) zero_offsets]
  exact norm_is (left_block m c t) (right_block m c t)

/-- All rows normalised. -/
def whole : S8192x2048.Idx → EReal := fun i => normed (A m c) (B m c) (i 0).val (i 1).val

theorem covers : (cfg0.win 2).Covers :=
  Pipeline.Window.covers_of_indexMap_surj _ rfl (by decide) fun β => by
    have h0 : (β 0).val < 16 := (β 0).isLt
    have h1 : (β 1).val < 1 := (β 1).isLt
    let t : Fin grid0.N := ⟨(β 0).val, by rw [N_0]; omega⟩
    have c0 := coords_eq t
    obtain ⟨-, -, -, -, e0, e1⟩ := idx (grid0.coords t)
    refine ⟨grid0.coords t, fun a => ?_⟩
    match a with
    | ⟨0, _⟩ => exact e0.trans c0
    | ⟨1, _⟩ => exact e1.trans (by show 0 = (β 1).val; omega)

theorem array_eq : (dats m 0 c).arrAt 2 cfg0.N = whole m c := by
  refine (dats m 0 c).arrAt_eq_of_covers 2 _ covers fun t _ y => ?_
  have c0 := coords_eq t
  obtain ⟨-, -, -, -, e0, e1⟩ := idx (grid0.coords t)
  blk_simp
  rw [after0_2]
  refine ((left_at m c t).at y).trans ?_
  show _ = normed (A m c) (B m c) (cc0_transform_2 (grid0.coords t) 0 * 512 + 1 * (y 0).val)
    (cc0_transform_2 (grid0.coords t) 1 * 2048 + 1 * (y 1).val)
  rw [e0, e1, c0, show t.val * 512 + 1 * (y 0).val = 512 * t.val + (y 0).val by omega,
    show 0 * 2048 + 1 * (y 1).val = (y 1).val by omega]

/-! ## The reference -/

open Cert.NormRefIdeal.Read in
theorem reference_eq (x : Vec Ideal S8192x2048 .f32) (w : Vec Ideal S1x2048 .f32) (i : S8192x2048.Idx) :
    val_main_v12 (F := Ideal) x w i
      = normed (entry (a := 8192) (b := 2048) x) (entry (a := 1) (b := 2048) w) (i 0).val (i 1).val := by
  rw [val_main_v12_apply, val_main_v11_apply, val_main_v9_apply, val_main_v10_apply, val_main_v8_apply, val_main_v7_apply,
    val_main_v6_apply, val_main_v5_apply, val_main_v4_apply, val_main_v3_apply, val_main_v2_apply, val_main_v1_apply]
  simp only [val_main_v0_apply]
  show x i * Ideal.rsqrt (Ideal.div (Ideal.ofBits .f32 0x00000000#32 + ∑ k, x _ * x _) (Ideal.ofBits .f32 0x45000000#32)
    + Ideal.ofBits .f32 0x358637BD#32) * w _ = _
  rw [Ideal.ofBits_zero_f32, zero_add, eq_entry x i rfl rfl, eq_entry w _ rfl rfl,
    sum_number _ _ _ _ (fun k => eq_entry x _ rfl rfl) (fun k => eq_entry x _ rfl rfl)]
  rfl

/-! ## The claims -/

theorem frame_reference : Cert.quiescent_NormRefIdeal := fun m ρ _ =>
  (θ_run Cert.NormRefIdeal.defs _ _).mono
    (fun r h => ⟨fun c => (h c).2, sem_eq_zero_of_no_sems (by decide) r.2⟩) (Cert.NormRefIdeal.Value.run (F := Ideal) m ρ)

theorem algebraic : Cert.algebraic_NormIdeal_NormRefIdeal := by
  intro m ρ m' ρ' _ hagree
  refine ⟨fun c => whole m c, ?_, ?_⟩
  · exact (θ_run Cert.NormIdeal.defs _ _).mono (fun r h c => ⟨(h c).1.trans (array_eq m c), (h c).2⟩) (run_blocks m ρ)
  · refine (θ_run Cert.NormRefIdeal.defs _ _).mono (fun r h c => ⟨(h c).1.trans ?_, (h c).2⟩)
      (Cert.NormRefIdeal.Value.run (F := Ideal) m' ρ')
    rw [Cert.NormRefIdeal.Read.val_main_v12_eq, (hagree c).1, (hagree c).2]
    exact funext fun i => reference_eq _ _ i

end Products.Norm

end
-- ==== Proof.ConvVal.lean ====
/- The causal convolution with its gate: every grid point's block takes its own rows and the last rows of the block above it. -/
module

public import proofs.«01_k».proof.Proof.Products
public import proofs.«01_k».proof.Proof.Gen.ConvIdeal.Value
public import proofs.«01_k».proof.Proof.Gen.ConvRefIdeal.Read
public import Idealize.ShloMosaic.Lib.KernelVsHost
public import proofs.«01_k».proof.Defs

@[expose] public section

set_option maxRecDepth 16384

noncomputable section

namespace Products.Conv

open Cert.ConvIdeal Cert.ConvIdeal.Gen Cert.ConvIdeal.Value
open Idealize.ShloMosaic Idealize.ShloMosaic.TcCoe Idealize.SL Idealize.SL.Sem

/-- `z` times its logistic function. -/
def silu (z : EReal) : EReal := z * Ideal.div 1 (1 + Ideal.exp (-z))

/-- A row of the convolution, from the rows `p` with three rows of zeros above them, the weights `w` and the bias `b`. -/
def taps (p w b : ℕ → ℕ → EReal) (r d : ℕ) : EReal :=
  b 0 d + w 3 d * p (r + 3) d + w 2 d * p (r + 2) d + w 1 d * p (r + 1) d + w 0 d * p r d

variable (m : (ℓ : Loc nD τ sig) → Buf (Elt Ideal) ℓ) (c : Dev nD)

/-- The projection, the weights and the bias. -/
abbrev A : ℕ → ℕ → EReal := entry (a := 8192) (b := 13312) (m ((c : Thread nD τ).loc main_arg0))
abbrev B : ℕ → ℕ → EReal := entry (a := 4) (b := 3072) (m ((c : Thread nD τ).loc main_arg1))
abbrev C : ℕ → ℕ → EReal := entry (a := 1) (b := 3072) (m ((c : Thread nD τ).loc main_arg2))

/-- The columns that are convolved, with three rows of zeros above them. -/
def above (x : ℕ → ℕ → EReal) (r d : ℕ) : EReal := if 3 ≤ r then x (r - 3) (2048 + d) else 0

theorem t_lt (t : Fin grid0.N) : t.val < 48 := lt_of_lt_of_eq t.isLt N_0

theorem coords_eq : ∀ t : Fin grid0.N, (grid0.coords t 0).val = t.val / 8 ∧ (grid0.coords t 1).val = t.val % 8 := by
  decide +kernel

theorem last_rows : ∀ n : Fin 8,
    (Scalar.maxsi (Scalar.subi (Scalar.muli (BitVec.ofNat 32 n.val) 128#32) 1#32) 0#32).toNat = 128 * n.val - 1 := by
  decide +kernel

theorem column : ∀ n : Fin 6, (Scalar.addi 4#32 (BitVec.ofNat 32 n.val)).toNat = 4 + n.val := by
  decide +kernel

theorem idx (i : grid0.Coords) : cc0_transform_0 i 0 = (i 1).val ∧ cc0_transform_0 i 1 = 4 + (i 0).val
    ∧ cc0_transform_1 i 0 = 128 * (i 1).val - 1 ∧ cc0_transform_1 i 1 = 4 + (i 0).val
    ∧ cc0_transform_2 i 1 = (i 0).val ∧ cc0_transform_3 i 1 = (i 0).val
    ∧ cc0_transform_4 i 0 = (i 1).val ∧ cc0_transform_4 i 1 = (i 0).val :=
  ⟨word_toNat (i 1) (by decide), column (i 0), last_rows (i 1), column (i 0), word_toNat (i 0) (by decide),
    word_toNat (i 0) (by decide), word_toNat (i 1) (by decide), word_toNat (i 0) (by decide)⟩

/-- The point's rows. -/
theorem own_block (t : Fin cfg0.N) : Holds (a := 1024) (b := 512) (iblk m c 0 t)
    (fun r d => A m c (1024 * (t.val % 8) + r) (2048 + (512 * (t.val / 8) + d))) := fun r d => by
  obtain ⟨h0, h1⟩ := coords_eq t
  obtain ⟨e0, e1, -⟩ := idx (grid0.coords t)
  show V m c main_arg0 (((cfg0.win 0).blk t).view.emb (ix2 r d)) = _
  rw [V_main_arg0]
  refine eq_entry _ _ ?_ ?_
  · show cc0_transform_0 (grid0.coords t) 0 * 1024 + 1 * r.val = _
    rw [e0, h1]; omega
  · show cc0_transform_0 (grid0.coords t) 1 * 512 + 1 * d.val = _
    rw [e1, h0]; omega

/-- The rows before them. -/
theorem last_block (t : Fin cfg0.N) : Holds (a := 8) (b := 512) (iblk m c 1 t)
    (fun r d => A m c (8 * (128 * (t.val % 8) - 1) + r) (2048 + (512 * (t.val / 8) + d))) := fun r d => by
  obtain ⟨h0, h1⟩ := coords_eq t
  obtain ⟨-, -, e0, e1, -⟩ := idx (grid0.coords t)
  show V m c main_arg0 (((cfg0.win 1).blk t).view.emb (ix2 r d)) = _
  rw [V_main_arg0]
  refine eq_entry _ _ ?_ ?_
  · show cc0_transform_1 (grid0.coords t) 0 * 8 + 1 * r.val = _
    rw [e0, h1]; omega
  · show cc0_transform_1 (grid0.coords t) 1 * 512 + 1 * d.val = _
    rw [e1, h0]; omega

theorem weight_block (t : Fin cfg0.N) : Holds (a := 4) (b := 512) (iblk m c 2 t)
    (fun r d => B m c r (512 * (t.val / 8) + d)) := fun r d => by
  obtain ⟨h0, h1⟩ := coords_eq t
  obtain ⟨-, -, -, -, e1, -⟩ := idx (grid0.coords t)
  show V m c main_arg1 (((cfg0.win 2).blk t).view.emb (ix2 r d)) = _
  rw [V_main_arg1]
  refine eq_entry _ _ ?_ ?_
  · show 0 * 4 + 1 * r.val = _
    omega
  · show cc0_transform_2 (grid0.coords t) 1 * 512 + 1 * d.val = _
    rw [e1, h0]; omega

theorem bias_block (t : Fin cfg0.N) : Holds (a := 1) (b := 512) (iblk m c 3 t)
    (fun r d => C m c r (512 * (t.val / 8) + d)) := fun r d => by
  obtain ⟨h0, h1⟩ := coords_eq t
  obtain ⟨-, -, -, -, -, e1, -⟩ := idx (grid0.coords t)
  show V m c main_arg2 (((cfg0.win 3).blk t).view.emb (ix2 r d)) = _
  rw [V_main_arg2]
  refine eq_entry _ _ ?_ ?_
  · show 0 * 1 + 1 * r.val = _
    omega
  · show cc0_transform_3 (grid0.coords t) 1 * 512 + 1 * d.val = _
    rw [e1, h0]; omega

/-! ## A point's block -/

theorem cmp_lt : ∀ a < 8, ∀ k < 8, IntOp.cmpi .slt (BitVec.ofNat 32 a) (BitVec.ofNat 32 k) = if a < k then 1 else 0 := by
  decide +kernel

theorem cmp_first : ∀ n < 8, Scalar.cmpi .eq (BitVec.ofNat 32 n) 0#32 = if n = 0 then 1 else 0 := by
  decide +kernel

theorem select_if {p : Prop} [Decidable p] (x y : EReal) : Scalar.select (if p then 1 else 0) x y = if p then x else y := by
  unfold Scalar.select
  by_cases h : p
  · rw [if_pos h, if_pos rfl, if_pos h]
  · rw [if_neg h, if_neg (by decide), if_neg h]

/-- The block moved down by `s` rows, the rows before it above it. -/
theorem moved {v1 : Vec Ideal S8x512 .f32} {v4 : Vec Ideal S1024x512 .f32} {p : ℕ → ℕ → EReal} {n : ℕ} (hn : n < 8)
    (h4 : Holds (a := 1024) (b := 512) v4 (fun r d => p (1024 * n + r + 3) d))
    (h1 : ∀ (r : Fin 8) (d : Fin 512), 5 ≤ r.val → (if n = 0 then 0 else v1 (ix2 r d)) = p (1024 * n + r.val - 5) d.val)
    (s : ℕ) (hs : 0 < s) (hs3 : s ≤ 3) (r : Fin 1024) (d : Fin 512)
    (q : (r.val + 8 - s) % 8 < 8) (u : (r.val + 1024 - s) % 1024 < 1024) (u' : (8 + (r.val - 8) + 1024 - s) % 1024 < 1024) :
    (if _h : r.val < 8 then Scalar.select (IntOp.cmpi .slt (BitVec.ofNat 32 r.val) (BitVec.ofNat 32 s))
        (Scalar.select (Scalar.cmpi .eq (BitVec.ofNat 32 n) 0#32) 0 (v1 (ix2 ⟨(r.val + 8 - s) % 8, q⟩ d)))
        (v4 (ix2 ⟨(r.val + 1024 - s) % 1024, u⟩ d))
      else v4 (ix2 ⟨(8 + (r.val - 8) + 1024 - s) % 1024, u'⟩ d))
      = p (1024 * n + r.val + (3 - s)) d.val := by
  have hr := r.isLt
  by_cases h : r.val < 8
  · rw [dif_pos h, cmp_lt _ h _ (by omega), select_if]
    by_cases g : r.val < s
    · rw [if_pos g, cmp_first n hn, select_if, h1 _ _ (by show 5 ≤ (r.val + 8 - s) % 8; omega)]
      exact congrArg (p · d.val) (by show 1024 * n + (r.val + 8 - s) % 8 - 5 = 1024 * n + r.val + (3 - s); omega)
    · rw [if_neg g, h4]
      exact congrArg (p · d.val) (by show 1024 * n + (r.val + 1024 - s) % 1024 + 3 = 1024 * n + r.val + (3 - s); omega)
  · rw [dif_neg h, h4]
    exact congrArg (p · d.val) (by show 1024 * n + (8 + (r.val - 8) + 1024 - s) % 1024 + 3 = 1024 * n + r.val + (3 - s); omega)

theorem block_is {i : grid0.Coords} {n : ℕ} (hi : (i 1).val = n) (hn : n < 8)
    {v1 : Vec Ideal S8x512 .f32} {v4 : Vec Ideal S1024x512 .f32} {v5 : Vec Ideal S4x512 .f32} {v6 : Vec Ideal S1x512 .f32} {p w b : ℕ → ℕ → EReal}
    (h4 : Holds (a := 1024) (b := 512) v4 (fun r d => p (1024 * n + r + 3) d))
    (h1 : ∀ (r : Fin 8) (d : Fin 512), 5 ≤ r.val → (if n = 0 then 0 else v1 (ix2 r d)) = p (1024 * n + r.val - 5) d.val)
    (h5 : Holds (a := 4) (b := 512) v5 w) (h6 : Holds (a := 1) (b := 512) v6 b) :
    Holds (a := 1024) (b := 512) (k0_pay1 (k0_pay2 i v1) v5 (k0_pay3 i v1 v4 v5 v6) (iota .tc S8x512 32 [0] iota_S8x512_d0_w32) (k0_pay4 v4) 3#32)
      (fun r d => silu (taps p w b (1024 * n + r) d)) := fun r d => by
  unfold k0_pay1 k0_pay3 k0_pay4 k0_pay2
  pointwise
  have e1 := moved hn h4 h1 1 (by decide) (by decide) r d (Nat.mod_lt _ (by decide)) (Nat.mod_lt _ (by decide)) (Nat.mod_lt _ (by decide))
  have e2 := moved hn h4 h1 2 (by decide) (by decide) r d (Nat.mod_lt _ (by decide)) (Nat.mod_lt _ (by decide)) (Nat.mod_lt _ (by decide))
  have e3 := moved hn h4 h1 3 (by decide) (by decide) r d (Nat.mod_lt _ (by decide)) (Nat.mod_lt _ (by decide)) (Nat.mod_lt _ (by decide))
  rw [← hi] at e1 e2 e3 ⊢
  refine (congrArg (fun z => z * Ideal.div 1 (1 + Ideal.exp (0 - z)))
    (a₂ := taps p w b (1024 * (i 1).val + r.val) d.val) ?_).trans ?_
  · unfold taps
    refine congrArg₂ (· + ·) (congrArg₂ (· + ·) (congrArg₂ (· + ·) (congrArg₂ (· + ·) (h6 0 d) (congrArg₂ (· * ·) (h5 3 d) ?_))
      (congrArg₂ (· * ·) (h5 2 d) e1)) (congrArg₂ (· * ·) (h5 1 d) e2)) (congrArg₂ (· * ·) (h5 0 d) e3)
    rw [hi]
    exact h4 r d
  · unfold silu
    rw [sub_eq_add_neg, zero_add]

theorem out_at (t : Fin cfg0.N) : Holds (a := 1024) (b := 512)
    (out0_4 (grid0.coords t) (iblk m c 0 t) (iblk m c 1 t) (iblk m c 2 t) (iblk m c 3 t))
    (fun r d => silu (taps (above (A m c)) (B m c) (C m c) (1024 * (t.val % 8) + r) (512 * (t.val / 8) + d))) := by
  unfold out0_4
  rw [View.canon_unit_zero zero_offsets, View.ld_unit_zero (S := S1024x512) zero_offsets, View.ld_unit_zero (S := S8x512) zero_offsets,
    View.ld_unit_zero (S := S4x512) zero_offsets, View.ld_unit_zero (S := S1x512) zero_offsets]
  refine block_is (n := t.val % 8) (coords_eq t).2 (by omega) (p := fun r d => above (A m c) r (512 * (t.val / 8) + d))
    (w := fun r d => B m c r (512 * (t.val / 8) + d)) (b := fun r d => C m c r (512 * (t.val / 8) + d))
    ((own_block m c t).congr fun r d _ _ => ?_) (fun r d h5 => ?_) (weight_block m c t) (bias_block m c t)
  · unfold above
    rw [if_pos (by omega)]
    exact congrArg (A m c · _) (by omega)
  · have hr := r.isLt
    have hm : t.val % 8 < 8 := Nat.mod_lt _ (by decide)
    unfold above
    by_cases h : t.val % 8 = 0
    · rw [if_pos h, if_neg (by omega)]
    · rw [if_neg h, last_block, if_pos (by omega)]
      exact congrArg (A m c · _) (by omega)

/-- The whole result. -/
def whole : S8192x3072.Idx → EReal := fun i => silu (taps (above (A m c)) (B m c) (C m c) (i 0).val (i 1).val)

theorem covers : (cfg0.win 4).Covers :=
  Pipeline.Window.covers_of_indexMap_surj _ rfl (by decide) fun β => by
    have h0 : (β 0).val < 8 := (β 0).isLt
    have h1 : (β 1).val < 6 := (β 1).isLt
    let t : Fin grid0.N := ⟨8 * (β 1).val + (β 0).val, by rw [N_0]; omega⟩
    obtain ⟨c0, c1⟩ := coords_eq t
    obtain ⟨-, -, -, -, -, -, e0, e1⟩ := idx (grid0.coords t)
    refine ⟨grid0.coords t, fun a => ?_⟩
    match a with
    | ⟨0, _⟩ => exact (e0.trans c1).trans (by show (8 * (β 1).val + (β 0).val) % 8 = (β 0).val; omega)
    | ⟨1, _⟩ => exact (e1.trans c0).trans (by show (8 * (β 1).val + (β 0).val) / 8 = (β 1).val; omega)

theorem array_eq : (dats m 0 c).arrAt 4 cfg0.N = whole m c := by
  refine (dats m 0 c).arrAt_eq_of_covers 4 _ covers fun t _ y => ?_
  obtain ⟨c0, c1⟩ := coords_eq t
  obtain ⟨-, -, -, -, -, -, e0, e1⟩ := idx (grid0.coords t)
  blk_simp
  rw [after0_4]
  refine ((out_at m c t).at y).trans ?_
  show _ = silu (taps (above (A m c)) (B m c) (C m c) (cc0_transform_4 (grid0.coords t) 0 * 1024 + 1 * (y 0).val)
    (cc0_transform_4 (grid0.coords t) 1 * 512 + 1 * (y 1).val))
  rw [e0, e1, c0, c1, show t.val % 8 * 1024 + 1 * (y 0).val = 1024 * (t.val % 8) + (y 0).val by omega,
    show t.val / 8 * 512 + 1 * (y 1).val = 512 * (t.val / 8) + (y 1).val by omega]

/-! ## The reference -/

section Reference

open Cert.ConvRefIdeal.Read

variable (x : Vec Ideal S8192x13312 .f32) (w : Vec Ideal S4x3072 .f32) (b : Vec Ideal S1x3072 .f32)

theorem padded (j : Cert.ConvRefIdeal.S8195x3072.Idx) :
    val_main_v1 (F := Ideal) x j = above (entry (a := 8192) (b := 13312) x) (j 0).val (j 1).val := by
  have h0 : (j 0).val < 8195 := (j 0).isLt
  have h1 : (j 1).val < 3072 := (j 1).isLt
  unfold val_main_v1 above
  by_cases h : 3 ≤ (j 0).val
  · rw [if_pos h, pad_apply_of_inside _ _ _ _ _ _ _ j (Idealize.ShloMosaic.ix2 ⟨(j 0).val - 3, by omega⟩ ⟨(j 1).val, h1⟩) (fun a => match a with
      | ⟨0, _⟩ => by show (j 0).val = 3 + ((j 0).val - 3) * (0 + 1); omega
      | ⟨1, _⟩ => by show (j 1).val = 0 + (j 1).val * (0 + 1); omega), val_main_v0_apply]
    exact eq_entry x _ rfl rfl
  · rw [if_neg h, pad_apply_of_not_inside _ _ _ _ _ _ _ j (0 : Fin 2) (by
      show ¬(3 ≤ (j 0).val ∧ ((j 0).val - 3) % (0 + 1) = 0 ∧ ((j 0).val - 3) / (0 + 1) < 8192)
      exact fun e => h e.1)]
    show ((((0#32 : BitVec 32).toInt : ℝ)) : EReal) = 0
    simp

theorem weight0 (i : S8192x3072.Idx) : val_main_v6 (F := Ideal) w i = entry (a := 4) (b := 3072) w 0 (i 1).val := by
  have h1 : (i 1).val < 3072 := (i 1).isLt
  rw [val_main_v6_apply, val_main_v5_apply, val_main_v3_apply, val_main_v2_apply]
  exact eq_entry w _ rfl (by show (i 1).val % 3072 = (i 1).val; omega)

theorem weight1 (i : S8192x3072.Idx) : val_main_v14 (F := Ideal) w i = entry (a := 4) (b := 3072) w 1 (i 1).val := by
  have h1 : (i 1).val < 3072 := (i 1).isLt
  rw [val_main_v14_apply, val_main_v13_apply, val_main_v11_apply, val_main_v10_apply]
  exact eq_entry w _ rfl (by show (i 1).val % 3072 = (i 1).val; omega)

theorem weight2 (i : S8192x3072.Idx) : val_main_v21 (F := Ideal) w i = entry (a := 4) (b := 3072) w 2 (i 1).val := by
  have h1 : (i 1).val < 3072 := (i 1).isLt
  rw [val_main_v21_apply, val_main_v20_apply, val_main_v18_apply, val_main_v17_apply]
  exact eq_entry w _ rfl (by show (i 1).val % 3072 = (i 1).val; omega)

theorem weight3 (i : S8192x3072.Idx) : val_main_v28 (F := Ideal) w i = entry (a := 4) (b := 3072) w 3 (i 1).val := by
  have h1 : (i 1).val < 3072 := (i 1).isLt
  rw [val_main_v28_apply, val_main_v27_apply, val_main_v25_apply, val_main_v24_apply]
  exact eq_entry w _ rfl (by show (i 1).val % 3072 = (i 1).val; omega)

theorem reference_taps (i : S8192x3072.Idx) : val_main_v30 (F := Ideal) x w b i
    = taps (above (entry (a := 8192) (b := 13312) x)) (entry (a := 4) (b := 3072) w) (entry (a := 1) (b := 3072) b) (i 0).val (i 1).val := by
  rw [val_main_v30_apply, val_main_v29_apply, val_main_v23_apply, val_main_v22_apply, val_main_v16_apply, val_main_v15_apply, val_main_v9_apply,
    val_main_v8_apply, val_main_v7_apply, weight0, weight1, weight2, weight3, val_main_v26_apply, val_main_v19_apply, val_main_v12_apply,
    val_main_v4_apply, padded, padded, padded, padded, eq_entry b (idx_main_v8 i) rfl rfl]
  unfold taps
  rw [show (i 0).val + 3 = 3 + (i 0).val by omega, show (i 0).val + 2 = 2 + (i 0).val by omega, show (i 0).val + 1 = 1 + (i 0).val by omega]
  generalize entry (a := 1) (b := 3072) b 0 (i 1).val = z
  show z + _ * above _ (i 0).val (i 1).val + _ * above _ (1 + (i 0).val) (i 1).val + _ * above _ (2 + (i 0).val) (i 1).val
    + _ * above _ (3 + (i 0).val) (i 1).val = _
  ac_rfl

theorem reference_eq (i : S8192x3072.Idx) : val_main_v31 (F := Ideal) x w b i
    = silu (taps (above (entry (a := 8192) (b := 13312) x)) (entry (a := 4) (b := 3072) w) (entry (a := 1) (b := 3072) b) (i 0).val (i 1).val) := by
  rw [val_main_v31_apply, val_main_call1_v5_apply, val_main_call1_v4_apply, val_main_call1_v3_apply, val_main_call1_v2_apply,
    val_main_call1_v1_apply, val_main_call1_v0_apply, reference_taps]
  unfold silu
  rw [← Ideal.ofBits_one_f32]
  rfl

end Reference

/-! ## The claims -/

theorem frame_reference : Cert.quiescent_ConvRefIdeal := fun m ρ _ =>
  (θ_run Cert.ConvRefIdeal.defs _ _).mono
    (fun r h => ⟨fun c => (h c).2, sem_eq_zero_of_no_sems (by decide) r.2⟩) (Cert.ConvRefIdeal.Value.run (F := Ideal) m ρ)

theorem algebraic : Cert.algebraic_ConvIdeal_ConvRefIdeal := by
  intro m ρ m' ρ' _ hagree
  refine ⟨fun c => whole m c, ?_, ?_⟩
  · exact (θ_run Cert.ConvIdeal.defs _ _).mono (fun r h c => ⟨(h c).1.trans (array_eq m c), (h c).2⟩) (run_blocks m ρ)
  · refine (θ_run Cert.ConvRefIdeal.defs _ _).mono (fun r h c => ⟨(h c).1.trans ?_, (h c).2⟩)
      (Cert.ConvRefIdeal.Value.run (F := Ideal) m' ρ')
    rw [Cert.ConvRefIdeal.Read.val_main_v31_eq, (hagree c).1, (hagree c).2.1, (hagree c).2.2]
    exact funext fun i => reference_eq _ _ _ i

end Products.Conv

end
-- ==== Proof.GateVal.lean ====
/- The gates of the two branches: the first half of the columns gated and normalised group by group, the second half gated. -/
module

public import proofs.«01_k».proof.Proof.Products
public import proofs.«01_k».proof.Proof.Gen.GateIdeal.Value
public import proofs.«01_k».proof.Proof.Gen.GateRefIdeal.Read
public import Idealize.ShloMosaic.Lib.VecWindow
public import proofs.«01_k».proof.Defs

@[expose] public section

set_option maxRecDepth 16384

noncomputable section

namespace Products.Gate

open Cert.GateIdeal Cert.GateIdeal.Gen Cert.GateIdeal.Value
open Idealize.ShloMosaic Idealize.ShloMosaic.TcCoe Idealize.SL Idealize.SL.Sem
open Finset (range)

/-- `z` times its logistic function. -/
def silu (z : EReal) : EReal := z * Ideal.div 1 (1 + Ideal.exp (-z))

/-- The inverse root of the mean of the squares of 512 numbers, from the sum of their squares. -/
def inverse (s : EReal) : EReal :=
  Ideal.rsqrt (Ideal.div s (Ideal.ofBits .f32 0x44000000#32) + Ideal.ofBits .f32 0x358637BD#32)

/-- A number of the rows `y` gated by `z`. -/
def gated (y z : ℕ → ℕ → EReal) (r d : ℕ) : EReal := y r d * silu (z r d)

/-- A number of the rows `y` gated by `z` and normalised in its group of 512 columns, with the weights `w`. -/
def normed (y z w : ℕ → ℕ → EReal) (r d : ℕ) : EReal :=
  gated y z r d * inverse (∑ k ∈ range 512, gated y z r (512 * (d / 512) + k) * gated y z r (512 * (d / 512) + k)) * w 0 d

/-- Both halves of the columns. -/
def halves (y o p w : ℕ → ℕ → EReal) (r d : ℕ) : EReal :=
  if d < 2048 then normed y p w r d else gated o (fun r d => p r (11264 + d)) r (d - 2048)

variable (m : (ℓ : Loc nD τ sig) → Buf (Elt Ideal) ℓ) (c : Dev nD)

/-- The recurrence's rows, the attention's rows, the projection and the weights. -/
abbrev Y : ℕ → ℕ → EReal := entry (a := 8192) (b := 2048) (m ((c : Thread nD τ).loc main_arg0))
abbrev O : ℕ → ℕ → EReal := entry (a := 8192) (b := 2048) (m ((c : Thread nD τ).loc main_arg1))
abbrev P : ℕ → ℕ → EReal := entry (a := 8192) (b := 13312) (m ((c : Thread nD τ).loc main_arg2))
abbrev W : ℕ → ℕ → EReal := entry (a := 1) (b := 2048) (m ((c : Thread nD τ).loc main_arg3))

theorem t_lt (t : Fin grid0.N) : t.val < 64 := lt_of_lt_of_eq t.isLt N_0

theorem coords_eq : ∀ t : Fin grid0.N, (grid0.coords t 0).val = t.val / 8 ∧ (grid0.coords t 1).val = t.val % 8 := by
  decide +kernel

theorem columns : ∀ n : Fin 8, (Scalar.minsi (BitVec.ofNat 32 n.val) 3#32).toNat = min n.val 3
    ∧ (Scalar.maxsi (Scalar.subi (BitVec.ofNat 32 n.val) 4#32) 0#32).toNat = n.val - 4
    ∧ (Scalar.select (Scalar.cmpi .slt (BitVec.ofNat 32 n.val) 4#32) (BitVec.ofNat 32 n.val)
        (Scalar.subi (Scalar.addi 22#32 (BitVec.ofNat 32 n.val)) 4#32)).toNat = if n.val < 4 then n.val else 18 + n.val := by
  decide +kernel

theorem row (i : grid0.Coords) : cc0_transform_0 i 0 = (i 0).val ∧ cc0_transform_1 i 0 = (i 0).val ∧ cc0_transform_2 i 0 = (i 0).val
    ∧ cc0_transform_4 i 0 = (i 0).val :=
  ⟨word_toNat (i 0) (by decide), word_toNat (i 0) (by decide), word_toNat (i 0) (by decide), word_toNat (i 0) (by decide)⟩

theorem col (i : grid0.Coords) : cc0_transform_0 i 1 = min (i 1).val 3 ∧ cc0_transform_1 i 1 = (i 1).val - 4
    ∧ cc0_transform_2 i 1 = (if (i 1).val < 4 then (i 1).val else 18 + (i 1).val) ∧ cc0_transform_3 i 1 = min (i 1).val 3
    ∧ cc0_transform_4 i 1 = (i 1).val :=
  ⟨(columns (i 1)).1, (columns (i 1)).2.1, (columns (i 1)).2.2, (columns (i 1)).1, word_toNat (i 1) (by decide)⟩

theorem y_block (t : Fin cfg0.N) (h : t.val % 8 ≤ 3) : Holds (a := 1024) (b := 512) (iblk m c 0 t)
    (fun r d => Y m c (1024 * (t.val / 8) + r) (512 * (t.val % 8) + d)) := fun r d => by
  obtain ⟨h0, h1⟩ := coords_eq t
  have e0 := (row (grid0.coords t)).1
  have e1 := (col (grid0.coords t)).1
  show V m c main_arg0 (((cfg0.win 0).blk t).view.emb (ix2 r d)) = _
  rw [V_main_arg0]
  refine eq_entry _ _ ?_ ?_
  · show cc0_transform_0 (grid0.coords t) 0 * 1024 + 1 * r.val = _
    rw [e0, h0]; omega
  · show cc0_transform_0 (grid0.coords t) 1 * 512 + 1 * d.val = _
    rw [e1, h1, Nat.min_eq_left h]; omega

theorem o_block (t : Fin cfg0.N) : Holds (a := 1024) (b := 512) (iblk m c 1 t)
    (fun r d => O m c (1024 * (t.val / 8) + r) (512 * (t.val % 8 - 4) + d)) := fun r d => by
  obtain ⟨h0, h1⟩ := coords_eq t
  have e0 := (row (grid0.coords t)).2.1
  have e1 := (col (grid0.coords t)).2.1
  show V m c main_arg1 (((cfg0.win 1).blk t).view.emb (ix2 r d)) = _
  rw [V_main_arg1]
  refine eq_entry _ _ ?_ ?_
  · show cc0_transform_1 (grid0.coords t) 0 * 1024 + 1 * r.val = _
    rw [e0, h0]; omega
  · show cc0_transform_1 (grid0.coords t) 1 * 512 + 1 * d.val = _
    rw [e1, h1]; omega

theorem p_block (t : Fin cfg0.N) : Holds (a := 1024) (b := 512) (iblk m c 2 t)
    (fun r d => P m c (1024 * (t.val / 8) + r) (512 * (if t.val % 8 < 4 then t.val % 8 else 18 + t.val % 8) + d)) := fun r d => by
  obtain ⟨h0, h1⟩ := coords_eq t
  have e0 := (row (grid0.coords t)).2.2.1
  have e1 := (col (grid0.coords t)).2.2.1
  show V m c main_arg2 (((cfg0.win 2).blk t).view.emb (ix2 r d)) = _
  rw [V_main_arg2]
  refine eq_entry _ _ ?_ ?_
  · show cc0_transform_2 (grid0.coords t) 0 * 1024 + 1 * r.val = _
    rw [e0, h0]; omega
  · show cc0_transform_2 (grid0.coords t) 1 * 512 + 1 * d.val = _
    rw [e1, h1]; omega

theorem w_block (t : Fin cfg0.N) (h : t.val % 8 ≤ 3) : Holds (a := 1) (b := 512) (iblk m c 3 t)
    (fun r d => W m c r (512 * (t.val % 8) + d)) := fun r d => by
  obtain ⟨h0, h1⟩ := coords_eq t
  have e1 := (col (grid0.coords t)).2.2.2.1
  show V m c main_arg3 (((cfg0.win 3).blk t).view.emb (ix2 r d)) = _
  rw [V_main_arg3]
  refine eq_entry _ _ ?_ ?_
  · show 0 * 1 + 1 * r.val = _
    omega
  · show cc0_transform_3 (grid0.coords t) 1 * 512 + 1 * d.val = _
    rw [e1, h1, Nat.min_eq_left h]; omega

/-! ## A point's block -/

section Block

variable {v0 v15 : Vec Ideal S1024x512 .f32} {v27 : Vec Ideal S1x512 .f32} {z y w : ℕ → ℕ → EReal}
  (hz : Holds (a := 1024) (b := 512) v0 z) (hy : Holds (a := 1024) (b := 512) v15 y) (hw : Holds (a := 1) (b := 512) v27 w)
include hz hy

theorem number (r : Fin 1024) (d : Fin 512) :
    v15 (ix2 r d) * (v0 (ix2 r d) * Ideal.div 1 (1 + Ideal.exp (0 - v0 (ix2 r d)))) = gated y z r.val d.val := by
  rw [hz r d, hy r d, sub_eq_add_neg, zero_add]
  rfl

theorem gated_is : Holds (a := 1024) (b := 512) (k0_pay3 v0 v15) (gated y z) := fun r d => by
  unfold k0_pay3 k0_pay1
  pointwise
  exact number hz hy r d

include hw in
theorem normed_is : Holds (a := 1024) (b := 512) (k0_pay2 v0 v15 v27)
    (fun r d => gated y z r d * inverse (∑ k ∈ range 512, gated y z r k * gated y z r k) * w 0 d) := fun r d => by
  unfold k0_pay2 k0_pay1
  pointwise
  refine congrArg₂ (· * ·) (congrArg₂ (· * ·) (number hz hy r d) (congrArg inverse ?_)) (hw 0 d)
  exact sum_number (fun k : Fin 512 => v15 (ix2 r k) * (v0 (ix2 r k) * Ideal.div 1 (1 + Ideal.exp (0 - v0 (ix2 r k)))))
    (fun k : Fin 512 => v15 (ix2 r k) * (v0 (ix2 r k) * Ideal.div 1 (1 + Ideal.exp (0 - v0 (ix2 r k))))) _ _
    (fun k => number hz hy r k) (fun k => number hz hy r k)

end Block

/-! ## What the cases leave -/

section Cases

variable (c : Dev nD) (i : grid0.Coords) (a1 : Memref sig .tc .vmem S1024x512 .f32) (h1 : a1.IsWhole) (a2 : Memref sig .tc .vmem S1024x512 .f32) (h2 : a2.IsWhole)
  (a3 : Memref sig .tc .vmem S1024x512 .f32) (h3 : a3.IsWhole) (a4 : Memref sig .tc .vmem S1x512 .f32) (h4 : a4.IsWhole)
  (a5 : Memref sig .tc .vmem S1024x512 .bf16) (h5 : a5.IsWhole) (x0 x1 x2 : Vec Ideal S1024x512 .f32) (x3 : Vec Ideal S1x512 .f32)

theorem first_half (c0 : cond0_0 i) (c1 : ¬cond0_1 i) :
    out0_A_4 c i a1 h1 a2 h2 a3 h3 a4 h4 a5 h5 c0 c1 x0 x1 x2 x3 = k0_pay2 x2 x0 x3 := by
  unfold out0_A_4
  rw [View.read_writes_eq_canon _ _ _ (cover0_A_4 c i a1 h1 a2 h2 a3 h3 a4 h4 a5 h5 c0 c1 x0 x1 x2 x3)]
  unfold kernelRun0_A
  dsimp only
  sl_unfold_words
  rw [View.canon_unit_zero zero_offsets]
  simp only [View.readAt_eq_ld, h1.read_unread, h3.read_unread, h4.read_unread, View.ld_unit_zero (S := S1024x512) zero_offsets,
    View.ld_unit_zero (S := S1x512) zero_offsets]

theorem second_half (c0 : ¬cond0_0 i) (c1 : cond0_1 i) :
    out0_B_4 c i a1 h1 a2 h2 a3 h3 a4 h4 a5 h5 c0 c1 x0 x1 x2 x3 = k0_pay3 x2 x1 := by
  unfold out0_B_4
  rw [View.read_writes_eq_canon _ _ _ (cover0_B_4 c i a1 h1 a2 h2 a3 h3 a4 h4 a5 h5 c0 c1 x0 x1 x2 x3)]
  unfold kernelRun0_B
  dsimp only
  sl_unfold_words
  rw [View.canon_unit_zero zero_offsets]
  simp only [View.readAt_eq_ld, h2.read_unread, h3.read_unread, View.ld_unit_zero (S := S1024x512) zero_offsets]

end Cases

theorem out_at (t : Fin cfg0.N) : Holds (a := 1024) (b := 512) (outsAt0 m c t.val t.isLt)
    (fun r d => halves (Y m c) (O m c) (P m c) (W m c) (1024 * (t.val / 8) + r) (512 * (t.val % 8) + d)) := by
  by_cases h : t.val % 8 ≤ 3
  · rw [outsAt0_A m c t h (by omega), first_half]
    refine (normed_is (p_block m c t) (y_block m c t h) (w_block m c t h)).congr fun r _ d hd => ?_
    rw [if_pos (show t.val % 8 < 4 by omega)]
    unfold halves normed
    rw [if_pos (by omega), show (512 * (t.val % 8) + d) / 512 = t.val % 8 by omega]
    rfl
  · rw [outsAt0_B m c t h (by omega), second_half]
    refine (gated_is (p_block m c t) (o_block m c t)).congr fun r _ d hd => ?_
    rw [if_neg (show ¬t.val % 8 < 4 by omega)]
    unfold halves
    rw [if_neg (by omega), show 512 * (t.val % 8) + d - 2048 = 512 * (t.val % 8 - 4) + d by omega]
    unfold gated
    dsimp only
    rw [show 512 * (18 + t.val % 8) + d = 11264 + (512 * (t.val % 8 - 4) + d) by omega]

/-- The whole result. -/
def whole : S8192x4096.Idx → EReal := fun i => halves (Y m c) (O m c) (P m c) (W m c) (i 0).val (i 1).val

theorem covers : (cfg0.win 4).Covers :=
  Pipeline.Window.covers_of_indexMap_surj _ rfl (by decide) fun β => by
    have h0 : (β 0).val < 8 := (β 0).isLt
    have h1 : (β 1).val < 8 := (β 1).isLt
    let t : Fin grid0.N := ⟨8 * (β 0).val + (β 1).val, by rw [N_0]; omega⟩
    obtain ⟨c0, c1⟩ := coords_eq t
    have e0 := (row (grid0.coords t)).2.2.2
    have e1 := (col (grid0.coords t)).2.2.2.2
    refine ⟨grid0.coords t, fun a => ?_⟩
    match a with
    | ⟨0, _⟩ => exact (e0.trans c0).trans (by show (8 * (β 0).val + (β 1).val) / 8 = (β 0).val; omega)
    | ⟨1, _⟩ => exact (e1.trans c1).trans (by show (8 * (β 0).val + (β 1).val) % 8 = (β 1).val; omega)

theorem array_eq : (dats m 0 c).arrAt 4 cfg0.N = whole m c := by
  refine (dats m 0 c).arrAt_eq_of_covers 4 _ covers fun t _ y => ?_
  obtain ⟨c0, c1⟩ := coords_eq t
  have e0 := (row (grid0.coords t)).2.2.2
  have e1 := (col (grid0.coords t)).2.2.2.2
  blk_simp
  rw [after0_4]
  refine ((out_at m c t).at y).trans ?_
  show _ = halves (Y m c) (O m c) (P m c) (W m c) (cc0_transform_4 (grid0.coords t) 0 * 1024 + 1 * (y 0).val)
    (cc0_transform_4 (grid0.coords t) 1 * 512 + 1 * (y 1).val)
  rw [e0, e1, c0, c1, show t.val / 8 * 1024 + 1 * (y 0).val = 1024 * (t.val / 8) + (y 0).val by omega,
    show t.val % 8 * 512 + 1 * (y 1).val = 512 * (t.val % 8) + (y 1).val by omega]

/-! ## The reference -/

section Reference

open Cert.GateRefIdeal.Read

variable (y o : Vec Ideal S8192x2048 .f32) (p : Vec Ideal S8192x13312 .f32) (w : Vec Ideal S1x2048 .f32)

abbrev f : ℕ → ℕ → EReal := gated (entry (a := 8192) (b := 2048) y) (entry (a := 8192) (b := 13312) p)

theorem reference_gated (i : S8192x2048.Idx) : val_main_v3 (F := Ideal) y p i = f y p (i 0).val (i 1).val := by
  rw [val_main_v3_apply, val_main_v2_apply, val_main_call0_v5_apply, val_main_call0_v4_apply, val_main_call0_v3_apply,
    val_main_call0_v2_apply, val_main_call0_v1_apply, val_main_call0_v0_apply, val_main_v0_apply,
    eq_entry y i rfl rfl, eq_entry p (idx_main_v0 i) rfl rfl]
  unfold f gated silu
  rw [← Ideal.ofBits_one_f32]
  rfl

theorem reference_other (i : S8192x2048.Idx) : val_main_v19 (F := Ideal) o p i
    = gated (entry (a := 8192) (b := 2048) o) (fun r d => entry (a := 8192) (b := 13312) p r (11264 + d)) (i 0).val (i 1).val := by
  rw [val_main_v19_apply, val_main_v18_apply, val_main_call1_v5_apply, val_main_call1_v4_apply, val_main_call1_v3_apply,
    val_main_call1_v2_apply, val_main_call1_v1_apply, val_main_call1_v0_apply, val_main_v1_apply,
    eq_entry o i rfl rfl, eq_entry p (idx_main_v1 i) rfl rfl]
  unfold gated silu
  rw [← Ideal.ofBits_one_f32]
  rfl

theorem reference_group (i : Cert.GateRefIdeal.S8192x4x512.Idx) : val_main_v4 (F := Ideal) y p i
    = f y p (i 0).val (512 * (i 1).val + (i 2).val) := by
  have h0 : (i 0).val < 8192 := (i 0).isLt
  have h1 : (i 1).val < 4 := (i 1).isLt
  have h2 : (i 2).val < 512 := (i 2).isLt
  rw [val_main_v4_apply, reference_gated]
  exact congrArg₂ (f y p) (by show (((i 0).val * 4 + (i 1).val) * 512 + (i 2).val) / 2048 = (i 0).val; omega)
    (by show (((i 0).val * 4 + (i 1).val) * 512 + (i 2).val) % 2048 = 512 * (i 1).val + (i 2).val; omega)

theorem reference_inverse (i : Cert.GateRefIdeal.S8192x4x512.Idx) : val_main_v13 (F := Ideal) y p i
    = inverse (∑ k ∈ range 512, f y p (i 0).val (512 * (i 1).val + k) * f y p (i 0).val (512 * (i 1).val + k)) := by
  rw [val_main_v13_apply, val_main_v12_apply, val_main_v11_apply, val_main_v10_apply, val_main_v9_apply, val_main_v8_apply,
    val_main_v7_apply, val_main_v6_apply]
  refine congrArg inverse (?_ : Ideal.ofBits .f32 0x00000000#32 + ∑ k : Fin 512, val_main_v5 (F := Ideal) y p _ = _)
  rw [Ideal.ofBits_zero_f32, zero_add]
  exact sum_number (fun k : Fin 512 => val_main_v4 (F := Ideal) y p (idx_main_v6 (idx_main_v7 (idx_main_v13 i)) k))
    (fun k : Fin 512 => val_main_v4 (F := Ideal) y p (idx_main_v6 (idx_main_v7 (idx_main_v13 i)) k)) _ _
    (fun k => reference_group y p _) (fun k => reference_group y p _)

theorem reference_normed (i : S8192x2048.Idx) : val_main_v17 (F := Ideal) y p w i
    = normed (entry (a := 8192) (b := 2048) y) (entry (a := 8192) (b := 13312) p) (entry (a := 1) (b := 2048) w) (i 0).val (i 1).val := by
  have h0 : (i 0).val < 8192 := (i 0).isLt
  have h1 : (i 1).val < 2048 := (i 1).isLt
  rw [val_main_v17_apply, val_main_v16_apply, val_main_v15_apply, val_main_v14_apply, reference_group, reference_inverse,
    eq_entry w (idx_main_v16 i) rfl rfl]
  have e0 : (idx_main_v15 i 0).val = (i 0).val := by show ((i 0).val * 2048 + (i 1).val) / 2048 = (i 0).val; omega
  have e1 : (idx_main_v15 i 1).val = (i 1).val / 512 := by show ((i 0).val * 2048 + (i 1).val) / 512 % 4 = (i 1).val / 512; omega
  have e2 : (idx_main_v15 i 2).val = (i 1).val % 512 := by show ((i 0).val * 2048 + (i 1).val) % 512 = (i 1).val % 512; omega
  rw [e0, e1, e2, show 512 * ((i 1).val / 512) + (i 1).val % 512 = (i 1).val by omega]
  rfl

theorem reference_eq (i : S8192x4096.Idx) : val_main_v21 (F := Ideal) y o p w i
    = halves (entry (a := 8192) (b := 2048) y) (entry (a := 8192) (b := 2048) o) (entry (a := 8192) (b := 13312) p)
      (entry (a := 1) (b := 2048) w) (i 0).val (i 1).val := by
  have h0 : (i 0).val < 8192 := (i 0).isLt
  have h1 : (i 1).val < 4096 := (i 1).isLt
  rw [val_main_v21_apply]
  show val_main_v20 (F := Ideal) y o p w i = _
  unfold val_main_v20 halves
  by_cases h : (i 1).val < 2048
  · rw [if_pos h]
    refine (concatenate_pair_apply_left (s₁ := S8192x2048) (s₂ := S8192x2048) (1 : Fin 2) _ _ _ i rfl (Idealize.ShloMosaic.ix2 ⟨(i 0).val, h0⟩ ⟨(i 1).val, h⟩) (fun b => match b with
      | ⟨0, _⟩ => rfl
      | ⟨1, _⟩ => rfl)).trans (reference_normed y p w _)
  · rw [if_neg h]
    refine (concatenate_pair_apply_right (s₁ := S8192x2048) (s₂ := S8192x2048) (1 : Fin 2) _ _ _ i rfl rfl
      (Idealize.ShloMosaic.ix2 ⟨(i 0).val, h0⟩ ⟨(i 1).val - 2048, by omega⟩) (fun b hb => match b, hb with
      | ⟨0, _⟩, _ => rfl
      | ⟨1, _⟩, hb => absurd rfl hb) (by show (i 1).val - 2048 + 2048 = (i 1).val; omega)).trans (reference_other o p _)

end Reference

/-! ## The claims -/

theorem frame_reference : Cert.quiescent_GateRefIdeal := fun m ρ _ =>
  (θ_run Cert.GateRefIdeal.defs _ _).mono
    (fun r h => ⟨fun c => (h c).2, sem_eq_zero_of_no_sems (by decide) r.2⟩) (Cert.GateRefIdeal.Value.run (F := Ideal) m ρ)

theorem algebraic : Cert.algebraic_GateIdeal_GateRefIdeal := by
  intro m ρ m' ρ' _ hagree
  refine ⟨fun c => whole m c, ?_, ?_⟩
  · exact (θ_run Cert.GateIdeal.defs _ _).mono (fun r h c => ⟨(h c).1.trans (array_eq m c), (h c).2⟩) (run_blocks m ρ)
  · refine (θ_run Cert.GateRefIdeal.defs _ _).mono (fun r h c => ⟨(h c).1.trans ?_, (h c).2⟩)
      (Cert.GateRefIdeal.Value.run (F := Ideal) m' ρ')
    rw [Cert.GateRefIdeal.Read.val_main_v21_eq, (hagree c).1, (hagree c).2.1, (hagree c).2.2.1, (hagree c).2.2.2]
    exact funext fun i => reference_eq _ _ _ _ i

end Products.Gate

end
-- ==== Proof.Optimiser.lean ====
/- One step of the optimiser for one number of the weights, and the entries of an array of three axes. -/
module

public import proofs.«01_k».proof.Proof.Products

@[expose] public section

set_option maxRecDepth 16384

noncomputable section

namespace Products.Step

open Idealize.ShloMosaic
open Finset (range)

/-- The entry of an array of three axes at natural numbers. -/
def entry3 {a b c : ℕ} (X : (⟨3, ![a, b, c]⟩ : Shape).Idx → EReal) (s r d : ℕ) : EReal :=
  if h : s < a ∧ r < b ∧ d < c then X (ix3 ⟨s, h.1⟩ ⟨r, h.2.1⟩ ⟨d, h.2.2⟩) else 0

theorem eq_entry3 {a b c : ℕ} (X : (⟨3, ![a, b, c]⟩ : Shape).Idx → EReal) (i : (⟨3, ![a, b, c]⟩ : Shape).Idx) {s r d : ℕ}
    (h0 : (i 0).val = s) (h1 : (i 1).val = r) (h2 : (i 2).val = d) : X i = entry3 X s r d := by
  subst h0 h1 h2
  unfold entry3
  rw [dif_pos ⟨(i 0).isLt, (i 1).isLt, (i 2).isLt⟩]
  exact congrArg X (funext fun a => match a with
    | ⟨0, _⟩ => rfl
    | ⟨1, _⟩ => rfl
    | ⟨2, _⟩ => rfl)

/-- The sum of the first `n` parts of the gradient. -/
def total (p : ℕ → ℕ → ℕ → EReal) (n r d : ℕ) : EReal := ∑ s ∈ range n, p s r d

/-- The new first moment from the old one and the gradient. -/
def first (g m : EReal) : EReal := Ideal.ofBits .f32 0x3F666666#32 * m + Ideal.ofBits .f32 0x3DCCCCCD#32 * g

/-- The new second moment from the old one and the gradient. -/
def second (g v : EReal) : EReal := Ideal.ofBits .f32 0x3F7FBE77#32 * v + Ideal.ofBits .f32 0x3A83126F#32 * (g * g)

/-- The step of a weight from the weight and its new moments. -/
def step (w m v : EReal) : EReal :=
  Ideal.ofBits .f32 0xBA83126F#32 * (Ideal.div (Ideal.div m (Ideal.ofBits .f32 0x3F26BD02#32)) (Ideal.sqrt (Ideal.div v (Ideal.ofBits .f32 0x3C231ACC#32)) + Ideal.ofBits .f32 0x322BCC77#32)
    + Ideal.ofBits .f32 0x3C23D70A#32 * w)

end Products.Step

end
-- ==== Proof.AdamInVal.lean ====
/- The optimiser's step for the input projection's weights: every grid point takes its own rows. -/
module

public import proofs.«01_k».proof.Proof.Optimiser
public import proofs.«01_k».proof.Proof.Gen.AdamInIdeal.Value
public import proofs.«01_k».proof.Proof.Gen.AdamInRefIdeal.Read
public import Idealize.ShloMosaic.Lib.Pipeline.ValueKit.Tiles
public import proofs.«01_k».proof.Defs

@[expose] public section

set_option maxRecDepth 16384

noncomputable section

namespace Products.AdamIn

open Cert.AdamInIdeal Cert.AdamInIdeal.Gen Cert.AdamInIdeal.Value
open Idealize.ShloMosaic Idealize.ShloMosaic.TcCoe Idealize.SL Idealize.SL.Sem
open Products.Step

variable (m : (ℓ : Loc nD τ sig) → Buf (Elt Ideal) ℓ) (c : Dev nD)

/-- The parts of the gradient, the weights and the two moments. -/
abbrev G : ℕ → ℕ → ℕ → EReal := entry3 (a := 4) (b := 8192) (c := 1668) (m ((c : Thread nD τ).loc main_arg0))
abbrev W : ℕ → ℕ → EReal := entry (a := 8192) (b := 1668) (m ((c : Thread nD τ).loc main_arg1))
abbrev M : ℕ → ℕ → EReal := entry (a := 8192) (b := 1668) (m ((c : Thread nD τ).loc main_arg2))
abbrev U : ℕ → ℕ → EReal := entry (a := 8192) (b := 1668) (m ((c : Thread nD τ).loc main_arg3))

theorem coords_eq : ∀ t : Fin grid0.N, (grid0.coords t 0).val = t.val := by
  decide +kernel

theorem row (i : grid0.Coords) : (BitVec.ofNat 32 (i 0).val).toNat = (i 0).val := word_toNat (i 0) (by decide)

theorem part_block (t : Fin cfg0.N) (s : Fin 4) (r : Fin 128) (d : Fin 1668) :
    iblk m c 0 t (ix3 s r d) = G m c s.val (128 * t.val + r.val) d.val := by
  have h0 := coords_eq t
  have e0 : cc0_transform_0 (grid0.coords t) 1 = (grid0.coords t 0).val := row _
  show V m c main_arg0 (((cfg0.win 0).blk t).view.emb (ix3 s r d)) = _
  rw [V_main_arg0]
  refine eq_entry3 _ _ ?_ ?_ ?_
  · show 0 * 4 + 1 * s.val = _
    omega
  · show cc0_transform_0 (grid0.coords t) 1 * 128 + 1 * r.val = _
    rw [e0, h0]; omega
  · show 0 * 1668 + 1 * d.val = _
    omega

theorem block1 (t : Fin cfg0.N) : Holds (a := 128) (b := 1668) (iblk m c 1 t) (fun r d => W m c (128 * t.val + r) d) := fun r d => by
  have h0 := coords_eq t
  have e0 : cc0_transform_1 (grid0.coords t) 0 = (grid0.coords t 0).val := row _
  show V m c main_arg1 (((cfg0.win 1).blk t).view.emb (ix2 r d)) = _
  rw [V_main_arg1]
  refine eq_entry _ _ ?_ ?_
  · show cc0_transform_1 (grid0.coords t) 0 * 128 + 1 * r.val = _
    rw [e0, h0]; omega
  · show 0 * 1668 + 1 * d.val = _
    omega

theorem block2 (t : Fin cfg0.N) : Holds (a := 128) (b := 1668) (iblk m c 2 t) (fun r d => M m c (128 * t.val + r) d) := fun r d => by
  have h0 := coords_eq t
  have e0 : cc0_transform_2 (grid0.coords t) 0 = (grid0.coords t 0).val := row _
  show V m c main_arg2 (((cfg0.win 2).blk t).view.emb (ix2 r d)) = _
  rw [V_main_arg2]
  refine eq_entry _ _ ?_ ?_
  · show cc0_transform_2 (grid0.coords t) 0 * 128 + 1 * r.val = _
    rw [e0, h0]; omega
  · show 0 * 1668 + 1 * d.val = _
    omega

theorem block3 (t : Fin cfg0.N) : Holds (a := 128) (b := 1668) (iblk m c 3 t) (fun r d => U m c (128 * t.val + r) d) := fun r d => by
  have h0 := coords_eq t
  have e0 : cc0_transform_3 (grid0.coords t) 0 = (grid0.coords t 0).val := row _
  show V m c main_arg3 (((cfg0.win 3).blk t).view.emb (ix2 r d)) = _
  rw [V_main_arg3]
  refine eq_entry _ _ ?_ ?_
  · show cc0_transform_3 (grid0.coords t) 0 * 128 + 1 * r.val = _
    rw [e0, h0]; omega
  · show 0 * 1668 + 1 * d.val = _
    omega

/-! ## A point's block -/

theorem sum_at (t : Fin cfg0.N) : Holds (a := 128) (b := 1668)
    (k0_pay2 (View.ld (Val := Elt Ideal) (iblk m c 0 t) r0_0) (View.ld (Val := Elt Ideal) (iblk m c 0 t) r0_1) (View.ld (Val := Elt Ideal) (iblk m c 0 t) r0_2) (View.ld (Val := Elt Ideal) (iblk m c 0 t) r0_3))
    (fun r d => total (G m c) 4 (128 * t.val + r) d) := fun r d => by
  unfold k0_pay2
  pointwise
  unfold total
  rw [Finset.sum_range_succ, Finset.sum_range_succ, Finset.sum_range_succ, Finset.sum_range_succ, Finset.sum_range_zero, zero_add]
  exact congrArg₂ (· + ·) (congrArg₂ (· + ·) (congrArg₂ (· + ·) (part_block m c t ⟨0, by decide⟩ r d) (part_block m c t ⟨1, by decide⟩ r d)) (part_block m c t ⟨2, by decide⟩ r d)) (part_block m c t ⟨3, by decide⟩ r d)

theorem first_is {p0 p1 p2 p3 : Vec Ideal S1x128x1668 .bf16} {v : Vec Ideal S128x1668 .f32} {g f : ℕ → ℕ → EReal}
    (hg : Holds (a := 128) (b := 1668) (k0_pay2 p0 p1 p2 p3) g) (hv : Holds (a := 128) (b := 1668) v f) :
    Holds (a := 128) (b := 1668) (k0_pay3 p0 p1 p2 p3 v) (fun r d => first (g r d) (f r d)) := fun r d => by
  unfold k0_pay3
  generalize k0_pay2 p0 p1 p2 p3 = s at hg ⊢
  pointwise
  rw [hg r d, hv r d]
  rfl

theorem second_is {p0 p1 p2 p3 : Vec Ideal S1x128x1668 .bf16} {v : Vec Ideal S128x1668 .f32} {g f : ℕ → ℕ → EReal}
    (hg : Holds (a := 128) (b := 1668) (k0_pay2 p0 p1 p2 p3) g) (hv : Holds (a := 128) (b := 1668) v f) :
    Holds (a := 128) (b := 1668) (k0_pay4 p0 p1 p2 p3 v) (fun r d => second (g r d) (f r d)) := fun r d => by
  unfold k0_pay4
  generalize k0_pay2 p0 p1 p2 p3 = s at hg ⊢
  pointwise
  rw [hg r d, hv r d]
  rfl

theorem step_is {a b w : Vec Ideal S128x1668 .f32} {f g h : ℕ → ℕ → EReal} (ha : Holds (a := 128) (b := 1668) a f)
    (hb : Holds (a := 128) (b := 1668) b g) (hw : Holds (a := 128) (b := 1668) w h) :
    Holds (a := 128) (b := 1668) (k0_pay1 a b w) (fun r d => step (h r d) (f r d) (g r d)) := fun r d => by
  unfold k0_pay1
  pointwise
  rw [ha r d, hb r d, hw r d]
  rfl

/-- What the four results hold: the gradient, the step, the new moments. -/
def gradient (r d : ℕ) : EReal := total (G m c) 4 r d
def moment1 (r d : ℕ) : EReal := first (gradient m c r d) (M m c r d)
def moment2 (r d : ℕ) : EReal := second (gradient m c r d) (U m c r d)
def change (r d : ℕ) : EReal := step (W m c r d) (moment1 m c r d) (moment2 m c r d)

theorem at4 (t : Fin cfg0.N) : Holds (a := 128) (b := 1668) (out0_4 (iblk m c 0 t) (iblk m c 1 t) (iblk m c 2 t) (iblk m c 3 t))
    (fun r d => gradient m c (128 * t.val + r) d) := by
  unfold out0_4
  rw [View.canon_unit_zero zero_offsets]
  exact sum_at m c t

theorem at6 (t : Fin cfg0.N) : Holds (a := 128) (b := 1668) (out0_6 (iblk m c 0 t) (iblk m c 1 t) (iblk m c 2 t) (iblk m c 3 t))
    (fun r d => moment1 m c (128 * t.val + r) d) := by
  unfold out0_6
  rw [View.canon_unit_zero zero_offsets, View.ld_unit_zero (S := S128x1668) zero_offsets]
  exact first_is (sum_at m c t) (block2 m c t)

theorem at_second (t : Fin cfg0.N) : Holds (a := 128) (b := 1668) (k0_pay5 (iblk m c 0 t) (iblk m c 1 t) (iblk m c 2 t) (iblk m c 3 t))
    (fun r d => moment2 m c (128 * t.val + r) d) := by
  unfold k0_pay5
  rw [View.ld_unit_zero (S := S128x1668) zero_offsets]
  exact second_is (sum_at m c t) (block3 m c t)

theorem at7 (t : Fin cfg0.N) : Holds (a := 128) (b := 1668) (out0_7 (iblk m c 0 t) (iblk m c 1 t) (iblk m c 2 t) (iblk m c 3 t))
    (fun r d => moment2 m c (128 * t.val + r) d) := by
  unfold out0_7
  rw [View.canon_unit_zero zero_offsets]
  exact at_second m c t

theorem at5 (t : Fin cfg0.N) : Holds (a := 128) (b := 1668) (out0_5 (iblk m c 0 t) (iblk m c 1 t) (iblk m c 2 t) (iblk m c 3 t))
    (fun r d => change m c (128 * t.val + r) d) := by
  unfold out0_5
  rw [View.canon_unit_zero zero_offsets, View.ld_unit_zero (S := S128x1668) zero_offsets, View.ld_unit_zero (S := S128x1668) zero_offsets]
  exact step_is (first_is (sum_at m c t) (block2 m c t)) (at_second m c t) (block1 m c t)

/-! ## The whole arrays -/

/-- The array with the entries `f`. -/
def whole (f : ℕ → ℕ → EReal) : S8192x1668.Idx → EReal := fun i => f (i 0).val (i 1).val

theorem covers4 : (cfg0.win 4).Covers :=
  Pipeline.Window.covers_of_indexMap_surj _ rfl (by decide) fun β => by
    have h0 : (β 0).val < 64 := (β 0).isLt
    have h1 : (β 1).val < 1 := (β 1).isLt
    let t : Fin grid0.N := ⟨(β 0).val, by rw [N_0]; omega⟩
    have c0 := coords_eq t
    refine ⟨grid0.coords t, fun a => ?_⟩
    match a with
    | ⟨0, _⟩ => exact (row _).trans c0
    | ⟨1, _⟩ => show 0 = (β 1).val; omega

theorem array4 : (dats m 0 c).arrAt 4 cfg0.N = whole (gradient m c) := by
  refine (dats m 0 c).arrAt_eq_of_covers 4 _ covers4 fun t _ y => ?_
  have c0 := coords_eq t
  have e0 : cc0_transform_4 (grid0.coords t) 0 = (grid0.coords t 0).val := row _
  blk_simp
  rw [after0_4]
  refine ((at4 m c t).at y).trans ?_
  show _ = gradient m c (cc0_transform_4 (grid0.coords t) 0 * 128 + 1 * (y 0).val) (0 * 1668 + 1 * (y 1).val)
  rw [e0, c0, show t.val * 128 + 1 * (y 0).val = 128 * t.val + (y 0).val by omega,
    show 0 * 1668 + 1 * (y 1).val = (y 1).val by omega]

theorem covers5 : (cfg0.win 5).Covers :=
  Pipeline.Window.covers_of_indexMap_surj _ rfl (by decide) fun β => by
    have h0 : (β 0).val < 64 := (β 0).isLt
    have h1 : (β 1).val < 1 := (β 1).isLt
    let t : Fin grid0.N := ⟨(β 0).val, by rw [N_0]; omega⟩
    have c0 := coords_eq t
    refine ⟨grid0.coords t, fun a => ?_⟩
    match a with
    | ⟨0, _⟩ => exact (row _).trans c0
    | ⟨1, _⟩ => show 0 = (β 1).val; omega

theorem array5 : (dats m 0 c).arrAt 5 cfg0.N = whole (change m c) := by
  refine (dats m 0 c).arrAt_eq_of_covers 5 _ covers5 fun t _ y => ?_
  have c0 := coords_eq t
  have e0 : cc0_transform_5 (grid0.coords t) 0 = (grid0.coords t 0).val := row _
  blk_simp
  rw [after0_5]
  refine ((at5 m c t).at y).trans ?_
  show _ = change m c (cc0_transform_5 (grid0.coords t) 0 * 128 + 1 * (y 0).val) (0 * 1668 + 1 * (y 1).val)
  rw [e0, c0, show t.val * 128 + 1 * (y 0).val = 128 * t.val + (y 0).val by omega,
    show 0 * 1668 + 1 * (y 1).val = (y 1).val by omega]

theorem covers6 : (cfg0.win 6).Covers :=
  Pipeline.Window.covers_of_indexMap_surj _ rfl (by decide) fun β => by
    have h0 : (β 0).val < 64 := (β 0).isLt
    have h1 : (β 1).val < 1 := (β 1).isLt
    let t : Fin grid0.N := ⟨(β 0).val, by rw [N_0]; omega⟩
    have c0 := coords_eq t
    refine ⟨grid0.coords t, fun a => ?_⟩
    match a with
    | ⟨0, _⟩ => exact (row _).trans c0
    | ⟨1, _⟩ => show 0 = (β 1).val; omega

theorem array6 : (dats m 0 c).arrAt 6 cfg0.N = whole (moment1 m c) := by
  refine (dats m 0 c).arrAt_eq_of_covers 6 _ covers6 fun t _ y => ?_
  have c0 := coords_eq t
  have e0 : cc0_transform_6 (grid0.coords t) 0 = (grid0.coords t 0).val := row _
  blk_simp
  rw [after0_6]
  refine ((at6 m c t).at y).trans ?_
  show _ = moment1 m c (cc0_transform_6 (grid0.coords t) 0 * 128 + 1 * (y 0).val) (0 * 1668 + 1 * (y 1).val)
  rw [e0, c0, show t.val * 128 + 1 * (y 0).val = 128 * t.val + (y 0).val by omega,
    show 0 * 1668 + 1 * (y 1).val = (y 1).val by omega]

theorem covers7 : (cfg0.win 7).Covers :=
  Pipeline.Window.covers_of_indexMap_surj _ rfl (by decide) fun β => by
    have h0 : (β 0).val < 64 := (β 0).isLt
    have h1 : (β 1).val < 1 := (β 1).isLt
    let t : Fin grid0.N := ⟨(β 0).val, by rw [N_0]; omega⟩
    have c0 := coords_eq t
    refine ⟨grid0.coords t, fun a => ?_⟩
    match a with
    | ⟨0, _⟩ => exact (row _).trans c0
    | ⟨1, _⟩ => show 0 = (β 1).val; omega

theorem array7 : (dats m 0 c).arrAt 7 cfg0.N = whole (moment2 m c) := by
  refine (dats m 0 c).arrAt_eq_of_covers 7 _ covers7 fun t _ y => ?_
  have c0 := coords_eq t
  have e0 : cc0_transform_7 (grid0.coords t) 0 = (grid0.coords t 0).val := row _
  blk_simp
  rw [after0_7]
  refine ((at7 m c t).at y).trans ?_
  show _ = moment2 m c (cc0_transform_7 (grid0.coords t) 0 * 128 + 1 * (y 0).val) (0 * 1668 + 1 * (y 1).val)
  rw [e0, c0, show t.val * 128 + 1 * (y 0).val = 128 * t.val + (y 0).val by omega,
    show 0 * 1668 + 1 * (y 1).val = (y 1).val by omega]

/-! ## The reference -/

section Reference

open Cert.AdamInRefIdeal.Read

variable (g : Vec Ideal S4x8192x1668 .bf16) (w a b : Vec Ideal S8192x1668 .f32)

theorem reference_gradient (i : S8192x1668.Idx) : val_main_v1 (F := Ideal) g i
    = total (entry3 (a := 4) (b := 8192) (c := 1668) g) 4 (i 0).val (i 1).val := by
  rw [val_main_v1_apply]
  show Ideal.ofBits .f32 0x00000000#32 + _ = _
  rw [Ideal.ofBits_zero_f32, zero_add]
  unfold total
  rw [Finset.sum_range]
  exact Finset.sum_congr rfl fun k _ => eq_entry3 g _ rfl rfl rfl

theorem reference_first (i : S8192x1668.Idx) : val_main_v6 (F := Ideal) g a i
    = first (total (entry3 (a := 4) (b := 8192) (c := 1668) g) 4 (i 0).val (i 1).val) (entry (a := 8192) (b := 1668) a (i 0).val (i 1).val) := by
  rw [val_main_v6_apply, val_main_v5_apply, val_main_v4_apply, val_main_v3_apply, val_main_v2_apply, reference_gradient, eq_entry a i rfl rfl]
  rfl

theorem reference_second (i : S8192x1668.Idx) : val_main_v12 (F := Ideal) g b i
    = second (total (entry3 (a := 4) (b := 8192) (c := 1668) g) 4 (i 0).val (i 1).val) (entry (a := 8192) (b := 1668) b (i 0).val (i 1).val) := by
  rw [val_main_v12_apply, val_main_v11_apply, val_main_v10_apply, val_main_v9_apply, val_main_v8_apply, val_main_v7_apply,
    reference_gradient, eq_entry b i rfl rfl]
  rfl

theorem reference_step (i : S8192x1668.Idx) : val_main_v25 (F := Ideal) g w a b i
    = step (entry (a := 8192) (b := 1668) w (i 0).val (i 1).val)
      (first (total (entry3 (a := 4) (b := 8192) (c := 1668) g) 4 (i 0).val (i 1).val) (entry (a := 8192) (b := 1668) a (i 0).val (i 1).val))
      (second (total (entry3 (a := 4) (b := 8192) (c := 1668) g) 4 (i 0).val (i 1).val) (entry (a := 8192) (b := 1668) b (i 0).val (i 1).val)) := by
  rw [val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, reference_first, reference_second, eq_entry w i rfl rfl]
  rfl

end Reference

/-! ## The claims -/

theorem frame_reference : Cert.quiescent_AdamInRefIdeal := fun m ρ _ =>
  (θ_run Cert.AdamInRefIdeal.defs _ _).mono
    (fun r h => ⟨fun c => (h c).2.2.2.2, sem_eq_zero_of_no_sems (by decide) r.2⟩) (Cert.AdamInRefIdeal.Value.run (F := Ideal) m ρ)

theorem algebraic : Cert.algebraic_AdamInIdeal_AdamInRefIdeal := by
  intro m ρ m' ρ' _ hagree
  refine ⟨fun c => whole (gradient m c), fun c => whole (change m c), fun c => whole (moment1 m c), fun c => whole (moment2 m c), ?_, ?_⟩
  · exact (θ_run Cert.AdamInIdeal.defs _ _).mono
      (fun r h c => ⟨(h c).1.trans (array4 m c), (h c).2.1.trans (array5 m c), (h c).2.2.1.trans (array6 m c),
        (h c).2.2.2.1.trans (array7 m c), (h c).2.2.2.2⟩) (run_blocks m ρ)
  · refine (θ_run Cert.AdamInRefIdeal.defs _ _).mono
      (fun r h c => ⟨(h c).1.trans ?_, (h c).2.1.trans ?_, (h c).2.2.1.trans ?_, (h c).2.2.2.1.trans ?_, (h c).2.2.2.2⟩)
      (Cert.AdamInRefIdeal.Value.run (F := Ideal) m' ρ')
    · rw [Cert.AdamInRefIdeal.Read.val_main_v1_eq, (hagree c).1]
      exact funext fun i => reference_gradient _ i
    · rw [Cert.AdamInRefIdeal.Read.val_main_v25_eq, (hagree c).1, (hagree c).2.1, (hagree c).2.2.1, (hagree c).2.2.2]
      exact funext fun i => reference_step _ _ _ _ i
    · rw [Cert.AdamInRefIdeal.Read.val_main_v6_eq, (hagree c).1, (hagree c).2.2.1]
      exact funext fun i => reference_first _ _ i
    · rw [Cert.AdamInRefIdeal.Read.val_main_v12_eq, (hagree c).1, (hagree c).2.2.2]
      exact funext fun i => reference_second _ _ i

end Products.AdamIn

end
-- ==== Proof.AdamOutVal.lean ====
/- The optimiser's step for the output projection's weights: every grid point takes its own rows. -/
module

public import proofs.«01_k».proof.Proof.Optimiser
public import proofs.«01_k».proof.Proof.Gen.AdamOutIdeal.Value
public import proofs.«01_k».proof.Proof.Gen.AdamOutRefIdeal.Read
public import Idealize.ShloMosaic.Lib.Pipeline.ValueKit.Tiles
public import proofs.«01_k».proof.Defs

@[expose] public section

set_option maxRecDepth 16384

noncomputable section

namespace Products.AdamOut

open Cert.AdamOutIdeal Cert.AdamOutIdeal.Gen Cert.AdamOutIdeal.Value
open Idealize.ShloMosaic Idealize.ShloMosaic.TcCoe Idealize.SL Idealize.SL.Sem
open Products.Step

variable (m : (ℓ : Loc nD τ sig) → Buf (Elt Ideal) ℓ) (c : Dev nD)

/-- The parts of the gradient, the weights and the two moments. -/
abbrev G : ℕ → ℕ → ℕ → EReal := entry3 (a := 4) (b := 2048) (c := 2048) (m ((c : Thread nD τ).loc main_arg0))
abbrev W : ℕ → ℕ → EReal := entry (a := 2048) (b := 2048) (m ((c : Thread nD τ).loc main_arg1))
abbrev M : ℕ → ℕ → EReal := entry (a := 2048) (b := 2048) (m ((c : Thread nD τ).loc main_arg2))
abbrev U : ℕ → ℕ → EReal := entry (a := 2048) (b := 2048) (m ((c : Thread nD τ).loc main_arg3))

theorem coords_eq : ∀ t : Fin grid0.N, (grid0.coords t 0).val = t.val := by
  decide +kernel

theorem row (i : grid0.Coords) : (BitVec.ofNat 32 (i 0).val).toNat = (i 0).val := word_toNat (i 0) (by decide)

theorem part_block (t : Fin cfg0.N) (s : Fin 4) (r : Fin 128) (d : Fin 2048) :
    iblk m c 0 t (ix3 s r d) = G m c s.val (128 * t.val + r.val) d.val := by
  have h0 := coords_eq t
  have e0 : cc0_transform_0 (grid0.coords t) 1 = (grid0.coords t 0).val := row _
  show V m c main_arg0 (((cfg0.win 0).blk t).view.emb (ix3 s r d)) = _
  rw [V_main_arg0]
  refine eq_entry3 _ _ ?_ ?_ ?_
  · show 0 * 4 + 1 * s.val = _
    omega
  · show cc0_transform_0 (grid0.coords t) 1 * 128 + 1 * r.val = _
    rw [e0, h0]; omega
  · show 0 * 2048 + 1 * d.val = _
    omega

theorem block1 (t : Fin cfg0.N) : Holds (a := 128) (b := 2048) (iblk m c 1 t) (fun r d => W m c (128 * t.val + r) d) := fun r d => by
  have h0 := coords_eq t
  have e0 : cc0_transform_1 (grid0.coords t) 0 = (grid0.coords t 0).val := row _
  show V m c main_arg1 (((cfg0.win 1).blk t).view.emb (ix2 r d)) = _
  rw [V_main_arg1]
  refine eq_entry _ _ ?_ ?_
  · show cc0_transform_1 (grid0.coords t) 0 * 128 + 1 * r.val = _
    rw [e0, h0]; omega
  · show 0 * 2048 + 1 * d.val = _
    omega

theorem block2 (t : Fin cfg0.N) : Holds (a := 128) (b := 2048) (iblk m c 2 t) (fun r d => M m c (128 * t.val + r) d) := fun r d => by
  have h0 := coords_eq t
  have e0 : cc0_transform_2 (grid0.coords t) 0 = (grid0.coords t 0).val := row _
  show V m c main_arg2 (((cfg0.win 2).blk t).view.emb (ix2 r d)) = _
  rw [V_main_arg2]
  refine eq_entry _ _ ?_ ?_
  · show cc0_transform_2 (grid0.coords t) 0 * 128 + 1 * r.val = _
    rw [e0, h0]; omega
  · show 0 * 2048 + 1 * d.val = _
    omega

theorem block3 (t : Fin cfg0.N) : Holds (a := 128) (b := 2048) (iblk m c 3 t) (fun r d => U m c (128 * t.val + r) d) := fun r d => by
  have h0 := coords_eq t
  have e0 : cc0_transform_3 (grid0.coords t) 0 = (grid0.coords t 0).val := row _
  show V m c main_arg3 (((cfg0.win 3).blk t).view.emb (ix2 r d)) = _
  rw [V_main_arg3]
  refine eq_entry _ _ ?_ ?_
  · show cc0_transform_3 (grid0.coords t) 0 * 128 + 1 * r.val = _
    rw [e0, h0]; omega
  · show 0 * 2048 + 1 * d.val = _
    omega

/-! ## A point's block -/

theorem sum_at (t : Fin cfg0.N) : Holds (a := 128) (b := 2048)
    (k0_pay2 (View.ld (Val := Elt Ideal) (iblk m c 0 t) r0_0) (View.ld (Val := Elt Ideal) (iblk m c 0 t) r0_1) (View.ld (Val := Elt Ideal) (iblk m c 0 t) r0_2) (View.ld (Val := Elt Ideal) (iblk m c 0 t) r0_3))
    (fun r d => total (G m c) 4 (128 * t.val + r) d) := fun r d => by
  unfold k0_pay2
  pointwise
  unfold total
  rw [Finset.sum_range_succ, Finset.sum_range_succ, Finset.sum_range_succ, Finset.sum_range_succ, Finset.sum_range_zero, zero_add]
  exact congrArg₂ (· + ·) (congrArg₂ (· + ·) (congrArg₂ (· + ·) (part_block m c t ⟨0, by decide⟩ r d) (part_block m c t ⟨1, by decide⟩ r d)) (part_block m c t ⟨2, by decide⟩ r d)) (part_block m c t ⟨3, by decide⟩ r d)

theorem first_is {p0 p1 p2 p3 : Vec Ideal S1x128x2048 .bf16} {v : Vec Ideal S128x2048 .f32} {g f : ℕ → ℕ → EReal}
    (hg : Holds (a := 128) (b := 2048) (k0_pay2 p0 p1 p2 p3) g) (hv : Holds (a := 128) (b := 2048) v f) :
    Holds (a := 128) (b := 2048) (k0_pay3 p0 p1 p2 p3 v) (fun r d => first (g r d) (f r d)) := fun r d => by
  unfold k0_pay3
  generalize k0_pay2 p0 p1 p2 p3 = s at hg ⊢
  pointwise
  rw [hg r d, hv r d]
  rfl

theorem second_is {p0 p1 p2 p3 : Vec Ideal S1x128x2048 .bf16} {v : Vec Ideal S128x2048 .f32} {g f : ℕ → ℕ → EReal}
    (hg : Holds (a := 128) (b := 2048) (k0_pay2 p0 p1 p2 p3) g) (hv : Holds (a := 128) (b := 2048) v f) :
    Holds (a := 128) (b := 2048) (k0_pay4 p0 p1 p2 p3 v) (fun r d => second (g r d) (f r d)) := fun r d => by
  unfold k0_pay4
  generalize k0_pay2 p0 p1 p2 p3 = s at hg ⊢
  pointwise
  rw [hg r d, hv r d]
  rfl

theorem step_is {a b w : Vec Ideal S128x2048 .f32} {f g h : ℕ → ℕ → EReal} (ha : Holds (a := 128) (b := 2048) a f)
    (hb : Holds (a := 128) (b := 2048) b g) (hw : Holds (a := 128) (b := 2048) w h) :
    Holds (a := 128) (b := 2048) (k0_pay1 a b w) (fun r d => step (h r d) (f r d) (g r d)) := fun r d => by
  unfold k0_pay1
  pointwise
  rw [ha r d, hb r d, hw r d]
  rfl

/-- What the four results hold: the gradient, the step, the new moments. -/
def gradient (r d : ℕ) : EReal := total (G m c) 4 r d
def moment1 (r d : ℕ) : EReal := first (gradient m c r d) (M m c r d)
def moment2 (r d : ℕ) : EReal := second (gradient m c r d) (U m c r d)
def change (r d : ℕ) : EReal := step (W m c r d) (moment1 m c r d) (moment2 m c r d)

theorem at4 (t : Fin cfg0.N) : Holds (a := 128) (b := 2048) (out0_4 (iblk m c 0 t) (iblk m c 1 t) (iblk m c 2 t) (iblk m c 3 t))
    (fun r d => gradient m c (128 * t.val + r) d) := by
  unfold out0_4
  rw [View.canon_unit_zero zero_offsets]
  exact sum_at m c t

theorem at6 (t : Fin cfg0.N) : Holds (a := 128) (b := 2048) (out0_6 (iblk m c 0 t) (iblk m c 1 t) (iblk m c 2 t) (iblk m c 3 t))
    (fun r d => moment1 m c (128 * t.val + r) d) := by
  unfold out0_6
  rw [View.canon_unit_zero zero_offsets, View.ld_unit_zero (S := S128x2048) zero_offsets]
  exact first_is (sum_at m c t) (block2 m c t)

theorem at_second (t : Fin cfg0.N) : Holds (a := 128) (b := 2048) (k0_pay5 (iblk m c 0 t) (iblk m c 1 t) (iblk m c 2 t) (iblk m c 3 t))
    (fun r d => moment2 m c (128 * t.val + r) d) := by
  unfold k0_pay5
  rw [View.ld_unit_zero (S := S128x2048) zero_offsets]
  exact second_is (sum_at m c t) (block3 m c t)

theorem at7 (t : Fin cfg0.N) : Holds (a := 128) (b := 2048) (out0_7 (iblk m c 0 t) (iblk m c 1 t) (iblk m c 2 t) (iblk m c 3 t))
    (fun r d => moment2 m c (128 * t.val + r) d) := by
  unfold out0_7
  rw [View.canon_unit_zero zero_offsets]
  exact at_second m c t

theorem at5 (t : Fin cfg0.N) : Holds (a := 128) (b := 2048) (out0_5 (iblk m c 0 t) (iblk m c 1 t) (iblk m c 2 t) (iblk m c 3 t))
    (fun r d => change m c (128 * t.val + r) d) := by
  unfold out0_5
  rw [View.canon_unit_zero zero_offsets, View.ld_unit_zero (S := S128x2048) zero_offsets, View.ld_unit_zero (S := S128x2048) zero_offsets]
  exact step_is (first_is (sum_at m c t) (block2 m c t)) (at_second m c t) (block1 m c t)

/-! ## The whole arrays -/

/-- The array with the entries `f`. -/
def whole (f : ℕ → ℕ → EReal) : S2048x2048.Idx → EReal := fun i => f (i 0).val (i 1).val

theorem covers4 : (cfg0.win 4).Covers :=
  Pipeline.Window.covers_of_indexMap_surj _ rfl (by decide) fun β => by
    have h0 : (β 0).val < 16 := (β 0).isLt
    have h1 : (β 1).val < 1 := (β 1).isLt
    let t : Fin grid0.N := ⟨(β 0).val, by rw [N_0]; omega⟩
    have c0 := coords_eq t
    refine ⟨grid0.coords t, fun a => ?_⟩
    match a with
    | ⟨0, _⟩ => exact (row _).trans c0
    | ⟨1, _⟩ => show 0 = (β 1).val; omega

theorem array4 : (dats m 0 c).arrAt 4 cfg0.N = whole (gradient m c) := by
  refine (dats m 0 c).arrAt_eq_of_covers 4 _ covers4 fun t _ y => ?_
  have c0 := coords_eq t
  have e0 : cc0_transform_4 (grid0.coords t) 0 = (grid0.coords t 0).val := row _
  blk_simp
  rw [after0_4]
  refine ((at4 m c t).at y).trans ?_
  show _ = gradient m c (cc0_transform_4 (grid0.coords t) 0 * 128 + 1 * (y 0).val) (0 * 2048 + 1 * (y 1).val)
  rw [e0, c0, show t.val * 128 + 1 * (y 0).val = 128 * t.val + (y 0).val by omega,
    show 0 * 2048 + 1 * (y 1).val = (y 1).val by omega]

theorem covers5 : (cfg0.win 5).Covers :=
  Pipeline.Window.covers_of_indexMap_surj _ rfl (by decide) fun β => by
    have h0 : (β 0).val < 16 := (β 0).isLt
    have h1 : (β 1).val < 1 := (β 1).isLt
    let t : Fin grid0.N := ⟨(β 0).val, by rw [N_0]; omega⟩
    have c0 := coords_eq t
    refine ⟨grid0.coords t, fun a => ?_⟩
    match a with
    | ⟨0, _⟩ => exact (row _).trans c0
    | ⟨1, _⟩ => show 0 = (β 1).val; omega

theorem array5 : (dats m 0 c).arrAt 5 cfg0.N = whole (change m c) := by
  refine (dats m 0 c).arrAt_eq_of_covers 5 _ covers5 fun t _ y => ?_
  have c0 := coords_eq t
  have e0 : cc0_transform_5 (grid0.coords t) 0 = (grid0.coords t 0).val := row _
  blk_simp
  rw [after0_5]
  refine ((at5 m c t).at y).trans ?_
  show _ = change m c (cc0_transform_5 (grid0.coords t) 0 * 128 + 1 * (y 0).val) (0 * 2048 + 1 * (y 1).val)
  rw [e0, c0, show t.val * 128 + 1 * (y 0).val = 128 * t.val + (y 0).val by omega,
    show 0 * 2048 + 1 * (y 1).val = (y 1).val by omega]

theorem covers6 : (cfg0.win 6).Covers :=
  Pipeline.Window.covers_of_indexMap_surj _ rfl (by decide) fun β => by
    have h0 : (β 0).val < 16 := (β 0).isLt
    have h1 : (β 1).val < 1 := (β 1).isLt
    let t : Fin grid0.N := ⟨(β 0).val, by rw [N_0]; omega⟩
    have c0 := coords_eq t
    refine ⟨grid0.coords t, fun a => ?_⟩
    match a with
    | ⟨0, _⟩ => exact (row _).trans c0
    | ⟨1, _⟩ => show 0 = (β 1).val; omega

theorem array6 : (dats m 0 c).arrAt 6 cfg0.N = whole (moment1 m c) := by
  refine (dats m 0 c).arrAt_eq_of_covers 6 _ covers6 fun t _ y => ?_
  have c0 := coords_eq t
  have e0 : cc0_transform_6 (grid0.coords t) 0 = (grid0.coords t 0).val := row _
  blk_simp
  rw [after0_6]
  refine ((at6 m c t).at y).trans ?_
  show _ = moment1 m c (cc0_transform_6 (grid0.coords t) 0 * 128 + 1 * (y 0).val) (0 * 2048 + 1 * (y 1).val)
  rw [e0, c0, show t.val * 128 + 1 * (y 0).val = 128 * t.val + (y 0).val by omega,
    show 0 * 2048 + 1 * (y 1).val = (y 1).val by omega]

theorem covers7 : (cfg0.win 7).Covers :=
  Pipeline.Window.covers_of_indexMap_surj _ rfl (by decide) fun β => by
    have h0 : (β 0).val < 16 := (β 0).isLt
    have h1 : (β 1).val < 1 := (β 1).isLt
    let t : Fin grid0.N := ⟨(β 0).val, by rw [N_0]; omega⟩
    have c0 := coords_eq t
    refine ⟨grid0.coords t, fun a => ?_⟩
    match a with
    | ⟨0, _⟩ => exact (row _).trans c0
    | ⟨1, _⟩ => show 0 = (β 1).val; omega

theorem array7 : (dats m 0 c).arrAt 7 cfg0.N = whole (moment2 m c) := by
  refine (dats m 0 c).arrAt_eq_of_covers 7 _ covers7 fun t _ y => ?_
  have c0 := coords_eq t
  have e0 : cc0_transform_7 (grid0.coords t) 0 = (grid0.coords t 0).val := row _
  blk_simp
  rw [after0_7]
  refine ((at7 m c t).at y).trans ?_
  show _ = moment2 m c (cc0_transform_7 (grid0.coords t) 0 * 128 + 1 * (y 0).val) (0 * 2048 + 1 * (y 1).val)
  rw [e0, c0, show t.val * 128 + 1 * (y 0).val = 128 * t.val + (y 0).val by omega,
    show 0 * 2048 + 1 * (y 1).val = (y 1).val by omega]

/-! ## The reference -/

section Reference

open Cert.AdamOutRefIdeal.Read

variable (g : Vec Ideal S4x2048x2048 .bf16) (w a b : Vec Ideal S2048x2048 .f32)

theorem reference_gradient (i : S2048x2048.Idx) : val_main_v1 (F := Ideal) g i
    = total (entry3 (a := 4) (b := 2048) (c := 2048) g) 4 (i 0).val (i 1).val := by
  rw [val_main_v1_apply]
  show Ideal.ofBits .f32 0x00000000#32 + _ = _
  rw [Ideal.ofBits_zero_f32, zero_add]
  unfold total
  rw [Finset.sum_range]
  exact Finset.sum_congr rfl fun k _ => eq_entry3 g _ rfl rfl rfl

theorem reference_first (i : S2048x2048.Idx) : val_main_v6 (F := Ideal) g a i
    = first (total (entry3 (a := 4) (b := 2048) (c := 2048) g) 4 (i 0).val (i 1).val) (entry (a := 2048) (b := 2048) a (i 0).val (i 1).val) := by
  rw [val_main_v6_apply, val_main_v5_apply, val_main_v4_apply, val_main_v3_apply, val_main_v2_apply, reference_gradient, eq_entry a i rfl rfl]
  rfl

theorem reference_second (i : S2048x2048.Idx) : val_main_v12 (F := Ideal) g b i
    = second (total (entry3 (a := 4) (b := 2048) (c := 2048) g) 4 (i 0).val (i 1).val) (entry (a := 2048) (b := 2048) b (i 0).val (i 1).val) := by
  rw [val_main_v12_apply, val_main_v11_apply, val_main_v10_apply, val_main_v9_apply, val_main_v8_apply, val_main_v7_apply,
    reference_gradient, eq_entry b i rfl rfl]
  rfl

theorem reference_step (i : S2048x2048.Idx) : val_main_v25 (F := Ideal) g w a b i
    = step (entry (a := 2048) (b := 2048) w (i 0).val (i 1).val)
      (first (total (entry3 (a := 4) (b := 2048) (c := 2048) g) 4 (i 0).val (i 1).val) (entry (a := 2048) (b := 2048) a (i 0).val (i 1).val))
      (second (total (entry3 (a := 4) (b := 2048) (c := 2048) g) 4 (i 0).val (i 1).val) (entry (a := 2048) (b := 2048) b (i 0).val (i 1).val)) := by
  rw [val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, reference_first, reference_second, eq_entry w i rfl rfl]
  rfl

end Reference

/-! ## The claims -/

theorem frame_reference : Cert.quiescent_AdamOutRefIdeal := fun m ρ _ =>
  (θ_run Cert.AdamOutRefIdeal.defs _ _).mono
    (fun r h => ⟨fun c => (h c).2.2.2.2, sem_eq_zero_of_no_sems (by decide) r.2⟩) (Cert.AdamOutRefIdeal.Value.run (F := Ideal) m ρ)

theorem algebraic : Cert.algebraic_AdamOutIdeal_AdamOutRefIdeal := by
  intro m ρ m' ρ' _ hagree
  refine ⟨fun c => whole (gradient m c), fun c => whole (change m c), fun c => whole (moment1 m c), fun c => whole (moment2 m c), ?_, ?_⟩
  · exact (θ_run Cert.AdamOutIdeal.defs _ _).mono
      (fun r h c => ⟨(h c).1.trans (array4 m c), (h c).2.1.trans (array5 m c), (h c).2.2.1.trans (array6 m c),
        (h c).2.2.2.1.trans (array7 m c), (h c).2.2.2.2⟩) (run_blocks m ρ)
  · refine (θ_run Cert.AdamOutRefIdeal.defs _ _).mono
      (fun r h c => ⟨(h c).1.trans ?_, (h c).2.1.trans ?_, (h c).2.2.1.trans ?_, (h c).2.2.2.1.trans ?_, (h c).2.2.2.2⟩)
      (Cert.AdamOutRefIdeal.Value.run (F := Ideal) m' ρ')
    · rw [Cert.AdamOutRefIdeal.Read.val_main_v1_eq, (hagree c).1]
      exact funext fun i => reference_gradient _ i
    · rw [Cert.AdamOutRefIdeal.Read.val_main_v25_eq, (hagree c).1, (hagree c).2.1, (hagree c).2.2.1, (hagree c).2.2.2]
      exact funext fun i => reference_step _ _ _ _ i
    · rw [Cert.AdamOutRefIdeal.Read.val_main_v6_eq, (hagree c).1, (hagree c).2.2.1]
      exact funext fun i => reference_first _ _ i
    · rw [Cert.AdamOutRefIdeal.Read.val_main_v12_eq, (hagree c).1, (hagree c).2.2.2]
      exact funext fun i => reference_second _ _ i

end Products.AdamOut

end
-- ==== Proof.AdamConvVal.lean ====
/- The optimiser's step for the convolution's weights: every grid point takes its own rows. -/
module

public import proofs.«01_k».proof.Proof.Optimiser
public import proofs.«01_k».proof.Proof.Gen.AdamConvIdeal.Value
public import proofs.«01_k».proof.Proof.Gen.AdamConvRefIdeal.Read
public import Idealize.ShloMosaic.Lib.Pipeline.ValueKit.Tiles
public import proofs.«01_k».proof.Defs

@[expose] public section

set_option maxRecDepth 16384

noncomputable section

namespace Products.AdamConv

open Cert.AdamConvIdeal Cert.AdamConvIdeal.Gen Cert.AdamConvIdeal.Value
open Idealize.ShloMosaic Idealize.ShloMosaic.TcCoe Idealize.SL Idealize.SL.Sem
open Products.Step

variable (m : (ℓ : Loc nD τ sig) → Buf (Elt Ideal) ℓ) (c : Dev nD)

/-- The parts of the gradient, the weights and the two moments. -/
abbrev G : ℕ → ℕ → ℕ → EReal := entry3 (a := 8) (b := 16) (c := 384) (m ((c : Thread nD τ).loc main_arg0))
abbrev W : ℕ → ℕ → EReal := entry (a := 16) (b := 384) (m ((c : Thread nD τ).loc main_arg1))
abbrev M : ℕ → ℕ → EReal := entry (a := 16) (b := 384) (m ((c : Thread nD τ).loc main_arg2))
abbrev U : ℕ → ℕ → EReal := entry (a := 16) (b := 384) (m ((c : Thread nD τ).loc main_arg3))

theorem coords_eq : ∀ t : Fin grid0.N, (grid0.coords t 0).val = t.val := by
  decide +kernel

theorem row (i : grid0.Coords) : (BitVec.ofNat 32 (i 0).val).toNat = (i 0).val := word_toNat (i 0) (by decide)

theorem part_block (t : Fin cfg0.N) (s : Fin 8) (r : Fin 16) (d : Fin 384) :
    iblk m c 0 t (ix3 s r d) = G m c s.val (16 * t.val + r.val) d.val := by
  have h0 := coords_eq t
  have e0 : cc0_transform_0 (grid0.coords t) 1 = (grid0.coords t 0).val := row _
  show V m c main_arg0 (((cfg0.win 0).blk t).view.emb (ix3 s r d)) = _
  rw [V_main_arg0]
  refine eq_entry3 _ _ ?_ ?_ ?_
  · show 0 * 8 + 1 * s.val = _
    omega
  · show cc0_transform_0 (grid0.coords t) 1 * 16 + 1 * r.val = _
    rw [e0, h0]; omega
  · show 0 * 384 + 1 * d.val = _
    omega

theorem block1 (t : Fin cfg0.N) : Holds (a := 16) (b := 384) (iblk m c 1 t) (fun r d => W m c (16 * t.val + r) d) := fun r d => by
  have h0 := coords_eq t
  have e0 : cc0_transform_1 (grid0.coords t) 0 = (grid0.coords t 0).val := row _
  show V m c main_arg1 (((cfg0.win 1).blk t).view.emb (ix2 r d)) = _
  rw [V_main_arg1]
  refine eq_entry _ _ ?_ ?_
  · show cc0_transform_1 (grid0.coords t) 0 * 16 + 1 * r.val = _
    rw [e0, h0]; omega
  · show 0 * 384 + 1 * d.val = _
    omega

theorem block2 (t : Fin cfg0.N) : Holds (a := 16) (b := 384) (iblk m c 2 t) (fun r d => M m c (16 * t.val + r) d) := fun r d => by
  have h0 := coords_eq t
  have e0 : cc0_transform_2 (grid0.coords t) 0 = (grid0.coords t 0).val := row _
  show V m c main_arg2 (((cfg0.win 2).blk t).view.emb (ix2 r d)) = _
  rw [V_main_arg2]
  refine eq_entry _ _ ?_ ?_
  · show cc0_transform_2 (grid0.coords t) 0 * 16 + 1 * r.val = _
    rw [e0, h0]; omega
  · show 0 * 384 + 1 * d.val = _
    omega

theorem block3 (t : Fin cfg0.N) : Holds (a := 16) (b := 384) (iblk m c 3 t) (fun r d => U m c (16 * t.val + r) d) := fun r d => by
  have h0 := coords_eq t
  have e0 : cc0_transform_3 (grid0.coords t) 0 = (grid0.coords t 0).val := row _
  show V m c main_arg3 (((cfg0.win 3).blk t).view.emb (ix2 r d)) = _
  rw [V_main_arg3]
  refine eq_entry _ _ ?_ ?_
  · show cc0_transform_3 (grid0.coords t) 0 * 16 + 1 * r.val = _
    rw [e0, h0]; omega
  · show 0 * 384 + 1 * d.val = _
    omega

/-! ## A point's block -/

theorem sum_at (t : Fin cfg0.N) : Holds (a := 16) (b := 384)
    (k0_pay3 (View.ld (Val := Elt Ideal) (iblk m c 0 t) r0_0) (View.ld (Val := Elt Ideal) (iblk m c 0 t) r0_1) (View.ld (Val := Elt Ideal) (iblk m c 0 t) r0_2) (View.ld (Val := Elt Ideal) (iblk m c 0 t) r0_3) (View.ld (Val := Elt Ideal) (iblk m c 0 t) r0_4) (View.ld (Val := Elt Ideal) (iblk m c 0 t) r0_5) (View.ld (Val := Elt Ideal) (iblk m c 0 t) r0_6) (View.ld (Val := Elt Ideal) (iblk m c 0 t) r0_7))
    (fun r d => total (G m c) 8 (16 * t.val + r) d) := fun r d => by
  show _ = total (G m c) 8 (16 * t.val + r.val) d.val
  generalize hq : 16 * t.val + r.val = q
  have part (s : Fin 8) : iblk m c 0 t (ix3 s r d) = G m c s.val q d.val := hq ▸ part_block m c t s r d
  unfold k0_pay3
  pointwise
  unfold total
  rw [Finset.sum_range_succ, Finset.sum_range_succ, Finset.sum_range_succ, Finset.sum_range_succ, Finset.sum_range_succ, Finset.sum_range_succ, Finset.sum_range_succ, Finset.sum_range_succ, Finset.sum_range_zero, zero_add]
  exact congrArg₂ (· + ·) (congrArg₂ (· + ·) (congrArg₂ (· + ·) (congrArg₂ (· + ·) (congrArg₂ (· + ·) (congrArg₂ (· + ·) (congrArg₂ (· + ·) (part ⟨0, by decide⟩) (part ⟨1, by decide⟩)) (part ⟨2, by decide⟩)) (part ⟨3, by decide⟩)) (part ⟨4, by decide⟩)) (part ⟨5, by decide⟩)) (part ⟨6, by decide⟩)) (part ⟨7, by decide⟩)

theorem first_is {p0 p1 p2 p3 p4 p5 p6 p7 : Vec Ideal S1x16x384 .f32} {v : Vec Ideal S16x384 .f32} {g f : ℕ → ℕ → EReal}
    (hg : Holds (a := 16) (b := 384) (k0_pay3 p0 p1 p2 p3 p4 p5 p6 p7) g) (hv : Holds (a := 16) (b := 384) v f) :
    Holds (a := 16) (b := 384) (k0_pay4 p0 p1 p2 p3 p4 p5 p6 p7 v) (fun r d => first (g r d) (f r d)) := fun r d => by
  unfold k0_pay4
  generalize k0_pay3 p0 p1 p2 p3 p4 p5 p6 p7 = s at hg ⊢
  pointwise
  rw [hg r d, hv r d]
  rfl

theorem second_is {s v : Vec Ideal S16x384 .f32} {g f : ℕ → ℕ → EReal} (hg : Holds (a := 16) (b := 384) s g)
    (hv : Holds (a := 16) (b := 384) v f) :
    Holds (a := 16) (b := 384) (k0_pay1 s v) (fun r d => second (g r d) (f r d)) := fun r d => by
  unfold k0_pay1
  pointwise
  rw [hg r d, hv r d]
  rfl

theorem step_is {s v a w : Vec Ideal S16x384 .f32} {f g h : ℕ → ℕ → EReal} (ha : Holds (a := 16) (b := 384) a f)
    (hb : Holds (a := 16) (b := 384) (k0_pay1 s v) g) (hw : Holds (a := 16) (b := 384) w h) :
    Holds (a := 16) (b := 384) (k0_pay2 s a v w) (fun r d => step (h r d) (f r d) (g r d)) := fun r d => by
  unfold k0_pay2
  generalize k0_pay1 s v = b at hb ⊢
  pointwise
  rw [ha r d, hb r d, hw r d]
  rfl

/-- What the four results hold: the gradient, the step, the new moments. -/
def gradient (r d : ℕ) : EReal := total (G m c) 8 r d
def moment1 (r d : ℕ) : EReal := first (gradient m c r d) (M m c r d)
def moment2 (r d : ℕ) : EReal := second (gradient m c r d) (U m c r d)
def change (r d : ℕ) : EReal := step (W m c r d) (moment1 m c r d) (moment2 m c r d)

theorem at_sum (t : Fin cfg0.N) : Holds (a := 16) (b := 384) (k0_pay5 (iblk m c 0 t) (iblk m c 1 t) (iblk m c 2 t) (iblk m c 3 t))
    (fun r d => gradient m c (16 * t.val + r) d) := by
  unfold k0_pay5
  exact sum_at m c t

theorem at_first (t : Fin cfg0.N) : Holds (a := 16) (b := 384) (k0_pay6 (iblk m c 0 t) (iblk m c 1 t) (iblk m c 2 t) (iblk m c 3 t))
    (fun r d => moment1 m c (16 * t.val + r) d) := by
  unfold k0_pay6
  rw [View.ld_unit_zero (S := S16x384) zero_offsets]
  exact first_is (sum_at m c t) (block2 m c t)

theorem at4 (t : Fin cfg0.N) : Holds (a := 16) (b := 384) (out0_4 (iblk m c 0 t) (iblk m c 1 t) (iblk m c 2 t) (iblk m c 3 t))
    (fun r d => gradient m c (16 * t.val + r) d) := by
  unfold out0_4
  rw [View.canon_unit_zero zero_offsets]
  exact at_sum m c t

theorem at6 (t : Fin cfg0.N) : Holds (a := 16) (b := 384) (out0_6 (iblk m c 0 t) (iblk m c 1 t) (iblk m c 2 t) (iblk m c 3 t))
    (fun r d => moment1 m c (16 * t.val + r) d) := by
  unfold out0_6
  rw [View.canon_unit_zero zero_offsets]
  exact at_first m c t

theorem at7 (t : Fin cfg0.N) : Holds (a := 16) (b := 384) (out0_7 (iblk m c 0 t) (iblk m c 1 t) (iblk m c 2 t) (iblk m c 3 t))
    (fun r d => moment2 m c (16 * t.val + r) d) := by
  unfold out0_7
  rw [View.canon_unit_zero zero_offsets, View.ld_unit_zero (S := S16x384) zero_offsets]
  exact second_is (at_sum m c t) (block3 m c t)

theorem at5 (t : Fin cfg0.N) : Holds (a := 16) (b := 384) (out0_5 (iblk m c 0 t) (iblk m c 1 t) (iblk m c 2 t) (iblk m c 3 t))
    (fun r d => change m c (16 * t.val + r) d) := by
  unfold out0_5
  rw [View.canon_unit_zero zero_offsets, View.ld_unit_zero (S := S16x384) zero_offsets, View.ld_unit_zero (S := S16x384) zero_offsets]
  exact step_is (at_first m c t) (second_is (at_sum m c t) (block3 m c t)) (block1 m c t)

/-! ## The whole arrays -/

/-- The array with the entries `f`. -/
def whole (f : ℕ → ℕ → EReal) : S16x384.Idx → EReal := fun i => f (i 0).val (i 1).val

theorem covers4 : (cfg0.win 4).Covers :=
  Pipeline.Window.covers_of_indexMap_surj _ rfl (by decide) fun β => by
    have h0 : (β 0).val < 1 := (β 0).isLt
    have h1 : (β 1).val < 1 := (β 1).isLt
    let t : Fin grid0.N := ⟨(β 0).val, by rw [N_0]; omega⟩
    have c0 := coords_eq t
    refine ⟨grid0.coords t, fun a => ?_⟩
    match a with
    | ⟨0, _⟩ => exact (row _).trans c0
    | ⟨1, _⟩ => show 0 = (β 1).val; omega

theorem array4 : (dats m 0 c).arrAt 4 cfg0.N = whole (gradient m c) := by
  refine (dats m 0 c).arrAt_eq_of_covers 4 _ covers4 fun t _ y => ?_
  have c0 := coords_eq t
  have e0 : cc0_transform_4 (grid0.coords t) 0 = (grid0.coords t 0).val := row _
  blk_simp
  rw [after0_4]
  refine ((at4 m c t).at y).trans ?_
  show _ = gradient m c (cc0_transform_4 (grid0.coords t) 0 * 16 + 1 * (y 0).val) (0 * 384 + 1 * (y 1).val)
  rw [e0, c0, show t.val * 16 + 1 * (y 0).val = 16 * t.val + (y 0).val by omega,
    show 0 * 384 + 1 * (y 1).val = (y 1).val by omega]

theorem covers5 : (cfg0.win 5).Covers :=
  Pipeline.Window.covers_of_indexMap_surj _ rfl (by decide) fun β => by
    have h0 : (β 0).val < 1 := (β 0).isLt
    have h1 : (β 1).val < 1 := (β 1).isLt
    let t : Fin grid0.N := ⟨(β 0).val, by rw [N_0]; omega⟩
    have c0 := coords_eq t
    refine ⟨grid0.coords t, fun a => ?_⟩
    match a with
    | ⟨0, _⟩ => exact (row _).trans c0
    | ⟨1, _⟩ => show 0 = (β 1).val; omega

theorem array5 : (dats m 0 c).arrAt 5 cfg0.N = whole (change m c) := by
  refine (dats m 0 c).arrAt_eq_of_covers 5 _ covers5 fun t _ y => ?_
  have c0 := coords_eq t
  have e0 : cc0_transform_5 (grid0.coords t) 0 = (grid0.coords t 0).val := row _
  blk_simp
  rw [after0_5]
  refine ((at5 m c t).at y).trans ?_
  show _ = change m c (cc0_transform_5 (grid0.coords t) 0 * 16 + 1 * (y 0).val) (0 * 384 + 1 * (y 1).val)
  rw [e0, c0, show t.val * 16 + 1 * (y 0).val = 16 * t.val + (y 0).val by omega,
    show 0 * 384 + 1 * (y 1).val = (y 1).val by omega]

theorem covers6 : (cfg0.win 6).Covers :=
  Pipeline.Window.covers_of_indexMap_surj _ rfl (by decide) fun β => by
    have h0 : (β 0).val < 1 := (β 0).isLt
    have h1 : (β 1).val < 1 := (β 1).isLt
    let t : Fin grid0.N := ⟨(β 0).val, by rw [N_0]; omega⟩
    have c0 := coords_eq t
    refine ⟨grid0.coords t, fun a => ?_⟩
    match a with
    | ⟨0, _⟩ => exact (row _).trans c0
    | ⟨1, _⟩ => show 0 = (β 1).val; omega

theorem array6 : (dats m 0 c).arrAt 6 cfg0.N = whole (moment1 m c) := by
  refine (dats m 0 c).arrAt_eq_of_covers 6 _ covers6 fun t _ y => ?_
  have c0 := coords_eq t
  have e0 : cc0_transform_6 (grid0.coords t) 0 = (grid0.coords t 0).val := row _
  blk_simp
  rw [after0_6]
  refine ((at6 m c t).at y).trans ?_
  show _ = moment1 m c (cc0_transform_6 (grid0.coords t) 0 * 16 + 1 * (y 0).val) (0 * 384 + 1 * (y 1).val)
  rw [e0, c0, show t.val * 16 + 1 * (y 0).val = 16 * t.val + (y 0).val by omega,
    show 0 * 384 + 1 * (y 1).val = (y 1).val by omega]

theorem covers7 : (cfg0.win 7).Covers :=
  Pipeline.Window.covers_of_indexMap_surj _ rfl (by decide) fun β => by
    have h0 : (β 0).val < 1 := (β 0).isLt
    have h1 : (β 1).val < 1 := (β 1).isLt
    let t : Fin grid0.N := ⟨(β 0).val, by rw [N_0]; omega⟩
    have c0 := coords_eq t
    refine ⟨grid0.coords t, fun a => ?_⟩
    match a with
    | ⟨0, _⟩ => exact (row _).trans c0
    | ⟨1, _⟩ => show 0 = (β 1).val; omega

theorem array7 : (dats m 0 c).arrAt 7 cfg0.N = whole (moment2 m c) := by
  refine (dats m 0 c).arrAt_eq_of_covers 7 _ covers7 fun t _ y => ?_
  have c0 := coords_eq t
  have e0 : cc0_transform_7 (grid0.coords t) 0 = (grid0.coords t 0).val := row _
  blk_simp
  rw [after0_7]
  refine ((at7 m c t).at y).trans ?_
  show _ = moment2 m c (cc0_transform_7 (grid0.coords t) 0 * 16 + 1 * (y 0).val) (0 * 384 + 1 * (y 1).val)
  rw [e0, c0, show t.val * 16 + 1 * (y 0).val = 16 * t.val + (y 0).val by omega,
    show 0 * 384 + 1 * (y 1).val = (y 1).val by omega]

/-! ## The reference -/

section Reference

open Cert.AdamConvRefIdeal.Read

variable (g : Vec Ideal S8x16x384 .f32) (w a b : Vec Ideal S16x384 .f32)

theorem reference_gradient (i : S16x384.Idx) : val_main_v0 (F := Ideal) g i
    = total (entry3 (a := 8) (b := 16) (c := 384) g) 8 (i 0).val (i 1).val := by
  rw [val_main_v0_apply]
  show Ideal.ofBits .f32 0x00000000#32 + _ = _
  rw [Ideal.ofBits_zero_f32, zero_add]
  unfold total
  rw [Finset.sum_range]
  exact Finset.sum_congr rfl fun k _ => eq_entry3 g _ rfl rfl rfl

theorem reference_first (i : S16x384.Idx) : val_main_v5 (F := Ideal) g a i
    = first (total (entry3 (a := 8) (b := 16) (c := 384) g) 8 (i 0).val (i 1).val) (entry (a := 16) (b := 384) a (i 0).val (i 1).val) := by
  rw [val_main_v5_apply, val_main_v4_apply, val_main_v3_apply, val_main_v2_apply, val_main_v1_apply, reference_gradient, eq_entry a i rfl rfl]
  rfl

theorem reference_second (i : S16x384.Idx) : val_main_v11 (F := Ideal) g b i
    = second (total (entry3 (a := 8) (b := 16) (c := 384) g) 8 (i 0).val (i 1).val) (entry (a := 16) (b := 384) b (i 0).val (i 1).val) := by
  rw [val_main_v11_apply, val_main_v10_apply, val_main_v9_apply, val_main_v8_apply, val_main_v7_apply, val_main_v6_apply,
    reference_gradient, eq_entry b i rfl rfl]
  rfl

theorem reference_step (i : S16x384.Idx) : val_main_v24 (F := Ideal) g w a b i
    = step (entry (a := 16) (b := 384) w (i 0).val (i 1).val)
      (first (total (entry3 (a := 8) (b := 16) (c := 384) g) 8 (i 0).val (i 1).val) (entry (a := 16) (b := 384) a (i 0).val (i 1).val))
      (second (total (entry3 (a := 8) (b := 16) (c := 384) g) 8 (i 0).val (i 1).val) (entry (a := 16) (b := 384) b (i 0).val (i 1).val)) := by
  rw [val_main_v24_apply, val_main_v23_apply, val_main_v22_apply, val_main_v21_apply, val_main_v20_apply, val_main_v19_apply,
    val_main_v18_apply, val_main_v17_apply, val_main_v16_apply, val_main_v15_apply, val_main_v14_apply, val_main_v13_apply,
    val_main_v12_apply, reference_first, reference_second, eq_entry w i rfl rfl]
  rfl

end Reference

/-! ## The claims -/

theorem frame_reference : Cert.quiescent_AdamConvRefIdeal := fun m ρ _ =>
  (θ_run Cert.AdamConvRefIdeal.defs _ _).mono
    (fun r h => ⟨fun c => (h c).2.2.2.2, sem_eq_zero_of_no_sems (by decide) r.2⟩) (Cert.AdamConvRefIdeal.Value.run (F := Ideal) m ρ)

theorem algebraic : Cert.algebraic_AdamConvIdeal_AdamConvRefIdeal := by
  intro m ρ m' ρ' _ hagree
  refine ⟨fun c => whole (gradient m c), fun c => whole (change m c), fun c => whole (moment1 m c), fun c => whole (moment2 m c), ?_, ?_⟩
  · exact (θ_run Cert.AdamConvIdeal.defs _ _).mono
      (fun r h c => ⟨(h c).1.trans (array4 m c), (h c).2.1.trans (array5 m c), (h c).2.2.1.trans (array6 m c),
        (h c).2.2.2.1.trans (array7 m c), (h c).2.2.2.2⟩) (run_blocks m ρ)
  · refine (θ_run Cert.AdamConvRefIdeal.defs _ _).mono
      (fun r h c => ⟨(h c).1.trans ?_, (h c).2.1.trans ?_, (h c).2.2.1.trans ?_, (h c).2.2.2.1.trans ?_, (h c).2.2.2.2⟩)
      (Cert.AdamConvRefIdeal.Value.run (F := Ideal) m' ρ')
    · rw [Cert.AdamConvRefIdeal.Read.val_main_v0_eq, (hagree c).1]
      exact funext fun i => reference_gradient _ i
    · rw [Cert.AdamConvRefIdeal.Read.val_main_v24_eq, (hagree c).1, (hagree c).2.1, (hagree c).2.2.1, (hagree c).2.2.2]
      exact funext fun i => reference_step _ _ _ _ i
    · rw [Cert.AdamConvRefIdeal.Read.val_main_v5_eq, (hagree c).1, (hagree c).2.2.1]
      exact funext fun i => reference_first _ _ i
    · rw [Cert.AdamConvRefIdeal.Read.val_main_v11_eq, (hagree c).1, (hagree c).2.2.2]
      exact funext fun i => reference_second _ _ i

end Products.AdamConv

end
-- ==== Proof.AdamRestVal.lean ====
/- The optimiser's step for the weights that every device holds: every grid point takes its own rows. -/
module

public import proofs.«01_k».proof.Proof.Optimiser
public import proofs.«01_k».proof.Proof.Gen.AdamRestIdeal.Value
public import proofs.«01_k».proof.Proof.Gen.AdamRestRefIdeal.Read
public import Idealize.ShloMosaic.Lib.Pipeline.ValueKit.Tiles
public import proofs.«01_k».proof.Defs

@[expose] public section

set_option maxRecDepth 16384

noncomputable section

namespace Products.AdamRest

open Cert.AdamRestIdeal Cert.AdamRestIdeal.Gen Cert.AdamRestIdeal.Value
open Idealize.ShloMosaic Idealize.ShloMosaic.TcCoe Idealize.SL Idealize.SL.Sem
open Products.Step

variable (m : (ℓ : Loc nD τ sig) → Buf (Elt Ideal) ℓ) (c : Dev nD)

/-- The parts of the gradient, the weights and the two moments. -/
abbrev G : ℕ → ℕ → ℕ → EReal := entry3 (a := 8) (b := 248) (c := 128) (m ((c : Thread nD τ).loc main_arg0))
abbrev W : ℕ → ℕ → EReal := entry (a := 248) (b := 128) (m ((c : Thread nD τ).loc main_arg1))
abbrev M : ℕ → ℕ → EReal := entry (a := 248) (b := 128) (m ((c : Thread nD τ).loc main_arg2))
abbrev U : ℕ → ℕ → EReal := entry (a := 248) (b := 128) (m ((c : Thread nD τ).loc main_arg3))

theorem coords_eq : ∀ t : Fin grid0.N, (grid0.coords t 0).val = t.val := by
  decide +kernel

theorem row (i : grid0.Coords) : (BitVec.ofNat 32 (i 0).val).toNat = (i 0).val := word_toNat (i 0) (by decide)

theorem part_block (t : Fin cfg0.N) (s : Fin 8) (r : Fin 248) (d : Fin 128) :
    iblk m c 0 t (ix3 s r d) = G m c s.val (248 * t.val + r.val) d.val := by
  have h0 := coords_eq t
  have e0 : cc0_transform_0 (grid0.coords t) 1 = (grid0.coords t 0).val := row _
  show V m c main_arg0 (((cfg0.win 0).blk t).view.emb (ix3 s r d)) = _
  rw [V_main_arg0]
  refine eq_entry3 _ _ ?_ ?_ ?_
  · show 0 * 8 + 1 * s.val = _
    omega
  · show cc0_transform_0 (grid0.coords t) 1 * 248 + 1 * r.val = _
    rw [e0, h0]; omega
  · show 0 * 128 + 1 * d.val = _
    omega

theorem block1 (t : Fin cfg0.N) : Holds (a := 248) (b := 128) (iblk m c 1 t) (fun r d => W m c (248 * t.val + r) d) := fun r d => by
  have h0 := coords_eq t
  have e0 : cc0_transform_1 (grid0.coords t) 0 = (grid0.coords t 0).val := row _
  show V m c main_arg1 (((cfg0.win 1).blk t).view.emb (ix2 r d)) = _
  rw [V_main_arg1]
  refine eq_entry _ _ ?_ ?_
  · show cc0_transform_1 (grid0.coords t) 0 * 248 + 1 * r.val = _
    rw [e0, h0]; omega
  · show 0 * 128 + 1 * d.val = _
    omega

theorem block2 (t : Fin cfg0.N) : Holds (a := 248) (b := 128) (iblk m c 2 t) (fun r d => M m c (248 * t.val + r) d) := fun r d => by
  have h0 := coords_eq t
  have e0 : cc0_transform_2 (grid0.coords t) 0 = (grid0.coords t 0).val := row _
  show V m c main_arg2 (((cfg0.win 2).blk t).view.emb (ix2 r d)) = _
  rw [V_main_arg2]
  refine eq_entry _ _ ?_ ?_
  · show cc0_transform_2 (grid0.coords t) 0 * 248 + 1 * r.val = _
    rw [e0, h0]; omega
  · show 0 * 128 + 1 * d.val = _
    omega

theorem block3 (t : Fin cfg0.N) : Holds (a := 248) (b := 128) (iblk m c 3 t) (fun r d => U m c (248 * t.val + r) d) := fun r d => by
  have h0 := coords_eq t
  have e0 : cc0_transform_3 (grid0.coords t) 0 = (grid0.coords t 0).val := row _
  show V m c main_arg3 (((cfg0.win 3).blk t).view.emb (ix2 r d)) = _
  rw [V_main_arg3]
  refine eq_entry _ _ ?_ ?_
  · show cc0_transform_3 (grid0.coords t) 0 * 248 + 1 * r.val = _
    rw [e0, h0]; omega
  · show 0 * 128 + 1 * d.val = _
    omega

/-! ## A point's block -/

theorem sum_at (t : Fin cfg0.N) : Holds (a := 248) (b := 128)
    (k0_pay3 (View.ld (Val := Elt Ideal) (iblk m c 0 t) r0_0) (View.ld (Val := Elt Ideal) (iblk m c 0 t) r0_1) (View.ld (Val := Elt Ideal) (iblk m c 0 t) r0_2) (View.ld (Val := Elt Ideal) (iblk m c 0 t) r0_3) (View.ld (Val := Elt Ideal) (iblk m c 0 t) r0_4) (View.ld (Val := Elt Ideal) (iblk m c 0 t) r0_5) (View.ld (Val := Elt Ideal) (iblk m c 0 t) r0_6) (View.ld (Val := Elt Ideal) (iblk m c 0 t) r0_7))
    (fun r d => total (G m c) 8 (248 * t.val + r) d) := fun r d => by
  show _ = total (G m c) 8 (248 * t.val + r.val) d.val
  generalize hq : 248 * t.val + r.val = q
  have part (s : Fin 8) : iblk m c 0 t (ix3 s r d) = G m c s.val q d.val := hq ▸ part_block m c t s r d
  unfold k0_pay3
  pointwise
  unfold total
  rw [Finset.sum_range_succ, Finset.sum_range_succ, Finset.sum_range_succ, Finset.sum_range_succ, Finset.sum_range_succ, Finset.sum_range_succ, Finset.sum_range_succ, Finset.sum_range_succ, Finset.sum_range_zero, zero_add]
  exact congrArg₂ (· + ·) (congrArg₂ (· + ·) (congrArg₂ (· + ·) (congrArg₂ (· + ·) (congrArg₂ (· + ·) (congrArg₂ (· + ·) (congrArg₂ (· + ·) (part ⟨0, by decide⟩) (part ⟨1, by decide⟩)) (part ⟨2, by decide⟩)) (part ⟨3, by decide⟩)) (part ⟨4, by decide⟩)) (part ⟨5, by decide⟩)) (part ⟨6, by decide⟩)) (part ⟨7, by decide⟩)

theorem first_is {p0 p1 p2 p3 p4 p5 p6 p7 : Vec Ideal S1x248x128 .f32} {v : Vec Ideal S248x128 .f32} {g f : ℕ → ℕ → EReal}
    (hg : Holds (a := 248) (b := 128) (k0_pay3 p0 p1 p2 p3 p4 p5 p6 p7) g) (hv : Holds (a := 248) (b := 128) v f) :
    Holds (a := 248) (b := 128) (k0_pay4 p0 p1 p2 p3 p4 p5 p6 p7 v) (fun r d => first (g r d) (f r d)) := fun r d => by
  unfold k0_pay4
  generalize k0_pay3 p0 p1 p2 p3 p4 p5 p6 p7 = s at hg ⊢
  pointwise
  rw [hg r d, hv r d]
  rfl

theorem second_is {s v : Vec Ideal S248x128 .f32} {g f : ℕ → ℕ → EReal} (hg : Holds (a := 248) (b := 128) s g)
    (hv : Holds (a := 248) (b := 128) v f) :
    Holds (a := 248) (b := 128) (k0_pay1 s v) (fun r d => second (g r d) (f r d)) := fun r d => by
  unfold k0_pay1
  pointwise
  rw [hg r d, hv r d]
  rfl

theorem step_is {s v a w : Vec Ideal S248x128 .f32} {f g h : ℕ → ℕ → EReal} (ha : Holds (a := 248) (b := 128) a f)
    (hb : Holds (a := 248) (b := 128) (k0_pay1 s v) g) (hw : Holds (a := 248) (b := 128) w h) :
    Holds (a := 248) (b := 128) (k0_pay2 s a v w) (fun r d => step (h r d) (f r d) (g r d)) := fun r d => by
  unfold k0_pay2
  generalize k0_pay1 s v = b at hb ⊢
  pointwise
  rw [ha r d, hb r d, hw r d]
  rfl

/-- What the four results hold: the gradient, the step, the new moments. -/
def gradient (r d : ℕ) : EReal := total (G m c) 8 r d
def moment1 (r d : ℕ) : EReal := first (gradient m c r d) (M m c r d)
def moment2 (r d : ℕ) : EReal := second (gradient m c r d) (U m c r d)
def change (r d : ℕ) : EReal := step (W m c r d) (moment1 m c r d) (moment2 m c r d)

theorem at_sum (t : Fin cfg0.N) : Holds (a := 248) (b := 128) (k0_pay5 (iblk m c 0 t) (iblk m c 1 t) (iblk m c 2 t) (iblk m c 3 t))
    (fun r d => gradient m c (248 * t.val + r) d) := by
  unfold k0_pay5
  exact sum_at m c t

theorem at_first (t : Fin cfg0.N) : Holds (a := 248) (b := 128) (k0_pay6 (iblk m c 0 t) (iblk m c 1 t) (iblk m c 2 t) (iblk m c 3 t))
    (fun r d => moment1 m c (248 * t.val + r) d) := by
  unfold k0_pay6
  rw [View.ld_unit_zero (S := S248x128) zero_offsets]
  exact first_is (sum_at m c t) (block2 m c t)

theorem at4 (t : Fin cfg0.N) : Holds (a := 248) (b := 128) (out0_4 (iblk m c 0 t) (iblk m c 1 t) (iblk m c 2 t) (iblk m c 3 t))
    (fun r d => gradient m c (248 * t.val + r) d) := by
  unfold out0_4
  rw [View.canon_unit_zero zero_offsets]
  exact at_sum m c t

theorem at6 (t : Fin cfg0.N) : Holds (a := 248) (b := 128) (out0_6 (iblk m c 0 t) (iblk m c 1 t) (iblk m c 2 t) (iblk m c 3 t))
    (fun r d => moment1 m c (248 * t.val + r) d) := by
  unfold out0_6
  rw [View.canon_unit_zero zero_offsets]
  exact at_first m c t

theorem at7 (t : Fin cfg0.N) : Holds (a := 248) (b := 128) (out0_7 (iblk m c 0 t) (iblk m c 1 t) (iblk m c 2 t) (iblk m c 3 t))
    (fun r d => moment2 m c (248 * t.val + r) d) := by
  unfold out0_7
  rw [View.canon_unit_zero zero_offsets, View.ld_unit_zero (S := S248x128) zero_offsets]
  exact second_is (at_sum m c t) (block3 m c t)

theorem at5 (t : Fin cfg0.N) : Holds (a := 248) (b := 128) (out0_5 (iblk m c 0 t) (iblk m c 1 t) (iblk m c 2 t) (iblk m c 3 t))
    (fun r d => change m c (248 * t.val + r) d) := by
  unfold out0_5
  rw [View.canon_unit_zero zero_offsets, View.ld_unit_zero (S := S248x128) zero_offsets, View.ld_unit_zero (S := S248x128) zero_offsets]
  exact step_is (at_first m c t) (second_is (at_sum m c t) (block3 m c t)) (block1 m c t)

/-! ## The whole arrays -/

/-- The array with the entries `f`. -/
def whole (f : ℕ → ℕ → EReal) : S248x128.Idx → EReal := fun i => f (i 0).val (i 1).val

theorem covers4 : (cfg0.win 4).Covers :=
  Pipeline.Window.covers_of_indexMap_surj _ rfl (by decide) fun β => by
    have h0 : (β 0).val < 1 := (β 0).isLt
    have h1 : (β 1).val < 1 := (β 1).isLt
    let t : Fin grid0.N := ⟨(β 0).val, by rw [N_0]; omega⟩
    have c0 := coords_eq t
    refine ⟨grid0.coords t, fun a => ?_⟩
    match a with
    | ⟨0, _⟩ => exact (row _).trans c0
    | ⟨1, _⟩ => show 0 = (β 1).val; omega

theorem array4 : (dats m 0 c).arrAt 4 cfg0.N = whole (gradient m c) := by
  refine (dats m 0 c).arrAt_eq_of_covers 4 _ covers4 fun t _ y => ?_
  have c0 := coords_eq t
  have e0 : cc0_transform_4 (grid0.coords t) 0 = (grid0.coords t 0).val := row _
  blk_simp
  rw [after0_4]
  refine ((at4 m c t).at y).trans ?_
  show _ = gradient m c (cc0_transform_4 (grid0.coords t) 0 * 248 + 1 * (y 0).val) (0 * 128 + 1 * (y 1).val)
  rw [e0, c0, show t.val * 248 + 1 * (y 0).val = 248 * t.val + (y 0).val by omega,
    show 0 * 128 + 1 * (y 1).val = (y 1).val by omega]

theorem covers5 : (cfg0.win 5).Covers :=
  Pipeline.Window.covers_of_indexMap_surj _ rfl (by decide) fun β => by
    have h0 : (β 0).val < 1 := (β 0).isLt
    have h1 : (β 1).val < 1 := (β 1).isLt
    let t : Fin grid0.N := ⟨(β 0).val, by rw [N_0]; omega⟩
    have c0 := coords_eq t
    refine ⟨grid0.coords t, fun a => ?_⟩
    match a with
    | ⟨0, _⟩ => exact (row _).trans c0
    | ⟨1, _⟩ => show 0 = (β 1).val; omega

theorem array5 : (dats m 0 c).arrAt 5 cfg0.N = whole (change m c) := by
  refine (dats m 0 c).arrAt_eq_of_covers 5 _ covers5 fun t _ y => ?_
  have c0 := coords_eq t
  have e0 : cc0_transform_5 (grid0.coords t) 0 = (grid0.coords t 0).val := row _
  blk_simp
  rw [after0_5]
  refine ((at5 m c t).at y).trans ?_
  show _ = change m c (cc0_transform_5 (grid0.coords t) 0 * 248 + 1 * (y 0).val) (0 * 128 + 1 * (y 1).val)
  rw [e0, c0, show t.val * 248 + 1 * (y 0).val = 248 * t.val + (y 0).val by omega,
    show 0 * 128 + 1 * (y 1).val = (y 1).val by omega]

theorem covers6 : (cfg0.win 6).Covers :=
  Pipeline.Window.covers_of_indexMap_surj _ rfl (by decide) fun β => by
    have h0 : (β 0).val < 1 := (β 0).isLt
    have h1 : (β 1).val < 1 := (β 1).isLt
    let t : Fin grid0.N := ⟨(β 0).val, by rw [N_0]; omega⟩
    have c0 := coords_eq t
    refine ⟨grid0.coords t, fun a => ?_⟩
    match a with
    | ⟨0, _⟩ => exact (row _).trans c0
    | ⟨1, _⟩ => show 0 = (β 1).val; omega

theorem array6 : (dats m 0 c).arrAt 6 cfg0.N = whole (moment1 m c) := by
  refine (dats m 0 c).arrAt_eq_of_covers 6 _ covers6 fun t _ y => ?_
  have c0 := coords_eq t
  have e0 : cc0_transform_6 (grid0.coords t) 0 = (grid0.coords t 0).val := row _
  blk_simp
  rw [after0_6]
  refine ((at6 m c t).at y).trans ?_
  show _ = moment1 m c (cc0_transform_6 (grid0.coords t) 0 * 248 + 1 * (y 0).val) (0 * 128 + 1 * (y 1).val)
  rw [e0, c0, show t.val * 248 + 1 * (y 0).val = 248 * t.val + (y 0).val by omega,
    show 0 * 128 + 1 * (y 1).val = (y 1).val by omega]

theorem covers7 : (cfg0.win 7).Covers :=
  Pipeline.Window.covers_of_indexMap_surj _ rfl (by decide) fun β => by
    have h0 : (β 0).val < 1 := (β 0).isLt
    have h1 : (β 1).val < 1 := (β 1).isLt
    let t : Fin grid0.N := ⟨(β 0).val, by rw [N_0]; omega⟩
    have c0 := coords_eq t
    refine ⟨grid0.coords t, fun a => ?_⟩
    match a with
    | ⟨0, _⟩ => exact (row _).trans c0
    | ⟨1, _⟩ => show 0 = (β 1).val; omega

theorem array7 : (dats m 0 c).arrAt 7 cfg0.N = whole (moment2 m c) := by
  refine (dats m 0 c).arrAt_eq_of_covers 7 _ covers7 fun t _ y => ?_
  have c0 := coords_eq t
  have e0 : cc0_transform_7 (grid0.coords t) 0 = (grid0.coords t 0).val := row _
  blk_simp
  rw [after0_7]
  refine ((at7 m c t).at y).trans ?_
  show _ = moment2 m c (cc0_transform_7 (grid0.coords t) 0 * 248 + 1 * (y 0).val) (0 * 128 + 1 * (y 1).val)
  rw [e0, c0, show t.val * 248 + 1 * (y 0).val = 248 * t.val + (y 0).val by omega,
    show 0 * 128 + 1 * (y 1).val = (y 1).val by omega]

/-! ## The reference -/

section Reference

open Cert.AdamRestRefIdeal.Read

variable (g : Vec Ideal S8x248x128 .f32) (w a b : Vec Ideal S248x128 .f32)

theorem reference_gradient (i : S248x128.Idx) : val_main_v0 (F := Ideal) g i
    = total (entry3 (a := 8) (b := 248) (c := 128) g) 8 (i 0).val (i 1).val := by
  rw [val_main_v0_apply]
  show Ideal.ofBits .f32 0x00000000#32 + _ = _
  rw [Ideal.ofBits_zero_f32, zero_add]
  unfold total
  rw [Finset.sum_range]
  exact Finset.sum_congr rfl fun k _ => eq_entry3 g _ rfl rfl rfl

theorem reference_first (i : S248x128.Idx) : val_main_v5 (F := Ideal) g a i
    = first (total (entry3 (a := 8) (b := 248) (c := 128) g) 8 (i 0).val (i 1).val) (entry (a := 248) (b := 128) a (i 0).val (i 1).val) := by
  rw [val_main_v5_apply, val_main_v4_apply, val_main_v3_apply, val_main_v2_apply, val_main_v1_apply, reference_gradient, eq_entry a i rfl rfl]
  rfl

theorem reference_second (i : S248x128.Idx) : val_main_v11 (F := Ideal) g b i
    = second (total (entry3 (a := 8) (b := 248) (c := 128) g) 8 (i 0).val (i 1).val) (entry (a := 248) (b := 128) b (i 0).val (i 1).val) := by
  rw [val_main_v11_apply, val_main_v10_apply, val_main_v9_apply, val_main_v8_apply, val_main_v7_apply, val_main_v6_apply,
    reference_gradient, eq_entry b i rfl rfl]
  rfl

theorem reference_step (i : S248x128.Idx) : val_main_v24 (F := Ideal) g w a b i
    = step (entry (a := 248) (b := 128) w (i 0).val (i 1).val)
      (first (total (entry3 (a := 8) (b := 248) (c := 128) g) 8 (i 0).val (i 1).val) (entry (a := 248) (b := 128) a (i 0).val (i 1).val))
      (second (total (entry3 (a := 8) (b := 248) (c := 128) g) 8 (i 0).val (i 1).val) (entry (a := 248) (b := 128) b (i 0).val (i 1).val)) := by
  rw [val_main_v24_apply, val_main_v23_apply, val_main_v22_apply, val_main_v21_apply, val_main_v20_apply, val_main_v19_apply,
    val_main_v18_apply, val_main_v17_apply, val_main_v16_apply, val_main_v15_apply, val_main_v14_apply, val_main_v13_apply,
    val_main_v12_apply, reference_first, reference_second, eq_entry w i rfl rfl]
  rfl

end Reference

/-! ## The claims -/

theorem frame_reference : Cert.quiescent_AdamRestRefIdeal := fun m ρ _ =>
  (θ_run Cert.AdamRestRefIdeal.defs _ _).mono
    (fun r h => ⟨fun c => (h c).2.2.2.2, sem_eq_zero_of_no_sems (by decide) r.2⟩) (Cert.AdamRestRefIdeal.Value.run (F := Ideal) m ρ)

theorem algebraic : Cert.algebraic_AdamRestIdeal_AdamRestRefIdeal := by
  intro m ρ m' ρ' _ hagree
  refine ⟨fun c => whole (gradient m c), fun c => whole (change m c), fun c => whole (moment1 m c), fun c => whole (moment2 m c), ?_, ?_⟩
  · exact (θ_run Cert.AdamRestIdeal.defs _ _).mono
      (fun r h c => ⟨(h c).1.trans (array4 m c), (h c).2.1.trans (array5 m c), (h c).2.2.1.trans (array6 m c),
        (h c).2.2.2.1.trans (array7 m c), (h c).2.2.2.2⟩) (run_blocks m ρ)
  · refine (θ_run Cert.AdamRestRefIdeal.defs _ _).mono
      (fun r h c => ⟨(h c).1.trans ?_, (h c).2.1.trans ?_, (h c).2.2.1.trans ?_, (h c).2.2.2.1.trans ?_, (h c).2.2.2.2⟩)
      (Cert.AdamRestRefIdeal.Value.run (F := Ideal) m' ρ')
    · rw [Cert.AdamRestRefIdeal.Read.val_main_v0_eq, (hagree c).1]
      exact funext fun i => reference_gradient _ i
    · rw [Cert.AdamRestRefIdeal.Read.val_main_v24_eq, (hagree c).1, (hagree c).2.1, (hagree c).2.2.1, (hagree c).2.2.2]
      exact funext fun i => reference_step _ _ _ _ i
    · rw [Cert.AdamRestRefIdeal.Read.val_main_v5_eq, (hagree c).1, (hagree c).2.2.1]
      exact funext fun i => reference_first _ _ i
    · rw [Cert.AdamRestRefIdeal.Read.val_main_v11_eq, (hagree c).1, (hagree c).2.2.2]
      exact funext fun i => reference_second _ _ i

end Products.AdamRest

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel.Skeleton
public import proofs.«01_k».proof.Proof.Frame
public import proofs.«01_k».proof.Proof.Arrays
public import proofs.«01_k».proof.Proof.Pre
public import proofs.«01_k».proof.Proof.DwInVal
public import proofs.«01_k».proof.Proof.DwOutVal
public import proofs.«01_k».proof.Proof.DHVal
public import proofs.«01_k».proof.Proof.DMixVal
public import proofs.«01_k».proof.Proof.InProjVal
public import proofs.«01_k».proof.Proof.OutProjVal
public import proofs.«01_k».proof.Proof.ConvInVal
public import proofs.«01_k».proof.Proof.NormGradVal
public import proofs.«01_k».proof.Proof.NormVal
public import proofs.«01_k».proof.Proof.ConvVal
public import proofs.«01_k».proof.Proof.GateVal
public import proofs.«01_k».proof.Proof.AdamInVal
public import proofs.«01_k».proof.Proof.AdamOutVal
public import proofs.«01_k».proof.Proof.AdamConvVal
public import proofs.«01_k».proof.Proof.AdamRestVal
public import proofs.«01_k».proof.Proof.Gen.DwIn.Frame
public import proofs.«01_k».proof.Proof.Gen.DwInIdeal.Frame
public import proofs.«01_k».proof.Proof.Gen.DwInIdeal.Value
public import proofs.«01_k».proof.Proof.Gen.DwInRefIdeal.Run
public import proofs.«01_k».proof.Proof.Gen.DwInRefIdeal.Read
public import proofs.«01_k».proof.Proof.Gen.DwOut.Frame
public import proofs.«01_k».proof.Proof.Gen.DwOutIdeal.Frame
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Gen.DH.Frame
public import proofs.«01_k».proof.Proof.Gen.DHIdeal.Frame
public import proofs.«01_k».proof.Proof.Gen.DHIdeal.Value
public import proofs.«01_k».proof.Proof.Gen.DHRefIdeal.Run
public import proofs.«01_k».proof.Proof.Gen.DHRefIdeal.Read
public import proofs.«01_k».proof.Proof.Gen.DMix.Frame
public import proofs.«01_k».proof.Proof.Gen.DMixIdeal.Frame
public import proofs.«01_k».proof.Proof.Gen.DMixIdeal.Value
public import proofs.«01_k».proof.Proof.Gen.DMixRefIdeal.Run
public import proofs.«01_k».proof.Proof.Gen.DMixRefIdeal.Read
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.ConvIn.Frame
public import proofs.«01_k».proof.Proof.Gen.ConvInIdeal.Frame
public import proofs.«01_k».proof.Proof.Gen.ConvInIdeal.Value
public import proofs.«01_k».proof.Proof.Gen.ConvInRefIdeal.Run
public import proofs.«01_k».proof.Proof.Gen.ConvInRefIdeal.Read
public import proofs.«01_k».proof.Proof.Gen.NormGrad.Frame
public import proofs.«01_k».proof.Proof.Gen.NormGradIdeal.Frame
public import proofs.«01_k».proof.Proof.Gen.NormGradIdeal.Value
public import proofs.«01_k».proof.Proof.Gen.NormGradRefIdeal.Run
public import proofs.«01_k».proof.Proof.Gen.NormGradRefIdeal.Read
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.Gen.NormRefIdeal.Read
public import proofs.«01_k».proof.Proof.Gen.Conv.Frame
public import proofs.«01_k».proof.Proof.Gen.ConvIdeal.Frame
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import proofs.«01_k».proof.Proof.Gen.GateRefIdeal.Read
public import proofs.«01_k».proof.Proof.Gen.AdamIn.Frame
public import proofs.«01_k».proof.Proof.Gen.AdamInIdeal.Frame
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamOut.Frame
public import proofs.«01_k».proof.Proof.Gen.AdamOutIdeal.Frame
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamConv.Frame
public import proofs.«01_k».proof.Proof.Gen.AdamConvIdeal.Frame
public import proofs.«01_k».proof.Proof.Gen.AdamConvIdeal.Value
public import proofs.«01_k».proof.Proof.Gen.AdamConvRefIdeal.Run
public import proofs.«01_k».proof.Proof.Gen.AdamConvRefIdeal.Read
public import proofs.«01_k».proof.Proof.Gen.AdamRest.Frame
public import proofs.«01_k».proof.Proof.Gen.AdamRestIdeal.Frame
public import proofs.«01_k».proof.Proof.Gen.AdamRestIdeal.Value
public import proofs.«01_k».proof.Proof.Gen.AdamRestRefIdeal.Run
public import proofs.«01_k».proof.Proof.Gen.AdamRestRefIdeal.Read
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.OutProjRefIdeal.Read
public import Idealize.ShloMosaic.Adequacy
public import Idealize.ShloMosaic.Init

@[expose] public section

noncomputable section

namespace Cert.Proof

open Idealize.ShloMosaic Idealize.SL.Sem

theorem frame_kernel_ideal : Cert.quiescent_KernelIdeal := fun m ρ _ => AttnBwd.frame_any m ρ

/-- At the hardware's words a named constant is the word that it was named from. -/
instance namedBits : Named Bits := ⟨fun _ _ {φ} w => FloatOps.ofBits φ w⟩

set_option maxHeartbeats 4000000 in
/-- The two printed texts of the kernel have one table of bodies … -/
theorem bodies_eq : Cert.Kernel.defs₀ (F := Bits) = Cert.KernelIdeal.defs₀ (F := Bits) := by
  unfold Cert.Kernel.defs₀ Cert.KernelIdeal.defs₀
  congr 1
  funext l x
  match l, x with
  | 0, (t, s) => rfl
  | ⟨_ + 1, h⟩, _ => exact absurd h (Nat.not_lt.2 (Nat.le_add_left _ _))

set_option maxHeartbeats 4000000 in
/-- … one table of regions … -/
theorem defs_eq : Cert.Kernel.defs (F := Bits) = Cert.KernelIdeal.defs (F := Bits) := by
  unfold Cert.Kernel.defs Cert.KernelIdeal.defs
  rw [bodies_eq]
  rfl

set_option maxHeartbeats 4000000 in
/-- … and one main program. -/
theorem main_eq : Cert.Kernel.main (F := Bits) = Cert.KernelIdeal.main (F := Bits) := by
  unfold Cert.Kernel.main Cert.KernelIdeal.main
  rfl

set_option maxHeartbeats 4000000 in
theorem frame_kernel : Cert.quiescent_Kernel := by
  intro m ρ _
  rw [defs_eq, main_eq]
  exact AttnBwd.frame_any (F := Bits) m ρ

/-- The reference declares no semaphore, so its counters are at zero in every state. -/
theorem frame_reference : Cert.quiescent_ReferenceIdeal := fun m ρ _ =>
  (θ_run (Cert.ReferenceIdeal.defs (F := Ideal)) _ _).mono
    (fun r h => ⟨fun c => ⟨(h c).2.2.2.1, (h c).2.2.2.2⟩, sem_eq_zero_of_no_sems (by decide) r.2⟩)
    (Cert.ReferenceIdeal.Value.run (F := Ideal) m ρ)

/-- Over the extended reals the kernel and the reference compute the same three gradients, the columns read being finite. -/
theorem algebraic : Cert.algebraic_KernelIdeal_ReferenceIdeal_pre_finite (hPre_finite := AttnBwd.pre_facts) := by
  intro m g m' g' hp he
  have hm : ∀ c, AttnBwd.Fine m c := fun c => AttnBwd.finite_of_pre (hF := AttnBwd.pre_facts) _ _ (hp c)
  refine ⟨fun c => AttnBwd.outQ c m, fun c => AttnBwd.outK c m, fun c => AttnBwd.outV c m,
    (θ_run (Cert.KernelIdeal.defs (F := Ideal)) _ _).mono (fun r h c =>
      ⟨((h.1 c).1 5).trans (AttnBwd.arr5 (hm c)), ((h.1 c).1 6).trans (AttnBwd.arr6 (hm c)), ((h.1 c).1 7).trans (AttnBwd.arr7 (hm c)),
        ((h.1 c).1 0).trans ((((AttnBwd.dats m 0 c).arrAt_in 0 rfl _).trans (AttnBwd.A_eq m c 0)).trans (AttnBwd.V_arg0 m c)),
        ((h.1 c).1 3).trans ((((AttnBwd.dats m 0 c).arrAt_in 3 rfl _).trans (AttnBwd.A_eq m c 3)).trans (AttnBwd.V_arg1 m c))⟩)
      (AttnBwd.run_all m g),
    (θ_run (Cert.ReferenceIdeal.defs (F := Ideal)) _ _).mono (fun r h c => ?_) (Cert.ReferenceIdeal.Value.run (F := Ideal) m' g')⟩
  obtain ⟨h0, h1, h2, h3, h4⟩ := h c
  obtain ⟨e0, e1⟩ := he c
  refine ⟨h0.trans ?_, h1.trans ?_, h2.trans ?_, h3, h4⟩
  · rw [Cert.ReferenceIdeal.Read.val_main_v58_eq, e0, e1]
    exact funext fun i => AttnBwd.ref_out_dq (hm c) i
  · rw [Cert.ReferenceIdeal.Read.val_main_v59_eq, e0, e1]
    exact funext fun i => AttnBwd.ref_out_dk (hm c) i
  · rw [Cert.ReferenceIdeal.Read.val_main_v60_eq, e0, e1]
    exact funext fun i => AttnBwd.ref_out_dv (hm c) i

theorem claim : Cert.Claim := ⟨Cert.Kernel.Gen.facts, Cert.KernelIdeal.Gen.facts, Cert.ReferenceIdeal.Gen.facts,
  Cert.DwIn.Gen.facts, Cert.DwInIdeal.Gen.facts, Cert.DwInRefIdeal.Gen.facts,
  Cert.DwOut.Gen.facts, Cert.DwOutIdeal.Gen.facts, Cert.DwOutRefIdeal.Gen.facts,
  Cert.DH.Gen.facts, Cert.DHIdeal.Gen.facts, Cert.DHRefIdeal.Gen.facts,
  Cert.DMix.Gen.facts, Cert.DMixIdeal.Gen.facts, Cert.DMixRefIdeal.Gen.facts,
  Cert.InProj.Gen.facts, Cert.InProjIdeal.Gen.facts, Cert.InProjRefIdeal.Gen.facts,
  Cert.OutProj.Gen.facts, Cert.OutProjIdeal.Gen.facts, Cert.OutProjRefIdeal.Gen.facts,
  Cert.ConvIn.Gen.facts, Cert.ConvInIdeal.Gen.facts, Cert.ConvInRefIdeal.Gen.facts,
  Cert.NormGrad.Gen.facts, Cert.NormGradIdeal.Gen.facts, Cert.NormGradRefIdeal.Gen.facts,
  Cert.Norm.Gen.facts, Cert.NormIdeal.Gen.facts, Cert.NormRefIdeal.Gen.facts,
  Cert.Conv.Gen.facts, Cert.ConvIdeal.Gen.facts, Cert.ConvRefIdeal.Gen.facts,
  Cert.Gate.Gen.facts, Cert.GateIdeal.Gen.facts, Cert.GateRefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamConv.Gen.facts, Cert.AdamConvIdeal.Gen.facts, Cert.AdamConvRefIdeal.Gen.facts,
  Cert.AdamRest.Gen.facts, Cert.AdamRestIdeal.Gen.facts, Cert.AdamRestRefIdeal.Gen.facts,
  AttnBwd.pre_facts,
  frame_kernel, frame_kernel_ideal, fun m ρ _ => frame_kernel_ideal m ρ trivial, frame_reference, fun m ρ _ => frame_reference m ρ trivial,
  fun m ρ _ => Cert.DwIn.Gen.frame m ρ, fun m ρ _ => Cert.DwInIdeal.Gen.frame m ρ, Products.DwIn.frame_reference,
  fun m ρ _ => Cert.DwOut.Gen.frame m ρ, fun m ρ _ => Cert.DwOutIdeal.Gen.frame m ρ, Products.DwOut.frame_reference,
  fun m ρ _ => Cert.DH.Gen.frame m ρ, fun m ρ _ => Cert.DHIdeal.Gen.frame m ρ, Products.DH.frame_reference,
  fun m ρ _ => Cert.DMix.Gen.frame m ρ, fun m ρ _ => Cert.DMixIdeal.Gen.frame m ρ, Products.DMix.frame_reference,
  fun m ρ _ => Cert.InProj.Gen.frame m ρ, fun m ρ _ => Cert.InProjIdeal.Gen.frame m ρ, Products.InProj.frame_reference,
  fun m ρ _ => Cert.OutProj.Gen.frame m ρ, fun m ρ _ => Cert.OutProjIdeal.Gen.frame m ρ, Products.OutProj.frame_reference,
  fun m ρ _ => Cert.ConvIn.Gen.frame m ρ, fun m ρ _ => Cert.ConvInIdeal.Gen.frame m ρ, Products.ConvIn.frame_reference,
  fun m ρ _ => Cert.NormGrad.Gen.frame m ρ, fun m ρ _ => Cert.NormGradIdeal.Gen.frame m ρ, Products.NormGrad.frame_reference,
  fun m ρ _ => Cert.Norm.Gen.frame m ρ, fun m ρ _ => Cert.NormIdeal.Gen.frame m ρ, Products.Norm.frame_reference,
  fun m ρ _ => Cert.Conv.Gen.frame m ρ, fun m ρ _ => Cert.ConvIdeal.Gen.frame m ρ, Products.Conv.frame_reference,
  fun m ρ _ => Cert.Gate.Gen.frame m ρ, fun m ρ _ => Cert.GateIdeal.Gen.frame m ρ, Products.Gate.frame_reference,
  fun m ρ _ => Cert.AdamIn.Gen.frame m ρ, fun m ρ _ => Cert.AdamInIdeal.Gen.frame m ρ, Products.AdamIn.frame_reference,
  fun m ρ _ => Cert.AdamOut.Gen.frame m ρ, fun m ρ _ => Cert.AdamOutIdeal.Gen.frame m ρ, Products.AdamOut.frame_reference,
  fun m ρ _ => Cert.AdamConv.Gen.frame m ρ, fun m ρ _ => Cert.AdamConvIdeal.Gen.frame m ρ, Products.AdamConv.frame_reference,
  fun m ρ _ => Cert.AdamRest.Gen.frame m ρ, fun m ρ _ => Cert.AdamRestIdeal.Gen.frame m ρ, Products.AdamRest.frame_reference,
  IdealRules.named_const.statement Cert.KernelIdeal.κ "scale" .f32 0x3DB504F3#32 (((Real.sqrt 128)⁻¹ : ℝ) : EReal) rfl, algebraic,
  trivial, Products.DwIn.algebraic,
  trivial, Products.DwOut.algebraic,
  trivial, Products.DH.algebraic,
  trivial, Products.DMix.algebraic,
  trivial, Products.InProj.algebraic,
  trivial, Products.OutProj.algebraic,
  trivial, Products.ConvIn.algebraic,
  trivial, Products.NormGrad.algebraic,
  trivial, Products.Norm.algebraic,
  trivial, Products.Conv.algebraic,
  trivial, Products.Gate.algebraic,
  trivial, Products.AdamIn.algebraic,
  trivial, Products.AdamOut.algebraic,
  trivial, Products.AdamConv.algebraic,
  trivial, Products.AdamRest.algebraic⟩

end Cert.Proof

end
